-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_inputs_finite [hPre_attn_inputs_finite : Cert.Pre_attn_inputs_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_inputs_finite [hPre_attn_inputs_finite : Cert.Pre_attn_inputs_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 [hPre_chip_of_four28 : Cert.Pre_chip_of_four28.Facts] (m : (ℓ : Loc Cert.Kernel28.nD Cert.Kernel28.τ Cert.Kernel28.sig) → Buf (Elt Bits) ℓ) : Prop :=
  ∀ c : Dev Cert.Kernel28.nD,
    (Cert.Pre_chip_of_four28.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2)) (m ((c.tc : Thread Cert.Kernel28.nD Cert.Kernel28.τ).loc Cert.Kernel28.main_arg3)) (m ((c.tc : Thread Cert.Kernel28.nD Cert.Kernel28.τ).loc Cert.Kernel28.main_arg4)) (m ((c.tc : Thread Cert.Kernel28.nD Cert.Kernel28.τ).loc Cert.Kernel28.main_arg5))) = (fun _ => 1#1)

def Pre_Kernel28Ideal [hPre_chip_of_four28 : Cert.Pre_chip_of_four28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_chip_of_four28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_chip_of_four28 [hPre_chip_of_four28 : Cert.Pre_chip_of_four28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_chip_of_four28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5))) = (fun _ => 1#1)

def Pre_Kernel29 [hPre_chip_of_four29 : Cert.Pre_chip_of_four29.Facts] (m : (ℓ : Loc Cert.Kernel29.nD Cert.Kernel29.τ Cert.Kernel29.sig) → Buf (Elt Bits) ℓ) : Prop :=
  ∀ c : Dev Cert.Kernel29.nD,
    (Cert.Pre_chip_of_four29.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2)) (m ((c.tc : Thread Cert.Kernel29.nD Cert.Kernel29.τ).loc Cert.Kernel29.main_arg3)) (m ((c.tc : Thread Cert.Kernel29.nD Cert.Kernel29.τ).loc Cert.Kernel29.main_arg4)) (m ((c.tc : Thread Cert.Kernel29.nD Cert.Kernel29.τ).loc Cert.Kernel29.main_arg5))) = (fun _ => 1#1)

def Pre_Kernel29Ideal [hPre_chip_of_four29 : Cert.Pre_chip_of_four29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_chip_of_four29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_chip_of_four29 [hPre_chip_of_four29 : Cert.Pre_chip_of_four29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_chip_of_four29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5))) = (fun _ => 1#1)

def Pre_Kernel30 [hPre_chip_of_four30 : Cert.Pre_chip_of_four30.Facts] (m : (ℓ : Loc Cert.Kernel30.nD Cert.Kernel30.τ Cert.Kernel30.sig) → Buf (Elt Bits) ℓ) : Prop :=
  ∀ c : Dev Cert.Kernel30.nD,
    (Cert.Pre_chip_of_four30.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2)) (m ((c.tc : Thread Cert.Kernel30.nD Cert.Kernel30.τ).loc Cert.Kernel30.main_arg3)) (m ((c.tc : Thread Cert.Kernel30.nD Cert.Kernel30.τ).loc Cert.Kernel30.main_arg4)) (m ((c.tc : Thread Cert.Kernel30.nD Cert.Kernel30.τ).loc Cert.Kernel30.main_arg5))) = (fun _ => 1#1)

def Pre_Kernel30Ideal [hPre_chip_of_four30 : Cert.Pre_chip_of_four30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_chip_of_four30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_chip_of_four30 [hPre_chip_of_four30 : Cert.Pre_chip_of_four30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_chip_of_four30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5))) = (fun _ => 1#1)

def Pre_Kernel31 [hPre_chip_of_four31 : Cert.Pre_chip_of_four31.Facts] (m : (ℓ : Loc Cert.Kernel31.nD Cert.Kernel31.τ Cert.Kernel31.sig) → Buf (Elt Bits) ℓ) : Prop :=
  ∀ c : Dev Cert.Kernel31.nD,
    (Cert.Pre_chip_of_four31.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2)) (m ((c.tc : Thread Cert.Kernel31.nD Cert.Kernel31.τ).loc Cert.Kernel31.main_arg3)) (m ((c.tc : Thread Cert.Kernel31.nD Cert.Kernel31.τ).loc Cert.Kernel31.main_arg4)) (m ((c.tc : Thread Cert.Kernel31.nD Cert.Kernel31.τ).loc Cert.Kernel31.main_arg5))) = (fun _ => 1#1)

def Pre_Kernel31Ideal [hPre_chip_of_four31 : Cert.Pre_chip_of_four31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_chip_of_four31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_chip_of_four31 [hPre_chip_of_four31 : Cert.Pre_chip_of_four31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_chip_of_four31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5))) = (fun _ => 1#1)

def Pre_Kernel32 [hPre_chip_of_four32 : Cert.Pre_chip_of_four32.Facts] (m : (ℓ : Loc Cert.Kernel32.nD Cert.Kernel32.τ Cert.Kernel32.sig) → Buf (Elt Bits) ℓ) : Prop :=
  ∀ c : Dev Cert.Kernel32.nD,
    (Cert.Pre_chip_of_four32.fn (F := Bits) (m ((c.tc : Thread Cert.Kernel32.nD Cert.Kernel32.τ).loc Cert.Kernel32.main_arg0)) (m ((c.tc : Thread Cert.Kernel32.nD Cert.Kernel32.τ).loc Cert.Kernel32.main_arg1)) (m ((c.tc : Thread Cert.Kernel32.nD Cert.Kernel32.τ).loc Cert.Kernel32.main_arg2)) (m ((c.tc : Thread Cert.Kernel32.nD Cert.Kernel32.τ).loc Cert.Kernel32.main_arg3)) (m ((c.tc : Thread Cert.Kernel32.nD Cert.Kernel32.τ).loc Cert.Kernel32.main_arg4)) (m ((c.tc : Thread Cert.Kernel32.nD Cert.Kernel32.τ).loc Cert.Kernel32.main_arg5))) = (fun _ => 1#1)

def Pre_Kernel32Ideal [hPre_chip_of_four32 : Cert.Pre_chip_of_four32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_chip_of_four32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_chip_of_four32 [hPre_chip_of_four32 : Cert.Pre_chip_of_four32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_chip_of_four32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_attn_inputs_finite [hKernel2Ideal : Cert.Kernel2Ideal.Facts] [hPre_attn_inputs_finite : Cert.Pre_attn_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_inputs_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_attn_inputs_finite [hReference2Ideal : Cert.Reference2Ideal.Facts] [hPre_attn_inputs_finite : Cert.Pre_attn_inputs_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_inputs_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] [hPre_chip_of_four28 : Cert.Pre_chip_of_four28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] [hPre_chip_of_four28 : Cert.Pre_chip_of_four28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Reference28Ideal_pre_chip_of_four28 [hReference28Ideal : Cert.Reference28Ideal.Facts] [hPre_chip_of_four28 : Cert.Pre_chip_of_four28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_chip_of_four28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] [hPre_chip_of_four29 : Cert.Pre_chip_of_four29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5))
      ∧ r.2.sem = fun _ => 0)

def quiescent_Kernel29Ideal [hKernel29Ideal : Cert.Kernel29Ideal.Facts] [hPre_chip_of_four29 : Cert.Pre_chip_of_four29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Reference29Ideal_pre_chip_of_four29 [hReference29Ideal : Cert.Reference29Ideal.Facts] [hPre_chip_of_four29 : Cert.Pre_chip_of_four29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_chip_of_four29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5))
      ∧ r.2.sem = fun _ => 0)

def quiescent_Kernel30 [hKernel30 : Cert.Kernel30.Facts] [hPre_chip_of_four30 : Cert.Pre_chip_of_four30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] [hPre_chip_of_four30 : Cert.Pre_chip_of_four30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Reference30Ideal_pre_chip_of_four30 [hReference30Ideal : Cert.Reference30Ideal.Facts] [hPre_chip_of_four30 : Cert.Pre_chip_of_four30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_chip_of_four30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] [hPre_chip_of_four31 : Cert.Pre_chip_of_four31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] [hPre_chip_of_four31 : Cert.Pre_chip_of_four31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Reference31Ideal_pre_chip_of_four31 [hReference31Ideal : Cert.Reference31Ideal.Facts] [hPre_chip_of_four31 : Cert.Pre_chip_of_four31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_chip_of_four31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] [hPre_chip_of_four32 : Cert.Pre_chip_of_four32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] [hPre_chip_of_four32 : Cert.Pre_chip_of_four32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Reference32Ideal_pre_chip_of_four32 [hReference32Ideal : Cert.Reference32Ideal.Facts] [hPre_chip_of_four32 : Cert.Pre_chip_of_four32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_chip_of_four32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def preserves_Kernel_KernelIdeal : Prop :=
  True

def preserves_Kernel2_Kernel2Ideal : Prop :=
  True

def algebraic_Kernel2Ideal_Reference2Ideal_pre_attn_inputs_finite [hKernel2Ideal : Cert.Kernel2Ideal.Facts] [hReference2Ideal : Cert.Reference2Ideal.Facts] [hPre_attn_inputs_finite : Cert.Pre_attn_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_inputs_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v11) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] [hPre_chip_of_four28 : Cert.Pre_chip_of_four28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v18) = v0 c
          ∧ r.2.mem ((c.tc : Thread Cert.Reference28Ideal.nD Cert.Reference28Ideal.τ).loc Cert.Reference28Ideal.main_v42) = v1 c
          ∧ r.2.mem ((c.tc : Thread Cert.Reference28Ideal.nD Cert.Reference28Ideal.τ).loc Cert.Reference28Ideal.main_v23) = v2 c
          ∧ r.2.mem ((c.tc : Thread Cert.Reference28Ideal.nD Cert.Reference28Ideal.τ).loc Cert.Reference28Ideal.main_v29) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] [hPre_chip_of_four29 : Cert.Pre_chip_of_four29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v18) = v0 c
          ∧ r.2.mem ((c.tc : Thread Cert.Reference29Ideal.nD Cert.Reference29Ideal.τ).loc Cert.Reference29Ideal.main_v42) = v1 c
          ∧ r.2.mem ((c.tc : Thread Cert.Reference29Ideal.nD Cert.Reference29Ideal.τ).loc Cert.Reference29Ideal.main_v23) = v2 c
          ∧ r.2.mem ((c.tc : Thread Cert.Reference29Ideal.nD Cert.Reference29Ideal.τ).loc Cert.Reference29Ideal.main_v29) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5))

def preserves_Kernel30_Kernel30Ideal : Prop :=
  True

def algebraic_Kernel30Ideal_Reference30Ideal [hKernel30Ideal : Cert.Kernel30Ideal.Facts] [hReference30Ideal : Cert.Reference30Ideal.Facts] [hPre_chip_of_four30 : Cert.Pre_chip_of_four30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v18) = v0 c
          ∧ r.2.mem ((c.tc : Thread Cert.Reference30Ideal.nD Cert.Reference30Ideal.τ).loc Cert.Reference30Ideal.main_v42) = v1 c
          ∧ r.2.mem ((c.tc : Thread Cert.Reference30Ideal.nD Cert.Reference30Ideal.τ).loc Cert.Reference30Ideal.main_v23) = v2 c
          ∧ r.2.mem ((c.tc : Thread Cert.Reference30Ideal.nD Cert.Reference30Ideal.τ).loc Cert.Reference30Ideal.main_v29) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] [hPre_chip_of_four31 : Cert.Pre_chip_of_four31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v18) = v0 c
          ∧ r.2.mem ((c.tc : Thread Cert.Reference31Ideal.nD Cert.Reference31Ideal.τ).loc Cert.Reference31Ideal.main_v42) = v1 c
          ∧ r.2.mem ((c.tc : Thread Cert.Reference31Ideal.nD Cert.Reference31Ideal.τ).loc Cert.Reference31Ideal.main_v23) = v2 c
          ∧ r.2.mem ((c.tc : Thread Cert.Reference31Ideal.nD Cert.Reference31Ideal.τ).loc Cert.Reference31Ideal.main_v29) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] [hPre_chip_of_four32 : Cert.Pre_chip_of_four32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_v42) = v1 c
          ∧ r.2.mem ((c.tc : Thread Cert.Reference32Ideal.nD Cert.Reference32Ideal.τ).loc Cert.Reference32Ideal.main_v23) = v2 c
          ∧ r.2.mem ((c.tc : Thread Cert.Reference32Ideal.nD Cert.Reference32Ideal.τ).loc Cert.Reference32Ideal.main_v29) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_attn_inputs_finite : Cert.Pre_attn_inputs_finite.Facts) (hPre_chip_of_four28 : Cert.Pre_chip_of_four28.Facts) (hPre_chip_of_four29 : Cert.Pre_chip_of_four29.Facts) (hPre_chip_of_four30 : Cert.Pre_chip_of_four30.Facts) (hPre_chip_of_four31 : Cert.Pre_chip_of_four31.Facts) (hPre_chip_of_four32 : Cert.Pre_chip_of_four32.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_attn_inputs_finite (hKernel2Ideal := hKernel2Ideal) (hPre_attn_inputs_finite := hPre_attn_inputs_finite)
    ∧ quiescent_Reference2Ideal (hReference2Ideal := hReference2Ideal)
    ∧ quiescent_Reference2Ideal_pre_attn_inputs_finite (hReference2Ideal := hReference2Ideal) (hPre_attn_inputs_finite := hPre_attn_inputs_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28) (hPre_chip_of_four28 := hPre_chip_of_four28)
    ∧ quiescent_Kernel28Ideal (hKernel28Ideal := hKernel28Ideal) (hPre_chip_of_four28 := hPre_chip_of_four28)
    ∧ quiescent_Reference28Ideal (hReference28Ideal := hReference28Ideal)
    ∧ quiescent_Reference28Ideal_pre_chip_of_four28 (hReference28Ideal := hReference28Ideal) (hPre_chip_of_four28 := hPre_chip_of_four28)
    ∧ quiescent_Kernel29 (hKernel29 := hKernel29) (hPre_chip_of_four29 := hPre_chip_of_four29)
    ∧ quiescent_Kernel29Ideal (hKernel29Ideal := hKernel29Ideal) (hPre_chip_of_four29 := hPre_chip_of_four29)
    ∧ quiescent_Reference29Ideal (hReference29Ideal := hReference29Ideal)
    ∧ quiescent_Reference29Ideal_pre_chip_of_four29 (hReference29Ideal := hReference29Ideal) (hPre_chip_of_four29 := hPre_chip_of_four29)
    ∧ quiescent_Kernel30 (hKernel30 := hKernel30) (hPre_chip_of_four30 := hPre_chip_of_four30)
    ∧ quiescent_Kernel30Ideal (hKernel30Ideal := hKernel30Ideal) (hPre_chip_of_four30 := hPre_chip_of_four30)
    ∧ quiescent_Reference30Ideal (hReference30Ideal := hReference30Ideal)
    ∧ quiescent_Reference30Ideal_pre_chip_of_four30 (hReference30Ideal := hReference30Ideal) (hPre_chip_of_four30 := hPre_chip_of_four30)
    ∧ quiescent_Kernel31 (hKernel31 := hKernel31) (hPre_chip_of_four31 := hPre_chip_of_four31)
    ∧ quiescent_Kernel31Ideal (hKernel31Ideal := hKernel31Ideal) (hPre_chip_of_four31 := hPre_chip_of_four31)
    ∧ quiescent_Reference31Ideal (hReference31Ideal := hReference31Ideal)
    ∧ quiescent_Reference31Ideal_pre_chip_of_four31 (hReference31Ideal := hReference31Ideal) (hPre_chip_of_four31 := hPre_chip_of_four31)
    ∧ quiescent_Kernel32 (hKernel32 := hKernel32) (hPre_chip_of_four32 := hPre_chip_of_four32)
    ∧ quiescent_Kernel32Ideal (hKernel32Ideal := hKernel32Ideal) (hPre_chip_of_four32 := hPre_chip_of_four32)
    ∧ quiescent_Reference32Ideal (hReference32Ideal := hReference32Ideal)
    ∧ quiescent_Reference32Ideal_pre_chip_of_four32 (hReference32Ideal := hReference32Ideal) (hPre_chip_of_four32 := hPre_chip_of_four32)
    ∧ preserves_Kernel_KernelIdeal
    ∧ preserves_Kernel2_Kernel2Ideal
    ∧ algebraic_Kernel2Ideal_Reference2Ideal_pre_attn_inputs_finite (hKernel2Ideal := hKernel2Ideal) (hReference2Ideal := hReference2Ideal) (hPre_attn_inputs_finite := hPre_attn_inputs_finite)
    ∧ preserves_Kernel3_Kernel3Ideal
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal) (hPre_chip_of_four28 := hPre_chip_of_four28)
    ∧ preserves_Kernel29_Kernel29Ideal
    ∧ algebraic_Kernel29Ideal_Reference29Ideal (hKernel29Ideal := hKernel29Ideal) (hReference29Ideal := hReference29Ideal) (hPre_chip_of_four29 := hPre_chip_of_four29)
    ∧ preserves_Kernel30_Kernel30Ideal
    ∧ algebraic_Kernel30Ideal_Reference30Ideal (hKernel30Ideal := hKernel30Ideal) (hReference30Ideal := hReference30Ideal) (hPre_chip_of_four30 := hPre_chip_of_four30)
    ∧ preserves_Kernel31_Kernel31Ideal
    ∧ algebraic_Kernel31Ideal_Reference31Ideal (hKernel31Ideal := hKernel31Ideal) (hReference31Ideal := hReference31Ideal) (hPre_chip_of_four31 := hPre_chip_of_four31)
    ∧ preserves_Kernel32_Kernel32Ideal
    ∧ algebraic_Kernel32Ideal_Reference32Ideal (hKernel32Ideal := hKernel32Ideal) (hReference32Ideal := hReference32Ideal) (hPre_chip_of_four32 := hPre_chip_of_four32)
-- ==== Pre_attn_inputs_finite.lean ====
abbrev S4096x2048 : Shape := ⟨2, ![4096, 2048]⟩
abbrev S256x2048 : Shape := ⟨2, ![256, 2048]⟩
abbrev S4352x2048 : Shape := ⟨2, ![4352, 2048]⟩
abbrev S_ : Shape := ⟨0, ![]⟩

class Facts : Prop where
  bitsLt_bf16_f32 : FTy.bits .bf16 < FTy.bits .f32
  concatenates_S4096x2048_S256x2048_S4352x2048_d0 : Shape.Concatenates [S4096x2048, S256x2048] S4352x2048 0
  bcast_S_S4352x2048 : S_.BroadcastsInDim S4352x2048 (![] : Fin 0 → Fin S4352x2048.rank)

variable [Facts]

def fn {F : FTy → Type} [FloatOps F] (main_arg0 : FVec F S4096x2048 .bf16) (main_arg1 : FVec F S256x2048 .bf16) (main_arg2 : FVec F S256x2048 .bf16) (main_arg3 : FVec F S4096x2048 .bf16) : IVec S4352x2048 1 :=
  let main_v0 : FVec F S4096x2048 .f32 := (extf .f32 · bitsLt_bf16_f32) main_arg0
  let main_v1 : FVec F S4096x2048 .f32 := Host.absf main_v0
  let main_v2 : FVec F S256x2048 .f32 := (extf .f32 · bitsLt_bf16_f32) main_arg1
  let main_v3 : FVec F S256x2048 .f32 := Host.absf main_v2
  let main_v4 : FVec F S4352x2048 .f32 := (fun a b => concatenate S4352x2048 0 [⟨S4096x2048, a⟩, ⟨S256x2048, b⟩] concatenates_S4096x2048_S256x2048_S4352x2048_d0) main_v1 main_v3
  let main_cst : FVec F S_ .f32 := constant S_ .f32 0x7F800000#32
  let main_v5 : FVec F S4352x2048 .f32 := broadcastInDim S4352x2048 ![] bcast_S_S4352x2048 main_cst
  let main_v6 : IVec S4352x2048 1 := cmpf .olt main_v4 main_v5
  main_v6
-- ==== Pre_chip_of_four28.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S256x2048 .f32) (main_arg1 : FVec F S256x2048 .f32) (main_arg2 : FVec F S256x2048 .f32) (main_arg3 : FVec F S4x256x2048 .bf16) (main_arg4 : FVec F S3x256x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_of_four29.lean ====
abbrev S1024x2048 : Shape := ⟨2, ![1024, 2048]⟩
abbrev S4x1024x2048 : Shape := ⟨3, ![4, 1024, 2048]⟩
abbrev S3x1024x2048 : Shape := ⟨3, ![3, 1024, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1024x2048 .f32) (main_arg1 : FVec F S1024x2048 .f32) (main_arg2 : FVec F S1024x2048 .f32) (main_arg3 : FVec F S4x1024x2048 .bf16) (main_arg4 : FVec F S3x1024x2048 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_of_four30.lean ====
abbrev S2048x1024 : Shape := ⟨2, ![2048, 1024]⟩
abbrev S4x2048x1024 : Shape := ⟨3, ![4, 2048, 1024]⟩
abbrev S3x2048x1024 : Shape := ⟨3, ![3, 2048, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x1024 .f32) (main_arg1 : FVec F S2048x1024 .f32) (main_arg2 : FVec F S2048x1024 .f32) (main_arg3 : FVec F S4x2048x1024 .bf16) (main_arg4 : FVec F S3x2048x1024 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_of_four31.lean ====
abbrev S2048x384 : Shape := ⟨2, ![2048, 384]⟩
abbrev S4x2048x384 : Shape := ⟨3, ![4, 2048, 384]⟩
abbrev S3x2048x384 : Shape := ⟨3, ![3, 2048, 384]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x384 .f32) (main_arg1 : FVec F S2048x384 .f32) (main_arg2 : FVec F S2048x384 .f32) (main_arg3 : FVec F S4x2048x384 .bf16) (main_arg4 : FVec F S3x2048x384 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_chip_of_four32.lean ====
abbrev S128x256 : Shape := ⟨2, ![128, 256]⟩
abbrev S4x128x256 : Shape := ⟨3, ![4, 128, 256]⟩
abbrev S3x128x256 : Shape := ⟨3, ![3, 128, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S128x256 .f32) (main_arg1 : FVec F S128x256 .f32) (main_arg2 : FVec F S128x256 .f32) (main_arg3 : FVec F S4x128x256 .bf16) (main_arg4 : FVec F S3x128x256 .bf16) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Kernel.lean ====
abbrev S4096x2048 : Shape := ⟨2, ![4096, 2048]⟩
abbrev S4096x3072 : Shape := ⟨2, ![4096, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S4x256x256 : Shape := ⟨3, ![4, 256, 256]⟩
abbrev S4x256 : Shape := ⟨2, ![4, 256]⟩
abbrev S4096x1024 : Shape := ⟨2, ![4096, 1024]⟩
abbrev S_ : Shape := ⟨0, ![]⟩
abbrev S4099x1024 : Shape := ⟨2, ![4099, 1024]⟩
abbrev S1x1024 : Shape := ⟨2, ![1, 1024]⟩
abbrev S4096x8x128 : Shape := ⟨3, ![4096, 8, 128]⟩
abbrev S8x128x4096 : Shape := ⟨3, ![8, 128, 4096]⟩
abbrev S1x8x128 : Shape := ⟨3, ![1, 8, 128]⟩
abbrev S4096 : Shape := ⟨1, ![4096]⟩
abbrev S4096x1 : Shape := ⟨2, ![4096, 1]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S2x1024 : Shape := ⟨2, ![2, 1024]⟩
abbrev S0x1024 : Shape := ⟨2, ![0, 1024]⟩
abbrev S3x1024 : Shape := ⟨2, ![3, 1024]⟩
abbrev S7x1024 : Shape := ⟨2, ![7, 1024]⟩
abbrev S15x1024 : Shape := ⟨2, ![15, 1024]⟩
abbrev S31x1024 : Shape := ⟨2, ![31, 1024]⟩
abbrev S63x1024 : Shape := ⟨2, ![63, 1024]⟩
abbrev S127x1024 : Shape := ⟨2, ![127, 1024]⟩
abbrev S255x1024 : Shape := ⟨2, ![255, 1024]⟩
abbrev S511x1024 : Shape := ⟨2, ![511, 1024]⟩
abbrev S1023x1024 : Shape := ⟨2, ![1023, 1024]⟩
abbrev S2047x1024 : Shape := ⟨2, ![2047, 1024]⟩
abbrev S256x3072 : Shape := ⟨2, ![256, 3072]⟩
abbrev S272x1024 : Shape := ⟨2, ![272, 1024]⟩
abbrev S264x1024 : Shape := ⟨2, ![264, 1024]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩

abbrev nBuf : Space → Nat
  | .hbm => 471
  | .vmem => 52
  | .smem => 0
  | _ => 0

abbrev hbmTy0_0 (i : Nat) : BufTy := match i % 128 with
  | 0 => ⟨S4096x2048, .f32⟩
  | 1 => ⟨S4096x3072, .f32⟩
  | 2 => ⟨S4x1024, .f32⟩
  | 3 => ⟨S1024, .f32⟩
  | 4 => ⟨S8x128x128, .f32⟩
  | 5 => ⟨S8x128, .f32⟩
  | 6 => ⟨S8x128x128, .f32⟩
  | 7 => ⟨S8x128, .f32⟩
  | 8 => ⟨S1024, .f32⟩
  | 9 => ⟨S4x256x256, .f32⟩
  | 10 => ⟨S4x256, .f32⟩
  | 11 => ⟨S1024, .f32⟩
  | 12 => ⟨S4096x1024, .f32⟩
  | 13 => ⟨S_, .i32⟩
  | 14 => ⟨S_, .f32⟩
  | 15 => ⟨S4099x1024, .f32⟩
  | 16 => ⟨S4096x1024, .f32⟩
  | 17 => ⟨S1x1024, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x8x128, .f32⟩
  | 47 => ⟨S8x128x4096, .f32⟩
  | 48 => ⟨S4096x8x128, .f32⟩
  | 49 => ⟨S1x8x128, .f32⟩
  | 50 => ⟨S4096x8x128, .f32⟩
  | 51 => ⟨S4096x8x128, .f32⟩
  | 52 => ⟨S4096x8x128, .f32⟩
  | 53 => ⟨S4096x8x128, .f32⟩
  | 54 => ⟨S_, .f32⟩
  | 55 => ⟨S4096x8x128, .f32⟩
  | 56 => ⟨S4096x8x128, .f32⟩
  | 57 => ⟨S_, .f32⟩
  | 58 => ⟨S4096x8x128, .f32⟩
  | 59 => ⟨S4096x8x128, .f32⟩
  | 60 => ⟨S4096x1024, .f32⟩
  | 61 => ⟨S8x128x4096, .f32⟩
  | 62 => ⟨S4096x8x128, .f32⟩
  | 63 => ⟨S1x8x128, .f32⟩
  | 64 => ⟨S4096x8x128, .f32⟩
  | 65 => ⟨S4096x8x128, .f32⟩
  | 66 => ⟨S4096x8x128, .f32⟩
  | 67 => ⟨S4096x8x128, .f32⟩
  | 68 => ⟨S_, .f32⟩
  | 69 => ⟨S4096x8x128, .f32⟩
  | 70 => ⟨S4096x8x128, .f32⟩
  | 71 => ⟨S_, .f32⟩
  | 72 => ⟨S4096x8x128, .f32⟩
  | 73 => ⟨S4096x8x128, .f32⟩
  | 74 => ⟨S4096x1024, .f32⟩
  | 75 => ⟨S_, .f32⟩
  | 76 => ⟨S4096x1024, .f32⟩
  | 77 => ⟨S4096x1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .i1⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096, .i32⟩
  | 104 => ⟨S_, .i32⟩
  | 105 => ⟨S4096, .i32⟩
  | 106 => ⟨S4096, .i1⟩
  | 107 => ⟨S4096x1, .i1⟩
  | 108 => ⟨S_, .f32⟩
  | 109 => ⟨S_, .f32⟩
  | 110 => ⟨S4096x1024, .i1⟩
  | 111 => ⟨S4096x1024, .f32⟩
  | 112 => ⟨S4096x1024, .f32⟩
  | 113 => ⟨S4096x1024, .f32⟩
  | 114 => ⟨S4096x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S4096x2048, .f32⟩

abbrev hbmTy0_1 (i : Nat) : BufTy := match i % 128 with
  | 0 => ⟨S1024x1024, .f32⟩
  | 1 => ⟨S512x1024, .f32⟩
  | 2 => ⟨S512x1024, .f32⟩
  | 3 => ⟨S512x1024, .f32⟩
  | 4 => ⟨S512x1024, .f32⟩
  | 5 => ⟨S512x1024, .f32⟩
  | 6 => ⟨S512x1024, .f32⟩
  | 7 => ⟨S512x1024, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S256x1024, .f32⟩
  | 15 => ⟨S128x1024, .f32⟩
  | 16 => ⟨S128x1024, .f32⟩
  | 17 => ⟨S128x1024, .f32⟩
  | 18 => ⟨S128x1024, .f32⟩
  | 19 => ⟨S128x1024, .f32⟩
  | 20 => ⟨S128x1024, .f32⟩
  | 21 => ⟨S128x1024, .f32⟩
  | 22 => ⟨S64x1024, .f32⟩
  | 23 => ⟨S64x1024, .f32⟩
  | 24 => ⟨S64x1024, .f32⟩
  | 25 => ⟨S64x1024, .f32⟩
  | 26 => ⟨S64x1024, .f32⟩
  | 27 => ⟨S64x1024, .f32⟩
  | 28 => ⟨S64x1024, .f32⟩
  | 29 => ⟨S32x1024, .f32⟩
  | 30 => ⟨S32x1024, .f32⟩
  | 31 => ⟨S32x1024, .f32⟩
  | 32 => ⟨S32x1024, .f32⟩
  | 33 => ⟨S32x1024, .f32⟩
  | 34 => ⟨S32x1024, .f32⟩
  | 35 => ⟨S32x1024, .f32⟩
  | 36 => ⟨S16x1024, .f32⟩
  | 37 => ⟨S16x1024, .f32⟩
  | 38 => ⟨S16x1024, .f32⟩
  | 39 => ⟨S16x1024, .f32⟩
  | 40 => ⟨S16x1024, .f32⟩
  | 41 => ⟨S16x1024, .f32⟩
  | 42 => ⟨S16x1024, .f32⟩
  | 43 => ⟨S8x1024, .f32⟩
  | 44 => ⟨S8x1024, .f32⟩
  | 45 => ⟨S8x1024, .f32⟩
  | 46 => ⟨S8x1024, .f32⟩
  | 47 => ⟨S8x1024, .f32⟩
  | 48 => ⟨S8x1024, .f32⟩
  | 49 => ⟨S8x1024, .f32⟩
  | 50 => ⟨S4x1024, .f32⟩
  | 51 => ⟨S4x1024, .f32⟩
  | 52 => ⟨S4x1024, .f32⟩
  | 53 => ⟨S4x1024, .f32⟩
  | 54 => ⟨S4x1024, .f32⟩
  | 55 => ⟨S4x1024, .f32⟩
  | 56 => ⟨S4x1024, .f32⟩
  | 57 => ⟨S2x1024, .f32⟩
  | 58 => ⟨S2x1024, .f32⟩
  | 59 => ⟨S2x1024, .f32⟩
  | 60 => ⟨S2x1024, .f32⟩
  | 61 => ⟨S2x1024, .f32⟩
  | 62 => ⟨S2x1024, .f32⟩
  | 63 => ⟨S2x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S0x1024, .f32⟩
  | 72 => ⟨S0x1024, .f32⟩
  | 73 => ⟨S0x1024, .f32⟩
  | 74 => ⟨S0x1024, .f32⟩
  | 75 => ⟨S0x1024, .f32⟩
  | 76 => ⟨S0x1024, .f32⟩
  | 77 => ⟨S0x1024, .f32⟩
  | 78 => ⟨S1x1024, .f32⟩
  | 79 => ⟨S1x1024, .f32⟩
  | 80 => ⟨S1x1024, .f32⟩
  | 81 => ⟨S1x1024, .f32⟩
  | 82 => ⟨S_, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S_, .f32⟩
  | 90 => ⟨S2x1024, .f32⟩
  | 91 => ⟨S2x1024, .f32⟩
  | 92 => ⟨S1x1024, .f32⟩
  | 93 => ⟨S1x1024, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S2x1024, .f32⟩
  | 101 => ⟨S1x1024, .f32⟩
  | 102 => ⟨S2x1024, .f32⟩
  | 103 => ⟨S_, .f32⟩
  | 104 => ⟨S4x1024, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S_, .f32⟩
  | 111 => ⟨S4x1024, .f32⟩
  | 112 => ⟨S4x1024, .f32⟩
  | 113 => ⟨S3x1024, .f32⟩
  | 114 => ⟨S3x1024, .f32⟩
  | 115 => ⟨S3x1024, .f32⟩
  | 116 => ⟨S3x1024, .f32⟩
  | 117 => ⟨S3x1024, .f32⟩
  | 118 => ⟨S3x1024, .f32⟩
  | 119 => ⟨S3x1024, .f32⟩
  | 120 => ⟨S1x1024, .f32⟩
  | 121 => ⟨S4x1024, .f32⟩
  | 122 => ⟨S1x1024, .f32⟩
  | 123 => ⟨S4x1024, .f32⟩
  | 124 => ⟨S_, .f32⟩
  | 125 => ⟨S8x1024, .f32⟩
  | 126 => ⟨S_, .f32⟩
  | 127 => ⟨S8x1024, .f32⟩
  | _ => ⟨S4096x2048, .f32⟩

abbrev hbmTy0_2 (i : Nat) : BufTy := match i % 128 with
  | 0 => ⟨S8x1024, .f32⟩
  | 1 => ⟨S_, .f32⟩
  | 2 => ⟨S8x1024, .f32⟩
  | 3 => ⟨S_, .f32⟩
  | 4 => ⟨S8x1024, .f32⟩
  | 5 => ⟨S8x1024, .f32⟩
  | 6 => ⟨S7x1024, .f32⟩
  | 7 => ⟨S7x1024, .f32⟩
  | 8 => ⟨S7x1024, .f32⟩
  | 9 => ⟨S7x1024, .f32⟩
  | 10 => ⟨S7x1024, .f32⟩
  | 11 => ⟨S7x1024, .f32⟩
  | 12 => ⟨S7x1024, .f32⟩
  | 13 => ⟨S1x1024, .f32⟩
  | 14 => ⟨S8x1024, .f32⟩
  | 15 => ⟨S1x1024, .f32⟩
  | 16 => ⟨S8x1024, .f32⟩
  | 17 => ⟨S_, .f32⟩
  | 18 => ⟨S16x1024, .f32⟩
  | 19 => ⟨S_, .f32⟩
  | 20 => ⟨S16x1024, .f32⟩
  | 21 => ⟨S16x1024, .f32⟩
  | 22 => ⟨S_, .f32⟩
  | 23 => ⟨S16x1024, .f32⟩
  | 24 => ⟨S_, .f32⟩
  | 25 => ⟨S16x1024, .f32⟩
  | 26 => ⟨S16x1024, .f32⟩
  | 27 => ⟨S15x1024, .f32⟩
  | 28 => ⟨S15x1024, .f32⟩
  | 29 => ⟨S15x1024, .f32⟩
  | 30 => ⟨S15x1024, .f32⟩
  | 31 => ⟨S15x1024, .f32⟩
  | 32 => ⟨S15x1024, .f32⟩
  | 33 => ⟨S15x1024, .f32⟩
  | 34 => ⟨S1x1024, .f32⟩
  | 35 => ⟨S16x1024, .f32⟩
  | 36 => ⟨S1x1024, .f32⟩
  | 37 => ⟨S16x1024, .f32⟩
  | 38 => ⟨S_, .f32⟩
  | 39 => ⟨S32x1024, .f32⟩
  | 40 => ⟨S_, .f32⟩
  | 41 => ⟨S32x1024, .f32⟩
  | 42 => ⟨S32x1024, .f32⟩
  | 43 => ⟨S_, .f32⟩
  | 44 => ⟨S32x1024, .f32⟩
  | 45 => ⟨S_, .f32⟩
  | 46 => ⟨S32x1024, .f32⟩
  | 47 => ⟨S32x1024, .f32⟩
  | 48 => ⟨S31x1024, .f32⟩
  | 49 => ⟨S31x1024, .f32⟩
  | 50 => ⟨S31x1024, .f32⟩
  | 51 => ⟨S31x1024, .f32⟩
  | 52 => ⟨S31x1024, .f32⟩
  | 53 => ⟨S31x1024, .f32⟩
  | 54 => ⟨S31x1024, .f32⟩
  | 55 => ⟨S1x1024, .f32⟩
  | 56 => ⟨S32x1024, .f32⟩
  | 57 => ⟨S1x1024, .f32⟩
  | 58 => ⟨S32x1024, .f32⟩
  | 59 => ⟨S_, .f32⟩
  | 60 => ⟨S64x1024, .f32⟩
  | 61 => ⟨S_, .f32⟩
  | 62 => ⟨S64x1024, .f32⟩
  | 63 => ⟨S64x1024, .f32⟩
  | 64 => ⟨S_, .f32⟩
  | 65 => ⟨S64x1024, .f32⟩
  | 66 => ⟨S_, .f32⟩
  | 67 => ⟨S64x1024, .f32⟩
  | 68 => ⟨S64x1024, .f32⟩
  | 69 => ⟨S63x1024, .f32⟩
  | 70 => ⟨S63x1024, .f32⟩
  | 71 => ⟨S63x1024, .f32⟩
  | 72 => ⟨S63x1024, .f32⟩
  | 73 => ⟨S63x1024, .f32⟩
  | 74 => ⟨S63x1024, .f32⟩
  | 75 => ⟨S63x1024, .f32⟩
  | 76 => ⟨S1x1024, .f32⟩
  | 77 => ⟨S64x1024, .f32⟩
  | 78 => ⟨S1x1024, .f32⟩
  | 79 => ⟨S64x1024, .f32⟩
  | 80 => ⟨S_, .f32⟩
  | 81 => ⟨S128x1024, .f32⟩
  | 82 => ⟨S_, .f32⟩
  | 83 => ⟨S128x1024, .f32⟩
  | 84 => ⟨S128x1024, .f32⟩
  | 85 => ⟨S_, .f32⟩
  | 86 => ⟨S128x1024, .f32⟩
  | 87 => ⟨S_, .f32⟩
  | 88 => ⟨S128x1024, .f32⟩
  | 89 => ⟨S128x1024, .f32⟩
  | 90 => ⟨S127x1024, .f32⟩
  | 91 => ⟨S127x1024, .f32⟩
  | 92 => ⟨S127x1024, .f32⟩
  | 93 => ⟨S127x1024, .f32⟩
  | 94 => ⟨S127x1024, .f32⟩
  | 95 => ⟨S127x1024, .f32⟩
  | 96 => ⟨S127x1024, .f32⟩
  | 97 => ⟨S1x1024, .f32⟩
  | 98 => ⟨S128x1024, .f32⟩
  | 99 => ⟨S1x1024, .f32⟩
  | 100 => ⟨S128x1024, .f32⟩
  | 101 => ⟨S_, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S256x1024, .f32⟩
  | 108 => ⟨S_, .f32⟩
  | 109 => ⟨S256x1024, .f32⟩
  | 110 => ⟨S256x1024, .f32⟩
  | 111 => ⟨S255x1024, .f32⟩
  | 112 => ⟨S255x1024, .f32⟩
  | 113 => ⟨S255x1024, .f32⟩
  | 114 => ⟨S255x1024, .f32⟩
  | 115 => ⟨S255x1024, .f32⟩
  | 116 => ⟨S255x1024, .f32⟩
  | 117 => ⟨S255x1024, .f32⟩
  | 118 => ⟨S1x1024, .f32⟩
  | 119 => ⟨S256x1024, .f32⟩
  | 120 => ⟨S1x1024, .f32⟩
  | 121 => ⟨S256x1024, .f32⟩
  | 122 => ⟨S_, .f32⟩
  | 123 => ⟨S512x1024, .f32⟩
  | 124 => ⟨S_, .f32⟩
  | 125 => ⟨S512x1024, .f32⟩
  | 126 => ⟨S512x1024, .f32⟩
  | 127 => ⟨S_, .f32⟩
  | _ => ⟨S4096x2048, .f32⟩

abbrev hbmTy0_3 (i : Nat) : BufTy := match i % 128 with
  | 0 => ⟨S512x1024, .f32⟩
  | 1 => ⟨S_, .f32⟩
  | 2 => ⟨S512x1024, .f32⟩
  | 3 => ⟨S512x1024, .f32⟩
  | 4 => ⟨S511x1024, .f32⟩
  | 5 => ⟨S511x1024, .f32⟩
  | 6 => ⟨S511x1024, .f32⟩
  | 7 => ⟨S511x1024, .f32⟩
  | 8 => ⟨S511x1024, .f32⟩
  | 9 => ⟨S511x1024, .f32⟩
  | 10 => ⟨S511x1024, .f32⟩
  | 11 => ⟨S1x1024, .f32⟩
  | 12 => ⟨S512x1024, .f32⟩
  | 13 => ⟨S1x1024, .f32⟩
  | 14 => ⟨S512x1024, .f32⟩
  | 15 => ⟨S_, .f32⟩
  | 16 => ⟨S1024x1024, .f32⟩
  | 17 => ⟨S_, .f32⟩
  | 18 => ⟨S1024x1024, .f32⟩
  | 19 => ⟨S1024x1024, .f32⟩
  | 20 => ⟨S_, .f32⟩
  | 21 => ⟨S1024x1024, .f32⟩
  | 22 => ⟨S_, .f32⟩
  | 23 => ⟨S1024x1024, .f32⟩
  | 24 => ⟨S1024x1024, .f32⟩
  | 25 => ⟨S1023x1024, .f32⟩
  | 26 => ⟨S1023x1024, .f32⟩
  | 27 => ⟨S1023x1024, .f32⟩
  | 28 => ⟨S1023x1024, .f32⟩
  | 29 => ⟨S1023x1024, .f32⟩
  | 30 => ⟨S1023x1024, .f32⟩
  | 31 => ⟨S1023x1024, .f32⟩
  | 32 => ⟨S1x1024, .f32⟩
  | 33 => ⟨S1024x1024, .f32⟩
  | 34 => ⟨S1x1024, .f32⟩
  | 35 => ⟨S1024x1024, .f32⟩
  | 36 => ⟨S_, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S_, .f32⟩
  | 44 => ⟨S2048x1024, .f32⟩
  | 45 => ⟨S2048x1024, .f32⟩
  | 46 => ⟨S2047x1024, .f32⟩
  | 47 => ⟨S2047x1024, .f32⟩
  | 48 => ⟨S2047x1024, .f32⟩
  | 49 => ⟨S2047x1024, .f32⟩
  | 50 => ⟨S2047x1024, .f32⟩
  | 51 => ⟨S2047x1024, .f32⟩
  | 52 => ⟨S2047x1024, .f32⟩
  | 53 => ⟨S1x1024, .f32⟩
  | 54 => ⟨S2048x1024, .f32⟩
  | 55 => ⟨S1x1024, .f32⟩
  | 56 => ⟨S2048x1024, .f32⟩
  | 57 => ⟨S_, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S_, .f32⟩
  | 65 => ⟨S4096x1024, .f32⟩
  | 66 => ⟨S4096x1024, .f32⟩
  | 67 => ⟨S4x256x256, .bf16⟩
  | 68 => ⟨S1x1024, .f32⟩
  | 69 => ⟨S1x1024, .f32⟩
  | 70 => ⟨S1x1024, .f32⟩
  | 71 => ⟨S8x128x128, .bf16⟩
  | 72 => ⟨S1x1024, .f32⟩
  | 73 => ⟨S8x128x128, .bf16⟩
  | 74 => ⟨S1x1024, .f32⟩
  | 75 => ⟨S1x1024, .f32⟩
  | 76 => ⟨S4096x3072, .bf16⟩
  | 77 => ⟨S4x256x256, .f32⟩
  | 78 => ⟨S1x1024, .f32⟩
  | 79 => ⟨S1x1024, .f32⟩
  | 80 => ⟨S4x1024, .f32⟩
  | 81 => ⟨S1x1024, .f32⟩
  | 82 => ⟨S8x128x128, .f32⟩
  | 83 => ⟨S1x1024, .f32⟩
  | 84 => ⟨S8x128x128, .f32⟩
  | 85 => ⟨S1x1024, .f32⟩
  | 86 => ⟨S1x1024, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S16x1024, .f32⟩
  | .local _ .vmem, ⟨11, _⟩ => ⟨S16x1024, .f32⟩
  | .local _ .vmem, ⟨12, _⟩ => ⟨S8x1024, .f32⟩
  | .local _ .vmem, ⟨13, _⟩ => ⟨S8x1024, .f32⟩
  | .local _ .vmem, ⟨14, _⟩ => ⟨S256x1024, .f32⟩
  | .local _ .vmem, ⟨15, _⟩ => ⟨S256x1024, .f32⟩
  | .local _ .vmem, ⟨16, _⟩ => ⟨S8x1024, .f32⟩
  | .local _ .vmem, ⟨17, _⟩ => ⟨S8x1024, .f32⟩
  | .local _ .vmem, ⟨18, _⟩ => ⟨S4x256x256, .bf16⟩
  | .local _ .vmem, ⟨19, _⟩ => ⟨S1x1024, .f32⟩
  | .local _ .vmem, ⟨20, _⟩ => ⟨S1x1024, .f32⟩
  | .local _ .vmem, ⟨21, _⟩ => ⟨S4x1024, .f32⟩
  | .local _ .vmem, ⟨22, _⟩ => ⟨S1x1024, .f32⟩
  | .local _ .vmem, ⟨23, _⟩ => ⟨S8x128x128, .bf16⟩
  | .local _ .vmem, ⟨24, _⟩ => ⟨S1x1024, .f32⟩
  | .local _ .vmem, ⟨25, _⟩ => ⟨S8x128x128, .bf16⟩
  | .local _ .vmem, ⟨26, _⟩ => ⟨S1x1024, .f32⟩
  | .local _ .vmem, ⟨27, _⟩ => ⟨S1x1024, .f32⟩
  | .local _ .vmem, ⟨28, _⟩ => ⟨S256x3072, .bf16⟩
  | .local _ .vmem, ⟨29, _⟩ => ⟨S256x3072, .bf16⟩
  | .local _ .vmem, ⟨30, _⟩ => ⟨S4x256x256, .f32⟩
  | .local _ .vmem, ⟨31, _⟩ => ⟨S1x1024, .f32⟩
  | .local _ .vmem, ⟨32, _⟩ => ⟨S1x1024, .f32⟩
  | .local _ .vmem, ⟨33, _⟩ => ⟨S4x1024, .f32⟩
  | .local _ .vmem, ⟨34, _⟩ => ⟨S1x1024, .f32⟩
  | .local _ .vmem, ⟨35, _⟩ => ⟨S8x128x128, .f32⟩
  | .local _ .vmem, ⟨36, _⟩ => ⟨S1x1024, .f32⟩
  | .local _ .vmem, ⟨37, _⟩ => ⟨S8x128x128, .f32⟩
  | .local _ .vmem, ⟨38, _⟩ => ⟨S1x1024, .f32⟩
  | .local _ .vmem, ⟨39, _⟩ => ⟨S1x1024, .f32⟩
  | .local _ .vmem, ⟨40, _⟩ => ⟨S272x1024, .f32⟩
  | .local _ .vmem, ⟨41, _⟩ => ⟨S272x1024, .f32⟩
  | .local _ .vmem, ⟨42, _⟩ => ⟨S264x1024, .f32⟩
  | .local _ .vmem, ⟨43, _⟩ => ⟨S264x1024, .f32⟩
  | .local _ .vmem, ⟨44, _⟩ => ⟨S264x1024, .f32⟩
  | .local _ .vmem, ⟨45, _⟩ => ⟨S8x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_cst_0 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_1 : Ref sig .tc := ⟨.hbm, 68, rfl⟩
abbrev main_v52 : Ref sig .tc := ⟨.hbm, 69, rfl⟩
abbrev main_v53 : Ref sig .tc := ⟨.hbm, 70, rfl⟩
abbrev main_cst_2 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_3 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_4 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_5 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_6 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_7 : Ref sig .tc := ⟨.hbm, 210, rfl⟩
abbrev main_v172 : Ref sig .tc := ⟨.hbm, 211, rfl⟩
abbrev main_cst_8 : Ref sig .tc := ⟨.hbm, 212, rfl⟩
abbrev main_v173 : Ref sig .tc := ⟨.hbm, 213, rfl⟩
abbrev main_v174 : Ref sig .tc := ⟨.hbm, 214, rfl⟩
abbrev main_cst_9 : Ref sig .tc := ⟨.hbm, 215, rfl⟩
abbrev main_v175 : Ref sig .tc := ⟨.hbm, 216, rfl⟩
abbrev main_cst_10 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_11 : Ref sig .tc := ⟨.hbm, 231, rfl⟩
abbrev main_v189 : Ref sig .tc := ⟨.hbm, 232, rfl⟩
abbrev main_cst_12 : Ref sig .tc := ⟨.hbm, 233, rfl⟩
abbrev main_v190 : Ref sig .tc := ⟨.hbm, 234, rfl⟩
abbrev main_v191 : Ref sig .tc := ⟨.hbm, 235, rfl⟩
abbrev main_cst_13 : Ref sig .tc := ⟨.hbm, 236, rfl⟩
abbrev main_v192 : Ref sig .tc := ⟨.hbm, 237, rfl⟩
abbrev main_cst_14 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_cst_15 : Ref sig .tc := ⟨.hbm, 252, rfl⟩
abbrev main_v206 : Ref sig .tc := ⟨.hbm, 253, rfl⟩
abbrev main_cst_16 : Ref sig .tc := ⟨.hbm, 254, rfl⟩
abbrev main_v207 : Ref sig .tc := ⟨.hbm, 255, rfl⟩
abbrev main_v208 : Ref sig .tc := ⟨.hbm, 256, rfl⟩
abbrev main_cst_17 : Ref sig .tc := ⟨.hbm, 257, rfl⟩
abbrev main_v209 : Ref sig .tc := ⟨.hbm, 258, rfl⟩
abbrev main_cst_18 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_19 : Ref sig .tc := ⟨.hbm, 273, rfl⟩
abbrev main_v223 : Ref sig .tc := ⟨.hbm, 274, rfl⟩
abbrev main_cst_20 : Ref sig .tc := ⟨.hbm, 275, rfl⟩
abbrev main_v224 : Ref sig .tc := ⟨.hbm, 276, rfl⟩
abbrev main_v225 : Ref sig .tc := ⟨.hbm, 277, rfl⟩
abbrev main_cst_21 : Ref sig .tc := ⟨.hbm, 278, rfl⟩
abbrev main_v226 : Ref sig .tc := ⟨.hbm, 279, rfl⟩
abbrev main_cst_22 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_cst_23 : Ref sig .tc := ⟨.hbm, 294, rfl⟩
abbrev main_v240 : Ref sig .tc := ⟨.hbm, 295, rfl⟩
abbrev main_cst_24 : Ref sig .tc := ⟨.hbm, 296, rfl⟩
abbrev main_v241 : Ref sig .tc := ⟨.hbm, 297, rfl⟩
abbrev main_v242 : Ref sig .tc := ⟨.hbm, 298, rfl⟩
abbrev main_cst_25 : Ref sig .tc := ⟨.hbm, 299, rfl⟩
abbrev main_v243 : Ref sig .tc := ⟨.hbm, 300, rfl⟩
abbrev main_cst_26 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_cst_27 : Ref sig .tc := ⟨.hbm, 315, rfl⟩
abbrev main_v257 : Ref sig .tc := ⟨.hbm, 316, rfl⟩
abbrev main_cst_28 : Ref sig .tc := ⟨.hbm, 317, rfl⟩
abbrev main_v258 : Ref sig .tc := ⟨.hbm, 318, rfl⟩
abbrev main_v259 : Ref sig .tc := ⟨.hbm, 319, rfl⟩
abbrev main_cst_29 : Ref sig .tc := ⟨.hbm, 320, rfl⟩
abbrev main_v260 : Ref sig .tc := ⟨.hbm, 321, rfl⟩
abbrev main_cst_30 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_cst_31 : Ref sig .tc := ⟨.hbm, 336, rfl⟩
abbrev main_v274 : Ref sig .tc := ⟨.hbm, 337, rfl⟩
abbrev main_cst_32 : Ref sig .tc := ⟨.hbm, 338, rfl⟩
abbrev main_v275 : Ref sig .tc := ⟨.hbm, 339, rfl⟩
abbrev main_v276 : Ref sig .tc := ⟨.hbm, 340, rfl⟩
abbrev main_cst_33 : Ref sig .tc := ⟨.hbm, 341, rfl⟩
abbrev main_v277 : Ref sig .tc := ⟨.hbm, 342, rfl⟩
abbrev main_cst_34 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_cst_35 : Ref sig .tc := ⟨.hbm, 357, rfl⟩
abbrev main_v291 : Ref sig .tc := ⟨.hbm, 358, rfl⟩
abbrev main_cst_36 : Ref sig .tc := ⟨.hbm, 359, rfl⟩
abbrev main_v292 : Ref sig .tc := ⟨.hbm, 360, rfl⟩
abbrev main_v293 : Ref sig .tc := ⟨.hbm, 361, rfl⟩
abbrev main_cst_37 : Ref sig .tc := ⟨.hbm, 362, rfl⟩
abbrev main_v294 : Ref sig .tc := ⟨.hbm, 363, rfl⟩
abbrev main_cst_38 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_cst_39 : Ref sig .tc := ⟨.hbm, 378, rfl⟩
abbrev main_v308 : Ref sig .tc := ⟨.hbm, 379, rfl⟩
abbrev main_cst_40 : Ref sig .tc := ⟨.hbm, 380, rfl⟩
abbrev main_v309 : Ref sig .tc := ⟨.hbm, 381, rfl⟩
abbrev main_v310 : Ref sig .tc := ⟨.hbm, 382, rfl⟩
abbrev main_cst_41 : Ref sig .tc := ⟨.hbm, 383, rfl⟩
abbrev main_v311 : Ref sig .tc := ⟨.hbm, 384, rfl⟩
abbrev main_cst_42 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_cst_43 : Ref sig .tc := ⟨.hbm, 399, rfl⟩
abbrev main_v325 : Ref sig .tc := ⟨.hbm, 400, rfl⟩
abbrev main_cst_44 : Ref sig .tc := ⟨.hbm, 401, rfl⟩
abbrev main_v326 : Ref sig .tc := ⟨.hbm, 402, rfl⟩
abbrev main_v327 : Ref sig .tc := ⟨.hbm, 403, rfl⟩
abbrev main_cst_45 : Ref sig .tc := ⟨.hbm, 404, rfl⟩
abbrev main_v328 : Ref sig .tc := ⟨.hbm, 405, rfl⟩
abbrev main_cst_46 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_cst_47 : Ref sig .tc := ⟨.hbm, 420, rfl⟩
abbrev main_v342 : Ref sig .tc := ⟨.hbm, 421, rfl⟩
abbrev main_cst_48 : Ref sig .tc := ⟨.hbm, 422, rfl⟩
abbrev main_v343 : Ref sig .tc := ⟨.hbm, 423, rfl⟩
abbrev main_v344 : Ref sig .tc := ⟨.hbm, 424, rfl⟩
abbrev main_cst_49 : Ref sig .tc := ⟨.hbm, 425, rfl⟩
abbrev main_v345 : Ref sig .tc := ⟨.hbm, 426, rfl⟩
abbrev main_cst_50 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_v349 : Ref sig .tc := ⟨.hbm, 431, rfl⟩
abbrev main_v350 : Ref sig .tc := ⟨.hbm, 432, rfl⟩
abbrev main_v351 : Ref sig .tc := ⟨.hbm, 433, rfl⟩
abbrev main_v352 : Ref sig .tc := ⟨.hbm, 434, rfl⟩
abbrev main_v353 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_cst_51 : Ref sig .tc := ⟨.hbm, 441, rfl⟩
abbrev main_v359 : Ref sig .tc := ⟨.hbm, 442, rfl⟩
abbrev main_cst_52 : Ref sig .tc := ⟨.hbm, 443, rfl⟩
abbrev main_v360 : Ref sig .tc := ⟨.hbm, 444, rfl⟩
abbrev main_v361 : Ref sig .tc := ⟨.hbm, 445, rfl⟩
abbrev main_cst_53 : Ref sig .tc := ⟨.hbm, 446, rfl⟩
abbrev main_v362 : Ref sig .tc := ⟨.hbm, 447, rfl⟩
abbrev main_cst_54 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374_0 : Ref sig .tc := ⟨.hbm, 460, rfl⟩
abbrev main_v374_1 : Ref sig .tc := ⟨.hbm, 461, rfl⟩
abbrev main_v374_2 : Ref sig .tc := ⟨.hbm, 462, rfl⟩
abbrev main_v374_3 : Ref sig .tc := ⟨.hbm, 463, rfl⟩
abbrev main_v374_4 : Ref sig .tc := ⟨.hbm, 464, rfl⟩
abbrev main_v374_5 : Ref sig .tc := ⟨.hbm, 465, rfl⟩
abbrev main_v374_6 : Ref sig .tc := ⟨.hbm, 466, rfl⟩
abbrev main_v374_7 : Ref sig .tc := ⟨.hbm, 467, rfl⟩
abbrev main_v374_8 : Ref sig .tc := ⟨.hbm, 468, rfl⟩
abbrev main_v374_9 : Ref sig .tc := ⟨.hbm, 469, rfl⟩
abbrev main_v374_10 : Ref sig .tc := ⟨.hbm, 470, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_stg25_0 : Ref sig .tc := ⟨.vmem, 35, rfl⟩
abbrev cc0_stg26_0 : Ref sig .tc := ⟨.vmem, 36, rfl⟩
abbrev cc0_stg27_0 : Ref sig .tc := ⟨.vmem, 37, rfl⟩
abbrev cc0_stg28_0 : Ref sig .tc := ⟨.vmem, 38, rfl⟩
abbrev cc0_stg29_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_scratch7 : Ref sig .tc := ⟨.vmem, 47, rfl⟩
abbrev cc0_scratch8 : Ref sig .tc := ⟨.vmem, 48, rfl⟩
abbrev cc0_scratch9 : Ref sig .tc := ⟨.vmem, 49, rfl⟩
abbrev cc0_scratch10 : Ref sig .tc := ⟨.vmem, 50, rfl⟩
abbrev cc0_scratch11 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34
abbrev cc0_sem25_0 : DmaSem sig := 35
abbrev cc0_sem26_0 : DmaSem sig := 36
abbrev cc0_sem27_0 : DmaSem sig := 37
abbrev cc0_sem28_0 : DmaSem sig := 38
abbrev cc0_sem29_0 : DmaSem sig := 39

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_417 : BitVec 32 := 0#32
  let c32_i32 : BitVec 32 := 32#32
  let v864 : BitVec 32 := Scalar.addi c0_i32_417 c32_i32
  let c1_i32 : BitVec 32 := 1#32
  ⟨c0_i32_417, v864, c1_i32⟩
def k0_mult1 (k0_t1 : Fin k0_t1_loop.trips) : BitVec 32 :=
  let c31_i32 : BitVec 32 := 31#32
  let c0_i32_417 : BitVec 32 := 0#32
  let c1_i32 : BitVec 32 := 1#32
  let arg43 : BitVec 32 := Scf.iv c0_i32_417 c1_i32 k0_t1
  let v2306 : BitVec 32 := Scalar.subi c31_i32 arg43
  let c8_i32_1480 : BitVec 32 := 8#32
  let v2307 : BitVec 32 := Scalar.muli v2306 c8_i32_1480
  v2307
def k0_off1 (k0_t1 : Fin k0_t1_loop.trips) : Fin 2 → Nat :=
  let c31_i32 : BitVec 32 := 31#32
  let c0_i32_417 : BitVec 32 := 0#32
  let c1_i32 : BitVec 32 := 1#32
  let arg43 : BitVec 32 := Scf.iv c0_i32_417 c1_i32 k0_t1
  let v2306 : BitVec 32 := Scalar.subi c31_i32 arg43
  let c8_i32_1480 : BitVec 32 := 8#32
  let v2307 : BitVec 32 := Scalar.muli v2306 c8_i32_1480
  let v2308 : BitVec 32 := v2307
  let v2309 : Index := Scalar.indexCast v2308
  let c0_1481 : Index := 0#32
  ![v2309.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S8x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== ReferenceIdeal.lean ====
abbrev S4096x2048 : Shape := ⟨2, ![4096, 2048]⟩
abbrev S4096x3072 : Shape := ⟨2, ![4096, 3072]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S4x256x256 : Shape := ⟨3, ![4, 256, 256]⟩
abbrev S4x256 : Shape := ⟨2, ![4, 256]⟩
abbrev S4096x1024 : Shape := ⟨2, ![4096, 1024]⟩
abbrev S4096x4x256 : Shape := ⟨3, ![4096, 4, 256]⟩
abbrev S_ : Shape := ⟨0, ![]⟩
abbrev S4096 : Shape := ⟨1, ![4096]⟩
abbrev S4096x1x256 : Shape := ⟨3, ![4096, 1, 256]⟩
abbrev S4096x256 : Shape := ⟨2, ![4096, 256]⟩
abbrev S4098x256 : Shape := ⟨2, ![4098, 256]⟩
abbrev S4096x1 : Shape := ⟨2, ![4096, 1]⟩
abbrev S4100x256 : Shape := ⟨2, ![4100, 256]⟩
abbrev S4104x256 : Shape := ⟨2, ![4104, 256]⟩
abbrev S4112x256 : Shape := ⟨2, ![4112, 256]⟩
abbrev S4x256x4096 : Shape := ⟨3, ![4, 256, 4096]⟩
abbrev S1x4x256 : Shape := ⟨3, ![1, 4, 256]⟩
abbrev S1x1024 : Shape := ⟨2, ![1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S8x128x128, .f32⟩
  | .hbm, ⟨7, _⟩ => ⟨S8x128, .f32⟩
  | .hbm, ⟨8, _⟩ => ⟨S1024, .f32⟩
  | .hbm, ⟨9, _⟩ => ⟨S4x256x256, .f32⟩
  | .hbm, ⟨10, _⟩ => ⟨S4x256, .f32⟩
  | .hbm, ⟨11, _⟩ => ⟨S1024, .f32⟩
  | .hbm, ⟨12, _⟩ => ⟨S4096x1024, .f32⟩
  | .hbm, ⟨13, _⟩ => ⟨S4096x4x256, .f32⟩
  | .hbm, ⟨14, _⟩ => ⟨S_, .f32⟩
  | .hbm, ⟨15, _⟩ => ⟨S_, .f32⟩
  | .hbm, ⟨16, _⟩ => ⟨S4096x4x256, .f32⟩
  | .hbm, ⟨17, _⟩ => ⟨S4096, .i32⟩
  | .hbm, ⟨18, _⟩ => ⟨S4096x1x256, .f32⟩
  | .hbm, ⟨19, _⟩ => ⟨S4096x256, .f32⟩
  | .hbm, ⟨20, _⟩ => ⟨S_, .i32⟩
  | .hbm, ⟨21, _⟩ => ⟨S_, .f32⟩
  | .hbm, ⟨22, _⟩ => ⟨S4098x256, .f32⟩
  | .hbm, ⟨23, _⟩ => ⟨S4096x256, .f32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S4096x1, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x1x256, .f32⟩
  | .hbm, ⟨36, _⟩ => ⟨S4096x256, .f32⟩
  | .hbm, ⟨37, _⟩ => ⟨S_, .i32⟩
  | .hbm, ⟨38, _⟩ => ⟨S_, .f32⟩
  | .hbm, ⟨39, _⟩ => ⟨S4100x256, .f32⟩
  | .hbm, ⟨40, _⟩ => ⟨S4096x256, .f32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x1x256, .f32⟩
  | .hbm, ⟨53, _⟩ => ⟨S4096x256, .f32⟩
  | .hbm, ⟨54, _⟩ => ⟨S_, .i32⟩
  | .hbm, ⟨55, _⟩ => ⟨S_, .f32⟩
  | .hbm, ⟨56, _⟩ => ⟨S4104x256, .f32⟩
  | .hbm, ⟨57, _⟩ => ⟨S4096x256, .f32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .f32⟩
  | .hbm, ⟨65, _⟩ => ⟨S4096x1, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x1x256, .f32⟩
  | .hbm, ⟨70, _⟩ => ⟨S4096x256, .f32⟩
  | .hbm, ⟨71, _⟩ => ⟨S_, .i32⟩
  | .hbm, ⟨72, _⟩ => ⟨S_, .f32⟩
  | .hbm, ⟨73, _⟩ => ⟨S4112x256, .f32⟩
  | .hbm, ⟨74, _⟩ => ⟨S4096x256, .f32⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .f32⟩
  | .hbm, ⟨82, _⟩ => ⟨S4096x1, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x1x256, .f32⟩
  | .hbm, ⟨87, _⟩ => ⟨S4096x1x256, .f32⟩
  | .hbm, ⟨88, _⟩ => ⟨S4096x1x256, .f32⟩
  | .hbm, ⟨89, _⟩ => ⟨S4096x1x256, .f32⟩
  | .hbm, ⟨90, _⟩ => ⟨S4096x4x256, .f32⟩
  | .hbm, ⟨91, _⟩ => ⟨S4096x4x256, .f32⟩
  | .hbm, ⟨92, _⟩ => ⟨S4x256x4096, .f32⟩
  | .hbm, ⟨93, _⟩ => ⟨S4096x4x256, .f32⟩
  | .hbm, ⟨94, _⟩ => ⟨S1x4x256, .f32⟩
  | .hbm, ⟨95, _⟩ => ⟨S4096x4x256, .f32⟩
  | .hbm, ⟨96, _⟩ => ⟨S4096x4x256, .f32⟩
  | .hbm, ⟨97, _⟩ => ⟨S4096x1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S4096x1024, .f32⟩
  | .hbm, ⟨107, _⟩ => ⟨S4096x1024, .f32⟩
  | .hbm, ⟨108, _⟩ => ⟨S_, .f32⟩
  | .hbm, ⟨109, _⟩ => ⟨S1024, .f32⟩
  | .hbm, ⟨110, _⟩ => ⟨S4096x4x256, .f32⟩
  | .hbm, ⟨111, _⟩ => ⟨S_, .f32⟩
  | .hbm, ⟨112, _⟩ => ⟨S4x256, .f32⟩
  | .hbm, ⟨113, _⟩ => ⟨S1x4x256, .f32⟩
  | .hbm, ⟨114, _⟩ => ⟨S_, .f32⟩
  | .hbm, ⟨115, _⟩ => ⟨S4x256, .f32⟩
  | .hbm, ⟨116, _⟩ => ⟨S4x256x4096, .f32⟩
  | .hbm, ⟨117, _⟩ => ⟨S4x256x256, .f32⟩
  | .hbm, ⟨118, _⟩ => ⟨S4x256x256, .f32⟩
  | .hbm, ⟨119, _⟩ => ⟨S1x1024, .f32⟩
  | .hbm, ⟨120, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_call0_cst : Ref sig .tc := ⟨.hbm, 14, rfl⟩
abbrev main_call0_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call2_v0 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_call4_v0 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_cst_12 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Kernel2.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .hbm, ⟨4, _⟩ => ⟨S4096x2048, .f32⟩
  | .hbm, ⟨5, _⟩ => ⟨S256x2048, .f32⟩
  | .hbm, ⟨6, _⟩ => ⟨S256x2048, .f32⟩
  | .hbm, ⟨7, _⟩ => ⟨S4096x4x512, .f32⟩
  | .hbm, ⟨8, _⟩ => ⟨S256x4x512, .f32⟩
  | .hbm, ⟨9, _⟩ => ⟨S256x4x512, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x512x4096, .f32⟩
  | .hbm, ⟨53, _⟩ => ⟨S4096x4x512, .f32⟩
  | .hbm, ⟨54, _⟩ => ⟨S4096x2048, .f32⟩
  | .hbm, ⟨55, _⟩ => ⟨S4096x2048, .f32⟩
  | .hbm, ⟨56, _⟩ => ⟨S4096x4x512, .f32⟩
  | .hbm, ⟨57, _⟩ => ⟨S4x512x4096, .f32⟩
  | .hbm, ⟨58, _⟩ => ⟨S4x4096x256, .f32⟩
  | .hbm, ⟨59, _⟩ => ⟨S4x512x256, .f32⟩
  | .hbm, ⟨60, _⟩ => ⟨S256x4x512, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x512, .f32⟩
  | .hbm, ⟨79, _⟩ => ⟨S256x4x512, .f32⟩
  | .hbm, ⟨80, _⟩ => ⟨S4x4096x512, .f32⟩
  | .hbm, ⟨81, _⟩ => ⟨S4096x4x512, .f32⟩
  | .hbm, ⟨82, _⟩ => ⟨S256x2048, .f32⟩
  | .hbm, ⟨83, _⟩ => ⟨S256x2048, .f32⟩
  | .hbm, ⟨84, _⟩ => ⟨S4096x2048, .f32⟩
  | .hbm, ⟨85, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S1x128, .f32⟩
  | .hbm, ⟨8, _⟩ => ⟨S4096x2048, .f32⟩
  | .hbm, ⟨9, _⟩ => ⟨S4096x2048, .bf16⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S4096x2048, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S4096x1, .f32⟩
  | .hbm, ⟨89, _⟩ => ⟨S4096x2048, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x2048, .f32⟩
  | .hbm, ⟨99, _⟩ => ⟨S4096x2048, .f32⟩
  | .hbm, ⟨100, _⟩ => ⟨S4096x2048, .f32⟩
  | .hbm, ⟨101, _⟩ => ⟨S_, .f32⟩
  | .hbm, ⟨102, _⟩ => ⟨S4096, .f32⟩
  | .hbm, ⟨103, _⟩ => ⟨S4096x1, .f32⟩
  | .hbm, ⟨104, _⟩ => ⟨S4096x2048, .f32⟩
  | .hbm, ⟨105, _⟩ => ⟨S4096x1, .f32⟩
  | .hbm, ⟨106, _⟩ => ⟨S_, .f32⟩
  | .hbm, ⟨107, _⟩ => ⟨S4096x1, .f32⟩
  | .hbm, ⟨108, _⟩ => ⟨S4096x1, .f32⟩
  | .hbm, ⟨109, _⟩ => ⟨S_, .f32⟩
  | .hbm, ⟨110, _⟩ => ⟨S4096, .f32⟩
  | .hbm, ⟨111, _⟩ => ⟨S4096x2048, .f32⟩
  | .hbm, ⟨112, _⟩ => ⟨S4096x2048, .f32⟩
  | .hbm, ⟨113, _⟩ => ⟨S1x128, .f32⟩
  | .hbm, ⟨114, _⟩ => ⟨S1x2048, .f32⟩
  | .hbm, ⟨115, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_cst_18 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_cst_21 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_22 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_23 : Ref sig .tc := ⟨.hbm, 106, rfl⟩
abbrev main_v77 : Ref sig .tc := ⟨.hbm, 107, rfl⟩
abbrev main_v78 : Ref sig .tc := ⟨.hbm, 108, rfl⟩
abbrev main_cst_24 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Kernel4.lean ====
abbrev S4096x8192 : Shape := ⟨2, ![4096, 8192]⟩
abbrev S4096x2048 : Shape := ⟨2, ![4096, 2048]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S1x8192x2048 : Shape := ⟨3, ![1, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x8192 : Shape := ⟨2, ![4096, 8192]⟩
abbrev S8192x2048 : Shape := ⟨2, ![8192, 2048]⟩
abbrev S1x8192x2048 : Shape := ⟨3, ![1, 8192, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S1x8192x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x2048 : Shape := ⟨2, ![4096, 2048]⟩
abbrev S256x2048 : Shape := ⟨2, ![256, 2048]⟩
abbrev S4096x4x512 : Shape := ⟨3, ![4096, 4, 512]⟩
abbrev S256x4x512 : Shape := ⟨3, ![256, 4, 512]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x512x4096 : Shape := ⟨3, ![4, 512, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .bf16⟩
  | .hbm, ⟨3, _⟩ => ⟨S4096x2048, .f32⟩
  | .hbm, ⟨4, _⟩ => ⟨S256x2048, .f32⟩
  | .hbm, ⟨5, _⟩ => ⟨S256x2048, .f32⟩
  | .hbm, ⟨6, _⟩ => ⟨S4096x4x512, .f32⟩
  | .hbm, ⟨7, _⟩ => ⟨S256x4x512, .f32⟩
  | .hbm, ⟨8, _⟩ => ⟨S256x4x512, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x512x4096, .f32⟩
  | .hbm, ⟨28, _⟩ => ⟨S4096x4x512, .f32⟩
  | .hbm, ⟨29, _⟩ => ⟨S4096x2048, .f32⟩
  | .hbm, ⟨30, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S4096x2048 : Shape := ⟨2, ![4096, 2048]⟩
abbrev S8192x2048 : Shape := ⟨2, ![8192, 2048]⟩
abbrev S4096x8192 : Shape := ⟨2, ![4096, 8192]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S1x8192x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S4096x2048, .f32⟩
  | .hbm, ⟨10, _⟩ => ⟨S4096x2048, .f32⟩
  | .hbm, ⟨11, _⟩ => ⟨S4096x8192, .f32⟩
  | .hbm, ⟨12, _⟩ => ⟨S4096x8192, .f32⟩
  | .hbm, ⟨13, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4096x2048 : Shape := ⟨2, ![4096, 2048]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S4096x8192 : Shape := ⟨2, ![4096, 8192]⟩
abbrev S8x2048x1024 : Shape := ⟨3, ![8, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x8192 : Shape := ⟨2, ![4096, 8192]⟩
abbrev S8x2048x1024 : Shape := ⟨3, ![8, 2048, 1024]⟩
abbrev S4096x2048 : Shape := ⟨2, ![4096, 2048]⟩
abbrev S_ : Shape := ⟨0, ![]⟩
abbrev S2048x8x1024 : Shape := ⟨3, ![2048, 8, 1024]⟩
abbrev S2048x8192 : Shape := ⟨2, ![2048, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S8x2048x1024, .f32⟩
  | .hbm, ⟨6, _⟩ => ⟨S2048x8x1024, .f32⟩
  | .hbm, ⟨7, _⟩ => ⟨S2048x8192, .f32⟩
  | .hbm, ⟨8, _⟩ => ⟨S4096x8192, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x8192, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel11.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4096x2048 : Shape := ⟨2, ![4096, 2048]⟩
abbrev S4096x3072 : Shape := ⟨2, ![4096, 3072]⟩
abbrev S1x2048x3072 : Shape := ⟨3, ![1, 2048, 3072]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S1x2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S1x2048x3072 : Shape := ⟨3, ![1, 2048, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S1x2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S4096x3072 : Shape := ⟨2, ![4096, 3072]⟩
abbrev S8x2048x384 : Shape := ⟨3, ![8, 2048, 384]⟩
abbrev S4096x2048 : Shape := ⟨2, ![4096, 2048]⟩
abbrev S1024x384 : Shape := ⟨2, ![1024, 384]⟩
abbrev S1x1024x384 : Shape := ⟨3, ![1, 1024, 384]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S8x2048x384, .bf16⟩
  | .hbm, ⟨2, _⟩ => ⟨S4096x2048, .f32⟩
  | .hbm, ⟨3, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x3072 : Shape := ⟨2, ![4096, 3072]⟩
abbrev S8x2048x384 : Shape := ⟨3, ![8, 2048, 384]⟩
abbrev S4096x2048 : Shape := ⟨2, ![4096, 2048]⟩
abbrev S_ : Shape := ⟨0, ![]⟩
abbrev S2048x8x384 : Shape := ⟨3, ![2048, 8, 384]⟩
abbrev S2048x3072 : Shape := ⟨2, ![2048, 3072]⟩

abbrev nBuf : Space → Nat
  | .hbm => 18
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x2048x384, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S8x2048x384, .f32⟩
  | .hbm, ⟨6, _⟩ => ⟨S2048x8x384, .f32⟩
  | .hbm, ⟨7, _⟩ => ⟨S2048x3072, .f32⟩
  | .hbm, ⟨8, _⟩ => ⟨S4096x3072, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x3072, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel19.lean ====
abbrev S4096x2048 : Shape := ⟨2, ![4096, 2048]⟩
abbrev S8x2048x384 : Shape := ⟨3, ![8, 2048, 384]⟩
abbrev S4096x3072 : Shape := ⟨2, ![4096, 3072]⟩
abbrev S1024x2048 : Shape := ⟨2, ![1024, 2048]⟩
abbrev S1x2048x384 : Shape := ⟨3, ![1, 2048, 384]⟩
abbrev S1024x384 : Shape := ⟨2, ![1024, 384]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x384, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S1024x384, .f32⟩
  | .local _ .vmem, ⟨5, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S8x2048x384 : Shape := ⟨3, ![8, 2048, 384]⟩
abbrev S2048x8x384 : Shape := ⟨3, ![2048, 8, 384]⟩
abbrev S2048x3072 : Shape := ⟨2, ![2048, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x384, .bf16⟩
  | .hbm, ⟨2, _⟩ => ⟨S4096x2048, .f32⟩
  | .hbm, ⟨3, _⟩ => ⟨S8x2048x384, .f32⟩
  | .hbm, ⟨4, _⟩ => ⟨S2048x8x384, .f32⟩
  | .hbm, ⟨5, _⟩ => ⟨S2048x3072, .f32⟩
  | .hbm, ⟨6, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S256x2048 : Shape := ⟨2, ![256, 2048]⟩
abbrev S2048x2048 : Shape := ⟨2, ![2048, 2048]⟩
abbrev S1x2048x2048 : Shape := ⟨3, ![1, 2048, 2048]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S1x2048x2048, .bf16⟩
  | .hbm, ⟨3, _⟩ => ⟨S256x2048, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S256x2048 : Shape := ⟨2, ![256, 2048]⟩
abbrev S1x2048x2048 : Shape := ⟨3, ![1, 2048, 2048]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S1x2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S1024x128 : Shape := ⟨2, ![1024, 128]⟩
abbrev S1x1024x128 : Shape := ⟨3, ![1, 1024, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1x1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128x128, .f32⟩
  | .local _ .vmem, ⟨7, _⟩ => ⟨S1x128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1024x128 : Shape := ⟨2, ![1024, 128]⟩
abbrev S1x1024x128 : Shape := ⟨3, ![1, 1024, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1x1024x128, .f32⟩
  | .hbm, ⟨4, _⟩ => ⟨S1024x128, .f32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S_, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S_, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S_, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S1024x128, .f32⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel23.lean ====
abbrev S1x1024 : Shape := ⟨2, ![1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S1x1024 : Shape := ⟨2, ![1, 1024]⟩
abbrev S1x1x1024 : Shape := ⟨3, ![1, 1, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel24.lean ====
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x2048 : Shape := ⟨2, ![1, 2048]⟩
abbrev S1x1x2048 : Shape := ⟨3, ![1, 1, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel25.lean ====
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S1x4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S1x4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S4x128 : Shape := ⟨2, ![4, 128]⟩
abbrev S1x4x128 : Shape := ⟨3, ![1, 4, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S1x4x128, .f32⟩
  | .hbm, ⟨4, _⟩ => ⟨S4x128, .f32⟩
  | .hbm, ⟨5, _⟩ => ⟨S_, .f32⟩
  | .hbm, ⟨6, _⟩ => ⟨S4x128, .f32⟩
  | .hbm, ⟨7, _⟩ => ⟨S4x128, .f32⟩
  | .hbm, ⟨8, _⟩ => ⟨S_, .f32⟩
  | .hbm, ⟨9, _⟩ => ⟨S4x128, .f32⟩
  | .hbm, ⟨10, _⟩ => ⟨S4x128, .f32⟩
  | .hbm, ⟨11, _⟩ => ⟨S4x128, .f32⟩
  | .hbm, ⟨12, _⟩ => ⟨S_, .f32⟩
  | .hbm, ⟨13, _⟩ => ⟨S4x128, .f32⟩
  | .hbm, ⟨14, _⟩ => ⟨S4x128, .f32⟩
  | .hbm, ⟨15, _⟩ => ⟨S4x128, .f32⟩
  | .hbm, ⟨16, _⟩ => ⟨S_, .f32⟩
  | .hbm, ⟨17, _⟩ => ⟨S4x128, .f32⟩
  | .hbm, ⟨18, _⟩ => ⟨S4x128, .f32⟩
  | .hbm, ⟨19, _⟩ => ⟨S4x128, .f32⟩
  | .hbm, ⟨20, _⟩ => ⟨S_, .f32⟩
  | .hbm, ⟨21, _⟩ => ⟨S4x128, .f32⟩
  | .hbm, ⟨22, _⟩ => ⟨S4x128, .f32⟩
  | .hbm, ⟨23, _⟩ => ⟨S_, .f32⟩
  | .hbm, ⟨24, _⟩ => ⟨S4x128, .f32⟩
  | .hbm, ⟨25, _⟩ => ⟨S4x128, .f32⟩
  | .hbm, ⟨26, _⟩ => ⟨S4x128, .f32⟩
  | .hbm, ⟨27, _⟩ => ⟨S_, .f32⟩
  | .hbm, ⟨28, _⟩ => ⟨S4x128, .f32⟩
  | .hbm, ⟨29, _⟩ => ⟨S4x128, .f32⟩
  | .hbm, ⟨30, _⟩ => ⟨S4x128, .f32⟩
  | .hbm, ⟨31, _⟩ => ⟨S_, .f32⟩
  | .hbm, ⟨32, _⟩ => ⟨S4x128, .f32⟩
  | .hbm, ⟨33, _⟩ => ⟨S4x128, .f32⟩
  | .hbm, ⟨34, _⟩ => ⟨S4x128, .f32⟩
  | .hbm, ⟨35, _⟩ => ⟨S_, .f32⟩
  | .hbm, ⟨36, _⟩ => ⟨S4x128, .f32⟩
  | .hbm, ⟨37, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel26.lean ====
abbrev S4x32 : Shape := ⟨2, ![4, 32]⟩
abbrev S1x4x32 : Shape := ⟨3, ![1, 4, 32]⟩

abbrev nBuf : Space → Nat
  | .hbm => 8
  | .vmem => 8
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S1x4x32, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S1x4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | .local _ .vmem, ⟨7, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S4x32 : Shape := ⟨2, ![4, 32]⟩
abbrev S1x4x32 : Shape := ⟨3, ![1, 4, 32]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S1x4x32, .f32⟩
  | .hbm, ⟨4, _⟩ => ⟨S4x32, .f32⟩
  | .hbm, ⟨5, _⟩ => ⟨S_, .f32⟩
  | .hbm, ⟨6, _⟩ => ⟨S4x32, .f32⟩
  | .hbm, ⟨7, _⟩ => ⟨S4x32, .f32⟩
  | .hbm, ⟨8, _⟩ => ⟨S_, .f32⟩
  | .hbm, ⟨9, _⟩ => ⟨S4x32, .f32⟩
  | .hbm, ⟨10, _⟩ => ⟨S4x32, .f32⟩
  | .hbm, ⟨11, _⟩ => ⟨S4x32, .f32⟩
  | .hbm, ⟨12, _⟩ => ⟨S_, .f32⟩
  | .hbm, ⟨13, _⟩ => ⟨S4x32, .f32⟩
  | .hbm, ⟨14, _⟩ => ⟨S4x32, .f32⟩
  | .hbm, ⟨15, _⟩ => ⟨S4x32, .f32⟩
  | .hbm, ⟨16, _⟩ => ⟨S_, .f32⟩
  | .hbm, ⟨17, _⟩ => ⟨S4x32, .f32⟩
  | .hbm, ⟨18, _⟩ => ⟨S4x32, .f32⟩
  | .hbm, ⟨19, _⟩ => ⟨S4x32, .f32⟩
  | .hbm, ⟨20, _⟩ => ⟨S_, .f32⟩
  | .hbm, ⟨21, _⟩ => ⟨S4x32, .f32⟩
  | .hbm, ⟨22, _⟩ => ⟨S4x32, .f32⟩
  | .hbm, ⟨23, _⟩ => ⟨S_, .f32⟩
  | .hbm, ⟨24, _⟩ => ⟨S4x32, .f32⟩
  | .hbm, ⟨25, _⟩ => ⟨S4x32, .f32⟩
  | .hbm, ⟨26, _⟩ => ⟨S4x32, .f32⟩
  | .hbm, ⟨27, _⟩ => ⟨S_, .f32⟩
  | .hbm, ⟨28, _⟩ => ⟨S4x32, .f32⟩
  | .hbm, ⟨29, _⟩ => ⟨S4x32, .f32⟩
  | .hbm, ⟨30, _⟩ => ⟨S4x32, .f32⟩
  | .hbm, ⟨31, _⟩ => ⟨S_, .f32⟩
  | .hbm, ⟨32, _⟩ => ⟨S4x32, .f32⟩
  | .hbm, ⟨33, _⟩ => ⟨S4x32, .f32⟩
  | .hbm, ⟨34, _⟩ => ⟨S4x32, .f32⟩
  | .hbm, ⟨35, _⟩ => ⟨S_, .f32⟩
  | .hbm, ⟨36, _⟩ => ⟨S4x32, .f32⟩
  | .hbm, ⟨37, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel27.lean ====
abbrev S8x360x1024 : Shape := ⟨3, ![8, 360, 1024]⟩
abbrev S360x1024 : Shape := ⟨2, ![360, 1024]⟩
abbrev S8x120x1024 : Shape := ⟨3, ![8, 120, 1024]⟩
abbrev S120x1024 : Shape := ⟨2, ![120, 1024]⟩
abbrev S1x120x1024 : Shape := ⟨3, ![1, 120, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x360x1024, .f32⟩
  | .hbm, ⟨1, _⟩ => ⟨S360x1024, .f32⟩
  | .local _ .vmem, ⟨0, _⟩ => ⟨S8x120x1024, .f32⟩
  | .local _ .vmem, ⟨1, _⟩ => ⟨S8x120x1024, .f32⟩
  | .local _ .vmem, ⟨2, _⟩ => ⟨S120x1024, .f32⟩
  | .local _ .vmem, ⟨3, _⟩ => ⟨S120x1024, .f32⟩
  | _, _ => ⟨S8x360x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x120x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S120x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S8x360x1024 : Shape := ⟨3, ![8, 360, 1024]⟩
abbrev S_ : Shape := ⟨0, ![]⟩
abbrev S360x1024 : Shape := ⟨2, ![360, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x360x1024, .f32⟩
  | .hbm, ⟨1, _⟩ => ⟨S_, .f32⟩
  | .hbm, ⟨2, _⟩ => ⟨S360x1024, .f32⟩
  | _, _ => ⟨S8x360x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S128x2048 : Shape := ⟨2, ![128, 2048]⟩
abbrev S1x128x2048 : Shape := ⟨3, ![1, 128, 2048]⟩
abbrev S3x128x2048 : Shape := ⟨3, ![3, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference28Ideal.lean ====
abbrev S256x2048 : Shape := ⟨2, ![256, 2048]⟩
abbrev S4x256x2048 : Shape := ⟨3, ![4, 256, 2048]⟩
abbrev S3x256x2048 : Shape := ⟨3, ![3, 256, 2048]⟩
abbrev S1 : Shape := ⟨1, ![1]⟩
abbrev S_ : Shape := ⟨0, ![]⟩
abbrev S1x256x2048 : Shape := ⟨3, ![1, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S3x256x2048, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x256x2048, .bf16⟩
  | .hbm, ⟨10, _⟩ => ⟨S256x2048, .bf16⟩
  | .hbm, ⟨11, _⟩ => ⟨S_, .i32⟩
  | .hbm, ⟨12, _⟩ => ⟨S_, .i1⟩
  | .hbm, ⟨13, _⟩ => ⟨S1x256x2048, .bf16⟩
  | .hbm, ⟨14, _⟩ => ⟨S256x2048, .bf16⟩
  | .hbm, ⟨15, _⟩ => ⟨S_, .i32⟩
  | .hbm, ⟨16, _⟩ => ⟨S_, .i1⟩
  | .hbm, ⟨17, _⟩ => ⟨S1x256x2048, .bf16⟩
  | .hbm, ⟨18, _⟩ => ⟨S256x2048, .bf16⟩
  | .hbm, ⟨19, _⟩ => ⟨S1x256x2048, .bf16⟩
  | .hbm, ⟨20, _⟩ => ⟨S256x2048, .bf16⟩
  | .hbm, ⟨21, _⟩ => ⟨S256x2048, .bf16⟩
  | .hbm, ⟨22, _⟩ => ⟨S256x2048, .bf16⟩
  | .hbm, ⟨23, _⟩ => ⟨S256x2048, .bf16⟩
  | .hbm, ⟨24, _⟩ => ⟨S256x2048, .f32⟩
  | .hbm, ⟨25, _⟩ => ⟨S3x256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S256x2048, .f32⟩
  | .hbm, ⟨57, _⟩ => ⟨S256x2048, .f32⟩
  | .hbm, ⟨58, _⟩ => ⟨S256x2048, .f32⟩
  | .hbm, ⟨59, _⟩ => ⟨S_, .f32⟩
  | .hbm, ⟨60, _⟩ => ⟨S256x2048, .f32⟩
  | .hbm, ⟨61, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel29.lean ====
abbrev S1024x2048 : Shape := ⟨2, ![1024, 2048]⟩
abbrev S4x1024x2048 : Shape := ⟨3, ![4, 1024, 2048]⟩
abbrev S3x1024x2048 : Shape := ⟨3, ![3, 1024, 2048]⟩
abbrev S1 : Shape := ⟨1, ![1]⟩
abbrev S128x2048 : Shape := ⟨2, ![128, 2048]⟩
abbrev S1x128x2048 : Shape := ⟨3, ![1, 128, 2048]⟩
abbrev S3x128x2048 : Shape := ⟨3, ![3, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4x1024x2048, .bf16⟩
  | .hbm, ⟨4, _⟩ => ⟨S3x1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference29Ideal.lean ====
abbrev S1024x2048 : Shape := ⟨2, ![1024, 2048]⟩
abbrev S4x1024x2048 : Shape := ⟨3, ![4, 1024, 2048]⟩
abbrev S3x1024x2048 : Shape := ⟨3, ![3, 1024, 2048]⟩
abbrev S1 : Shape := ⟨1, ![1]⟩
abbrev S_ : Shape := ⟨0, ![]⟩
abbrev S1x1024x2048 : Shape := ⟨3, ![1, 1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4x1024x2048, .bf16⟩
  | .hbm, ⟨4, _⟩ => ⟨S3x1024x2048, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x1024x2048, .bf16⟩
  | .hbm, ⟨10, _⟩ => ⟨S1024x2048, .bf16⟩
  | .hbm, ⟨11, _⟩ => ⟨S_, .i32⟩
  | .hbm, ⟨12, _⟩ => ⟨S_, .i1⟩
  | .hbm, ⟨13, _⟩ => ⟨S1x1024x2048, .bf16⟩
  | .hbm, ⟨14, _⟩ => ⟨S1024x2048, .bf16⟩
  | .hbm, ⟨15, _⟩ => ⟨S_, .i32⟩
  | .hbm, ⟨16, _⟩ => ⟨S_, .i1⟩
  | .hbm, ⟨17, _⟩ => ⟨S1x1024x2048, .bf16⟩
  | .hbm, ⟨18, _⟩ => ⟨S1024x2048, .bf16⟩
  | .hbm, ⟨19, _⟩ => ⟨S1x1024x2048, .bf16⟩
  | .hbm, ⟨20, _⟩ => ⟨S1024x2048, .bf16⟩
  | .hbm, ⟨21, _⟩ => ⟨S1024x2048, .bf16⟩
  | .hbm, ⟨22, _⟩ => ⟨S1024x2048, .bf16⟩
  | .hbm, ⟨23, _⟩ => ⟨S1024x2048, .bf16⟩
  | .hbm, ⟨24, _⟩ => ⟨S1024x2048, .f32⟩
  | .hbm, ⟨25, _⟩ => ⟨S3x1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S1024x2048, .f32⟩
  | .hbm, ⟨55, _⟩ => ⟨S_, .f32⟩
  | .hbm, ⟨56, _⟩ => ⟨S1024x2048, .f32⟩
  | .hbm, ⟨57, _⟩ => ⟨S1024x2048, .f32⟩
  | .hbm, ⟨58, _⟩ => ⟨S1024x2048, .f32⟩
  | .hbm, ⟨59, _⟩ => ⟨S_, .f32⟩
  | .hbm, ⟨60, _⟩ => ⟨S1024x2048, .f32⟩
  | .hbm, ⟨61, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel30.lean ====
abbrev S2048x1024 : Shape := ⟨2, ![2048, 1024]⟩
abbrev S4x2048x1024 : Shape := ⟨3, ![4, 2048, 1024]⟩
abbrev S3x2048x1024 : Shape := ⟨3, ![3, 2048, 1024]⟩
abbrev S1 : Shape := ⟨1, ![1]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2048x1024, .bf16⟩
  | .hbm, ⟨4, _⟩ => ⟨S3x2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .bf16⟩
  | .local _ .vmem, ⟨7, _⟩ => ⟨S1x128x1024, .bf16⟩
  | .local _ .vmem, ⟨8, _⟩ => ⟨S3x128x1024, .bf16⟩
  | .local _ .vmem, ⟨9, _⟩ => ⟨S3x128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference30Ideal.lean ====
abbrev S2048x1024 : Shape := ⟨2, ![2048, 1024]⟩
abbrev S4x2048x1024 : Shape := ⟨3, ![4, 2048, 1024]⟩
abbrev S3x2048x1024 : Shape := ⟨3, ![3, 2048, 1024]⟩
abbrev S1 : Shape := ⟨1, ![1]⟩
abbrev S_ : Shape := ⟨0, ![]⟩
abbrev S1x2048x1024 : Shape := ⟨3, ![1, 2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S4x2048x1024, .bf16⟩
  | .hbm, ⟨4, _⟩ => ⟨S3x2048x1024, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x2048x1024, .bf16⟩
  | .hbm, ⟨10, _⟩ => ⟨S2048x1024, .bf16⟩
  | .hbm, ⟨11, _⟩ => ⟨S_, .i32⟩
  | .hbm, ⟨12, _⟩ => ⟨S_, .i1⟩
  | .hbm, ⟨13, _⟩ => ⟨S1x2048x1024, .bf16⟩
  | .hbm, ⟨14, _⟩ => ⟨S2048x1024, .bf16⟩
  | .hbm, ⟨15, _⟩ => ⟨S_, .i32⟩
  | .hbm, ⟨16, _⟩ => ⟨S_, .i1⟩
  | .hbm, ⟨17, _⟩ => ⟨S1x2048x1024, .bf16⟩
  | .hbm, ⟨18, _⟩ => ⟨S2048x1024, .bf16⟩
  | .hbm, ⟨19, _⟩ => ⟨S1x2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .f32⟩
  | .hbm, ⟨25, _⟩ => ⟨S3x2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel31.lean ====
abbrev S2048x384 : Shape := ⟨2, ![2048, 384]⟩
abbrev S4x2048x384 : Shape := ⟨3, ![4, 2048, 384]⟩
abbrev S3x2048x384 : Shape := ⟨3, ![3, 2048, 384]⟩
abbrev S1 : Shape := ⟨1, ![1]⟩
abbrev S128x384 : Shape := ⟨2, ![128, 384]⟩
abbrev S1x128x384 : Shape := ⟨3, ![1, 128, 384]⟩
abbrev S3x128x384 : Shape := ⟨3, ![3, 128, 384]⟩

abbrev nBuf : Space → Nat
  | .hbm => 9
  | .vmem => 18
  | .smem => 1
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S4x2048x384, .bf16⟩
  | .hbm, ⟨4, _⟩ => ⟨S3x2048x384, .bf16⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S1x128x384, .bf16⟩
  | .local _ .vmem, ⟨7, _⟩ => ⟨S1x128x384, .bf16⟩
  | .local _ .vmem, ⟨8, _⟩ => ⟨S3x128x384, .bf16⟩
  | .local _ .vmem, ⟨9, _⟩ => ⟨S3x128x384, .bf16⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | .local _ .vmem, ⟨16, _⟩ => ⟨S128x384, .f32⟩
  | .local _ .vmem, ⟨17, _⟩ => ⟨S128x384, .f32⟩
  | .local _ .smem, ⟨0, _⟩ => ⟨S1, .i32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference31Ideal.lean ====
abbrev S2048x384 : Shape := ⟨2, ![2048, 384]⟩
abbrev S4x2048x384 : Shape := ⟨3, ![4, 2048, 384]⟩
abbrev S3x2048x384 : Shape := ⟨3, ![3, 2048, 384]⟩
abbrev S1 : Shape := ⟨1, ![1]⟩
abbrev S_ : Shape := ⟨0, ![]⟩
abbrev S1x2048x384 : Shape := ⟨3, ![1, 2048, 384]⟩

abbrev nBuf : Space → Nat
  | .hbm => 62
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S4x2048x384, .bf16⟩
  | .hbm, ⟨4, _⟩ => ⟨S3x2048x384, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x2048x384, .bf16⟩
  | .hbm, ⟨10, _⟩ => ⟨S2048x384, .bf16⟩
  | .hbm, ⟨11, _⟩ => ⟨S_, .i32⟩
  | .hbm, ⟨12, _⟩ => ⟨S_, .i1⟩
  | .hbm, ⟨13, _⟩ => ⟨S1x2048x384, .bf16⟩
  | .hbm, ⟨14, _⟩ => ⟨S2048x384, .bf16⟩
  | .hbm, ⟨15, _⟩ => ⟨S_, .i32⟩
  | .hbm, ⟨16, _⟩ => ⟨S_, .i1⟩
  | .hbm, ⟨17, _⟩ => ⟨S1x2048x384, .bf16⟩
  | .hbm, ⟨18, _⟩ => ⟨S2048x384, .bf16⟩
  | .hbm, ⟨19, _⟩ => ⟨S1x2048x384, .bf16⟩
  | .hbm, ⟨20, _⟩ => ⟨S2048x384, .bf16⟩
  | .hbm, ⟨21, _⟩ => ⟨S2048x384, .bf16⟩
  | .hbm, ⟨22, _⟩ => ⟨S2048x384, .bf16⟩
  | .hbm, ⟨23, _⟩ => ⟨S2048x384, .bf16⟩
  | .hbm, ⟨24, _⟩ => ⟨S2048x384, .f32⟩
  | .hbm, ⟨25, _⟩ => ⟨S3x2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | .hbm, ⟨39, _⟩ => ⟨S2048x384, .f32⟩
  | .hbm, ⟨40, _⟩ => ⟨S_, .f32⟩
  | .hbm, ⟨41, _⟩ => ⟨S2048x384, .f32⟩
  | .hbm, ⟨42, _⟩ => ⟨S2048x384, .f32⟩
  | .hbm, ⟨43, _⟩ => ⟨S2048x384, .f32⟩
  | .hbm, ⟨44, _⟩ => ⟨S_, .f32⟩
  | .hbm, ⟨45, _⟩ => ⟨S2048x384, .f32⟩
  | .hbm, ⟨46, _⟩ => ⟨S2048x384, .f32⟩
  | .hbm, ⟨47, _⟩ => ⟨S_, .f32⟩
  | .hbm, ⟨48, _⟩ => ⟨S2048x384, .f32⟩
  | .hbm, ⟨49, _⟩ => ⟨S2048x384, .f32⟩
  | .hbm, ⟨50, _⟩ => ⟨S2048x384, .f32⟩
  | .hbm, ⟨51, _⟩ => ⟨S_, .f32⟩
  | .hbm, ⟨52, _⟩ => ⟨S2048x384, .f32⟩
  | .hbm, ⟨53, _⟩ => ⟨S2048x384, .f32⟩
  | .hbm, ⟨54, _⟩ => ⟨S2048x384, .f32⟩
  | .hbm, ⟨55, _⟩ => ⟨S_, .f32⟩
  | .hbm, ⟨56, _⟩ => ⟨S2048x384, .f32⟩
  | .hbm, ⟨57, _⟩ => ⟨S2048x384, .f32⟩
  | .hbm, ⟨58, _⟩ => ⟨S2048x384, .f32⟩
  | .hbm, ⟨59, _⟩ => ⟨S_, .f32⟩
  | .hbm, ⟨60, _⟩ => ⟨S2048x384, .f32⟩
  | .hbm, ⟨61, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel32.lean ====
abbrev S128x256 : Shape := ⟨2, ![128, 256]⟩
abbrev S4x128x256 : Shape := ⟨3, ![4, 128, 256]⟩
abbrev S3x128x256 : Shape := ⟨3, ![3, 128, 256]⟩
abbrev S1 : Shape := ⟨1, ![1]⟩
abbrev S1x128x256 : Shape := ⟨3, ![1, 128, 256]⟩

abbrev nBuf : Space → Nat
  | .hbm => 9
  | .vmem => 9
  | .smem => 1
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S4x128x256, .bf16⟩
  | .hbm, ⟨4, _⟩ => ⟨S3x128x256, .bf16⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S1x128x256, .bf16⟩
  | .local _ .vmem, ⟨4, _⟩ => ⟨S3x128x256, .bf16⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .smem, ⟨0, _⟩ => ⟨S1, .i32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference32Ideal.lean ====
abbrev S128x256 : Shape := ⟨2, ![128, 256]⟩
abbrev S4x128x256 : Shape := ⟨3, ![4, 128, 256]⟩
abbrev S3x128x256 : Shape := ⟨3, ![3, 128, 256]⟩
abbrev S1 : Shape := ⟨1, ![1]⟩
abbrev S_ : Shape := ⟨0, ![]⟩
abbrev S1x128x256 : Shape := ⟨3, ![1, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S4x128x256, .bf16⟩
  | .hbm, ⟨4, _⟩ => ⟨S3x128x256, .bf16⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1x128x256, .bf16⟩
  | .hbm, ⟨10, _⟩ => ⟨S128x256, .bf16⟩
  | .hbm, ⟨11, _⟩ => ⟨S_, .i32⟩
  | .hbm, ⟨12, _⟩ => ⟨S_, .i1⟩
  | .hbm, ⟨13, _⟩ => ⟨S1x128x256, .bf16⟩
  | .hbm, ⟨14, _⟩ => ⟨S128x256, .bf16⟩
  | .hbm, ⟨15, _⟩ => ⟨S_, .i32⟩
  | .hbm, ⟨16, _⟩ => ⟨S_, .i1⟩
  | .hbm, ⟨17, _⟩ => ⟨S1x128x256, .bf16⟩
  | .hbm, ⟨18, _⟩ => ⟨S128x256, .bf16⟩
  | .hbm, ⟨19, _⟩ => ⟨S1x128x256, .bf16⟩
  | .hbm, ⟨20, _⟩ => ⟨S128x256, .bf16⟩
  | .hbm, ⟨21, _⟩ => ⟨S128x256, .bf16⟩
  | .hbm, ⟨22, _⟩ => ⟨S128x256, .bf16⟩
  | .hbm, ⟨23, _⟩ => ⟨S128x256, .bf16⟩
  | .hbm, ⟨24, _⟩ => ⟨S128x256, .f32⟩
  | .hbm, ⟨25, _⟩ => ⟨S3x128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | .hbm, ⟨43, _⟩ => ⟨S128x256, .f32⟩
  | .hbm, ⟨44, _⟩ => ⟨S_, .f32⟩
  | .hbm, ⟨45, _⟩ => ⟨S128x256, .f32⟩
  | .hbm, ⟨46, _⟩ => ⟨S128x256, .f32⟩
  | .hbm, ⟨47, _⟩ => ⟨S_, .f32⟩
  | .hbm, ⟨48, _⟩ => ⟨S128x256, .f32⟩
  | .hbm, ⟨49, _⟩ => ⟨S128x256, .f32⟩
  | .hbm, ⟨50, _⟩ => ⟨S128x256, .f32⟩
  | .hbm, ⟨51, _⟩ => ⟨S_, .f32⟩
  | .hbm, ⟨52, _⟩ => ⟨S128x256, .f32⟩
  | .hbm, ⟨53, _⟩ => ⟨S128x256, .f32⟩
  | .hbm, ⟨54, _⟩ => ⟨S128x256, .f32⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S128x256, .f32⟩
  | .hbm, ⟨59, _⟩ => ⟨S_, .f32⟩
  | .hbm, ⟨60, _⟩ => ⟨S128x256, .f32⟩
  | .hbm, ⟨61, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.Mixer.Host.lean ====
/- What the arrays hold when the region of the mixer's backward call is entered (`V`), and that the host operations before
   it leave the arguments alone. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.Run

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers the operations of `hostOps0` write, in order. -/
noncomputable def hostOps0W : List (Ref sig .tc) :=
  [main_v0, main_c]
theorem hostOps0_writes : (hostOps0 : List (HloOp τ sig (Elt F))).Forall fun op => op.writes ⊆ (hostOps0W.map (Proc.devRef (τ := τ) .tc)).toFinset :=
  StableHlo.forall_writes_sub_of_map rfl
theorem hostOps0_fresh : (hostOps0 : List (HloOp τ sig (Elt F))).Forall fun op => op.fresh = ∅ :=
  StableHlo.forall_fresh_of_map rfl

/-- The buffers the operations of `hostOps0_1` write, in order. -/
noncomputable def hostOps0_1W : List (Ref sig .tc) :=
  [main_call0_v0, main_v1]
theorem hostOps0_1_writes : (hostOps0_1 : List (HloOp τ sig (Elt F))).Forall fun op => op.writes ⊆ (hostOps0_1W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl

/-- The buffers the operations of `hostOps0_2` write, in order. -/
noncomputable def hostOps0_2W : List (Ref sig .tc) :=
  [main_v2, main_v3, main_v4, main_v5, main_v6, main_v7, main_v8, main_v9, main_v10, main_v11, main_v12, main_v13, main_v14, main_v15, main_v16,
   main_v17, main_v18, main_v19, main_v20, main_v21, main_v22, main_v23, main_v24, main_v25, main_v26, main_v27, main_v28, main_v29, main_v30,
   main_v31, main_v32, main_v33, main_v34, main_v35, main_v36, main_v37, main_v38, main_v39, main_cst, main_v40, main_v41, main_cst_0, main_v42,
   main_v43, main_v44, main_v45, main_v46, main_v47, main_v48, main_v49, main_v50, main_v51, main_cst_1, main_v52, main_v53, main_cst_2, main_v54,
   main_v55, main_v56, main_cst_3, main_v57, main_v58, main_v59]
theorem hostOps0_2_writes : (hostOps0_2 : List (HloOp τ sig (Elt F))).Forall fun op => op.writes ⊆ (hostOps0_2W.map (Proc.devRef (τ := τ) .tc)).toFinset :=
  StableHlo.forall_writes_sub_of_map rfl
theorem hostOps0_2_fresh : (hostOps0_2 : List (HloOp τ sig (Elt F))).Forall fun op => op.fresh = ∅ :=
  StableHlo.forall_fresh_of_map rfl

/-- The buffers the operations of `hostOps0_3` write, in order. -/
noncomputable def hostOps0_3W : List (Ref sig .tc) :=
  [main_call1_cst, main_call1_v0, main_call1_v1, main_call1_v2, main_call1_v3, main_call1_v4, main_call1_v5, main_call1_v6, main_call1_v7,
   main_call1_v8, main_call1_v9, main_call1_v10, main_call1_v11, main_v60]
theorem hostOps0_3_writes : (hostOps0_3 : List (HloOp τ sig (Elt F))).Forall fun op => op.writes ⊆ (hostOps0_3W.map (Proc.devRef (τ := τ) .tc)).toFinset :=
  StableHlo.forall_writes_sub_of_map rfl
theorem hostOps0_3_fresh : (hostOps0_3 : List (HloOp τ sig (Elt F))).Forall fun op => op.fresh = ∅ :=
  StableHlo.forall_fresh_of_map rfl

/-- The buffers the operations of `hostOps0_4` write, in order. -/
noncomputable def hostOps0_4W : List (Ref sig .tc) :=
  [main_v61, main_v62, main_v63, main_v64, main_cst_4, main_v65, main_v66, main_v67, main_v68, main_v69, main_v70, main_c_5, main_v71, main_v72,
   main_v73, main_cst_6]
theorem hostOps0_4_writes : (hostOps0_4 : List (HloOp τ sig (Elt F))).Forall fun op => op.writes ⊆ (hostOps0_4W.map (Proc.devRef (τ := τ) .tc)).toFinset :=
  StableHlo.forall_writes_sub_of_map rfl
theorem hostOps0_4_fresh : (hostOps0_4 : List (HloOp τ sig (Elt F))).Forall fun op => op.fresh = ∅ :=
  StableHlo.forall_fresh_of_map rfl

/-- The buffers the operations of `hostOps0_5` write, in order. -/
noncomputable def hostOps0_5W : List (Ref sig .tc) :=
  [main_call2_v0, main_call2_v1, main_call2_v2, main_v74]
theorem hostOps0_5_writes : (hostOps0_5 : List (HloOp τ sig (Elt F))).Forall fun op => op.writes ⊆ (hostOps0_5W.map (Proc.devRef (τ := τ) .tc)).toFinset :=
  StableHlo.forall_writes_sub_of_map rfl
theorem hostOps0_5_fresh : (hostOps0_5 : List (HloOp τ sig (Elt F))).Forall fun op => op.fresh = ∅ :=
  StableHlo.forall_fresh_of_map rfl

/-- The buffers the operations of `hostOps0_6` write, in order. -/
noncomputable def hostOps0_6W : List (Ref sig .tc) :=
  [main_v75, main_v76, main_v77, main_v78, main_v79, main_v80, main_v81, main_v82, main_v83, main_v84, main_v85, main_v86, main_v87, main_v88,
   main_v89, main_v90, main_v91, main_v92, main_v93, main_v94, main_v95, main_v96, main_v97, main_v98, main_v99, main_v100, main_v101, main_v102,
   main_v103, main_v104, main_v105, main_v106, main_v107, main_v108, main_v109, main_v110, main_v111, main_v112, main_v113, main_v114, main_v115,
   main_v116, main_v117, main_v118, main_v119, main_v120, main_v121, main_v122, main_v123, main_v124, main_v125, main_v126, main_v127, main_v128,
   main_v129, main_v130, main_v131, main_v132, main_v133, main_v134, main_v135, main_v136, main_v137, main_v138, main_v139, main_v140, main_v141,
   main_v142, main_v143, main_v144, main_v145, main_v146, main_v147, main_v148, main_v149, main_v150, main_v151, main_v152, main_v153, main_v154,
   main_v155, main_v156, main_v157, main_v158, main_v159, main_v160, main_v161, main_v162, main_v163, main_v164, main_v165, main_v166, main_v167,
   main_v168, main_v169, main_v170, main_v171, main_cst_7, main_v172, main_cst_8, main_v173, main_v174, main_cst_9, main_v175, main_cst_10, main_v176,
   main_v177, main_v178, main_v179, main_v180, main_v181, main_v182, main_v183, main_v184, main_v185, main_v186, main_v187, main_v188, main_cst_11,
   main_v189, main_cst_12, main_v190, main_v191, main_cst_13, main_v192, main_cst_14, main_v193, main_v194, main_v195, main_v196, main_v197,
   main_v198, main_v199, main_v200, main_v201, main_v202, main_v203, main_v204, main_v205, main_cst_15, main_v206, main_cst_16, main_v207, main_v208,
   main_cst_17, main_v209, main_cst_18, main_v210, main_v211, main_v212, main_v213, main_v214, main_v215, main_v216, main_v217, main_v218, main_v219,
   main_v220, main_v221, main_v222, main_cst_19, main_v223, main_cst_20, main_v224, main_v225, main_cst_21, main_v226, main_cst_22, main_v227,
   main_v228, main_v229, main_v230, main_v231, main_v232, main_v233, main_v234, main_v235, main_v236, main_v237, main_v238, main_v239, main_cst_23,
   main_v240, main_cst_24, main_v241, main_v242, main_cst_25, main_v243, main_cst_26, main_v244, main_v245, main_v246, main_v247, main_v248,
   main_v249, main_v250, main_v251, main_v252, main_v253, main_v254, main_v255, main_v256, main_cst_27, main_v257, main_cst_28, main_v258, main_v259,
   main_cst_29, main_v260, main_cst_30, main_v261, main_v262, main_v263, main_v264, main_v265, main_v266, main_v267, main_v268, main_v269, main_v270,
   main_v271, main_v272, main_v273, main_cst_31, main_v274, main_cst_32, main_v275, main_v276, main_cst_33, main_v277, main_cst_34, main_v278,
   main_v279, main_v280, main_v281, main_v282, main_v283, main_v284, main_v285, main_v286, main_v287, main_v288, main_v289, main_v290, main_cst_35,
   main_v291, main_cst_36, main_v292, main_v293, main_cst_37, main_v294, main_cst_38, main_v295, main_v296, main_v297, main_v298, main_v299,
   main_v300, main_v301, main_v302, main_v303, main_v304, main_v305, main_v306, main_v307, main_cst_39, main_v308, main_cst_40, main_v309, main_v310,
   main_cst_41, main_v311, main_cst_42, main_v312, main_v313, main_v314, main_v315, main_v316, main_v317, main_v318, main_v319, main_v320, main_v321,
   main_v322, main_v323, main_v324, main_cst_43, main_v325, main_cst_44, main_v326, main_v327, main_cst_45, main_v328, main_cst_46, main_v329,
   main_v330, main_v331, main_v332, main_v333, main_v334, main_v335, main_v336, main_v337, main_v338, main_v339, main_v340, main_v341, main_cst_47,
   main_v342, main_cst_48, main_v343, main_v344, main_cst_49, main_v345, main_cst_50, main_v346, main_v347, main_v348, main_v349, main_v350,
   main_v351, main_v352, main_v353, main_v354, main_v355, main_v356, main_v357, main_v358, main_cst_51, main_v359, main_cst_52, main_v360, main_v361,
   main_cst_53, main_v362, main_cst_54, main_v363, main_v364, main_v365, main_v366, main_v367, main_v368, main_v369, main_v370, main_v371, main_v372,
   main_v373]
theorem hostOps0_6_writes : (hostOps0_6 : List (HloOp τ sig (Elt F))).Forall fun op => op.writes ⊆ (hostOps0_6W.map (Proc.devRef (τ := τ) .tc)).toFinset :=
  StableHlo.forall_writes_sub_of_map rfl
theorem hostOps0_6_fresh : (hostOps0_6 : List (HloOp τ sig (Elt F))).Forall fun op => op.fresh = ∅ :=
  StableHlo.forall_fresh_of_map rfl

/-- What core `c`'s buffers hold when the region is entered: the host operations run over what was launched. -/
noncomputable abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

set_option maxHeartbeats 1600000 in
/-- The program is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- Two runs of host operations, one after the other. -/
theorem after_both (l₁ l₂ : List (HloOp τ sig (Elt F))) (X : Valuation τ sig (Elt F)) :
    StableHlo.after (l₁ ++ l₂) X = StableHlo.after l₂ (StableHlo.after l₁ X) := by
  induction l₁ generalizing X with
  | nil => rfl
  | cons op l ih => exact ih _

/-- The region is entered with the last run of host operations done over the ones before it. -/
theorem V_split (c : Dev nD) (b : Ref sig .tc) : V m c b = StableHlo.after hostOps0_6 (StableHlo.after hostOps0_5 (StableHlo.after hostOps0_4
    (StableHlo.after hostOps0_3 (StableHlo.after hostOps0_2 (StableHlo.after hostOps0_1 (StableHlo.after hostOps0 (fun b => m (c, b)))))))) (Proc.devRef .tc b) := by
  show StableHlo.after (hostOps0 ++ (hostOps0_1 ++ (hostOps0_2 ++ (hostOps0_3 ++ (hostOps0_4 ++ (hostOps0_5 ++ (hostOps0_6 ++ []))))))) _ _ = _
  simp only [after_both, List.append_nil]

/-- A buffer the first six runs of host operations do not write holds, after them, what was launched. -/
theorem early_eq (c : Dev nD) {r : Ref sig .tc} (hr : r ∉ hostOps0W ++ hostOps0_1W ++ hostOps0_2W ++ hostOps0_3W ++ hostOps0_4W ++ hostOps0_5W) :
    StableHlo.after hostOps0_5 (StableHlo.after hostOps0_4 (StableHlo.after hostOps0_3 (StableHlo.after hostOps0_2 (StableHlo.after hostOps0_1
      (StableHlo.after hostOps0 (fun b => m (c, b))))))) (Proc.devRef .tc r) = m ((c : Thread nD τ).loc r) := by
  simp only [List.mem_append, not_or] at hr
  obtain ⟨⟨⟨⟨⟨r0, r1⟩, r2⟩, r3⟩, r4⟩, r5⟩ := hr
  rw [StableHlo.after_of_writes_sub _ _ hostOps0_5_writes r5, StableHlo.after_of_writes_sub _ _ hostOps0_4_writes r4,
    StableHlo.after_of_writes_sub _ _ hostOps0_3_writes r3, StableHlo.after_of_writes_sub _ _ hostOps0_2_writes r2,
    StableHlo.after_of_writes_sub _ _ hostOps0_1_writes r1, StableHlo.after_of_writes_sub _ _ hostOps0_writes r0]

/-- A buffer no host operation writes is found by the region as launched. -/
theorem V_kept (c : Dev nD) {r : Ref sig .tc}
    (hr : r ∉ hostOps0W ++ hostOps0_1W ++ hostOps0_2W ++ hostOps0_3W ++ hostOps0_4W ++ hostOps0_5W) (h6 : r ∉ hostOps0_6W) :
    V m c r = m ((c : Thread nD τ).loc r) := by
  rw [V_split, StableHlo.after_of_writes_sub _ _ hostOps0_6_writes h6, early_eq m c hr]

theorem V_main_arg0 (c : Dev nD) : V m c main_arg0 = m ((c : Thread nD τ).loc main_arg0) := V_kept m c (by decide +kernel) (by decide +kernel)
theorem V_main_arg1 (c : Dev nD) : V m c main_arg1 = m ((c : Thread nD τ).loc main_arg1) := V_kept m c (by decide +kernel) (by decide +kernel)
theorem V_main_arg2 (c : Dev nD) : V m c main_arg2 = m ((c : Thread nD τ).loc main_arg2) := V_kept m c (by decide +kernel) (by decide +kernel)
theorem V_main_arg3 (c : Dev nD) : V m c main_arg3 = m ((c : Thread nD τ).loc main_arg3) := V_kept m c (by decide +kernel) (by decide +kernel)
theorem V_main_arg4 (c : Dev nD) : V m c main_arg4 = m ((c : Thread nD τ).loc main_arg4) := V_kept m c (by decide +kernel) (by decide +kernel)
theorem V_main_arg5 (c : Dev nD) : V m c main_arg5 = m ((c : Thread nD τ).loc main_arg5) := V_kept m c (by decide +kernel) (by decide +kernel)
theorem V_main_arg6 (c : Dev nD) : V m c main_arg6 = m ((c : Thread nD τ).loc main_arg6) := V_kept m c (by decide +kernel) (by decide +kernel)
theorem V_main_arg7 (c : Dev nD) : V m c main_arg7 = m ((c : Thread nD τ).loc main_arg7) := V_kept m c (by decide +kernel) (by decide +kernel)
theorem V_main_arg8 (c : Dev nD) : V m c main_arg8 = m ((c : Thread nD τ).loc main_arg8) := V_kept m c (by decide +kernel) (by decide +kernel)
theorem V_main_arg9 (c : Dev nD) : V m c main_arg9 = m ((c : Thread nD τ).loc main_arg9) := V_kept m c (by decide +kernel) (by decide +kernel)
theorem V_main_arg10 (c : Dev nD) : V m c main_arg10 = m ((c : Thread nD τ).loc main_arg10) := V_kept m c (by decide +kernel) (by decide +kernel)
theorem V_main_arg11 (c : Dev nD) : V m c main_arg11 = m ((c : Thread nD τ).loc main_arg11) := V_kept m c (by decide +kernel) (by decide +kernel)

end Cert.KernelIdeal.Mixer

end
-- ==== Proof.Mixer.Kit.lean ====
/- The region the mixer's backward call runs in: the blocks its windows stage (`iblk`), its staging buffers and scratch, and
   the reading of a finished run at the argument arrays. -/
module

public import proofs.«01_k».proof.Proof.Mixer.Host

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether fetched there or at a point before, for proof
    data over the arrays as the region finds them whose body leaves the block in place. -/
theorem staged {c : Dev nD} (dat : Dat τ (Elt F) Unit ℕ (UR sig nD τ) ℕ cfg0 c) (w : Fin cfg0.W) (hw : (cfg0.win w).isOut = false)
    (hidle : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hidle hclip hkeep t d

/-! ## The frame claim's post from the frame run's -/

set_option maxHeartbeats 1800000 in
/-- From a run whose final state has every staged array as the proof data says and every other buffer as the region found it:
    the argument arrays end as they were launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 1 rfl).trans ((hA c 1).trans (V_main_arg0 m c)),
      (Pipeline.RDat.FramePost.arr_in h c 6 rfl).trans ((hA c 6).trans (V_main_arg1 m c)),
      (Pipeline.RDat.FramePost.arr_in h c 12 rfl).trans ((hA c 12).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's branch conditions -/

/-- The condition the kernel's `pl.when` tests. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The staging memrefs, and the scratch -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x128x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x3072 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S4x256x256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S4x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S8x128x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x1024 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S8x128x128 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x1024 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x1024 .f32 := win0_29.stage (cfg0.slots t 29)
abbrev hs0_29 (t : Fin cfg0.N) : (ms0_29 t).IsWhole := hstage0_29 ((cfg0.slots t 29).cast nbuf0_29)
abbrev scM0_0 : Memref sig .tc .vmem S272x1024 .f32 := Memref.whole cc0_scratch0
abbrev scM0_1 : Memref sig .tc .vmem S272x1024 .f32 := Memref.whole cc0_scratch1
abbrev scM0_2 : Memref sig .tc .vmem S264x1024 .f32 := Memref.whole cc0_scratch2
abbrev scM0_3 : Memref sig .tc .vmem S264x1024 .f32 := Memref.whole cc0_scratch3
abbrev scM0_4 : Memref sig .tc .vmem S264x1024 .f32 := Memref.whole cc0_scratch4
abbrev scM0_5 : Memref sig .tc .vmem S8x1024 .f32 := Memref.whole cc0_scratch5
abbrev scM0_6 : Memref sig .tc .vmem S256x1024 .f32 := Memref.whole cc0_scratch6
abbrev scM0_7 : Memref sig .tc .vmem S256x1024 .f32 := Memref.whole cc0_scratch7
abbrev scM0_8 : Memref sig .tc .vmem S256x1024 .f32 := Memref.whole cc0_scratch8
abbrev scM0_9 : Memref sig .tc .vmem S256x1024 .f32 := Memref.whole cc0_scratch9
abbrev scM0_10 : Memref sig .tc .vmem S256x1024 .f32 := Memref.whole cc0_scratch10
abbrev scM0_11 : Memref sig .tc .vmem S256x1024 .f32 := Memref.whole cc0_scratch11

/-- The region's invariant: each scratch buffer at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, owns_whole]; try rfl

end Cert.KernelIdeal.Mixer

end
-- ==== Proof.Mixer.First.lean ====
/- The mixer's backward kernel body, run once: at the first point of the grid. -/
module

public import proofs.«01_k».proof.Proof.Mixer.Kit

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S16x1024 .f32) (harg6 : arg6.IsWhole)
  (arg7 : Memref sig .tc .vmem S8x1024 .f32) (harg7 : arg7.IsWhole)
  (arg8 : Memref sig .tc .vmem S256x1024 .f32) (harg8 : arg8.IsWhole)
  (arg9 : Memref sig .tc .vmem S8x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S4x1024 .f32) (harg13 : arg13.IsWhole)
  (arg14 : Memref sig .tc .vmem S1x1024 .f32) (harg14 : arg14.IsWhole)
  (arg15 : Memref sig .tc .vmem S8x128x128 .bf16) (harg15 : arg15.IsWhole)
  (arg16 : Memref sig .tc .vmem S1x1024 .f32) (harg16 : arg16.IsWhole)
  (arg17 : Memref sig .tc .vmem S8x128x128 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S256x3072 .bf16) (harg20 : arg20.IsWhole)
  (arg21 : Memref sig .tc .vmem S4x256x256 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S4x1024 .f32) (harg24 : arg24.IsWhole)
  (arg25 : Memref sig .tc .vmem S1x1024 .f32) (harg25 : arg25.IsWhole)
  (arg26 : Memref sig .tc .vmem S8x128x128 .f32) (harg26 : arg26.IsWhole)
  (arg27 : Memref sig .tc .vmem S1x1024 .f32) (harg27 : arg27.IsWhole)
  (arg28 : Memref sig .tc .vmem S8x128x128 .f32) (harg28 : arg28.IsWhole)
  (arg29 : Memref sig .tc .vmem S1x1024 .f32) (harg29 : arg29.IsWhole)
  (arg30 : Memref sig .tc .vmem S1x1024 .f32) (harg30 : arg30.IsWhole)
  (arg31 : Memref sig .tc .vmem S272x1024 .f32) (harg31 : arg31.IsWhole)
  (arg32 : Memref sig .tc .vmem S272x1024 .f32) (harg32 : arg32.IsWhole)
  (arg33 : Memref sig .tc .vmem S264x1024 .f32) (harg33 : arg33.IsWhole)
  (arg34 : Memref sig .tc .vmem S264x1024 .f32) (harg34 : arg34.IsWhole)
  (arg35 : Memref sig .tc .vmem S264x1024 .f32) (harg35 : arg35.IsWhole)
  (arg36 : Memref sig .tc .vmem S8x1024 .f32) (harg36 : arg36.IsWhole)
  (arg37 : Memref sig .tc .vmem S256x1024 .f32) (harg37 : arg37.IsWhole)
  (arg38 : Memref sig .tc .vmem S256x1024 .f32) (harg38 : arg38.IsWhole)
  (arg39 : Memref sig .tc .vmem S256x1024 .f32) (harg39 : arg39.IsWhole)
  (arg40 : Memref sig .tc .vmem S256x1024 .f32) (harg40 : arg40.IsWhole)
  (arg41 : Memref sig .tc .vmem S256x1024 .f32) (harg41 : arg41.IsWhole)
  (arg42 : Memref sig .tc .vmem S256x1024 .f32) (harg42 : arg42.IsWhole)

set_option maxHeartbeats 16000000 in
/-- What the body's stores leave in the staging buffers of the three pooling gradients at the FIRST point (where it zeroes them
    first), as pieces, the last first, and the run: on whole staging buffers, the inputs at `x·`, everything else at anything, the body
    ends with the inputs as they were, the pieces written over those three buffers, and everything else at anything. -/
noncomputable def runFirst (hc0 : cond0_0 i)
    (x0 : Vec F S256x1024 .f32) (x1 : Vec F S256x1024 .f32) (x2 : Vec F S256x1024 .f32) (x3 : Vec F S256x1024 .f32) (x4 : Vec F S256x1024 .f32) (x5 : Vec F S16x1024 .f32) (x6 : Vec F S8x1024 .f32) (x7 : Vec F S256x1024 .f32) (x8 : Vec F S8x1024 .f32) (x9 : Vec F S4x256x256 .bf16) (x10 : Vec F S1x1024 .f32) (x11 : Vec F S1x1024 .f32) (x12 : Vec F S4x1024 .f32) (x13 : Vec F S1x1024 .f32) (x14 : Vec F S8x128x128 .bf16) (x15 : Vec F S1x1024 .f32) (x16 : Vec F S8x128x128 .bf16) (x17 : Vec F S1x1024 .f32) (x18 : Vec F S1x1024 .f32) :
    Σ' (L20 : List (View.Piece (Elt F) S4x256x256 .f32)), Σ' (L21 : List (View.Piece (Elt F) S1x1024 .f32)), { L22 : List (View.Piece (Elt F) S1x1024 .f32) //
      ∀ (E : Set ℕ) (K : PUnit → sProp 𝕄),
        iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6 ∗ owns (c : Thread nD τ) arg8 fullShare x7
          ∗ owns (c : Thread nD τ) arg9 fullShare x8 ∗ owns (c : Thread nD τ) arg10 fullShare x9
          ∗ owns (c : Thread nD τ) arg11 fullShare x10 ∗ owns (c : Thread nD τ) arg12 fullShare x11
          ∗ owns (c : Thread nD τ) arg13 fullShare x12 ∗ owns (c : Thread nD τ) arg14 fullShare x13
          ∗ owns (c : Thread nD τ) arg15 fullShare x14 ∗ owns (c : Thread nD τ) arg16 fullShare x15
          ∗ owns (c : Thread nD τ) arg17 fullShare x16 ∗ owns (c : Thread nD τ) arg18 fullShare x17
          ∗ owns (c : Thread nD τ) arg19 fullShare x18 ∗ (∃ d, owns (c : Thread nD τ) arg20 fullShare d)
          ∗ (∃ d, owns (c : Thread nD τ) arg21 fullShare d) ∗ (∃ d, owns (c : Thread nD τ) arg22 fullShare d)
          ∗ (∃ d, owns (c : Thread nD τ) arg23 fullShare d) ∗ (∃ d, owns (c : Thread nD τ) arg24 fullShare d)
          ∗ (∃ d, owns (c : Thread nD τ) arg25 fullShare d) ∗ (∃ d, owns (c : Thread nD τ) arg26 fullShare d)
          ∗ (∃ d, owns (c : Thread nD τ) arg27 fullShare d) ∗ (∃ d, owns (c : Thread nD τ) arg28 fullShare d)
          ∗ (∃ d, owns (c : Thread nD τ) arg29 fullShare d) ∗ (∃ d, owns (c : Thread nD τ) arg30 fullShare d)
          ∗ (∃ d, owns (c : Thread nD τ) arg31 fullShare d) ∗ (∃ d, owns (c : Thread nD τ) arg32 fullShare d)
          ∗ (∃ d, owns (c : Thread nD τ) arg33 fullShare d) ∗ (∃ d, owns (c : Thread nD τ) arg34 fullShare d)
          ∗ (∃ d, owns (c : Thread nD τ) arg35 fullShare d) ∗ (∃ d, owns (c : Thread nD τ) arg36 fullShare d)
          ∗ (∃ d, owns (c : Thread nD τ) arg37 fullShare d) ∗ (∃ d, owns (c : Thread nD τ) arg38 fullShare d)
          ∗ (∃ d, owns (c : Thread nD τ) arg39 fullShare d) ∗ (∃ d, owns (c : Thread nD τ) arg40 fullShare d)
          ∗ (∃ d, owns (c : Thread nD τ) arg41 fullShare d) ∗ (∃ d, owns (c : Thread nD τ) arg42 fullShare d)
          ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare x18 ∗ (∃ d, owns (c : Thread nD τ) arg20 fullShare d)
            ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)
            ∗ (∃ f, arg23.view.loc (c : Thread nD τ) ↦[arg23.view.set]{fullShare} arg23.view.writes (Elt F) f L22) ∗ (∃ d, owns (c : Thread nD τ) arg24 fullShare d)
            ∗ (∃ d, owns (c : Thread nD τ) arg25 fullShare d) ∗ (∃ d, owns (c : Thread nD τ) arg26 fullShare d)
            ∗ (∃ d, owns (c : Thread nD τ) arg27 fullShare d) ∗ (∃ d, owns (c : Thread nD τ) arg28 fullShare d)
            ∗ (∃ d, owns (c : Thread nD τ) arg29 fullShare d) ∗ (∃ d, owns (c : Thread nD τ) arg30 fullShare d)
            ∗ (∃ d, owns (c : Thread nD τ) arg31 fullShare d) ∗ (∃ d, owns (c : Thread nD τ) arg32 fullShare d)
            ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d)
            ∗ (∃ d, owns (c : Thread nD τ) arg37 fullShare d) ∗ (∃ d, owns (c : Thread nD τ) arg38 fullShare d)
            ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d)) -∗ K ⟨⟩))
          ⊢ wp frame (wpE (defs₀ (F := F)) Variants.none c none) E (cc0_bwd_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0_bwd_mixer_eq_skeleton]; unfold cc0_bwd_mixer_skel
    simp only [k0_part69_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]; · iexists _; iexact H20
    isplitl [H21]; · iexists _; iexact H21
    isplitl [H22]; · iexists _; iexact H22
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end Cert.KernelIdeal.Mixer

end
-- ==== Proof.Mixer.Later.lean ====
/- The mixer's backward kernel body, run once: at a point after the first of the grid. -/
module

public import proofs.«01_k».proof.Proof.Mixer.Kit

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S16x1024 .f32) (harg6 : arg6.IsWhole)
  (arg7 : Memref sig .tc .vmem S8x1024 .f32) (harg7 : arg7.IsWhole)
  (arg8 : Memref sig .tc .vmem S256x1024 .f32) (harg8 : arg8.IsWhole)
  (arg9 : Memref sig .tc .vmem S8x1024 .f32) (harg9 : arg9.IsWhole)
  (arg10 : Memref sig .tc .vmem S4x256x256 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S4x1024 .f32) (harg13 : arg13.IsWhole)
  (arg14 : Memref sig .tc .vmem S1x1024 .f32) (harg14 : arg14.IsWhole)
  (arg15 : Memref sig .tc .vmem S8x128x128 .bf16) (harg15 : arg15.IsWhole)
  (arg16 : Memref sig .tc .vmem S1x1024 .f32) (harg16 : arg16.IsWhole)
  (arg17 : Memref sig .tc .vmem S8x128x128 .bf16) (harg17 : arg17.IsWhole)
  (arg18 : Memref sig .tc .vmem S1x1024 .f32) (harg18 : arg18.IsWhole)
  (arg19 : Memref sig .tc .vmem S1x1024 .f32) (harg19 : arg19.IsWhole)
  (arg20 : Memref sig .tc .vmem S256x3072 .bf16) (harg20 : arg20.IsWhole)
  (arg21 : Memref sig .tc .vmem S4x256x256 .f32) (harg21 : arg21.IsWhole)
  (arg22 : Memref sig .tc .vmem S1x1024 .f32) (harg22 : arg22.IsWhole)
  (arg23 : Memref sig .tc .vmem S1x1024 .f32) (harg23 : arg23.IsWhole)
  (arg24 : Memref sig .tc .vmem S4x1024 .f32) (harg24 : arg24.IsWhole)
  (arg25 : Memref sig .tc .vmem S1x1024 .f32) (harg25 : arg25.IsWhole)
  (arg26 : Memref sig .tc .vmem S8x128x128 .f32) (harg26 : arg26.IsWhole)
  (arg27 : Memref sig .tc .vmem S1x1024 .f32) (harg27 : arg27.IsWhole)
  (arg28 : Memref sig .tc .vmem S8x128x128 .f32) (harg28 : arg28.IsWhole)
  (arg29 : Memref sig .tc .vmem S1x1024 .f32) (harg29 : arg29.IsWhole)
  (arg30 : Memref sig .tc .vmem S1x1024 .f32) (harg30 : arg30.IsWhole)
  (arg31 : Memref sig .tc .vmem S272x1024 .f32) (harg31 : arg31.IsWhole)
  (arg32 : Memref sig .tc .vmem S272x1024 .f32) (harg32 : arg32.IsWhole)
  (arg33 : Memref sig .tc .vmem S264x1024 .f32) (harg33 : arg33.IsWhole)
  (arg34 : Memref sig .tc .vmem S264x1024 .f32) (harg34 : arg34.IsWhole)
  (arg35 : Memref sig .tc .vmem S264x1024 .f32) (harg35 : arg35.IsWhole)
  (arg36 : Memref sig .tc .vmem S8x1024 .f32) (harg36 : arg36.IsWhole)
  (arg37 : Memref sig .tc .vmem S256x1024 .f32) (harg37 : arg37.IsWhole)
  (arg38 : Memref sig .tc .vmem S256x1024 .f32) (harg38 : arg38.IsWhole)
  (arg39 : Memref sig .tc .vmem S256x1024 .f32) (harg39 : arg39.IsWhole)
  (arg40 : Memref sig .tc .vmem S256x1024 .f32) (harg40 : arg40.IsWhole)
  (arg41 : Memref sig .tc .vmem S256x1024 .f32) (harg41 : arg41.IsWhole)
  (arg42 : Memref sig .tc .vmem S256x1024 .f32) (harg42 : arg42.IsWhole)

set_option maxHeartbeats 16000000 in
/-- What the body's stores leave in the staging buffers of the three pooling gradients at a LATER point, as pieces, the last first,
    and the run: on whole staging buffers, the inputs at `x·` and the three gradients at what they held (`xo·`), everything else at
    anything, the body ends with the inputs as they were, the pieces written over those three buffers, and everything else at anything. -/
noncomputable def runLater (hc0 : ¬cond0_0 i)
    (x0 : Vec F S256x1024 .f32) (x1 : Vec F S256x1024 .f32) (x2 : Vec F S256x1024 .f32) (x3 : Vec F S256x1024 .f32) (x4 : Vec F S256x1024 .f32) (x5 : Vec F S16x1024 .f32) (x6 : Vec F S8x1024 .f32) (x7 : Vec F S256x1024 .f32) (x8 : Vec F S8x1024 .f32) (x9 : Vec F S4x256x256 .bf16) (x10 : Vec F S1x1024 .f32) (x11 : Vec F S1x1024 .f32) (x12 : Vec F S4x1024 .f32) (x13 : Vec F S1x1024 .f32) (x14 : Vec F S8x128x128 .bf16) (x15 : Vec F S1x1024 .f32) (x16 : Vec F S8x128x128 .bf16) (x17 : Vec F S1x1024 .f32) (x18 : Vec F S1x1024 .f32) (xo20 : Vec F S4x256x256 .f32) (xo21 : Vec F S1x1024 .f32) (xo22 : Vec F S1x1024 .f32) :
    Σ' (L20 : List (View.Piece (Elt F) S4x256x256 .f32)), Σ' (L21 : List (View.Piece (Elt F) S1x1024 .f32)), { L22 : List (View.Piece (Elt F) S1x1024 .f32) //
      ∀ (E : Set ℕ) (K : PUnit → sProp 𝕄),
        iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare x4 ∗ owns (c : Thread nD τ) arg6 fullShare x5
          ∗ owns (c : Thread nD τ) arg7 fullShare x6 ∗ owns (c : Thread nD τ) arg8 fullShare x7
          ∗ owns (c : Thread nD τ) arg9 fullShare x8 ∗ owns (c : Thread nD τ) arg10 fullShare x9
          ∗ owns (c : Thread nD τ) arg11 fullShare x10 ∗ owns (c : Thread nD τ) arg12 fullShare x11
          ∗ owns (c : Thread nD τ) arg13 fullShare x12 ∗ owns (c : Thread nD τ) arg14 fullShare x13
          ∗ owns (c : Thread nD τ) arg15 fullShare x14 ∗ owns (c : Thread nD τ) arg16 fullShare x15
          ∗ owns (c : Thread nD τ) arg17 fullShare x16 ∗ owns (c : Thread nD τ) arg18 fullShare x17
          ∗ owns (c : Thread nD τ) arg19 fullShare x18 ∗ (∃ d, owns (c : Thread nD τ) arg20 fullShare d)
          ∗ owns (c : Thread nD τ) arg21 fullShare xo20 ∗ owns (c : Thread nD τ) arg22 fullShare xo21
          ∗ owns (c : Thread nD τ) arg23 fullShare xo22 ∗ (∃ d, owns (c : Thread nD τ) arg24 fullShare d)
          ∗ (∃ d, owns (c : Thread nD τ) arg25 fullShare d) ∗ (∃ d, owns (c : Thread nD τ) arg26 fullShare d)
          ∗ (∃ d, owns (c : Thread nD τ) arg27 fullShare d) ∗ (∃ d, owns (c : Thread nD τ) arg28 fullShare d)
          ∗ (∃ d, owns (c : Thread nD τ) arg29 fullShare d) ∗ (∃ d, owns (c : Thread nD τ) arg30 fullShare d)
          ∗ (∃ d, owns (c : Thread nD τ) arg31 fullShare d) ∗ (∃ d, owns (c : Thread nD τ) arg32 fullShare d)
          ∗ (∃ d, owns (c : Thread nD τ) arg33 fullShare d) ∗ (∃ d, owns (c : Thread nD τ) arg34 fullShare d)
          ∗ (∃ d, owns (c : Thread nD τ) arg35 fullShare d) ∗ (∃ d, owns (c : Thread nD τ) arg36 fullShare d)
          ∗ (∃ d, owns (c : Thread nD τ) arg37 fullShare d) ∗ (∃ d, owns (c : Thread nD τ) arg38 fullShare d)
          ∗ (∃ d, owns (c : Thread nD τ) arg39 fullShare d) ∗ (∃ d, owns (c : Thread nD τ) arg40 fullShare d)
          ∗ (∃ d, owns (c : Thread nD τ) arg41 fullShare d) ∗ (∃ d, owns (c : Thread nD τ) arg42 fullShare d)
          ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare x12 ∗ owns (c : Thread nD τ) arg14 fullShare x13
            ∗ owns (c : Thread nD τ) arg15 fullShare x14 ∗ owns (c : Thread nD τ) arg16 fullShare x15
            ∗ owns (c : Thread nD τ) arg17 fullShare x16 ∗ owns (c : Thread nD τ) arg18 fullShare x17
            ∗ owns (c : Thread nD τ) arg19 fullShare x18 ∗ (∃ d, owns (c : Thread nD τ) arg20 fullShare d)
            ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)
            ∗ (∃ f, arg23.view.loc (c : Thread nD τ) ↦[arg23.view.set]{fullShare} arg23.view.writes (Elt F) f L22) ∗ (∃ d, owns (c : Thread nD τ) arg24 fullShare d)
            ∗ (∃ d, owns (c : Thread nD τ) arg25 fullShare d) ∗ (∃ d, owns (c : Thread nD τ) arg26 fullShare d)
            ∗ (∃ d, owns (c : Thread nD τ) arg27 fullShare d) ∗ (∃ d, owns (c : Thread nD τ) arg28 fullShare d)
            ∗ (∃ d, owns (c : Thread nD τ) arg29 fullShare d) ∗ (∃ d, owns (c : Thread nD τ) arg30 fullShare d)
            ∗ (∃ d, owns (c : Thread nD τ) arg31 fullShare d) ∗ (∃ d, owns (c : Thread nD τ) arg32 fullShare d)
            ∗ (∃ d, owns (c : Thread nD τ) arg33 fullShare d) ∗ (∃ d, owns (c : Thread nD τ) arg34 fullShare d)
            ∗ (∃ d, owns (c : Thread nD τ) arg35 fullShare d) ∗ (∃ d, owns (c : Thread nD τ) arg36 fullShare d)
            ∗ (∃ d, owns (c : Thread nD τ) arg37 fullShare d) ∗ (∃ d, owns (c : Thread nD τ) arg38 fullShare d)
            ∗ (∃ d, owns (c : Thread nD τ) arg39 fullShare d) ∗ (∃ d, owns (c : Thread nD τ) arg40 fullShare d)
            ∗ (∃ d, owns (c : Thread nD τ) arg41 fullShare d) ∗ (∃ d, owns (c : Thread nD τ) arg42 fullShare d)) -∗ K ⟨⟩))
          ⊢ wp frame (wpE (defs₀ (F := F)) Variants.none c none) E (cc0_bwd_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
  refine ⟨?_, ?_, ?_, fun E K => ?run⟩
  case run =>
    simp only [cc0_bwd_mixer_eq_skeleton]; unfold cc0_bwd_mixer_skel
    simp only [k0_part69_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _, _; isplitr; swap; · iexact H19
      ipureintro; rfl
    isplitl [H20]; · iexists _; iexact H20
    isplitl [H21]; · iexists _; iexact H21
    isplitl [H22]; · iexists _; iexact H22
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    iexists _, _; isplitr; swap; · iexact HS11
    ipureintro; rfl

end Cert.KernelIdeal.Mixer

end
-- ==== Proof.Mixer.Frame.lean ====
/- What the staging buffers of the three pooling gradients hold after each point of the grid (`outsAt`), the proof data
   of the region, the body at every point, and the run of the whole program with its frame. -/
module

public import proofs.«01_k».proof.Proof.Mixer.First
public import proofs.«01_k».proof.Proof.Mixer.Later
public import Idealize.ShloMosaic.Lib.Claim

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, at its staging buffers and blocks. -/
noncomputable abbrev first (c : Dev nD) (t : Fin cfg0.N) (h0 : t.val % 16 = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- A later point's run, at its staging buffers and blocks, over what the three gradients held before it. -/
noncomputable abbrev later (c : Dev nD) (t : Fin cfg0.N) (h0 : ¬t.val % 16 = 0)
    (y20 : Vec F S4x256x256 .f32) (y21 y22 : Vec F S1x1024 .f32) :=
  runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y20 y21 y22

/-- The staging buffer the contents of the gradient of the pooling weights are read through. -/
abbrev VO20 : View sig .tc .vmem S4x256x256 .f32 := (Memref.whole cc0_stg20_0 : Memref sig .tc .vmem S4x256x256 .f32).view
/-- What a list of pieces leaves in that buffer. -/
noncomputable def left20 (L : List (View.Piece (Elt F) S4x256x256 .f32)) : Vec F S4x256x256 .f32 :=
  VO20.read (Elt F) (VO20.writes (Elt F) VO20.junk L)
/-- The staging buffer the contents of the gradient of the pooling bias are read through. -/
abbrev VO21 : View sig .tc .vmem S1x1024 .f32 := (Memref.whole cc0_stg21_0 : Memref sig .tc .vmem S1x1024 .f32).view
/-- What a list of pieces leaves in that buffer. -/
noncomputable def left21 (L : List (View.Piece (Elt F) S1x1024 .f32)) : Vec F S1x1024 .f32 :=
  VO21.read (Elt F) (VO21.writes (Elt F) VO21.junk L)
/-- The staging buffer the contents of the gradient of the pooling scale are read through. -/
abbrev VO22 : View sig .tc .vmem S1x1024 .f32 := (Memref.whole cc0_stg22_0 : Memref sig .tc .vmem S1x1024 .f32).view
/-- What a list of pieces leaves in that buffer. -/
noncomputable def left22 (L : List (View.Piece (Elt F) S1x1024 .f32)) : Vec F S1x1024 .f32 :=
  VO22.read (Elt F) (VO22.writes (Elt F) VO22.junk L)

/-! The pieces cover the buffers. -/

theorem first_cover20 (c : Dev nD) (t : Fin cfg0.N) (h0 : t.val % 16 = 0) (y : S4x256x256.Idx) :
    ∃ pc ∈ (first m c t h0).1, y ∈ pc.1.set :=
  View.cover_of_tiledBy (first m c t h0).1 ![1, 256, 256] (by sl_kernel_rfl) y
theorem later_cover20 (c : Dev nD) (t : Fin cfg0.N) (h0 : ¬t.val % 16 = 0) (y20 : Vec F S4x256x256 .f32) (y21 y22 : Vec F S1x1024 .f32) (y : S4x256x256.Idx) :
    ∃ pc ∈ (later m c t h0 y20 y21 y22).1, y ∈ pc.1.set :=
  View.cover_of_tiledL (later m c t h0 y20 y21 y22).1 S1x256x256.size (by sl_kernel_rfl) y
theorem first_cover21 (c : Dev nD) (t : Fin cfg0.N) (h0 : t.val % 16 = 0) (y : S1x1024.Idx) :
    ∃ pc ∈ (first m c t h0).2.1, y ∈ pc.1.set :=
  View.cover_of_tiledBy (first m c t h0).2.1 ![1, 256] (by sl_kernel_rfl) y
theorem later_cover21 (c : Dev nD) (t : Fin cfg0.N) (h0 : ¬t.val % 16 = 0) (y20 : Vec F S4x256x256 .f32) (y21 y22 : Vec F S1x1024 .f32) (y : S1x1024.Idx) :
    ∃ pc ∈ (later m c t h0 y20 y21 y22).2.1, y ∈ pc.1.set :=
  View.cover_of_tiledL (later m c t h0 y20 y21 y22).2.1 S1x256.size (by sl_kernel_rfl) y
theorem first_cover22 (c : Dev nD) (t : Fin cfg0.N) (h0 : t.val % 16 = 0) (y : S1x1024.Idx) :
    ∃ pc ∈ (first m c t h0).2.2.1, y ∈ pc.1.set :=
  View.cover_of_tiledBy (first m c t h0).2.2.1 ![1, 256] (by sl_kernel_rfl) y
theorem later_cover22 (c : Dev nD) (t : Fin cfg0.N) (h0 : ¬t.val % 16 = 0) (y20 : Vec F S4x256x256 .f32) (y21 y22 : Vec F S1x1024 .f32) (y : S1x1024.Idx) :
    ∃ pc ∈ (later m c t h0 y20 y21 y22).2.2.1, y ∈ pc.1.set :=
  View.cover_of_tiledL (later m c t h0 y20 y21 y22).2.2.1 S1x256.size (by sl_kernel_rfl) y

/-- A point of the grid whose number is not zero is not the first. -/
theorem not_first {n : ℕ} (hn : n + 1 < cfg0.N) : ¬(n + 1) % 16 = 0 := by
  have hN : n + 1 < 16 := lt_of_lt_of_eq hn (show cfg0.N = 16 from N_0)
  omega

/-- What the first point's body leaves in the three gradients' staging buffers, -/
noncomputable def firstOuts (c : Dev nD) (t : Fin cfg0.N) (h0 : t.val % 16 = 0) : Vec F S4x256x256 .f32 × Vec F S1x1024 .f32 × Vec F S1x1024 .f32 :=
  (left20 (first m c t h0).1, left21 (first m c t h0).2.1, left22 (first m c t h0).2.2.1)

/-- and a later point's, over what the point before left. -/
noncomputable def laterOuts (c : Dev nD) (t : Fin cfg0.N) (h0 : ¬t.val % 16 = 0) (y : Vec F S4x256x256 .f32 × Vec F S1x1024 .f32 × Vec F S1x1024 .f32) :
    Vec F S4x256x256 .f32 × Vec F S1x1024 .f32 × Vec F S1x1024 .f32 :=
  (left20 (later m c t h0 y.1 y.2.1 y.2.2).1, left21 (later m c t h0 y.1 y.2.1 y.2.2).2.1, left22 (later m c t h0 y.1 y.2.1 y.2.2).2.2.1)

/-- What the three gradients' staging buffers hold after the body at point `n`. -/
noncomputable def outsAt (c : Dev nD) : (n : ℕ) → n < cfg0.N → Vec F S4x256x256 .f32 × Vec F S1x1024 .f32 × Vec F S1x1024 .f32
  | 0, hn => firstOuts m c ⟨0, hn⟩ (Nat.zero_mod 16)
  | n + 1, hn => laterOuts m c ⟨n + 1, hn⟩ (not_first hn) (outsAt c n (Nat.lt_of_succ_lt hn))

theorem outsAt_first (c : Dev nD) (t : Fin cfg0.N) (h0 : t.val % 16 = 0) : outsAt m c t.val t.isLt = firstOuts m c t h0 := by
  obtain ⟨n, hn⟩ := t
  cases n with
  | zero => rw [outsAt]
  | succ n => exact absurd h0 (not_first hn)

theorem outsAt_later (c : Dev nD) (t : Fin cfg0.N) (h0 : ¬t.val % 16 = 0) :
    outsAt m c t.val t.isLt = laterOuts m c t h0 (outsAt m c (t.val - 1) (Nat.lt_of_le_of_lt (Nat.sub_le _ _) t.isLt)) := by
  obtain ⟨n, hn⟩ := t
  cases n with
  | zero => exact absurd (Nat.zero_mod _) h0
  | succ n => rw [outsAt]; rfl

/-- The outputs nothing is said of: all but the three pooling gradients. -/
noncomputable def forgets : Fin 30 → Bool := fun w => w.val == 19 || decide (23 ≤ w.val)

/-- The region's proof data on core `c`: the arrays as the region finds them; after the body at point `t` each input's
    buffer at its block and the three gradients' at `outsAt`; the scratch at anything throughout; nothing owed; each
    input's share of its array. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, _⟩ => (outsAt m c t.val t.isLt).1
    | ⟨21, _⟩ => (outsAt m c t.val t.isLt).2.1
    | ⟨22, _⟩ => (outsAt m c t.val t.isLt).2.2
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨_ + 30, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-! What the body leaves, and what it finds, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_20 (c : Dev nD) (t : Fin cfg0.N) : (dats m 0 c).after 20 t = (outsAt m c t.val t.isLt).1 := by dsimp only [dats]
theorem after_21 (c : Dev nD) (t : Fin cfg0.N) : (dats m 0 c).after 21 t = (outsAt m c t.val t.isLt).2.1 := by dsimp only [dats]
theorem after_22 (c : Dev nD) (t : Fin cfg0.N) : (dats m 0 c).after 22 t = (outsAt m c t.val t.isLt).2.2 := by dsimp only [dats]
theorem before_0 (c : Dev nD) (t : Fin cfg0.N) (d) : (dats m 0 c).before 0 t d = iblk m c 0 t :=
  (staged (dats m 0 c) 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  (staged (dats m 0 c) 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  (staged (dats m 0 c) 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  (staged (dats m 0 c) 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  (staged (dats m 0 c) 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  (staged (dats m 0 c) 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  (staged (dats m 0 c) 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  (staged (dats m 0 c) 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  (staged (dats m 0 c) 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  (staged (dats m 0 c) 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  (staged (dats m 0 c) 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  (staged (dats m 0 c) 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  (staged (dats m 0 c) 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  (staged (dats m 0 c) 13 rfl (fun _ => rfl) (fun _ _ _ => rfl) (fun t => by rw [after_13]; unfold Dat.blockOf iblk; rw [A_eq]; try rfl) t d).trans
    (by unfold Dat.fetched Dat.blockOf iblk; rw [A_eq]; try rfl)
theorem before_14 (c : Dev nD) (t : Fin cfg0.N) (d) : (dats m 0 c).before 14 t d = iblk m c 14 t :=
  (staged (dats m 0 c) 14 rfl (fun _ => rfl) (fun _ _ _ => rfl) (fun t => by rw [after_14]; unfold Dat.blockOf iblk; rw [A_eq]; try rfl) t d).trans
    (by unfold Dat.fetched Dat.blockOf iblk; rw [A_eq]; try rfl)
theorem before_15 (c : Dev nD) (t : Fin cfg0.N) (d) : (dats m 0 c).before 15 t d = iblk m c 15 t :=
  (staged (dats m 0 c) 15 rfl (fun _ => rfl) (fun _ _ _ => rfl) (fun t => by rw [after_15]; unfold Dat.blockOf iblk; rw [A_eq]; try rfl) t d).trans
    (by unfold Dat.fetched Dat.blockOf iblk; rw [A_eq]; try rfl)
theorem before_16 (c : Dev nD) (t : Fin cfg0.N) (d) : (dats m 0 c).before 16 t d = iblk m c 16 t :=
  (staged (dats m 0 c) 16 rfl (fun _ => rfl) (fun _ _ _ => rfl) (fun t => by rw [after_16]; unfold Dat.blockOf iblk; rw [A_eq]; try rfl) t d).trans
    (by unfold Dat.fetched Dat.blockOf iblk; rw [A_eq]; try rfl)
theorem before_17 (c : Dev nD) (t : Fin cfg0.N) (d) : (dats m 0 c).before 17 t d = iblk m c 17 t :=
  (staged (dats m 0 c) 17 rfl (fun _ => rfl) (fun _ _ _ => rfl) (fun t => by rw [after_17]; unfold Dat.blockOf iblk; rw [A_eq]; try rfl) t d).trans
    (by unfold Dat.fetched Dat.blockOf iblk; rw [A_eq]; try rfl)
theorem before_18 (c : Dev nD) (t : Fin cfg0.N) (d) : (dats m 0 c).before 18 t d = iblk m c 18 t :=
  (staged (dats m 0 c) 18 rfl (fun _ => rfl) (fun _ _ _ => rfl) (fun t => by rw [after_18]; unfold Dat.blockOf iblk; rw [A_eq]; try rfl) t d).trans
    (by unfold Dat.fetched Dat.blockOf iblk; rw [A_eq]; try rfl)
/-- At a later point the staging buffer of output 20 holds what the point before left: it was not written back between. -/
theorem before_20 (c : Dev nD) (t : Fin cfg0.N) (h0 : ¬t.val % 16 = 0) (d) :
    (dats m 0 c).before 20 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- At a later point the staging buffer of output 21 holds what the point before left: it was not written back between. -/
theorem before_21 (c : Dev nD) (t : Fin cfg0.N) (h0 : ¬t.val % 16 = 0) (d) :
    (dats m 0 c).before 21 t d = (outsAt m c (t.val - 1) (Nat.lt_of_le_of_lt (Nat.sub_le _ _) t.isLt)).2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
/-- At a later point the staging buffer of output 22 holds what the point before left: it was not written back between. -/
theorem before_22 (c : Dev nD) (t : Fin cfg0.N) (h0 : ¬t.val % 16 = 0) (d) :
    (dats m 0 c).before 22 t d = (outsAt m c (t.val - 1) (Nat.lt_of_le_of_lt (Nat.sub_le _ _) t.isLt)).2.2 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body at a point -/

/-- What the body is called with at point `t`, the windows one by one, -/
noncomputable def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

/-- and what it returns. -/
noncomputable def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

set_option maxHeartbeats 32000000 in
/-- The body at any point: the first point's run or a later point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_20, after_21, after_22]
  rw [show (dats m 0 c).Φ t.succ = Pipeline.ΦA spec0 c from rfl, show (dats m 0 c).Φ t.castSucc = Pipeline.ΦA spec0 c from rfl, PhiA0_eq]
  by_cases h0 : t.val % 16 = 0
  · rw [outsAt_first m c t h0]
    iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
    iapply ((first m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, H14, H15, H16, H17, H18, H19, ⟨%e20, H20⟩, ⟨%e21, H21⟩, ⟨%e22, H22⟩, H23, H24, H25, H26, H27, H28, H29, HS0, HS1, HS2, HS3, HS4, HS5, HS6, HS7, HS8, HS9, HS10, HS11⟩
    isplitl [HS0 HS1 HS2 HS3 HS4 HS5 HS6 HS7 HS8 HS9 HS10 HS11 Hg]
    · isplitl [HS0 HS1 HS2 HS3 HS4 HS5 HS6 HS7 HS8 HS9 HS10 HS11]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact (View.read_writes_of_cover (ms0_20 t).view e20 VO20 VO20.junk (first m c t h0).1 (first_cover20 m c t h0)).trans rfl
    isplitl [H21]
    · unfold owns; iexists _; isplitr
      swap; · iexact H21
      ipureintro; exact (View.read_writes_of_cover (ms0_21 t).view e21 VO21 VO21.junk (first m c t h0).2.1 (first_cover21 m c t h0)).trans rfl
    isplitl [H22]
    · unfold owns; iexists _; isplitr
      swap; · iexact H22
      ipureintro; exact (View.read_writes_of_cover (ms0_22 t).view e22 VO22 VO22.junk (first m c t h0).2.2.1 (first_cover22 m c t h0)).trans rfl
    isplitl [H23]; · iexact H23
    isplitl [H24]; · iexact H24
    isplitl [H25]; · iexact H25
    isplitl [H26]; · iexact H26
    isplitl [H27]; · iexact H27
    isplitl [H28]; · iexact H28
    iexact H29
  · rw [outsAt_later m c t h0]
    simp only [before_20 m c t h0, before_21 m c t h0, before_22 m c t h0]
    iintro ⟨⟨⟨HS0, HS1, HS2, HS3, HS4, HS5, HS6, HS7, HS8, HS9, HS10, HS11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
    iapply ((later m c t h0 _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [H20]; · iexact H20
    isplitl [H21]; · iexact H21
    isplitl [H22]; · iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iintro ⟨H0, H1, H2, H3, H4, H5, H6, H7, H8, H9, H10, H11, H12, H13, H14, H15, H16, H17, H18, H19, ⟨%e20, H20⟩, ⟨%e21, H21⟩, ⟨%e22, H22⟩, H23, H24, H25, H26, H27, H28, H29, HS0, HS1, HS2, HS3, HS4, HS5, HS6, HS7, HS8, HS9, HS10, HS11⟩
    isplitl [HS0 HS1 HS2 HS3 HS4 HS5 HS6 HS7 HS8 HS9 HS10 HS11 Hg]
    · isplitl [HS0 HS1 HS2 HS3 HS4 HS5 HS6 HS7 HS8 HS9 HS10 HS11]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]
    · unfold owns; iexists _; isplitr
      swap; · iexact H20
      ipureintro; exact (View.read_writes_of_cover (ms0_20 t).view e20 VO20 VO20.junk _ (later_cover20 m c t h0 _ _ _)).trans rfl
    isplitl [H21]
    · unfold owns; iexists _; isplitr
      swap; · iexact H21
      ipureintro; exact (View.read_writes_of_cover (ms0_21 t).view e21 VO21 VO21.junk _ (later_cover21 m c t h0 _ _ _)).trans rfl
    isplitl [H22]
    · unfold owns; iexists _; isplitr
      swap; · iexact H22
      ipureintro; exact (View.read_writes_of_cover (ms0_22 t).view e22 VO22 VO22.junk _ (later_cover22 m c t h0 _ _ _)).trans rfl
    isplitl [H23]; · iexact H23
    isplitl [H24]; · iexact H24
    isplitl [H25]; · iexact H25
    isplitl [H26]; · iexact H26
    isplitl [H27]; · iexact H27
    isplitl [H28]; · iexact H28
    iexact H29

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body does, at every point, what the region asks of it. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- Every weakly fair execution of the program from a memory with zero counters terminates; every staged array ends as the proof
    data says, every other buffer as the region found it, and every counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

end Cert.KernelIdeal.Mixer

end
-- ==== Proof.Mixer.Kept.lean ====
/- The frame of the mixer's backward pass: the argument arrays end as launched. -/
module

public import proofs.«01_k».proof.Proof.Mixer.Frame
public import Idealize.ShloMosaic.Lib.Claim

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (fun c => (dats m 0 c).toRForget forgets) (A_eq m) ((θ_run defs _ _).mono (fun _ h => h.1) (run_main m ρ)))
    ((θ_run defs _ _).mono (fun _ h => h.2) (run_main m ρ))

end Cert.KernelIdeal.Mixer

end
-- ==== Proof.Mixer.Claims.lean ====
/- The frames of the mixer's backward pass as they are claimed. -/
module

public import proofs.«01_k».proof.Defs
public import proofs.«01_k».proof.Proof.Gen.ReferenceIdeal.Run
public import proofs.«01_k».proof.Proof.Mixer.Kept
public import proofs.«01_k».proof.Proof.MixerWords.Kept

@[expose] public section

set_option maxRecDepth 16384

noncomputable section

namespace Cert.Mixer

open Idealize.ShloMosaic Idealize.SL.Sem

/-- The frame over machine words. -/
theorem frame_kernel : Cert.quiescent_Kernel := fun m ρ _ => Cert.Kernel.Mixer.frame (F := Bits) m ρ

/-- The frame over the extended reals. -/
theorem frame_ideal : Cert.quiescent_KernelIdeal := fun m ρ _ => Cert.KernelIdeal.Mixer.frame (F := Ideal) m ρ

/-- The frame of the reference. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Mixer

end
-- ==== Proof.Frames.lean ====
/- The frames of the calls whose certificates are whole, and of the references. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel16Ideal.Value
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Kernel25Ideal.Value
public import proofs.«01_k».proof.Proof.Gen.Kernel26Ideal.Value
public import proofs.«01_k».proof.Proof.Gen.Kernel27Ideal.Value
public import proofs.«01_k».proof.Proof.Gen.Pre_attn_inputs_finite
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run

@[expose] public section

set_option maxRecDepth 16384

noncomputable section

namespace Cert.Frames

open Idealize.ShloMosaic Idealize.SL.Sem

theorem kernel2 : Cert.quiescent_Kernel2 := fun m ρ _ => Cert.Kernel2.Gen.frame m ρ
theorem ideal2 : Cert.quiescent_Kernel2Ideal := fun m ρ _ => Cert.Kernel2Ideal.Gen.frame m ρ
theorem reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)
theorem ideal2_pre : Cert.quiescent_Kernel2Ideal_pre_attn_inputs_finite := fun m ρ _ => Cert.Kernel2Ideal.Gen.frame m ρ
theorem reference2_pre : Cert.quiescent_Reference2Ideal_pre_attn_inputs_finite := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem kernel3 : Cert.quiescent_Kernel3 := fun m ρ _ => Cert.Kernel3.Gen.frame m ρ
theorem ideal3 : Cert.quiescent_Kernel3Ideal := fun m ρ _ => Cert.Kernel3Ideal.Gen.frame m ρ
theorem reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

theorem kernel4 : Cert.quiescent_Kernel4 := fun m ρ _ => Cert.Kernel4.Gen.frame m ρ
theorem ideal4 : Cert.quiescent_Kernel4Ideal := fun m ρ _ => Cert.Kernel4Ideal.Gen.frame m ρ
theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem kernel5 : Cert.quiescent_Kernel5 := fun m ρ _ => Cert.Kernel5.Gen.frame m ρ
theorem ideal5 : Cert.quiescent_Kernel5Ideal := fun m ρ _ => Cert.Kernel5Ideal.Gen.frame m ρ
theorem reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem kernel6 : Cert.quiescent_Kernel6 := fun m ρ _ => Cert.Kernel6.Gen.frame m ρ
theorem ideal6 : Cert.quiescent_Kernel6Ideal := fun m ρ _ => Cert.Kernel6Ideal.Gen.frame m ρ
theorem reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem kernel7 : Cert.quiescent_Kernel7 := fun m ρ _ => Cert.Kernel7.Gen.frame m ρ
theorem ideal7 : Cert.quiescent_Kernel7Ideal := fun m ρ _ => Cert.Kernel7Ideal.Gen.frame m ρ
theorem reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem kernel8 : Cert.quiescent_Kernel8 := fun m ρ _ => Cert.Kernel8.Gen.frame m ρ
theorem ideal8 : Cert.quiescent_Kernel8Ideal := fun m ρ _ => Cert.Kernel8Ideal.Gen.frame m ρ
theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem kernel9 : Cert.quiescent_Kernel9 := fun m ρ _ => Cert.Kernel9.Gen.frame m ρ
theorem ideal9 : Cert.quiescent_Kernel9Ideal := fun m ρ _ => Cert.Kernel9Ideal.Gen.frame m ρ
theorem reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem kernel10 : Cert.quiescent_Kernel10 := fun m ρ _ => Cert.Kernel10.Gen.frame m ρ
theorem ideal10 : Cert.quiescent_Kernel10Ideal := fun m ρ _ => Cert.Kernel10Ideal.Gen.frame m ρ
theorem reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem kernel11 : Cert.quiescent_Kernel11 := fun m ρ _ => Cert.Kernel11.Gen.frame m ρ
theorem ideal11 : Cert.quiescent_Kernel11Ideal := fun m ρ _ => Cert.Kernel11Ideal.Gen.frame m ρ
theorem reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem kernel12 : Cert.quiescent_Kernel12 := fun m ρ _ => Cert.Kernel12.Gen.frame m ρ
theorem ideal12 : Cert.quiescent_Kernel12Ideal := fun m ρ _ => Cert.Kernel12Ideal.Gen.frame m ρ
theorem reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem kernel13 : Cert.quiescent_Kernel13 := fun m ρ _ => Cert.Kernel13.Gen.frame m ρ
theorem ideal13 : Cert.quiescent_Kernel13Ideal := fun m ρ _ => Cert.Kernel13Ideal.Gen.frame m ρ
theorem reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem kernel14 : Cert.quiescent_Kernel14 := fun m ρ _ => Cert.Kernel14.Gen.frame m ρ
theorem ideal14 : Cert.quiescent_Kernel14Ideal := fun m ρ _ => Cert.Kernel14Ideal.Gen.frame m ρ
theorem reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem kernel15 : Cert.quiescent_Kernel15 := fun m ρ _ => Cert.Kernel15.Gen.frame m ρ
theorem ideal15 : Cert.quiescent_Kernel15Ideal := fun m ρ _ => Cert.Kernel15Ideal.Gen.frame m ρ
theorem reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem kernel16 : Cert.quiescent_Kernel16 := fun m ρ _ => Cert.Kernel16.Gen.frame m ρ
theorem ideal16 : Cert.quiescent_Kernel16Ideal := fun m ρ _ => Cert.Kernel16Ideal.Gen.frame m ρ
theorem reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem kernel17 : Cert.quiescent_Kernel17 := fun m ρ _ => Cert.Kernel17.Gen.frame m ρ
theorem ideal17 : Cert.quiescent_Kernel17Ideal := fun m ρ _ => Cert.Kernel17Ideal.Gen.frame m ρ
theorem reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem kernel18 : Cert.quiescent_Kernel18 := fun m ρ _ => Cert.Kernel18.Gen.frame m ρ
theorem ideal18 : Cert.quiescent_Kernel18Ideal := fun m ρ _ => Cert.Kernel18Ideal.Gen.frame m ρ
theorem reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem kernel19 : Cert.quiescent_Kernel19 := fun m ρ _ => Cert.Kernel19.Gen.frame m ρ
theorem ideal19 : Cert.quiescent_Kernel19Ideal := fun m ρ _ => Cert.Kernel19Ideal.Gen.frame m ρ
theorem reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem kernel20 : Cert.quiescent_Kernel20 := fun m ρ _ => Cert.Kernel20.Gen.frame m ρ
theorem ideal20 : Cert.quiescent_Kernel20Ideal := fun m ρ _ => Cert.Kernel20Ideal.Gen.frame m ρ
theorem reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem kernel21 : Cert.quiescent_Kernel21 := fun m ρ _ => Cert.Kernel21.Gen.frame m ρ
theorem ideal21 : Cert.quiescent_Kernel21Ideal := fun m ρ _ => Cert.Kernel21Ideal.Gen.frame m ρ
theorem reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem kernel22 : Cert.quiescent_Kernel22 := fun m ρ _ => Cert.Kernel22.Gen.frame m ρ
theorem ideal22 : Cert.quiescent_Kernel22Ideal := fun m ρ _ => Cert.Kernel22Ideal.Gen.frame m ρ
theorem reference22 : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

theorem kernel23 : Cert.quiescent_Kernel23 := fun m ρ _ => Cert.Kernel23.Gen.frame m ρ
theorem ideal23 : Cert.quiescent_Kernel23Ideal := fun m ρ _ => Cert.Kernel23Ideal.Gen.frame m ρ
theorem reference23 : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

theorem kernel24 : Cert.quiescent_Kernel24 := fun m ρ _ => Cert.Kernel24.Gen.frame m ρ
theorem ideal24 : Cert.quiescent_Kernel24Ideal := fun m ρ _ => Cert.Kernel24Ideal.Gen.frame m ρ
theorem reference24 : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

theorem kernel25 : Cert.quiescent_Kernel25 := fun m ρ _ => Cert.Kernel25.Gen.frame m ρ
theorem ideal25 : Cert.quiescent_Kernel25Ideal := fun m ρ _ => Cert.Kernel25Ideal.Gen.frame m ρ
theorem reference25 : Cert.quiescent_Reference25Ideal := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

theorem kernel26 : Cert.quiescent_Kernel26 := fun m ρ _ => Cert.Kernel26.Gen.frame m ρ
theorem ideal26 : Cert.quiescent_Kernel26Ideal := fun m ρ _ => Cert.Kernel26Ideal.Gen.frame m ρ
theorem reference26 : Cert.quiescent_Reference26Ideal := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

theorem kernel27 : Cert.quiescent_Kernel27 := fun m ρ _ => Cert.Kernel27.Gen.frame m ρ
theorem ideal27 : Cert.quiescent_Kernel27Ideal := fun m ρ _ => Cert.Kernel27Ideal.Gen.frame m ρ
theorem reference27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

end Cert.Frames

end
-- ==== Proof.Sums.lean ====
/- A long sum of extended reals, taken in equal parts one after the other. -/
module

public import Idealize.ShloMosaic.Lib.Pipeline.ValueKit

@[expose] public section

open Idealize.ShloMosaic

namespace Cert.Sums

/-- Two sums of equal terms. -/
theorem congr {n : ℕ} {f g : Fin n → EReal} (h : ∀ k, f k = g k) : ∑ k, f k = ∑ k, g k :=
  Finset.sum_congr rfl fun k _ => h k

/-- A sum of `n + n` terms in two halves. -/
theorem two {n : ℕ} (f : Fin (n + n) → EReal) (a b : Fin n → EReal)
    (ha : ∀ k : Fin n, a k = f ⟨k.val, by omega⟩) (hb : ∀ k : Fin n, b k = f ⟨n + k.val, by omega⟩) :
    ∑ k, a k + ∑ k, b k = ∑ k, f k := by
  rw [Fin.sum_univ_add]
  exact congrArg₂ (· + ·) (Finset.sum_congr rfl fun k _ => ha k) (Finset.sum_congr rfl fun k _ => hb k)

/-- A sum of `n + n + n + n` terms in four quarters. -/
theorem four {n : ℕ} (f : Fin (n + n + n + n) → EReal) (a b c d : Fin n → EReal)
    (ha : ∀ k : Fin n, a k = f ⟨k.val, by omega⟩) (hb : ∀ k : Fin n, b k = f ⟨n + k.val, by omega⟩)
    (hc : ∀ k : Fin n, c k = f ⟨n + n + k.val, by omega⟩) (hd : ∀ k : Fin n, d k = f ⟨n + n + n + k.val, by omega⟩) :
    ∑ k, a k + ∑ k, b k + ∑ k, c k + ∑ k, d k = ∑ k, f k := by
  rw [Fin.sum_univ_add, Fin.sum_univ_add, Fin.sum_univ_add]
  refine congrArg₂ (· + ·) (congrArg₂ (· + ·) (congrArg₂ (· + ·) ?_ ?_) ?_) ?_
  · exact Finset.sum_congr rfl fun k _ => ha k
  · exact Finset.sum_congr rfl fun k _ => hb k
  · exact Finset.sum_congr rfl fun k _ => hc k
  · exact Finset.sum_congr rfl fun k _ => hd k
/-- A sum of eight times `n` terms in eight parts. -/
theorem eight {n : ℕ} (f : Fin (n + n + n + n + n + n + n + n) → EReal) (a b c d e e2 g h : Fin n → EReal)
    (ha : ∀ k : Fin n, a k = f ⟨k.val, by omega⟩)
    (hb : ∀ k : Fin n, b k = f ⟨n + k.val, by omega⟩)
    (hc : ∀ k : Fin n, c k = f ⟨n + n + k.val, by omega⟩)
    (hd : ∀ k : Fin n, d k = f ⟨n + n + n + k.val, by omega⟩)
    (he : ∀ k : Fin n, e k = f ⟨n + n + n + n + k.val, by omega⟩)
    (he2 : ∀ k : Fin n, e2 k = f ⟨n + n + n + n + n + k.val, by omega⟩)
    (hg : ∀ k : Fin n, g k = f ⟨n + n + n + n + n + n + k.val, by omega⟩)
    (hh : ∀ k : Fin n, h k = f ⟨n + n + n + n + n + n + n + k.val, by omega⟩) :
    ∑ k, a k + ∑ k, b k + ∑ k, c k + ∑ k, d k + ∑ k, e k + ∑ k, e2 k + ∑ k, g k + ∑ k, h k = ∑ k, f k := by
  rw [Fin.sum_univ_add, Fin.sum_univ_add, Fin.sum_univ_add, Fin.sum_univ_add, Fin.sum_univ_add, Fin.sum_univ_add, Fin.sum_univ_add]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun k _ => ha k
  · exact Finset.sum_congr rfl fun k _ => hb k
  · exact Finset.sum_congr rfl fun k _ => hc k
  · exact Finset.sum_congr rfl fun k _ => hd k
  · exact Finset.sum_congr rfl fun k _ => he k
  · exact Finset.sum_congr rfl fun k _ => he2 k
  · exact Finset.sum_congr rfl fun k _ => hg k
  · exact Finset.sum_congr rfl fun k _ => hh k

/-- The weight of the residual, `2 ^ (1 / 4)` to single precision. -/
noncomputable abbrev alpha : EReal := Ideal.ofBits .f32 0x3F9837F0#32

/-- The number two. -/
noncomputable abbrev double : EReal := Ideal.ofBits .f32 0x40000000#32

end Cert.Sums
-- ==== Proof.Ff2.Weight.lean ====
/- The gradient of the second feed-forward weight: the call `bwd_dw_ff2` leaves, block by block, the product of the
   transposed activation with the gradient, which is what differentiating `act @ w` by `w` gives. -/
module

public import proofs.«01_k».proof.Proof.Gen.Kernel4Ideal.Value
public import proofs.«01_k».proof.Proof.Gen.Reference4Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel4Ideal.Weight

open Cert.Kernel4Ideal Cert.Kernel4Ideal.Gen

variable (m : (ℓ : Loc nD τ sig) → Buf (Elt Ideal) ℓ)

/-- What the reference returns, over the activation and the gradient. -/
noncomputable abbrev REF (X : FVec Ideal S4096x8192 .bf16) (G : FVec Ideal S4096x2048 .bf16) : FVec Ideal Cert.Reference4Ideal.S1x8192x2048 .bf16 :=
  broadcastInDim Cert.Reference4Ideal.S1x8192x2048 ![1, 2] Cert.Reference4Ideal.Gen.bcast_S8192x2048_S1x8192x2048_1_2
    (truncf .bf16 (transpose Cert.Reference4Ideal.S8192x2048 [1, 0]
      (Host.dotGeneral Cert.Reference4Ideal.dot_S4096x2048_S4096x8192_S2048x8192_0_0_1_1_n_n none
        (extf .f32 G Cert.Reference4Ideal.Gen.bitsLt_bf16_f32) (extf .f32 X Cert.Reference4Ideal.Gen.bitsLt_bf16_f32))
      Cert.Reference4Ideal.Gen.transposes_S2048x8192_S8192x2048_1_0) Cert.Reference4Ideal.Gen.bitsLt_bf16_f32)

/-- Which block each window is on. -/
theorem idx : ∀ t : Fin cfg0.N, win0_0.index t = ![t.val % 2, t.val / 4] ∧ win0_1.index t = ![t.val % 2, t.val / 2 % 2]
    ∧ win0_2.index t = ![0, t.val / 4, t.val / 2 % 2] :=
  (by decide +kernel : ∀ t : Fin grid0.N, _)

/-- The first half of the sum, which the even points leave in the scratch. -/
theorem half (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  frame_out

theorem hpay1 (x y : FVec Ideal S2048x1024 .bf16) (j : S1024x1024.Idx) :
    k0_pay1 (F := Ideal) x y j = ∑ k : Fin 2048, x (ix2 k (j 0)) * y (ix2 k (j 1)) := by
  pointwise [k0_pay1]

theorem hpay3 (a : FVec Ideal S1024x1024 .f32) (x y : FVec Ideal S2048x1024 .bf16) (j : S1x1024x1024.Idx) :
    k0_pay3 (F := Ideal) a x y j = a (ix2 (j 1) (j 2)) + ∑ k : Fin 2048, x (ix2 k (j 1)) * y (ix2 k (j 2)) := by
  pointwise [k0_pay3]

theorem href (X : FVec Ideal S4096x8192 .bf16) (G : FVec Ideal S4096x2048 .bf16) (j : S1x8192x2048.Idx) :
    REF X G j = ∑ k : Fin 4096, X (ix2 k (j 1)) * G (ix2 k (j 2)) := by
  pointwise [REF]
  exact Fin.sum_fin_congr fun k => mul_comm (_ : EReal) _

/-- What an odd point writes back. -/
theorem out (c : Dev nD) (t : Fin cfg0.N) (h2 : t.val % 2 = 1) :
    (outsAt0 m c t.val t.isLt).1 = k0_pay3 (F := Ideal)
      (k0_pay1 (F := Ideal) (iblk m c 0 ⟨t.val - 1, Nat.lt_of_le_of_lt (Nat.sub_le _ _) t.isLt⟩) (iblk m c 1 ⟨t.val - 1, Nat.lt_of_le_of_lt (Nat.sub_le _ _) t.isLt⟩))
      (iblk m c 0 t) (iblk m c 1 t) := by
  rw [outsAt0_B m c t (by omega) h2, half m c ⟨t.val - 1, Nat.lt_of_le_of_lt (Nat.sub_le _ _) t.isLt⟩ (by dsimp only; omega)]
  frame_out
  rw [read_unread_whole]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out m c t ((flush0_2 t).mp hf), hpay3, hpay1, href]
  have h2 : t.val % 2 = 1 := (flush0_2 t).mp hf
  refine Cert.Sums.two (n := 2048) _ _ _ (fun k => ?_) (fun k => ?_)
  · blk_point [iblk, V, idx t, idx ⟨t.val - 1, Nat.lt_of_le_of_lt (Nat.sub_le _ _) t.isLt⟩] <;> omega
  · blk_point [iblk, V, idx t] <;> omega

end Cert.Kernel4Ideal.Weight

end
-- ==== Proof.Ff2.Forward.lean ====
/- The second feed-forward product: the call `fwd_ff2` adds four quarters of the contraction in a scratch and leaves
   `act @ w`. -/
module

public import proofs.«01_k».proof.Proof.Gen.Kernel5Ideal.Value
public import proofs.«01_k».proof.Proof.Gen.Reference5Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel5Ideal.Forward

open Cert.Kernel5Ideal Cert.Kernel5Ideal.Gen

variable (m : (ℓ : Loc nD τ sig) → Buf (Elt Ideal) ℓ)

/-- What the reference returns, over the activation and the weight. -/
noncomputable abbrev REF (X : FVec Ideal S4096x8192 .bf16) (W : FVec Ideal S8192x2048 .bf16) : FVec Ideal S4096x2048 .f32 :=
  Host.dotGeneral Cert.Reference5Ideal.dot_S4096x8192_S8192x2048_S4096x2048_1_0_0_1_n_n none
    (extf .f32 X Cert.Reference5Ideal.Gen.bitsLt_bf16_f32) (extf .f32 W Cert.Reference5Ideal.Gen.bitsLt_bf16_f32)

/-- Which block each window is on. -/
theorem idx : ∀ t : Fin cfg0.N, win0_0.index t = ![t.val / 8, t.val % 4] ∧ win0_1.index t = ![0, t.val % 4, t.val / 4 % 2]
    ∧ win0_2.index t = ![t.val / 8, t.val / 4 % 2] :=
  (by decide +kernel : ∀ t : Fin grid0.N, _)

/-- The point before. -/
abbrev prev (t : Fin cfg0.N) : Fin cfg0.N := ⟨t.val - 1, Nat.lt_of_le_of_lt (Nat.sub_le _ _) t.isLt⟩

theorem scratch_first (c : Dev nD) (t : Fin cfg0.N) (h : t.val % 4 = 0) :
    (outsAt0 m c t.val t.isLt).2 = k0_pay1 (F := Ideal) (iblk m c 0 t) (iblk m c 1 t) := by
  rw [outsAt0_A m c t h (by omega) (by omega)]
  frame_out

theorem scratch_step (c : Dev nD) (t : Fin cfg0.N) (h1 : 1 ≤ t.val % 4) (h2 : t.val % 4 ≤ 2) :
    (outsAt0 m c t.val t.isLt).2 = k0_pay2 (F := Ideal) (outsAt0 m c (prev t).val (prev t).isLt).2 (iblk m c 0 t) (iblk m c 1 t) := by
  rw [outsAt0_B m c t (by omega) ⟨h1, h2⟩ (by omega)]
  frame_out
  rw [read_unread_whole]

theorem out_last (c : Dev nD) (t : Fin cfg0.N) (h : t.val % 4 = 3) :
    (outsAt0 m c t.val t.isLt).1 = k0_pay3 (F := Ideal) (outsAt0 m c (prev t).val (prev t).isLt).2 (iblk m c 0 t) (iblk m c 1 t) := by
  rw [outsAt0_C m c t (by omega) (by omega) h]
  frame_out
  rw [read_unread_whole]

theorem hpay1 (x : FVec Ideal S1024x2048 .bf16) (y : FVec Ideal S1x2048x1024 .bf16) (j : S1024x1024.Idx) :
    k0_pay1 (F := Ideal) x y j = ∑ k : Fin 2048, x (ix2 (j 0) k) * y (ix3 0 k (j 1)) := by
  pointwise [k0_pay1]

theorem hpay2 (a : FVec Ideal S1024x1024 .f32) (x : FVec Ideal S1024x2048 .bf16) (y : FVec Ideal S1x2048x1024 .bf16) (j : S1024x1024.Idx) :
    k0_pay2 (F := Ideal) a x y j = a j + ∑ k : Fin 2048, x (ix2 (j 0) k) * y (ix3 0 k (j 1)) := by
  pointwise [k0_pay2]

theorem hpay3 (a : FVec Ideal S1024x1024 .f32) (x : FVec Ideal S1024x2048 .bf16) (y : FVec Ideal S1x2048x1024 .bf16) (j : S1024x1024.Idx) :
    k0_pay3 (F := Ideal) a x y j = a j + ∑ k : Fin 2048, x (ix2 (j 0) k) * y (ix3 0 k (j 1)) := by
  pointwise [k0_pay3]

theorem href (X : FVec Ideal S4096x8192 .bf16) (W : FVec Ideal S8192x2048 .bf16) (j : S4096x2048.Idx) :
    REF X W j = ∑ k : Fin 8192, X (ix2 (j 0) k) * W (ix2 k (j 1)) := by
  pointwise [REF]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, scratch_step m c (prev t) (by dsimp only; omega) (by dsimp only; omega),
    scratch_step m c (prev (prev t)) (by dsimp only; omega) (by dsimp only; omega),
    scratch_first m c (prev (prev (prev t))) (by dsimp only; omega), hpay3, hpay2, hpay2, hpay1, href]
  refine Cert.Sums.four (n := 2048) _ _ _ _ _ (fun k => ?_) (fun k => ?_) (fun k => ?_) (fun k => ?_)
  · blk_point [iblk, V, idx t, idx (prev (prev (prev t)))] <;> omega
  · blk_point [iblk, V, idx t, idx (prev (prev t))] <;> omega
  · blk_point [iblk, V, idx t, idx (prev t)] <;> omega
  · blk_point [iblk, V, idx t] <;> omega

end Cert.Kernel5Ideal.Forward

end
-- ==== Proof.Ff2.Claims.lean ====
/- The two value claims of the second feed-forward product. -/
module

public import proofs.«01_k».proof.Defs
public import proofs.«01_k».proof.Proof.Ff2.Weight
public import proofs.«01_k».proof.Proof.Ff2.Forward
public import Idealize.ShloMosaic.Lib.Claim

@[expose] public section

set_option maxRecDepth 16384

noncomputable section

namespace Cert.Ff2

open Idealize.ShloMosaic Idealize.ShloMosaic.TcCoe Idealize.SL.Sem

theorem weight : Cert.algebraic_Kernel4Ideal_Reference4Ideal := by
  pair_intro
  · run_from Cert.Kernel4Ideal.Gen.run_main m g
  · run_from Cert.Reference4Ideal.Value.run m' g'
    exact (Cert.Kernel4Ideal.Weight.final m c).symm

theorem forward : Cert.algebraic_Kernel5Ideal_Reference5Ideal := by
  pair_intro
  · run_from Cert.Kernel5Ideal.Gen.run_main m g
  · run_from Cert.Reference5Ideal.Value.run m' g'
    exact (Cert.Kernel5Ideal.Forward.final m c).symm

end Cert.Ff2

end
-- ==== Proof.Attn.Softmax.lean ====
/- A row of attention weights: the softmax of 256 scores, as both the kernel and the reference take it. -/
module

public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Attn

/-- The value every maximum starts from. -/
noncomputable abbrev low : EReal := Ideal.ofBits FTy.f32 4286578688#32

/-- The factor of the scores. -/
noncomputable abbrev scale : EReal := Ideal.ofBits FTy.f32 1026884851#32

/-- The largest score of a row. -/
noncomputable def top (s : Fin 256 → EReal) : EReal := Finset.univ.fold max low s

/-- The exponential of a score less the largest one. -/
noncomputable def raised (s : Fin 256 → EReal) (x : Fin 256) : EReal := Ideal.exp (s x - top s)

/-- The attention weight of a member. -/
noncomputable def weight (s : Fin 256 → EReal) (x : Fin 256) : EReal := Ideal.div (raised s x) (∑ y : Fin 256, raised s y)

/-- Taking the maximum with the value it starts from changes nothing. -/
theorem max_low_top (s : Fin 256 → EReal) : max low (top s) = top s :=
  max_eq_right ((Finset.le_fold_max _).mpr (Or.inl le_rfl))

/-- A score: the product of a query row and a key row, times the factor. -/
noncomputable def score (a b : Fin 512 → EReal) : EReal := (∑ d : Fin 512, a d * b d) * scale

/-- Two mixtures are equal when their scores and their values are. -/
theorem mix_congr {s s' v v' : Fin 256 → EReal} (hs : ∀ x, s x = s' x) (hv : ∀ x, v x = v' x) :
    ∑ x : Fin 256, weight s x * v x = ∑ x : Fin 256, v' x * weight s' x := by
  rw [show s = s' from funext hs]
  exact Finset.sum_congr rfl fun x _ => by rw [hv x, mul_comm]

theorem score_congr {a b a' b' : Fin 512 → EReal} (ha : ∀ d, a d = a' d) (hb : ∀ d, b d = b' d) : score a b = score a' b' := by
  rw [show a = a' from funext ha, show b = b' from funext hb]

/-- A host's maximum over the last of three axes, at an index. -/
theorem reduceMax_at {a b n : ℕ} (S : (⟨3, ![a, b, n]⟩ : Shape).Idx → EReal) (init : (⟨0, ![]⟩ : Shape).Idx → EReal)
    (h : (⟨3, ![a, b, n]⟩ : Shape).ReducesTo [2] ⟨2, ![a, b]⟩) (hu : 0 < (⟨0, ![]⟩ : Shape).numel) (p : Fin a) (q : Fin b) :
    Host.reduce (FloatOps.maximumf (F := Ideal) (φ := .f32)) S init h hu (ix2 p q)
      = (Finset.univ : Finset (Fin n)).fold max (init (Shape.Idx.first hu)) fun y => S (ix3 p q y) := by
  have hr : (⟨3, ![a, b, n]⟩ : Shape).Reduces [2] ⟨2, ![a, b]⟩ := ⟨rfl, Nat.succ_pos _, h.2⟩
  refine (Host.reduce_eq_fold_single (max : EReal → EReal → EReal) S init h hr hu (ix2 p q)).trans ?_
  congr 1
  funext y
  refine congrArg S ?_
  funext k
  exact Fin.ext (by fin_cases k <;> rfl)

end Cert.Attn

end
-- ==== Proof.Attn.Reference.lean ====
/- What the reference of the attention's forward pass computes, in three stages: the scores, the weights, the mixture. -/
module

public import proofs.«01_k».proof.Proof.Gen.Reference6Ideal.Run
public import proofs.«01_k».proof.Proof.Attn.Softmax

@[expose] public section

set_option maxRecDepth 16384

noncomputable section

open Idealize.ShloMosaic Idealize.ShloMosaic.TcCoe Idealize.SL.Sem
open Idealize.ShloMosaic.Pipeline (Dat)

namespace Cert.Attn.Forward

/-- The scores of every head. -/
noncomputable def SC (Q : FVec Ideal Cert.Reference6Ideal.S4096x2048 .bf16) (K : FVec Ideal Cert.Reference6Ideal.S256x2048 .bf16) : FVec Ideal Cert.Reference6Ideal.S4x4096x256 .f32 :=
  (mulf (Host.dotGeneral Cert.Reference6Ideal.dot_S4096x4x512_S256x4x512_S4x4096x256_2_2_0_0_1_1 none (shapeCast _ (extf .f32 Q Cert.Reference6Ideal.Gen.bitsLt_bf16_f32) Cert.Reference6Ideal.Gen.shapeCasts_S4096x2048_S4096x4x512) (shapeCast _ (extf .f32 K Cert.Reference6Ideal.Gen.bitsLt_bf16_f32) Cert.Reference6Ideal.Gen.shapeCasts_S256x2048_S256x4x512)) (broadcastInDim Cert.Reference6Ideal.S4x4096x256 ![] Cert.Reference6Ideal.Gen.bcast_S_S4x4096x256 (constant Cert.Reference6Ideal.S_ .f32 0x3D3504F3#32)))

/-- The largest score of each row. -/
noncomputable def MX (S : FVec Ideal Cert.Reference6Ideal.S4x4096x256 .f32) : FVec Ideal Cert.Reference6Ideal.S4x4096 .f32 :=
  (Host.reduce FloatOps.maximumf S (constant Cert.Reference6Ideal.S_ .f32 0xFF800000#32) Cert.Reference6Ideal.Gen.reducesTo_S4x4096x256_S4x4096_d2 Cert.Reference6Ideal.Gen.h_S_)

/-- The exponentials of the scores, each less its row's number. -/
noncomputable def EX (S : FVec Ideal Cert.Reference6Ideal.S4x4096x256 .f32) (M : FVec Ideal Cert.Reference6Ideal.S4x4096 .f32) : FVec Ideal Cert.Reference6Ideal.S4x4096x256 .f32 :=
  (Host.exp (subf S (broadcastInDim Cert.Reference6Ideal.S4x4096x256 ![0, 1, 2] Cert.Reference6Ideal.Gen.bcast_S4x4096x1_S4x4096x256_0_1_2 (broadcastInDim Cert.Reference6Ideal.S4x4096x1 ![0, 1] Cert.Reference6Ideal.Gen.bcast_S4x4096_S4x4096x1_0_1 (maximumf (broadcastInDim Cert.Reference6Ideal.S4x4096 ![] Cert.Reference6Ideal.Gen.bcast_S_S4x4096 (constant Cert.Reference6Ideal.S_ .f32 0xFF800000#32)) M)))))

/-- The exponentials over their sum. -/
noncomputable def SM (E : FVec Ideal Cert.Reference6Ideal.S4x4096x256 .f32) : FVec Ideal Cert.Reference6Ideal.S4x4096x256 .f32 :=
  (Host.divf E (broadcastInDim Cert.Reference6Ideal.S4x4096x256 ![0, 1, 2] Cert.Reference6Ideal.Gen.bcast_S4x4096x1_S4x4096x256_0_1_2 (broadcastInDim Cert.Reference6Ideal.S4x4096x1 ![0, 1] Cert.Reference6Ideal.Gen.bcast_S4x4096_S4x4096x1_0_1 (Host.reduceAdd E (constant Cert.Reference6Ideal.S_ .f32 0x00000000#32) Cert.Reference6Ideal.Gen.reducesTo_S4x4096x256_S4x4096_d2 Cert.Reference6Ideal.Gen.h_S_))))

/-- The mixture of the values by the weights. -/
noncomputable def OUT (V : FVec Ideal Cert.Reference6Ideal.S256x2048 .bf16) (P : FVec Ideal Cert.Reference6Ideal.S4x4096x256 .f32) : FVec Ideal Cert.Reference6Ideal.S4096x2048 .bf16 :=
  truncf .bf16 (shapeCast _ (transpose Cert.Reference6Ideal.S4096x4x512 [2, 0, 1] (Host.dotGeneral Cert.Reference6Ideal.dot_S256x4x512_S4x4096x256_S4x512x4096_0_2_2_1_1_0 none (shapeCast _ (extf .f32 V Cert.Reference6Ideal.Gen.bitsLt_bf16_f32) Cert.Reference6Ideal.Gen.shapeCasts_S256x2048_S256x4x512) P) Cert.Reference6Ideal.Gen.transposes_S4x512x4096_S4096x4x512_2_0_1) Cert.Reference6Ideal.Gen.shapeCasts_S4096x4x512_S4096x2048) Cert.Reference6Ideal.Gen.bitsLt_bf16_f32

theorem SC_at (Q : FVec Ideal Cert.Reference6Ideal.S4096x2048 .bf16) (K : FVec Ideal Cert.Reference6Ideal.S256x2048 .bf16) (h : Fin 4) (r : Fin 4096) (x : Fin 256) :
    SC Q K (ix3 h r x) = score (fun d => Q (ix2 r ⟨h.val * 512 + d.val, by omega⟩)) (fun d => K (ix2 x ⟨h.val * 512 + d.val, by omega⟩)) := by
  unfold score
  pointwise [SC]

theorem MX_at (S : FVec Ideal Cert.Reference6Ideal.S4x4096x256 .f32) (h : Fin 4) (r : Fin 4096) : MX S (ix2 h r) = top fun y => S (ix3 h r y) :=
  reduceMax_at _ _ _ _ h r

theorem EX_at (S : FVec Ideal Cert.Reference6Ideal.S4x4096x256 .f32) (M : FVec Ideal Cert.Reference6Ideal.S4x4096 .f32) (h : Fin 4) (r : Fin 4096) (x : Fin 256) :
    EX S M (ix3 h r x) = Ideal.exp (S (ix3 h r x) - max low (M (ix2 h r))) := by
  pointwise [EX]

theorem SM_at (S : FVec Ideal Cert.Reference6Ideal.S4x4096x256 .f32) (h : Fin 4) (r : Fin 4096) (x : Fin 256) :
    SM S (ix3 h r x) = Ideal.div (S (ix3 h r x)) (∑ y : Fin 256, S (ix3 h r y)) := by
  pointwise [SM]

theorem weights_at (S : FVec Ideal Cert.Reference6Ideal.S4x4096x256 .f32) (h : Fin 4) (r : Fin 4096) (x : Fin 256) :
    SM (EX S (MX S)) (ix3 h r x) = weight (fun y => S (ix3 h r y)) x := by
  simp only [SM_at, EX_at, MX_at, max_low_top]
  rfl

theorem OUT_at (V : FVec Ideal Cert.Reference6Ideal.S256x2048 .bf16) (P : FVec Ideal Cert.Reference6Ideal.S4x4096x256 .f32) (j : Cert.Reference6Ideal.S4096x2048.Idx) :
    OUT V P j = ∑ x : Fin 256, V (ix2 x (j 1)) * P (ix3 ⟨(j 1).val / 512, by have : (j 1).val < 2048 := (j 1).isLt; omega⟩ (j 0) x) := by
  pointwise [OUT]

/-- The whole of it: what `run` says the reference leaves. -/
noncomputable abbrev REF (Q : FVec Ideal Cert.Reference6Ideal.S4096x2048 .bf16) (K V : FVec Ideal Cert.Reference6Ideal.S256x2048 .bf16) :
    FVec Ideal Cert.Reference6Ideal.S4096x2048 .bf16 := OUT V (SM (EX (SC Q K) (MX (SC Q K))))

theorem REF_at (Q : FVec Ideal Cert.Reference6Ideal.S4096x2048 .bf16) (K V : FVec Ideal Cert.Reference6Ideal.S256x2048 .bf16)
    (j : Cert.Reference6Ideal.S4096x2048.Idx) (h : Fin 4) (hj : (j 1).val / 512 = h.val) :
    REF Q K V j = ∑ x : Fin 256, V (ix2 x (j 1)) * weight (fun y => score (fun d => Q (ix2 (j 0) ⟨h.val * 512 + d.val, by omega⟩))
      (fun d => K (ix2 y ⟨h.val * 512 + d.val, by omega⟩))) x := by
  rw [REF, OUT_at]
  refine Finset.sum_congr rfl fun x _ => ?_
  have e : ∀ h' : Fin 4, h' = h → SM (EX (SC Q K) (MX (SC Q K))) (ix3 h' (j 0) x)
      = weight (fun y => score (fun d => Q (ix2 (j 0) ⟨h.val * 512 + d.val, by omega⟩)) (fun d => K (ix2 y ⟨h.val * 512 + d.val, by omega⟩))) x := by
    intro h' hh
    rw [hh]
    exact (weights_at (SC Q K) h (j 0) x).trans (congrArg (fun s => weight s x) (funext fun y => SC_at Q K h (j 0) y))
  exact congrArg (fun z : EReal => V (ix2 x (j 1)) * z) (e _ (Fin.ext hj))

end Cert.Attn.Forward

end
-- ==== Proof.Attn.Forward.lean ====
/- The attention's forward pass: each point takes 512 query rows against all 256 members, head by head, and stores each head's mixture
   in its own columns. -/
module

public import proofs.«01_k».proof.Proof.Gen.Kernel6Ideal.Value
public import proofs.«01_k».proof.Proof.Attn.Reference

@[expose] public section

set_option maxRecDepth 16384

noncomputable section

open Idealize.ShloMosaic Idealize.ShloMosaic.TcCoe Idealize.SL.Sem
open Idealize.ShloMosaic.Pipeline (Dat)

namespace Cert.Kernel6Ideal.Attention

open Cert.Kernel6Ideal Cert.Kernel6Ideal.Gen Cert.Attn Cert.Attn.Forward

variable (m : (ℓ : Loc nD τ sig) → Buf (Elt Ideal) ℓ)

/-- Which block each window is on. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- One head's mixture, over the head's columns of the query rows, the keys and the values. -/
noncomputable def head (q : FVec Ideal S512x512 .bf16) (k v : FVec Ideal S256x512 .bf16) (j : S512x512.Idx) : EReal :=
  ∑ x : Fin 256, weight (fun y => score (fun d => q (ix2 (j 0) d)) (fun d => k (ix2 y d))) x * v (ix2 x (j 1))

theorem hpay2 (q : FVec Ideal S512x512 .bf16) (k v : FVec Ideal S256x512 .bf16) (j : S512x512.Idx) :
    k0_pay2 (F := Ideal) q k v j = head q k v j := by
  unfold head
  pointwise [k0_pay2]
  rfl

theorem hpay5 (q : FVec Ideal S512x512 .bf16) (k v : FVec Ideal S256x512 .bf16) (j : S512x512.Idx) :
    k0_pay5 (F := Ideal) q k v j = head q k v j := by
  unfold head
  pointwise [k0_pay5]
  rfl

theorem hpay4 (q : FVec Ideal S512x512 .bf16) (k v : FVec Ideal S256x512 .bf16) (j : S512x512.Idx) :
    k0_pay4 (F := Ideal) (k0_pay3 q k) v j = head q k v j := by
  unfold head
  pointwise [k0_pay4, k0_pay3]
  rfl

theorem hpay1 (q : FVec Ideal S512x512 .bf16) (k v : FVec Ideal S256x512 .bf16) (j : S512x512.Idx) :
    k0_pay1 (F := Ideal) (k0_pay6 q k) (k0_pay7 q k) v j = head q k v j := by
  unfold head
  pointwise [k0_pay1, k0_pay6, k0_pay7]
  rfl

theorem point (c : Dev nD) (t : Fin cfg0.N) (y : S512x2048.Idx) (j : S4096x2048.Idx) (hj0 : (j 0 : ℕ) = t.val * 512 + y 0)
    (hj1 : (j 1 : ℕ) = y 1) :
    out0_3 (F := Ideal) (iblk m c 0 t) (iblk m c 1 t) (iblk m c 2 t) y
      = REF (m ((c : Thread nD τ).loc main_arg0)) (m ((c : Thread nD τ).loc main_arg1)) (m ((c : Thread nD τ).loc main_arg2)) j := by
  have hy : (y 1).val < 2048 := (y 1).isLt
  canon_tiles x h
  case piece0 => rw [hpay1, REF_at _ _ _ j 3 (by omega)]; unfold head; refine mix_congr (fun a => score_congr (fun d => ?_) (fun d => ?_)) (fun a => ?_) <;> blk_point [iblk, V, idx t]
  case piece1 => rw [hpay5, REF_at _ _ _ j 2 (by omega)]; unfold head; refine mix_congr (fun a => score_congr (fun d => ?_) (fun d => ?_)) (fun a => ?_) <;> blk_point [iblk, V, idx t]
  case piece2 => rw [hpay4, REF_at _ _ _ j 1 (by omega)]; unfold head; refine mix_congr (fun a => score_congr (fun d => ?_) (fun d => ?_)) (fun a => ?_) <;> blk_point [iblk, V, idx t]
  case piece3 => rw [hpay2, REF_at _ _ _ j 0 (by omega)]; unfold head; refine mix_congr (fun a => score_congr (fun d => ?_) (fun d => ?_)) (fun a => ?_) <;> blk_point [iblk, V, idx t]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y _ (by blk_simp [idx t] <;> try omega) (by blk_simp [idx t] <;> try omega)

end Cert.Kernel6Ideal.Attention

end
-- ==== Proof.Attn.Slope.lean ====
/- The gradient of a row of attention scores. The kernel takes it as `p * (dp - Σ dp * p)`; differentiating the quotient gives
   `(dp / D - Σ dp * e / D²) * e`. They are equal when the scores are real numbers, whatever `dp` is. -/
module

public import proofs.«01_k».proof.Proof.Attn.Softmax

@[expose] public section

set_option maxRecDepth 16384

noncomputable section

open Idealize.ShloMosaic Idealize.ShloMosaic.TcCoe Idealize.SL.Sem
open Idealize.ShloMosaic.Pipeline (Dat)

namespace Cert.Attn

/-- Column `d` of head `h`. -/
abbrev hcol (h : Fin 4) (d : Fin 512) : Fin 2048 := ⟨h.val * 512 + d.val, by omega⟩

/-- The scores of row `r` in head `h`. -/
noncomputable def scores {n : ℕ} (q : (⟨2, ![n, 2048]⟩ : Shape).Idx → EReal) (k : (⟨2, ![256, 2048]⟩ : Shape).Idx → EReal) (h : Fin 4) (r : Fin n) :
    Fin 256 → EReal := fun y => score (fun d => q (ix2 r (hcol h d))) (fun d => k (ix2 y (hcol h d)))

/-- The gradient that reaches the weights of row `r` in head `h`. -/
noncomputable def pulled {n : ℕ} (o : (⟨2, ![n, 2048]⟩ : Shape).Idx → EReal) (v : (⟨2, ![256, 2048]⟩ : Shape).Idx → EReal) (h : Fin 4) (r : Fin n) :
    Fin 256 → EReal := fun y => ∑ d : Fin 512, o (ix2 r (hcol h d)) * v (ix2 y (hcol h d))

theorem scores_congr {n n' : ℕ} {q : (⟨2, ![n, 2048]⟩ : Shape).Idx → EReal} {q' : (⟨2, ![n', 2048]⟩ : Shape).Idx → EReal}
    {k k' : (⟨2, ![256, 2048]⟩ : Shape).Idx → EReal} (h : Fin 4) {r : Fin n} {r' : Fin n'} (hq : ∀ e, q (ix2 r e) = q' (ix2 r' e)) (hk : ∀ i, k i = k' i) :
    scores q k h r = scores q' k' h r' :=
  funext fun y => score_congr (fun d => hq _) (fun d => hk _)

theorem pulled_congr {n n' : ℕ} {o : (⟨2, ![n, 2048]⟩ : Shape).Idx → EReal} {o' : (⟨2, ![n', 2048]⟩ : Shape).Idx → EReal}
    {v v' : (⟨2, ![256, 2048]⟩ : Shape).Idx → EReal} (h : Fin 4) {r : Fin n} {r' : Fin n'} (ho : ∀ e, o (ix2 r e) = o' (ix2 r' e)) (hv : ∀ i, v i = v' i) :
    pulled o v h r = pulled o' v' h r' :=
  funext fun y => Finset.sum_congr rfl fun d _ => by rw [ho, hv]

/-- The gradient of a score, as the kernel takes it. -/
noncomputable def slant (s dp : Fin 256 → EReal) (x : Fin 256) : EReal :=
  weight s x * (dp x - ∑ y : Fin 256, dp y * weight s y) * scale

/-- The gradient of a score, as differentiating the quotient gives it: `e` are the exponentials. -/
noncomputable def slopeOf (e dp : Fin 256 → EReal) (x : Fin 256) : EReal :=
  (Ideal.div (dp x) (∑ y : Fin 256, e y) + -(∑ y : Fin 256, dp y * Ideal.div 1 ((∑ z : Fin 256, e z) * ∑ z : Fin 256, e z) * e y)) * e x * scale

/-- A sum of extended reals times a nonnegative real. -/
theorem sum_mul_real (f : Fin 256 → EReal) {d : ℝ} (hd : 0 ≤ d) : (∑ y : Fin 256, f y) * (d : EReal) = ∑ y : Fin 256, f y * (d : EReal) := by
  classical
  induction (Finset.univ : Finset (Fin 256)) using Finset.induction_on with
  | empty => simp
  | insert a t ha ih =>
    rw [Finset.sum_insert ha, Finset.sum_insert ha,
      EReal.right_distrib_of_nonneg_of_ne_top (EReal.coe_nonneg.mpr hd) (EReal.coe_ne_top d), ih]

/-- With real exponentials whose sum is positive both gradients are the same. -/
theorem slopeOf_eq (e : Fin 256 → ℝ) (D : ℝ) (hD : 0 < D) (E dp : Fin 256 → EReal) (hE : ∀ y, E y = (e y : EReal))
    (hS : ∑ y : Fin 256, E y = (D : EReal)) (x : Fin 256) :
    slopeOf E dp x = Ideal.div (E x) (∑ y : Fin 256, E y) * (dp x - ∑ y : Fin 256, dp y * Ideal.div (E y) (∑ z : Fin 256, E z)) * scale := by
  have h0 : D ≠ 0 := hD.ne'
  have h00 : D * D ≠ 0 := mul_ne_zero h0 h0
  have hd : 0 ≤ 1 / D := (one_div_pos.mpr hD).le
  unfold slopeOf
  rw [hS, ← EReal.coe_mul]
  simp only [Ideal.div_coe h0, Ideal.div_coe h00]
  congr 1
  have e1 : ∀ y, dp y * (1 * ((1 / (D * D) : ℝ) : EReal)) * E y = dp y * (E y * ((1 / D : ℝ) : EReal)) * ((1 / D : ℝ) : EReal) := by
    intro y
    have e2 : (1 / (D * D) : ℝ) = (1 / D) * (1 / D) := by field_simp
    rw [e2, EReal.coe_mul]
    ac_nf
  rw [show (∑ y : Fin 256, dp y * (1 * ((1 / (D * D) : ℝ) : EReal)) * E y)
      = (∑ y : Fin 256, dp y * (E y * ((1 / D : ℝ) : EReal))) * ((1 / D : ℝ) : EReal) from by
        rw [sum_mul_real _ hd]; exact Finset.sum_congr rfl fun y _ => e1 y,
    ← EReal.neg_mul, ← EReal.right_distrib_of_nonneg_of_ne_top (EReal.coe_nonneg.mpr hd) (EReal.coe_ne_top _), ← sub_eq_add_neg]
  ac_rfl

/-- The exponentials of real scores are real, and their sum is positive. -/
theorem raised_real (r : Fin 256 → ℝ) (s : Fin 256 → EReal) (hs : ∀ y, s y = (r y : EReal)) :
    ∃ (e : Fin 256 → ℝ) (D : ℝ), 0 < D ∧ (∀ y, raised s y = (e y : EReal)) ∧ ∑ y : Fin 256, raised s y = (D : EReal) := by
  obtain ⟨z, _, hz⟩ := Finset.exists_max_image (Finset.univ : Finset (Fin 256)) r ⟨0, Finset.mem_univ _⟩
  have hlow : low = ⊥ := by
    unfold low
    simp [Ideal.ofBits, Ideal.ieee]
  have htop : top s = (r z : EReal) := by
    unfold top
    apply le_antisymm
    · exact (Finset.fold_max_le _).mpr ⟨by rw [hlow]; exact bot_le, fun y hy => by rw [hs y]; exact EReal.coe_le_coe_iff.mpr (hz y hy)⟩
    · exact (Finset.le_fold_max _).mpr (Or.inr ⟨z, Finset.mem_univ _, by rw [hs z]⟩)
  have he : ∀ y, raised s y = ((Real.exp (r y - r z) : ℝ) : EReal) := by
    intro y
    unfold raised
    rw [htop, hs y, ← EReal.coe_sub, Ideal.exp_coe]
  refine ⟨fun y => Real.exp (r y - r z), ∑ y : Fin 256, Real.exp (r y - r z), Finset.sum_pos (fun y _ => Real.exp_pos _) ⟨0, Finset.mem_univ _⟩, he, ?_⟩
  rw [Finset.sum_congr rfl fun y _ => he y]
  exact (map_sum (⟨⟨Real.toEReal, EReal.coe_zero⟩, EReal.coe_add⟩ : ℝ →+ EReal) _ _).symm

/-- Differentiating the quotient gives what the kernel takes, at real scores. -/
theorem slopeOf_raised (r : Fin 256 → ℝ) (s dp : Fin 256 → EReal) (hs : ∀ y, s y = (r y : EReal)) (x : Fin 256) :
    slopeOf (raised s) dp x = slant s dp x := by
  obtain ⟨e, D, hD, he, hS⟩ := raised_real r s hs
  exact slopeOf_eq e D hD (raised s) dp he hS x

/-- The head a column belongs to. -/
abbrev headOf (e : Fin 2048) : Fin 4 := ⟨e.val / 512, by omega⟩

/-- The gradient of the queries. -/
noncomputable def gdq {n : ℕ} (q : (⟨2, ![n, 2048]⟩ : Shape).Idx → EReal) (k v : (⟨2, ![256, 2048]⟩ : Shape).Idx → EReal)
    (o : (⟨2, ![n, 2048]⟩ : Shape).Idx → EReal) (r : Fin n) (e : Fin 2048) : EReal :=
  ∑ x : Fin 256, slant (scores q k (headOf e) r) (pulled o v (headOf e) r) x * k (ix2 x e)

/-- The gradient of the keys. -/
noncomputable def gdk {n : ℕ} (q : (⟨2, ![n, 2048]⟩ : Shape).Idx → EReal) (k v : (⟨2, ![256, 2048]⟩ : Shape).Idx → EReal)
    (o : (⟨2, ![n, 2048]⟩ : Shape).Idx → EReal) (x : Fin 256) (e : Fin 2048) : EReal :=
  ∑ r : Fin n, slant (scores q k (headOf e) r) (pulled o v (headOf e) r) x * q (ix2 r e)

/-- The gradient of the values. -/
noncomputable def gdv {n : ℕ} (q : (⟨2, ![n, 2048]⟩ : Shape).Idx → EReal) (k : (⟨2, ![256, 2048]⟩ : Shape).Idx → EReal)
    (o : (⟨2, ![n, 2048]⟩ : Shape).Idx → EReal) (x : Fin 256) (e : Fin 2048) : EReal :=
  ∑ r : Fin n, weight (scores q k (headOf e) r) x * o (ix2 r e)

/-- Scores of finite queries and keys are real numbers. -/
theorem scores_real {n : ℕ} (q : (⟨2, ![n, 2048]⟩ : Shape).Idx → EReal) (k : (⟨2, ![256, 2048]⟩ : Shape).Idx → EReal)
    (hq : ∀ i, ∃ a : ℝ, q i = (a : EReal)) (hk : ∀ i, ∃ a : ℝ, k i = (a : EReal)) (h : Fin 4) (r : Fin n) :
    ∃ f : Fin 256 → ℝ, ∀ y, scores q k h r y = (f y : EReal) := by
  choose a ha using hq
  choose b hb using hk
  have hscale : ∃ w : ℝ, scale = (w : EReal) := by
    unfold scale
    exact ⟨_, by simp [Ideal.ofBits, Ideal.ieee]; rfl⟩
  obtain ⟨w, hw⟩ := hscale
  refine ⟨fun y => (∑ d : Fin 512, a (ix2 r (hcol h d)) * b (ix2 y (hcol h d))) * w, fun y => ?_⟩
  unfold scores score
  rw [hw, EReal.coe_mul]
  refine congrArg (fun z : EReal => z * (w : EReal)) ?_
  refine Eq.trans ?_ (map_sum (⟨⟨Real.toEReal, EReal.coe_zero⟩, EReal.coe_add⟩ : ℝ →+ EReal) _ _).symm
  refine Finset.sum_congr rfl fun d _ => ?_
  exact (congrArg₂ (fun u v : EReal => u * v) (ha _) (hb _)).trans (EReal.coe_mul _ _).symm

end Cert.Attn

end
-- ==== Proof.Attn.BackwardPayloads.lean ====
/- One head of the attention's backward pass at one grid point: what the kernel's stored payloads are. -/
module

public import proofs.«01_k».proof.Proof.Gen.Kernel2Ideal.Value
public import proofs.«01_k».proof.Proof.Attn.Slope

@[expose] public section

set_option maxRecDepth 16384

noncomputable section

open Idealize.ShloMosaic Idealize.ShloMosaic.TcCoe Idealize.SL.Sem
open Idealize.ShloMosaic.Pipeline (Dat)

namespace Cert.Kernel2Ideal.Attention

open Cert.Kernel2Ideal Cert.Kernel2Ideal.Gen Cert.Attn

/-- The scores of row `r` over one head's columns. -/
noncomputable def hs (q : FVec Ideal S512x512 .bf16) (k : FVec Ideal S256x512 .bf16) (r : Fin 512) : Fin 256 → EReal := fun y => score (fun d => q (ix2 r d)) (fun d => k (ix2 y d))

/-- The gradient that reaches the weights of row `r`. -/
noncomputable def hp (v : FVec Ideal S256x512 .bf16) (o : FVec Ideal S512x512 .bf16) (r : Fin 512) : Fin 256 → EReal := fun y => ∑ d : Fin 512, o (ix2 r d) * v (ix2 y d)

/-- One head's gradient of the queries. -/
noncomputable def hdq (q : FVec Ideal S512x512 .bf16) (k v : FVec Ideal S256x512 .bf16) (o : FVec Ideal S512x512 .bf16) (j : S512x512.Idx) : EReal :=
  ∑ x : Fin 256, slant (hs q k (j 0)) (hp v o (j 0)) x * k (ix2 x (j 1))

/-- What one head adds to the gradient of the keys. -/
noncomputable def hdk (q : FVec Ideal S512x512 .bf16) (k v : FVec Ideal S256x512 .bf16) (o : FVec Ideal S512x512 .bf16) (j : S256x512.Idx) : EReal :=
  ∑ r : Fin 512, slant (hs q k r) (hp v o r) (j 0) * q (ix2 r (j 1))

/-- What one head adds to the gradient of the values. -/
noncomputable def hdv (q : FVec Ideal S512x512 .bf16) (k : FVec Ideal S256x512 .bf16) (o : FVec Ideal S512x512 .bf16) (j : S256x512.Idx) : EReal :=
  ∑ r : Fin 512, weight (hs q k r) (j 0) * o (ix2 r (j 1))

theorem w0 (q : FVec Ideal S512x512 .bf16) (k : FVec Ideal S256x512 .bf16) (r : Fin 512) (x : Fin 256) : k0_pay8 (F := Ideal) q k (ix2 r x) = weight (hs q k r) x := by
  unfold weight raised hs score
  pointwise [k0_pay8]
  rfl

theorem w1 (q : FVec Ideal S512x512 .bf16) (k : FVec Ideal S256x512 .bf16) (r : Fin 512) (x : Fin 256) : k0_pay15 (F := Ideal) q k (ix2 r x) = weight (hs q k r) x := by
  unfold weight raised hs score
  pointwise [k0_pay15]
  rfl

theorem w2 (q : FVec Ideal S512x512 .bf16) (k : FVec Ideal S256x512 .bf16) (r : Fin 512) (x : Fin 256) : k0_pay21 (F := Ideal) q k (ix2 r x) = weight (hs q k r) x := by
  unfold weight raised hs score
  pointwise [k0_pay21]
  rfl

theorem w3 (q : FVec Ideal S512x512 .bf16) (k : FVec Ideal S256x512 .bf16) (r : Fin 512) (x : Fin 256) : k0_pay1 (F := Ideal) (k0_pay28 (F := Ideal) q k) (k0_pay29 (F := Ideal) q k) (ix2 r x) = weight (hs q k r) x := by
  unfold weight raised hs score
  pointwise [k0_pay1, k0_pay28, k0_pay29]
  rfl

theorem s0 (q : FVec Ideal S512x512 .bf16) (k v : FVec Ideal S256x512 .bf16) (o : FVec Ideal S512x512 .bf16) (r : Fin 512) (x : Fin 256) : k0_pay10 (F := Ideal) q k v o (ix2 r x) = slant (hs q k r) (hp v o r) x := by
  unfold slant hp
  pointwise [k0_pay10]
  simp only [w0]

theorem s1 (q : FVec Ideal S512x512 .bf16) (k v : FVec Ideal S256x512 .bf16) (o : FVec Ideal S512x512 .bf16) (r : Fin 512) (x : Fin 256) : k0_pay17 (F := Ideal) q k v o (ix2 r x) = slant (hs q k r) (hp v o r) x := by
  unfold slant hp
  pointwise [k0_pay17]
  simp only [w1]

theorem s2 (q : FVec Ideal S512x512 .bf16) (k v : FVec Ideal S256x512 .bf16) (o : FVec Ideal S512x512 .bf16) (r : Fin 512) (x : Fin 256) : k0_pay24 (F := Ideal) (k0_pay21 (F := Ideal) q k) (k0_pay23 (F := Ideal) v o) (ix2 r x) = slant (hs q k r) (hp v o r) x := by
  unfold slant hp
  pointwise [k0_pay24, k0_pay23]
  simp only [w2]

theorem s3 (q : FVec Ideal S512x512 .bf16) (k v : FVec Ideal S256x512 .bf16) (o : FVec Ideal S512x512 .bf16) (r : Fin 512) (x : Fin 256) :
    k0_pay2 (F := Ideal) v o (k0_pay28 (F := Ideal) q k) (k0_pay29 (F := Ideal) q k) (ix2 r x) = slant (hs q k r) (hp v o r) x := by
  unfold slant hp
  pointwise [k0_pay2]
  simp only [w3]

theorem dq0 (q : FVec Ideal S512x512 .bf16) (k v : FVec Ideal S256x512 .bf16) (o : FVec Ideal S512x512 .bf16) (j : S512x512.Idx) : k0_pay11 (F := Ideal) q k v o j = hdq q k v o j := by
  unfold hdq
  pointwise [k0_pay11]
  exact Finset.sum_congr rfl fun x _ => congrArg (fun z : EReal => z * k (ix2 x (j 1))) (s0 q k v o (j 0) x)

theorem dq1 (q : FVec Ideal S512x512 .bf16) (k v : FVec Ideal S256x512 .bf16) (o : FVec Ideal S512x512 .bf16) (j : S512x512.Idx) : k0_pay18 (F := Ideal) k (k0_pay17 (F := Ideal) q k v o) j = hdq q k v o j := by
  unfold hdq
  pointwise [k0_pay18]
  exact Finset.sum_congr rfl fun x _ => congrArg (fun z : EReal => z * k (ix2 x (j 1))) (s1 q k v o (j 0) x)

theorem dq2 (q : FVec Ideal S512x512 .bf16) (k v : FVec Ideal S256x512 .bf16) (o : FVec Ideal S512x512 .bf16) (j : S512x512.Idx) : k0_pay25 (F := Ideal) k (k0_pay21 (F := Ideal) q k) (k0_pay23 (F := Ideal) v o) j = hdq q k v o j := by
  unfold hdq
  pointwise [k0_pay25]
  exact Finset.sum_congr rfl fun x _ => congrArg (fun z : EReal => z * k (ix2 x (j 1))) (s2 q k v o (j 0) x)

theorem dq3 (q : FVec Ideal S512x512 .bf16) (k v : FVec Ideal S256x512 .bf16) (o : FVec Ideal S512x512 .bf16) (j : S512x512.Idx) : k0_pay3 (F := Ideal) k v o (k0_pay28 (F := Ideal) q k) (k0_pay29 (F := Ideal) q k) j = hdq q k v o j := by
  unfold hdq
  pointwise [k0_pay3]
  exact Finset.sum_congr rfl fun x _ => congrArg (fun z : EReal => z * k (ix2 x (j 1))) (s3 q k v o (j 0) x)

theorem dk0 (q : FVec Ideal S512x512 .bf16) (k v : FVec Ideal S256x512 .bf16) (o : FVec Ideal S512x512 .bf16) (a : FVec Ideal S256x512 .f32) (j : S256x512.Idx) : k0_pay13 (F := Ideal) q (k0_pay10 (F := Ideal) q k v o) (k0_pay12 (F := Ideal) a) j = a j + hdk q k v o j := by
  unfold hdk
  pointwise [k0_pay13, k0_pay12]
  exact congrArg (fun z : EReal => a j + z) (Finset.sum_congr rfl fun r _ => congrArg (fun z : EReal => z * q (ix2 r (j 1))) (s0 q k v o r (j 0)))

theorem dk1 (q : FVec Ideal S512x512 .bf16) (k v : FVec Ideal S256x512 .bf16) (o : FVec Ideal S512x512 .bf16) (a : FVec Ideal S256x512 .f32) (j : S256x512.Idx) : k0_pay19 (F := Ideal) q (k0_pay17 (F := Ideal) q k v o) a j = a j + hdk q k v o j := by
  unfold hdk
  pointwise [k0_pay19]
  exact congrArg (fun z : EReal => a j + z) (Finset.sum_congr rfl fun r _ => congrArg (fun z : EReal => z * q (ix2 r (j 1))) (s1 q k v o r (j 0)))

theorem dk2 (q : FVec Ideal S512x512 .bf16) (k v : FVec Ideal S256x512 .bf16) (o : FVec Ideal S512x512 .bf16) (a : FVec Ideal S256x512 .f32) (j : S256x512.Idx) : k0_pay26 (F := Ideal) q (k0_pay21 (F := Ideal) q k) (k0_pay23 (F := Ideal) v o) a j = a j + hdk q k v o j := by
  unfold hdk
  pointwise [k0_pay26]
  exact congrArg (fun z : EReal => a j + z) (Finset.sum_congr rfl fun r _ => congrArg (fun z : EReal => z * q (ix2 r (j 1))) (s2 q k v o r (j 0)))

theorem dk3 (q : FVec Ideal S512x512 .bf16) (k v : FVec Ideal S256x512 .bf16) (o : FVec Ideal S512x512 .bf16) (a : FVec Ideal S256x512 .f32) (j : S256x512.Idx) : k0_pay4 (F := Ideal) q v o (k0_pay28 (F := Ideal) q k) (k0_pay29 (F := Ideal) q k) a j = a j + hdk q k v o j := by
  unfold hdk
  pointwise [k0_pay4]
  exact congrArg (fun z : EReal => a j + z) (Finset.sum_congr rfl fun r _ => congrArg (fun z : EReal => z * q (ix2 r (j 1))) (s3 q k v o r (j 0)))

theorem dv0 (q : FVec Ideal S512x512 .bf16) (k : FVec Ideal S256x512 .bf16) (o : FVec Ideal S512x512 .bf16) (a : FVec Ideal S256x512 .f32) (j : S256x512.Idx) : k0_pay14 (F := Ideal) o (k0_pay9 (F := Ideal) q k) a j = a j + hdv q k o j := by
  unfold hdv
  pointwise [k0_pay14, k0_pay9]
  exact congrArg (fun z : EReal => a j + z) (Finset.sum_congr rfl fun r _ => congrArg (fun z : EReal => z * o (ix2 r (j 1))) (w0 q k r (j 0)))

theorem dv1 (q : FVec Ideal S512x512 .bf16) (k : FVec Ideal S256x512 .bf16) (o : FVec Ideal S512x512 .bf16) (a : FVec Ideal S256x512 .f32) (j : S256x512.Idx) : k0_pay20 (F := Ideal) o (k0_pay16 (F := Ideal) q k) a j = a j + hdv q k o j := by
  unfold hdv
  pointwise [k0_pay20, k0_pay16]
  exact congrArg (fun z : EReal => a j + z) (Finset.sum_congr rfl fun r _ => congrArg (fun z : EReal => z * o (ix2 r (j 1))) (w1 q k r (j 0)))

theorem dv2 (q : FVec Ideal S512x512 .bf16) (k : FVec Ideal S256x512 .bf16) (o : FVec Ideal S512x512 .bf16) (a : FVec Ideal S256x512 .f32) (j : S256x512.Idx) : k0_pay27 (F := Ideal) o (k0_pay22 (F := Ideal) q k) a j = a j + hdv q k o j := by
  unfold hdv
  pointwise [k0_pay27, k0_pay22]
  exact congrArg (fun z : EReal => a j + z) (Finset.sum_congr rfl fun r _ => congrArg (fun z : EReal => z * o (ix2 r (j 1))) (w2 q k r (j 0)))

theorem dv3 (q : FVec Ideal S512x512 .bf16) (k : FVec Ideal S256x512 .bf16) (o : FVec Ideal S512x512 .bf16) (a : FVec Ideal S256x512 .f32) (j : S256x512.Idx) : k0_pay5 (F := Ideal) o (k0_pay28 (F := Ideal) q k) (k0_pay29 (F := Ideal) q k) a j = a j + hdv q k o j := by
  unfold hdv
  pointwise [k0_pay5]
  exact congrArg (fun z : EReal => a j + z) (Finset.sum_congr rfl fun r _ => congrArg (fun z : EReal => z * o (ix2 r (j 1))) (w3 q k r (j 0)))

/-- One head's gradients are those of the whole block at the head's columns. -/
theorem hs_of (q : FVec Ideal S512x512 .bf16) (k : FVec Ideal S256x512 .bf16) (Q : FVec Ideal S512x2048 .bf16) (K : FVec Ideal S256x2048 .bf16) (h : Fin 4)
    (hq : ∀ r d, q (ix2 r d) = Q (ix2 r (hcol h d))) (hk : ∀ r d, k (ix2 r d) = K (ix2 r (hcol h d))) (r : Fin 512) : hs q k r = scores Q K h r :=
  funext fun y => score_congr (fun d => hq _ _) (fun d => hk _ _)

theorem hp_of (v : FVec Ideal S256x512 .bf16) (o : FVec Ideal S512x512 .bf16) (V : FVec Ideal S256x2048 .bf16) (O : FVec Ideal S512x2048 .bf16) (h : Fin 4)
    (hv : ∀ r d, v (ix2 r d) = V (ix2 r (hcol h d))) (ho : ∀ r d, o (ix2 r d) = O (ix2 r (hcol h d))) (r : Fin 512) : hp v o r = pulled O V h r :=
  funext fun y => Finset.sum_congr rfl fun d _ => congrArg₂ (fun a b : EReal => a * b) (ho _ _) (hv _ _)

theorem col_eq (h : Fin 4) (d : Fin 512) (e : Fin 2048) (he : e.val = h.val * 512 + d.val) : headOf e = h ∧ e = hcol h d := by
  constructor
  · apply Fin.ext
    show e.val / 512 = h.val
    omega
  · exact Fin.ext he

theorem hdq_of (q : FVec Ideal S512x512 .bf16) (k v : FVec Ideal S256x512 .bf16) (o : FVec Ideal S512x512 .bf16) (Q : FVec Ideal S512x2048 .bf16) (K V : FVec Ideal S256x2048 .bf16) (O : FVec Ideal S512x2048 .bf16) (h : Fin 4)
    (hq : ∀ r d, q (ix2 r d) = Q (ix2 r (hcol h d))) (hk : ∀ r d, k (ix2 r d) = K (ix2 r (hcol h d)))
    (hv : ∀ r d, v (ix2 r d) = V (ix2 r (hcol h d))) (ho : ∀ r d, o (ix2 r d) = O (ix2 r (hcol h d)))
    (x : S512x512.Idx) (r : Fin 512) (e : Fin 2048) (h0 : r.val = (x 0).val) (h1 : e.val = h.val * 512 + (x 1).val) :
    hdq q k v o x = gdq Q K V O r e := by
  obtain ⟨e1, e2⟩ := col_eq h (x 1) e h1
  obtain rfl : r = x 0 := Fin.ext h0
  unfold hdq gdq
  rw [e1, e2]
  refine Finset.sum_congr rfl fun y _ => ?_
  exact congrArg₂ (fun a b : EReal => a * b) (by rw [hs_of q k Q K h hq hk (x 0), hp_of v o V O h hv ho (x 0)]) (hk y (x 1))

theorem hdk_of (q : FVec Ideal S512x512 .bf16) (k v : FVec Ideal S256x512 .bf16) (o : FVec Ideal S512x512 .bf16) (Q : FVec Ideal S512x2048 .bf16) (K V : FVec Ideal S256x2048 .bf16) (O : FVec Ideal S512x2048 .bf16) (h : Fin 4)
    (hq : ∀ r d, q (ix2 r d) = Q (ix2 r (hcol h d))) (hk : ∀ r d, k (ix2 r d) = K (ix2 r (hcol h d)))
    (hv : ∀ r d, v (ix2 r d) = V (ix2 r (hcol h d))) (ho : ∀ r d, o (ix2 r d) = O (ix2 r (hcol h d)))
    (x : S256x512.Idx) (y : Fin 256) (e : Fin 2048) (h0 : y.val = (x 0).val) (h1 : e.val = h.val * 512 + (x 1).val) :
    hdk q k v o x = gdk Q K V O y e := by
  obtain ⟨e1, e2⟩ := col_eq h (x 1) e h1
  obtain rfl : y = x 0 := Fin.ext h0
  unfold hdk gdk
  rw [e1, e2]
  refine Finset.sum_congr rfl fun r _ => ?_
  exact congrArg₂ (fun a b : EReal => a * b) (by rw [hs_of q k Q K h hq hk r, hp_of v o V O h hv ho r]) (hq r (x 1))

theorem hdv_of (q : FVec Ideal S512x512 .bf16) (k : FVec Ideal S256x512 .bf16) (o : FVec Ideal S512x512 .bf16) (Q : FVec Ideal S512x2048 .bf16) (K : FVec Ideal S256x2048 .bf16) (O : FVec Ideal S512x2048 .bf16) (h : Fin 4)
    (hq : ∀ r d, q (ix2 r d) = Q (ix2 r (hcol h d))) (hk : ∀ r d, k (ix2 r d) = K (ix2 r (hcol h d)))
    (ho : ∀ r d, o (ix2 r d) = O (ix2 r (hcol h d)))
    (x : S256x512.Idx) (y : Fin 256) (e : Fin 2048) (h0 : y.val = (x 0).val) (h1 : e.val = h.val * 512 + (x 1).val) :
    hdv q k o x = gdv Q K O y e := by
  obtain ⟨e1, e2⟩ := col_eq h (x 1) e h1
  obtain rfl : y = x 0 := Fin.ext h0
  unfold hdv gdv
  rw [e1, e2]
  refine Finset.sum_congr rfl fun r _ => ?_
  exact congrArg₂ (fun a b : EReal => a * b) (by rw [hs_of q k Q K h hq hk r]) (ho r (x 1))

end Cert.Kernel2Ideal.Attention

end
-- ==== Proof.Attn.BackwardLoads.lean ====
/- The loads and the stores of one head's columns. -/
module

public import proofs.«01_k».proof.Proof.Attn.BackwardPayloads

@[expose] public section

set_option maxRecDepth 16384

noncomputable section

open Idealize.ShloMosaic Idealize.ShloMosaic.TcCoe Idealize.SL.Sem
open Idealize.ShloMosaic.Pipeline (Dat)

namespace Cert.Kernel2Ideal.Attention

open Cert.Kernel2Ideal Cert.Kernel2Ideal.Gen Cert.Attn

/-- Four stores over an earlier one that they cover. -/
theorem under {S : Shape} {Val : EltTy → Type} [∀ e, Nonempty (Val e)] {e : EltTy} (p1 p2 p3 p4 p5 : View.Piece Val S e) (y : S.Idx)
    (hc : ∃ p ∈ [p1, p2, p3, p4], y ∈ p.1.set) : View.canon [p1, p2, p3, p4, p5] y = View.canon [p1, p2, p3, p4] y := by
  have step : ∀ (p : View.Piece Val S e) (L L' : List (View.Piece Val S e)), (y ∉ p.1.set → View.canon L y = View.canon L' y) →
      View.canon (p :: L) y = View.canon (p :: L') y := by
    intro p L L' h
    by_cases hy : y ∈ p.1.set
    · obtain ⟨x, rfl⟩ := p.1.exists_idx_of_mem hy
      rw [show p.1.idx x = p.1.emb x from rfl, View.canon_cons_emb, View.canon_cons_emb]
    · rw [View.canon_cons_of_not_mem _ _ hy, View.canon_cons_of_not_mem _ _ hy, h hy]
  refine step _ _ _ fun h1 => step _ _ _ fun h2 => step _ _ _ fun h3 => step _ _ _ fun h4 => ?_
  obtain ⟨p, hp, hy⟩ := hc
  simp only [List.mem_cons, List.not_mem_nil, or_false] at hp
  rcases hp with rfl | rfl | rfl | rfl <;> contradiction

theorem ldq0 (Q : Vec Ideal S512x2048 .bf16) (r d : Fin 512) :
    View.ld Q (Rect.unit ![0, 0] ![512, 512] inb_S512x2048_S512x512_0_0) (ix2 r d) = Q (ix2 r (hcol 0 d)) := by
  exact View.ld_unit_apply_of _ _ _ _ _ _ (Fin.forall_fin_two.mpr ⟨by simp, by simp [hcol] <;> omega⟩)

theorem ldk0 (K : Vec Ideal S256x2048 .bf16) (r : Fin 256) (d : Fin 512) :
    View.ld K (Rect.unit ![0, 0] ![256, 512] inb_S256x2048_S256x512_0_0) (ix2 r d) = K (ix2 r (hcol 0 d)) := by
  exact View.ld_unit_apply_of _ _ _ _ _ _ (Fin.forall_fin_two.mpr ⟨by simp, by simp [hcol] <;> omega⟩)

theorem lda0 (A : Vec Ideal S256x2048 .f32) (x : S256x512.Idx) (y : S256x2048.Idx) (h0 : (y 0).val = (x 0).val) (h1 : (y 1).val = 0 + (x 1).val) :
    View.ld A (Rect.unit ![0, 0] ![256, 512] inb_S256x2048_S256x512_0_0) x = A y := by
  exact View.ld_unit_apply_of _ _ _ _ _ _ (Fin.forall_fin_two.mpr ⟨by simpa using h0, by simpa using h1⟩)

theorem ldq1 (Q : Vec Ideal S512x2048 .bf16) (r d : Fin 512) :
    View.ld Q (Rect.unit ![0, 512] ![512, 512] inb_S512x2048_S512x512_0_512) (ix2 r d) = Q (ix2 r (hcol 1 d)) := by
  exact View.ld_unit_apply_of _ _ _ _ _ _ (Fin.forall_fin_two.mpr ⟨by simp, by simp [hcol] <;> omega⟩)

theorem ldk1 (K : Vec Ideal S256x2048 .bf16) (r : Fin 256) (d : Fin 512) :
    View.ld K (Rect.unit ![0, 512] ![256, 512] inb_S256x2048_S256x512_0_512) (ix2 r d) = K (ix2 r (hcol 1 d)) := by
  exact View.ld_unit_apply_of _ _ _ _ _ _ (Fin.forall_fin_two.mpr ⟨by simp, by simp [hcol] <;> omega⟩)

theorem lda1 (A : Vec Ideal S256x2048 .f32) (x : S256x512.Idx) (y : S256x2048.Idx) (h0 : (y 0).val = (x 0).val) (h1 : (y 1).val = 512 + (x 1).val) :
    View.ld A (Rect.unit ![0, 512] ![256, 512] inb_S256x2048_S256x512_0_512) x = A y := by
  exact View.ld_unit_apply_of _ _ _ _ _ _ (Fin.forall_fin_two.mpr ⟨by simpa using h0, by simpa using h1⟩)

theorem ldq2 (Q : Vec Ideal S512x2048 .bf16) (r d : Fin 512) :
    View.ld Q (Rect.unit ![0, 1024] ![512, 512] inb_S512x2048_S512x512_0_1024) (ix2 r d) = Q (ix2 r (hcol 2 d)) := by
  exact View.ld_unit_apply_of _ _ _ _ _ _ (Fin.forall_fin_two.mpr ⟨by simp, by simp [hcol] <;> omega⟩)

theorem ldk2 (K : Vec Ideal S256x2048 .bf16) (r : Fin 256) (d : Fin 512) :
    View.ld K (Rect.unit ![0, 1024] ![256, 512] inb_S256x2048_S256x512_0_1024) (ix2 r d) = K (ix2 r (hcol 2 d)) := by
  exact View.ld_unit_apply_of _ _ _ _ _ _ (Fin.forall_fin_two.mpr ⟨by simp, by simp [hcol] <;> omega⟩)

theorem lda2 (A : Vec Ideal S256x2048 .f32) (x : S256x512.Idx) (y : S256x2048.Idx) (h0 : (y 0).val = (x 0).val) (h1 : (y 1).val = 1024 + (x 1).val) :
    View.ld A (Rect.unit ![0, 1024] ![256, 512] inb_S256x2048_S256x512_0_1024) x = A y := by
  exact View.ld_unit_apply_of _ _ _ _ _ _ (Fin.forall_fin_two.mpr ⟨by simpa using h0, by simpa using h1⟩)

theorem ldq3 (Q : Vec Ideal S512x2048 .bf16) (r d : Fin 512) :
    View.ld Q (Rect.unit ![0, 1536] ![512, 512] inb_S512x2048_S512x512_0_1536) (ix2 r d) = Q (ix2 r (hcol 3 d)) := by
  exact View.ld_unit_apply_of _ _ _ _ _ _ (Fin.forall_fin_two.mpr ⟨by simp, by simp [hcol] <;> omega⟩)

theorem ldk3 (K : Vec Ideal S256x2048 .bf16) (r : Fin 256) (d : Fin 512) :
    View.ld K (Rect.unit ![0, 1536] ![256, 512] inb_S256x2048_S256x512_0_1536) (ix2 r d) = K (ix2 r (hcol 3 d)) := by
  exact View.ld_unit_apply_of _ _ _ _ _ _ (Fin.forall_fin_two.mpr ⟨by simp, by simp [hcol] <;> omega⟩)

theorem lda3 (A : Vec Ideal S256x2048 .f32) (x : S256x512.Idx) (y : S256x2048.Idx) (h0 : (y 0).val = (x 0).val) (h1 : (y 1).val = 1536 + (x 1).val) :
    View.ld A (Rect.unit ![0, 1536] ![256, 512] inb_S256x2048_S256x512_0_1536) x = A y := by
  exact View.ld_unit_apply_of _ _ _ _ _ _ (Fin.forall_fin_two.mpr ⟨by simpa using h0, by simpa using h1⟩)

theorem zero6 (y : S256x2048.Idx) : k0_pay6 (F := Ideal) y = (0 : EReal) := by
  pointwise [k0_pay6]

theorem zero7 (y : S256x2048.Idx) : k0_pay7 (F := Ideal) y = (0 : EReal) := by
  pointwise [k0_pay7]

end Cert.Kernel2Ideal.Attention

end
-- ==== Proof.Attn.BackwardReference.lean ====
/- What differentiating the attention gives, in stages: the scores, their exponentials and sums, the gradient of the weights, the gradient
   of the scores, and the gradients of the queries, the keys and the values. -/
module

public import proofs.«01_k».proof.Proof.Gen.Reference2Ideal.Run
public import proofs.«01_k».proof.Proof.Attn.Slope

@[expose] public section

set_option maxRecDepth 16384

noncomputable section

open Idealize.ShloMosaic Idealize.ShloMosaic.TcCoe Idealize.SL.Sem
open Idealize.ShloMosaic.Pipeline (Dat)

namespace Cert.Attn.Backward

open Cert.Reference2Ideal Cert.Reference2Ideal.Gen

/-- The scores of every head. -/
noncomputable def SC (Q : FVec Ideal S4096x2048 .bf16) (K : FVec Ideal S256x2048 .bf16) : FVec Ideal S4x4096x256 .f32 :=
  (mulf (Host.dotGeneral dot_S4096x4x512_S256x4x512_S4x4096x256_2_2_0_0_1_1 none (shapeCast _ (extf .f32 Q bitsLt_bf16_f32) shapeCasts_S4096x2048_S4096x4x512) (shapeCast _ (extf .f32 K bitsLt_bf16_f32) shapeCasts_S256x2048_S256x4x512)) (broadcastInDim S4x4096x256 ![] bcast_S_S4x4096x256 (constant S_ .f32 0x3D3504F3#32)))

/-- The largest score of each row. -/
noncomputable def MX (S : FVec Ideal S4x4096x256 .f32) : FVec Ideal S4x4096 .f32 :=
  (Host.reduce FloatOps.maximumf S (constant S_ .f32 0xFF800000#32) reducesTo_S4x4096x256_S4x4096_d2 h_S_)

/-- The exponentials of the scores, each less its row's number. -/
noncomputable def EX (S : FVec Ideal S4x4096x256 .f32) (M : FVec Ideal S4x4096 .f32) : FVec Ideal S4x4096x256 .f32 :=
  (Host.exp (subf S (broadcastInDim S4x4096x256 ![0, 1, 2] bcast_S4x4096x1_S4x4096x256_0_1_2 (broadcastInDim S4x4096x1 ![0, 1] bcast_S4x4096_S4x4096x1_0_1 (maximumf (broadcastInDim S4x4096 ![] bcast_S_S4x4096 (constant S_ .f32 0xFF800000#32)) M)))))

/-- The sum of each row's exponentials. -/
noncomputable def DN (E : FVec Ideal S4x4096x256 .f32) : FVec Ideal S4x4096 .f32 :=
  (Host.reduceAdd E (constant S_ .f32 0x00000000#32) reducesTo_S4x4096x256_S4x4096_d2 h_S_)

/-- The gradient that reaches the weights. -/
noncomputable def DP (V : FVec Ideal S256x2048 .bf16) (O : FVec Ideal S4096x2048 .bf16) : FVec Ideal S4x4096x256 .f32 :=
  (Host.dotGeneral dot_S4x512x4096_S256x4x512_S4x4096x256_1_2_2_0_0_1 none (transpose S4x512x4096 [1, 2, 0] (shapeCast _ (extf .f32 O bitsLt_bf16_f32) shapeCasts_S4096x2048_S4096x4x512) transposes_S4096x4x512_S4x512x4096_1_2_0) (shapeCast _ (extf .f32 V bitsLt_bf16_f32) shapeCasts_S256x2048_S256x4x512))

/-- The weights. -/
noncomputable def PR (E : FVec Ideal S4x4096x256 .f32) (N : FVec Ideal S4x4096 .f32) : FVec Ideal S4x4096x256 .f32 :=
  (Host.divf E (broadcastInDim S4x4096x256 ![0, 1, 2] bcast_S4x4096x1_S4x4096x256_0_1_2 (broadcastInDim S4x4096x1 ![0, 1] bcast_S4x4096_S4x4096x1_0_1 N)))

/-- The gradient that reaches each row's sum of exponentials. -/
noncomputable def CO (E : FVec Ideal S4x4096x256 .f32) (N : FVec Ideal S4x4096 .f32) (G : FVec Ideal S4x4096x256 .f32) : FVec Ideal S4x4096 .f32 :=
  (Host.reduceAdd (Host.negf (shapeCast _ (Host.reduceAdd (mulf (mulf G (broadcastInDim S4x4096x256 ![0, 1, 2] bcast_S4x4096x1_S4x4096x256_0_1_2 (Host.divf (broadcastInDim S4x4096x1 ![] bcast_S_S4x4096x1 (constant S_ .f32 0x3F800000#32)) (mulf (broadcastInDim S4x4096x1 ![0, 1] bcast_S4x4096_S4x4096x1_0_1 N) (broadcastInDim S4x4096x1 ![0, 1] bcast_S4x4096_S4x4096x1_0_1 N))))) E) (constant S_ .f32 0x00000000#32) reducesTo_S4x4096x256_S4x4096_d2 h_S_) shapeCasts_S4x4096_S4x4096x1)) (constant S_ .f32 0x00000000#32) reducesTo_S4x4096x1_S4x4096_d2 h_S_)

/-- The gradient of the scores. -/
noncomputable def DS (E : FVec Ideal S4x4096x256 .f32) (N : FVec Ideal S4x4096 .f32) (G : FVec Ideal S4x4096x256 .f32) (C : FVec Ideal S4x4096 .f32) : FVec Ideal S4x4096x256 .f32 :=
  (mulf (mulf (addf (Host.divf G (broadcastInDim S4x4096x256 ![0, 1, 2] bcast_S4x4096x1_S4x4096x256_0_1_2 (broadcastInDim S4x4096x1 ![0, 1] bcast_S4x4096_S4x4096x1_0_1 N))) (broadcastInDim S4x4096x256 ![0, 1] bcast_S4x4096_S4x4096x256_0_1 C)) E) (broadcastInDim S4x4096x256 ![] bcast_S_S4x4096x256 (constant S_ .f32 0x3D3504F3#32)))

/-- The gradient of the queries. -/
noncomputable def DQ (K : FVec Ideal S256x2048 .bf16) (T : FVec Ideal S4x4096x256 .f32) : FVec Ideal S4096x2048 .bf16 :=
  truncf .bf16 (shapeCast _ (transpose S4096x4x512 [1, 0, 2] (Host.dotGeneral dot_S4x4096x256_S256x4x512_S4x4096x512_2_0_1_2_0_1 none T (shapeCast _ (extf .f32 K bitsLt_bf16_f32) shapeCasts_S256x2048_S256x4x512)) transposes_S4x4096x512_S4096x4x512_1_0_2) shapeCasts_S4096x4x512_S4096x2048) bitsLt_bf16_f32

/-- The gradient of the keys. -/
noncomputable def DK (Q : FVec Ideal S4096x2048 .bf16) (T : FVec Ideal S4x4096x256 .f32) : FVec Ideal S256x2048 .f32 :=
  shapeCast _ (transpose S256x4x512 [1, 0, 2] (Host.dotGeneral dot_S4x4096x256_S4096x4x512_S4x256x512_1_0_2_2_0_1 none T (shapeCast _ (extf .f32 Q bitsLt_bf16_f32) shapeCasts_S4096x2048_S4096x4x512)) transposes_S4x256x512_S256x4x512_1_0_2) shapeCasts_S256x4x512_S256x2048

/-- The gradient of the values. -/
noncomputable def DV (O : FVec Ideal S4096x2048 .bf16) (P : FVec Ideal S4x4096x256 .f32) : FVec Ideal S256x2048 .f32 :=
  shapeCast _ (transpose S256x4x512 [2, 0, 1] (Host.dotGeneral dot_S4x512x4096_S4x4096x256_S4x512x256_2_1_1_2_0_0 none (transpose S4x512x4096 [1, 2, 0] (shapeCast _ (extf .f32 O bitsLt_bf16_f32) shapeCasts_S4096x2048_S4096x4x512) transposes_S4096x4x512_S4x512x4096_1_2_0) P) transposes_S4x512x256_S256x4x512_2_0_1) shapeCasts_S256x4x512_S256x2048

theorem SC_at (Q : FVec Ideal S4096x2048 .bf16) (K : FVec Ideal S256x2048 .bf16) (h : Fin 4) (r : Fin 4096) (x : Fin 256) : SC Q K (ix3 h r x) = scores Q K h r x := by
  unfold scores score
  pointwise [SC]

theorem MX_at (S : FVec Ideal S4x4096x256 .f32) (h : Fin 4) (r : Fin 4096) : MX S (ix2 h r) = top fun y => S (ix3 h r y) :=
  reduceMax_at _ _ _ _ h r

theorem EX_at (S : FVec Ideal S4x4096x256 .f32) (M : FVec Ideal S4x4096 .f32) (h : Fin 4) (r : Fin 4096) (x : Fin 256) :
    EX S M (ix3 h r x) = Ideal.exp (S (ix3 h r x) - max low (M (ix2 h r))) := by
  pointwise [EX]

theorem DN_at (E : FVec Ideal S4x4096x256 .f32) (h : Fin 4) (r : Fin 4096) : DN E (ix2 h r) = ∑ y : Fin 256, E (ix3 h r y) := by
  pointwise [DN]

theorem DP_at (V : FVec Ideal S256x2048 .bf16) (O : FVec Ideal S4096x2048 .bf16) (h : Fin 4) (r : Fin 4096) (x : Fin 256) : DP V O (ix3 h r x) = pulled O V h r x := by
  unfold pulled
  pointwise [DP]

theorem PR_at (E : FVec Ideal S4x4096x256 .f32) (N : FVec Ideal S4x4096 .f32) (h : Fin 4) (r : Fin 4096) (x : Fin 256) :
    PR E N (ix3 h r x) = Ideal.div (E (ix3 h r x)) (N (ix2 h r)) := by
  pointwise [PR]

theorem CO_at (E : FVec Ideal S4x4096x256 .f32) (N : FVec Ideal S4x4096 .f32) (G : FVec Ideal S4x4096x256 .f32) (h : Fin 4) (r : Fin 4096) :
    CO E N G (ix2 h r) = -(∑ y : Fin 256, G (ix3 h r y) * Ideal.div 1 (N (ix2 h r) * N (ix2 h r)) * E (ix3 h r y)) := by
  pointwise [CO]
  exact Fin.sum_univ_one _

theorem DS_at (E : FVec Ideal S4x4096x256 .f32) (N : FVec Ideal S4x4096 .f32) (G : FVec Ideal S4x4096x256 .f32) (C : FVec Ideal S4x4096 .f32) (h : Fin 4) (r : Fin 4096) (x : Fin 256) :
    DS E N G C (ix3 h r x) = (Ideal.div (G (ix3 h r x)) (N (ix2 h r)) + C (ix2 h r)) * E (ix3 h r x) * scale := by
  pointwise [DS]

theorem DQ_at (K : FVec Ideal S256x2048 .bf16) (T : FVec Ideal S4x4096x256 .f32) (j : S4096x2048.Idx) :
    DQ K T j = ∑ x : Fin 256, T (ix3 ⟨(j 1).val / 512, by have : (j 1).val < 2048 := (j 1).isLt; omega⟩ (j 0) x) * K (ix2 x (j 1)) := by
  pointwise [DQ]

theorem DK_at (Q : FVec Ideal S4096x2048 .bf16) (T : FVec Ideal S4x4096x256 .f32) (j : S256x2048.Idx) :
    DK Q T j = ∑ r : Fin 4096, T (ix3 ⟨(j 1).val / 512, by have : (j 1).val < 2048 := (j 1).isLt; omega⟩ r (j 0)) * Q (ix2 r (j 1)) := by
  pointwise [DK]

theorem DV_at (O : FVec Ideal S4096x2048 .bf16) (P : FVec Ideal S4x4096x256 .f32) (j : S256x2048.Idx) :
    DV O P j = ∑ r : Fin 4096, O (ix2 r (j 1)) * P (ix3 ⟨(j 1).val / 512, by have : (j 1).val < 2048 := (j 1).isLt; omega⟩ r (j 0)) := by
  pointwise [DV]

/-- The exponentials, the weights and the gradient of the scores, from the inputs. -/
noncomputable abbrev exps (Q : FVec Ideal S4096x2048 .bf16) (K : FVec Ideal S256x2048 .bf16) : FVec Ideal S4x4096x256 .f32 := EX (SC Q K) (MX (SC Q K))

noncomputable abbrev probs (Q : FVec Ideal S4096x2048 .bf16) (K : FVec Ideal S256x2048 .bf16) : FVec Ideal S4x4096x256 .f32 := PR (exps Q K) (DN (exps Q K))

noncomputable abbrev slopes (Q : FVec Ideal S4096x2048 .bf16) (K V : FVec Ideal S256x2048 .bf16) (O : FVec Ideal S4096x2048 .bf16) : FVec Ideal S4x4096x256 .f32 :=
  DS (exps Q K) (DN (exps Q K)) (DP V O) (CO (exps Q K) (DN (exps Q K)) (DP V O))

theorem exps_at (Q : FVec Ideal S4096x2048 .bf16) (K : FVec Ideal S256x2048 .bf16) (h : Fin 4) (r : Fin 4096) (x : Fin 256) : exps Q K (ix3 h r x) = raised (scores Q K h r) x := by
  simp only [exps, EX_at, MX_at, max_low_top, SC_at]
  rfl

theorem probs_at (Q : FVec Ideal S4096x2048 .bf16) (K : FVec Ideal S256x2048 .bf16) (h : Fin 4) (r : Fin 4096) (x : Fin 256) : probs Q K (ix3 h r x) = weight (scores Q K h r) x := by
  simp only [probs, PR_at, DN_at, exps_at]
  rfl

theorem slopes_at (Q : FVec Ideal S4096x2048 .bf16) (K V : FVec Ideal S256x2048 .bf16) (O : FVec Ideal S4096x2048 .bf16) (h : Fin 4) (r : Fin 4096) (x : Fin 256) :
    slopes Q K V O (ix3 h r x) = slopeOf (raised (scores Q K h r)) (pulled O V h r) x := by
  simp only [slopes, DS_at, CO_at, DN_at, exps_at, DP_at]
  rfl

/-- Queries and keys are real numbers. -/
def Finite (Q : FVec Ideal S4096x2048 .bf16) (K : FVec Ideal S256x2048 .bf16) : Prop := (∀ i, ∃ a : ℝ, Q i = (a : EReal)) ∧ ∀ i, ∃ a : ℝ, K i = (a : EReal)

theorem slopes_eq (Q : FVec Ideal S4096x2048 .bf16) (K V : FVec Ideal S256x2048 .bf16) (O : FVec Ideal S4096x2048 .bf16) (hf : Finite Q K) (h : Fin 4) (r : Fin 4096) (x : Fin 256) :
    slopes Q K V O (ix3 h r x) = slant (scores Q K h r) (pulled O V h r) x := by
  obtain ⟨f, hs⟩ := scores_real Q K hf.1 hf.2 h r
  exact (slopes_at Q K V O h r x).trans (slopeOf_raised f _ _ hs x)

/-- What `run` says the reference leaves, over the inputs. -/
noncomputable abbrev REFQ (Q : FVec Ideal S4096x2048 .bf16) (K V : FVec Ideal S256x2048 .bf16) (O : FVec Ideal S4096x2048 .bf16) : FVec Ideal S4096x2048 .bf16 := DQ K (slopes Q K V O)

noncomputable abbrev REFK (Q : FVec Ideal S4096x2048 .bf16) (K V : FVec Ideal S256x2048 .bf16) (O : FVec Ideal S4096x2048 .bf16) : FVec Ideal S256x2048 .f32 := DK Q (slopes Q K V O)

noncomputable abbrev REFV (Q : FVec Ideal S4096x2048 .bf16) (K : FVec Ideal S256x2048 .bf16) (O : FVec Ideal S4096x2048 .bf16) : FVec Ideal S256x2048 .f32 := DV O (probs Q K)

theorem REFQ_at (Q : FVec Ideal S4096x2048 .bf16) (K V : FVec Ideal S256x2048 .bf16) (O : FVec Ideal S4096x2048 .bf16) (hf : Finite Q K) (j : S4096x2048.Idx) : REFQ Q K V O j = gdq Q K V O (j 0) (j 1) := by
  unfold gdq
  refine (DQ_at K _ j).trans (Finset.sum_congr rfl fun x _ => ?_)
  exact congrArg (fun z : EReal => z * K (ix2 x (j 1))) (slopes_eq Q K V O hf (headOf (j 1)) (j 0) x)

theorem REFK_at (Q : FVec Ideal S4096x2048 .bf16) (K V : FVec Ideal S256x2048 .bf16) (O : FVec Ideal S4096x2048 .bf16) (hf : Finite Q K) (j : S256x2048.Idx) : REFK Q K V O j = gdk Q K V O (j 0) (j 1) := by
  unfold gdk
  refine (DK_at Q _ j).trans (Finset.sum_congr rfl fun r _ => ?_)
  exact congrArg (fun z : EReal => z * Q (ix2 r (j 1))) (slopes_eq Q K V O hf (headOf (j 1)) r (j 0))

theorem REFV_at (Q : FVec Ideal S4096x2048 .bf16) (K : FVec Ideal S256x2048 .bf16) (O : FVec Ideal S4096x2048 .bf16) (j : S256x2048.Idx) : REFV Q K O j = gdv Q K O (j 0) (j 1) := by
  unfold gdv
  refine (DV_at O _ j).trans (Finset.sum_congr rfl fun r _ => ?_)
  exact (mul_comm (_ : EReal) _).trans (congrArg (fun z : EReal => z * O (ix2 r (j 1))) (probs_at Q K (headOf (j 1)) r (j 0)))

end Cert.Attn.Backward

end
-- ==== Proof.Attn.Backward.lean ====
/- The attention's backward pass: each grid point takes 512 query rows against all 256 members, head by head. It stores the gradient of its
   own query rows, and adds to the gradients of the keys and the values, which stay on the core from the first point to the last. -/
module

public import proofs.«01_k».proof.Proof.Attn.BackwardLoads
public import proofs.«01_k».proof.Proof.Attn.BackwardReference
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Attention

open Cert.Kernel2Ideal Cert.Kernel2Ideal.Gen Cert.Attn Cert.Attn.Backward

variable (m : (ℓ : Loc nD τ sig) → Buf (Elt Ideal) ℓ)

/-- Which block each window is on. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

theorem point4A (c : Dev nD) (t : Fin cfg0.N) (h : t.val % 8 = 0) (y : S512x2048.Idx) :
    (outsAt0 m c t.val t.isLt).1 y = gdq (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1) := by
  have hy : (y 1).val < 2048 := (y 1).isLt
  rw [outsAt0_A m c t h]
  frame_out
  canon_tiles x h
  case piece0 => rw [dq3]; exact hdq_of _ _ _ _ _ _ _ _  3 (ldq3 _) (ldk3 _) (ldk3 _) (ldq3 _) x _ _ (by omega) (by omega)
  case piece1 => rw [dq2]; exact hdq_of _ _ _ _ _ _ _ _  2 (ldq2 _) (ldk2 _) (ldk2 _) (ldq2 _) x _ _ (by omega) (by omega)
  case piece2 => rw [dq1]; exact hdq_of _ _ _ _ _ _ _ _  1 (ldq1 _) (ldk1 _) (ldk1 _) (ldq1 _) x _ _ (by omega) (by omega)
  case piece3 => rw [dq0]; exact hdq_of _ _ _ _ _ _ _ _  0 (ldq0 _) (ldk0 _) (ldk0 _) (ldq0 _) x _ _ (by omega) (by omega)

theorem point4B (c : Dev nD) (t : Fin cfg0.N) (h : ¬t.val % 8 = 0) (y : S512x2048.Idx) :
    (outsAt0 m c t.val t.isLt).1 y = gdq (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1) := by
  have hy : (y 1).val < 2048 := (y 1).isLt
  rw [outsAt0_B m c t h]
  frame_out
  canon_tiles x h
  case piece0 => rw [dq3]; exact hdq_of _ _ _ _ _ _ _ _  3 (ldq3 _) (ldk3 _) (ldk3 _) (ldq3 _) x _ _ (by omega) (by omega)
  case piece1 => rw [dq2]; exact hdq_of _ _ _ _ _ _ _ _  2 (ldq2 _) (ldk2 _) (ldk2 _) (ldq2 _) x _ _ (by omega) (by omega)
  case piece2 => rw [dq1]; exact hdq_of _ _ _ _ _ _ _ _  1 (ldq1 _) (ldk1 _) (ldk1 _) (ldq1 _) x _ _ (by omega) (by omega)
  case piece3 => rw [dq0]; exact hdq_of _ _ _ _ _ _ _ _  0 (ldq0 _) (ldk0 _) (ldk0 _) (ldq0 _) x _ _ (by omega) (by omega)

theorem point5A (c : Dev nD) (t : Fin cfg0.N) (h : t.val % 8 = 0) (y : S256x2048.Idx) :
    (outsAt0 m c t.val t.isLt).2.1 y = (0 : EReal) + gdk (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1) := by
  have hy : (y 1).val < 2048 := (y 1).isLt
  rw [outsAt0_A m c t h]
  frame_open
  simp (disch := decide) only [↓ View.readCov_skip, ↓ View.readCov_cons_toLoadRect, ↓ View.readCov_fill]
  frame_out
  refine (under _ _ _ _ _ y ?_).trans ?_
  · exact View.cover_of_tiledL (s := S256x2048) _ S256x512.size (by sl_kernel_rfl) y
  canon_tiles x h
  case piece0 => rw [dk3]; exact congrArg₂ (fun a b : EReal => a + b) (lda3 _ x y (by omega) (by omega) |>.trans (zero6 y)) (hdk_of _ _ _ _ _ _ _ _  3 (ldq3 _) (ldk3 _) (ldk3 _) (ldq3 _) x _ _ (by omega) (by omega))
  case piece1 => rw [dk2]; exact congrArg₂ (fun a b : EReal => a + b) (lda2 _ x y (by omega) (by omega) |>.trans (zero6 y)) (hdk_of _ _ _ _ _ _ _ _  2 (ldq2 _) (ldk2 _) (ldk2 _) (ldq2 _) x _ _ (by omega) (by omega))
  case piece2 => rw [dk1]; exact congrArg₂ (fun a b : EReal => a + b) (lda1 _ x y (by omega) (by omega) |>.trans (zero6 y)) (hdk_of _ _ _ _ _ _ _ _  1 (ldq1 _) (ldk1 _) (ldk1 _) (ldq1 _) x _ _ (by omega) (by omega))
  case piece3 => rw [dk0]; exact congrArg₂ (fun a b : EReal => a + b) (lda0 _ x y (by omega) (by omega) |>.trans (zero6 y)) (hdk_of _ _ _ _ _ _ _ _  0 (ldq0 _) (ldk0 _) (ldk0 _) (ldq0 _) x _ _ (by omega) (by omega))

theorem point5B (c : Dev nD) (t : Fin cfg0.N) (h : ¬t.val % 8 = 0) (y : S256x2048.Idx) :
    (outsAt0 m c t.val t.isLt).2.1 y = (outsAt0 m c (t.val - 1) (Nat.lt_of_le_of_lt (Nat.sub_le _ _) t.isLt)).2.1 y + gdk (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1) := by
  have hy : (y 1).val < 2048 := (y 1).isLt
  rw [outsAt0_B m c t h]
  frame_out
  canon_tiles x h
  case piece0 => rw [dk3]; exact congrArg₂ (fun a b : EReal => a + b) (lda3 _ x y (by omega) (by omega)) (hdk_of _ _ _ _ _ _ _ _  3 (ldq3 _) (ldk3 _) (ldk3 _) (ldq3 _) x _ _ (by omega) (by omega))
  case piece1 => rw [dk2]; exact congrArg₂ (fun a b : EReal => a + b) (lda2 _ x y (by omega) (by omega)) (hdk_of _ _ _ _ _ _ _ _  2 (ldq2 _) (ldk2 _) (ldk2 _) (ldq2 _) x _ _ (by omega) (by omega))
  case piece2 => rw [dk1]; exact congrArg₂ (fun a b : EReal => a + b) (lda1 _ x y (by omega) (by omega)) (hdk_of _ _ _ _ _ _ _ _  1 (ldq1 _) (ldk1 _) (ldk1 _) (ldq1 _) x _ _ (by omega) (by omega))
  case piece3 => rw [dk0]; exact congrArg₂ (fun a b : EReal => a + b) (lda0 _ x y (by omega) (by omega)) (hdk_of _ _ _ _ _ _ _ _  0 (ldq0 _) (ldk0 _) (ldk0 _) (ldq0 _) x _ _ (by omega) (by omega))

theorem point6A (c : Dev nD) (t : Fin cfg0.N) (h : t.val % 8 = 0) (y : S256x2048.Idx) :
    (outsAt0 m c t.val t.isLt).2.2 y = (0 : EReal) + gdv (iblk m c 0 t : FVec Ideal S512x2048 .bf16) (iblk m c 1 t : FVec Ideal S256x2048 .bf16) (iblk m c 3 t : FVec Ideal S512x2048 .bf16) (y 0) (y 1) := by
  have hy : (y 1).val < 2048 := (y 1).isLt
  rw [outsAt0_A m c t h]
  frame_open
  simp (disch := decide) only [↓ View.readCov_skip, ↓ View.readCov_cons_toLoadRect, ↓ View.readCov_fill]
  frame_out
  refine (under _ _ _ _ _ y ?_).trans ?_
  · exact View.cover_of_tiledL (s := S256x2048) _ S256x512.size (by sl_kernel_rfl) y
  canon_tiles x h
  case piece0 => rw [dv3]; exact congrArg₂ (fun a b : EReal => a + b) (lda3 _ x y (by omega) (by omega) |>.trans (zero7 y)) (hdv_of _ _ _ _ _ _  3 (ldq3 _) (ldk3 _) (ldq3 _) x _ _ (by omega) (by omega))
  case piece1 => rw [dv2]; exact congrArg₂ (fun a b : EReal => a + b) (lda2 _ x y (by omega) (by omega) |>.trans (zero7 y)) (hdv_of _ _ _ _ _ _  2 (ldq2 _) (ldk2 _) (ldq2 _) x _ _ (by omega) (by omega))
  case piece2 => rw [dv1]; exact congrArg₂ (fun a b : EReal => a + b) (lda1 _ x y (by omega) (by omega) |>.trans (zero7 y)) (hdv_of _ _ _ _ _ _  1 (ldq1 _) (ldk1 _) (ldq1 _) x _ _ (by omega) (by omega))
  case piece3 => rw [dv0]; exact congrArg₂ (fun a b : EReal => a + b) (lda0 _ x y (by omega) (by omega) |>.trans (zero7 y)) (hdv_of _ _ _ _ _ _  0 (ldq0 _) (ldk0 _) (ldq0 _) x _ _ (by omega) (by omega))

theorem point6B (c : Dev nD) (t : Fin cfg0.N) (h : ¬t.val % 8 = 0) (y : S256x2048.Idx) :
    (outsAt0 m c t.val t.isLt).2.2 y = (outsAt0 m c (t.val - 1) (Nat.lt_of_le_of_lt (Nat.sub_le _ _) t.isLt)).2.2 y + gdv (iblk m c 0 t : FVec Ideal S512x2048 .bf16) (iblk m c 1 t : FVec Ideal S256x2048 .bf16) (iblk m c 3 t : FVec Ideal S512x2048 .bf16) (y 0) (y 1) := by
  have hy : (y 1).val < 2048 := (y 1).isLt
  rw [outsAt0_B m c t h]
  frame_out
  canon_tiles x h
  case piece0 => rw [dv3]; exact congrArg₂ (fun a b : EReal => a + b) (lda3 _ x y (by omega) (by omega)) (hdv_of _ _ _ _ _ _  3 (ldq3 _) (ldk3 _) (ldq3 _) x _ _ (by omega) (by omega))
  case piece1 => rw [dv2]; exact congrArg₂ (fun a b : EReal => a + b) (lda2 _ x y (by omega) (by omega)) (hdv_of _ _ _ _ _ _  2 (ldq2 _) (ldk2 _) (ldq2 _) x _ _ (by omega) (by omega))
  case piece2 => rw [dv1]; exact congrArg₂ (fun a b : EReal => a + b) (lda1 _ x y (by omega) (by omega)) (hdv_of _ _ _ _ _ _  1 (ldq1 _) (ldk1 _) (ldq1 _) x _ _ (by omega) (by omega))
  case piece3 => rw [dv0]; exact congrArg₂ (fun a b : EReal => a + b) (lda0 _ x y (by omega) (by omega)) (hdv_of _ _ _ _ _ _  0 (ldq0 _) (ldk0 _) (ldq0 _) x _ _ (by omega) (by omega))

/-- A block's rows of the queries and of the incoming gradient, and the keys and the values. -/
theorem read0 (c : Dev nD) (t : Fin cfg0.N) (r : Fin 512) (R : Fin 4096) (hR : R.val = t.val * 512 + r.val) (e : Fin 2048) :
    (iblk m c 0 t : FVec Ideal S512x2048 .bf16) (ix2 r e) = (m ((c : Thread nD τ).loc main_arg0) : FVec Ideal S4096x2048 .bf16) (ix2 R e) := by
  blk_ext [iblk, V, idx t, hR]

theorem read3 (c : Dev nD) (t : Fin cfg0.N) (r : Fin 512) (R : Fin 4096) (hR : R.val = t.val * 512 + r.val) (e : Fin 2048) :
    (iblk m c 3 t : FVec Ideal S512x2048 .bf16) (ix2 r e) = (m ((c : Thread nD τ).loc main_arg3) : FVec Ideal S4096x2048 .bf16) (ix2 R e) := by
  blk_ext [iblk, V, idx t, hR]

theorem read1 (c : Dev nD) (t : Fin cfg0.N) (i : S256x2048.Idx) : (iblk m c 1 t : FVec Ideal S256x2048 .bf16) i = (m ((c : Thread nD τ).loc main_arg1) : FVec Ideal S256x2048 .bf16) i := by
  blk_ext [iblk, V, idx t]

theorem read2 (c : Dev nD) (t : Fin cfg0.N) (i : S256x2048.Idx) : (iblk m c 2 t : FVec Ideal S256x2048 .bf16) i = (m ((c : Thread nD τ).loc main_arg2) : FVec Ideal S256x2048 .bf16) i := by
  blk_ext [iblk, V, idx t]

theorem point4 (c : Dev nD) (t : Fin cfg0.N) (y : S512x2048.Idx) (R : Fin 4096) (hR : R.val = t.val * 512 + (y 0).val) (e : Fin 2048) (he : e = y 1) :
    (outsAt0 m c t.val t.isLt).1 y = gdq (m ((c : Thread nD τ).loc main_arg0) : FVec Ideal S4096x2048 .bf16) (m ((c : Thread nD τ).loc main_arg1) : FVec Ideal S256x2048 .bf16) (m ((c : Thread nD τ).loc main_arg2) : FVec Ideal S256x2048 .bf16) (m ((c : Thread nD τ).loc main_arg3) : FVec Ideal S4096x2048 .bf16) R e := by
  subst he
  refine Eq.trans (b := gdq (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1)) ?_ ?_
  · by_cases h : t.val % 8 = 0
    · exact point4A m c t h y
    · exact point4B m c t h y
  · unfold gdq
    refine Finset.sum_congr rfl fun x _ => ?_
    rw [scores_congr _ (read0 m c t (y 0) R hR) (read1 m c t), pulled_congr _ (read3 m c t (y 0) R hR) (read2 m c t)]
    exact congrArg (fun z : EReal => _ * z) (read1 m c t _)

/-- The gradient of the queries after the run. -/
theorem final4 (c : Dev nD) (hf : Finite (m ((c : Thread nD τ).loc main_arg0) : FVec Ideal S4096x2048 .bf16) (m ((c : Thread nD τ).loc main_arg1) : FVec Ideal S256x2048 .bf16)) : (dats m 0 c).arrAt 4 (cfgs 0).N = REFQ (m ((c : Thread nD τ).loc main_arg0) : FVec Ideal S4096x2048 .bf16) (m ((c : Thread nD τ).loc main_arg1) : FVec Ideal S256x2048 .bf16) (m ((c : Thread nD τ).loc main_arg2) : FVec Ideal S256x2048 .bf16) (m ((c : Thread nD τ).loc main_arg3) : FVec Ideal S4096x2048 .bf16) := by
  refine (dats m 0 c).arrAt_eq_of_covers 4 _ (by decide +kernel) fun t _ y => ?_
  blk_simp
  rw [after0_4]
  refine (point4 m c t y _ (by blk_simp [idx t] <;> try omega) _ ?_).trans (REFQ_at _ _ _ _ hf _).symm
  apply Fin.ext
  blk_simp [idx t]

theorem rows (F : Fin 4096 → EReal) (G : Fin cfg0.N → Fin 512 → EReal) (h : ∀ (t : Fin cfg0.N) (r : Fin 512) (R : Fin 4096), R.val = t.val * 512 + r.val → G t r = F R) :
    ∑ t : Fin cfg0.N, ∑ r : Fin 512, G t r = ∑ R : Fin 4096, F R := by
  refine (Fin.sum_points_lanes_congr (A := 1) (L := 4096) 8 (g := fun _ l => F l) fun t r ha hl => ?_).trans (Fin.sum_univ_one _)
  refine h t r _ ?_
  have ht : t.val < 8 := lt_of_lt_of_eq t.isLt N_0
  show t.val % 8 * 512 + r.val = _
  omega

/-- The gradient of the keys after the run. -/
theorem final5 (c : Dev nD) (hf : Finite (m ((c : Thread nD τ).loc main_arg0) : FVec Ideal S4096x2048 .bf16) (m ((c : Thread nD τ).loc main_arg1) : FVec Ideal S256x2048 .bf16)) : (dats m 0 c).arrAt 5 (cfgs 0).N = REFK (m ((c : Thread nD τ).loc main_arg0) : FVec Ideal S4096x2048 .bf16) (m ((c : Thread nD τ).loc main_arg1) : FVec Ideal S256x2048 .bf16) (m ((c : Thread nD τ).loc main_arg2) : FVec Ideal S256x2048 .bf16) (m ((c : Thread nD τ).loc main_arg3) : FVec Ideal S4096x2048 .bf16) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => (0 : EReal))
    (fun t y => gdk (iblk m c 0 t : FVec Ideal S512x2048 .bf16) (iblk m c 1 t : FVec Ideal S256x2048 .bf16) (iblk m c 2 t : FVec Ideal S256x2048 .bf16) (iblk m c 3 t : FVec Ideal S512x2048 .bf16) (y 0) (y 1)) (fun t h y => point5A m c t h y) (fun t h y => point5B m c t h y) (le_of_eq N_0) t0_7 rfl j]
  refine (zero_add (_ : EReal)).trans (Eq.trans ?_ (REFK_at _ _ _ _ hf _).symm)
  unfold gdk
  refine rows _ _ fun t r R hR => ?_
  rw [scores_congr _ (read0 m c t r R hR) (read1 m c t), pulled_congr _ (read3 m c t r R hR) (read2 m c t)]
  exact congrArg (fun z : EReal => _ * z) (read0 m c t r R hR _)

/-- The gradient of the values after the run. -/
theorem final6 (c : Dev nD) : (dats m 0 c).arrAt 6 (cfgs 0).N = REFV (m ((c : Thread nD τ).loc main_arg0) : FVec Ideal S4096x2048 .bf16) (m ((c : Thread nD τ).loc main_arg1) : FVec Ideal S256x2048 .bf16) (m ((c : Thread nD τ).loc main_arg3) : FVec Ideal S4096x2048 .bf16) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => (0 : EReal))
    (fun t y => gdv (iblk m c 0 t : FVec Ideal S512x2048 .bf16) (iblk m c 1 t : FVec Ideal S256x2048 .bf16) (iblk m c 3 t : FVec Ideal S512x2048 .bf16) (y 0) (y 1)) (fun t h y => point6A m c t h y) (fun t h y => point6B m c t h y) (le_of_eq N_0) t0_7 rfl j]
  refine (zero_add (_ : EReal)).trans (Eq.trans ?_ (REFV_at _ _ _ _).symm)
  unfold gdv
  refine rows _ _ fun t r R hR => ?_
  rw [scores_congr _ (read0 m c t r R hR) (read1 m c t)]
  exact congrArg (fun z : EReal => _ * z) (read3 m c t r R hR _)

end Cert.Kernel2Ideal.Attention

end
-- ==== Proof.Attn.BackwardRun.lean ====
/- The reference of the attention's backward pass returns the three gradients, each in its stages. -/
module

public import proofs.«01_k».proof.Proof.Attn.BackwardReference

@[expose] public section

set_option maxRecDepth 16384

noncomputable section

namespace Cert.Attn.Backward

open Idealize.ShloMosaic Idealize.ShloMosaic.TcCoe Idealize.SL.Sem
open Cert.Reference2Ideal Cert.Reference2Ideal.Gen Cert.Reference2Ideal.Value

theorem resQ (m : (ℓ : Loc nD τ sig) → Buf (Elt Ideal) ℓ) (c : Dev nD) : res_main_v67 (F := Ideal) m c
    = REFQ (m ((c : Thread nD τ).loc main_arg0)) (m ((c : Thread nD τ).loc main_arg1)) (m ((c : Thread nD τ).loc main_arg2))
      (m ((c : Thread nD τ).loc main_arg3)) := by
  unfold res_main_v67
  unfold REFQ slopes exps DQ DS CO DP DN EX MX SC
  rfl

theorem resK (m : (ℓ : Loc nD τ sig) → Buf (Elt Ideal) ℓ) (c : Dev nD) : res_main_v65 (F := Ideal) m c
    = REFK (m ((c : Thread nD τ).loc main_arg0)) (m ((c : Thread nD τ).loc main_arg1)) (m ((c : Thread nD τ).loc main_arg2))
      (m ((c : Thread nD τ).loc main_arg3)) := by
  unfold res_main_v65
  unfold REFK slopes exps DK DS CO DP DN EX MX SC
  rfl

/-- The gradient of the values, as the reference's run states it. -/
theorem resV (m : (ℓ : Loc nD τ sig) → Buf (Elt Ideal) ℓ) (c : Dev nD) :
    shapeCast S256x2048 (transpose S256x4x512 [2, 0, 1] (Host.dotGeneral dot_S4x512x4096_S4x4096x256_S4x512x256_2_1_1_2_0_0
      none (transpose S4x512x4096 [1, 2, 0] (shapeCast _ (extf .f32 (m ((c.tc : Thread nD τ).loc main_arg3))
      bitsLt_bf16_f32) shapeCasts_S4096x2048_S4096x4x512) transposes_S4096x4x512_S4x512x4096_1_2_0) (Host.divf (Host.exp
      (subf (mulf (Host.dotGeneral dot_S4096x4x512_S256x4x512_S4x4096x256_2_2_0_0_1_1 none (shapeCast _ (extf .f32 (m
      ((c.tc : Thread nD τ).loc main_arg0)) bitsLt_bf16_f32) shapeCasts_S4096x2048_S4096x4x512) (shapeCast _ (extf .f32
      (m ((c.tc : Thread nD τ).loc main_arg1)) bitsLt_bf16_f32) shapeCasts_S256x2048_S256x4x512)) (broadcastInDim
      S4x4096x256 ![] bcast_S_S4x4096x256 (constant S_ .f32 0x3D3504F3#32))) (broadcastInDim S4x4096x256 ![0, 1, 2]
      bcast_S4x4096x1_S4x4096x256_0_1_2 (broadcastInDim S4x4096x1 ![0, 1] bcast_S4x4096_S4x4096x1_0_1 (maximumf
      (broadcastInDim S4x4096 ![] bcast_S_S4x4096 (constant S_ .f32 0xFF800000#32)) (Host.reduce FloatOps.maximumf (mulf
      (Host.dotGeneral dot_S4096x4x512_S256x4x512_S4x4096x256_2_2_0_0_1_1 none (shapeCast _ (extf .f32 (m ((c.tc : Thread
      nD τ).loc main_arg0)) bitsLt_bf16_f32) shapeCasts_S4096x2048_S4096x4x512) (shapeCast _ (extf .f32 (m ((c.tc :
      Thread nD τ).loc main_arg1)) bitsLt_bf16_f32) shapeCasts_S256x2048_S256x4x512)) (broadcastInDim S4x4096x256 ![]
      bcast_S_S4x4096x256 (constant S_ .f32 0x3D3504F3#32))) (constant S_ .f32 0xFF800000#32)
      reducesTo_S4x4096x256_S4x4096_d2 h_S_)))))) (broadcastInDim S4x4096x256 ![0, 1, 2]
      bcast_S4x4096x1_S4x4096x256_0_1_2 (broadcastInDim S4x4096x1 ![0, 1] bcast_S4x4096_S4x4096x1_0_1 (Host.reduceAdd
      (Host.exp (subf (mulf (Host.dotGeneral dot_S4096x4x512_S256x4x512_S4x4096x256_2_2_0_0_1_1 none (shapeCast _ (extf
      .f32 (m ((c.tc : Thread nD τ).loc main_arg0)) bitsLt_bf16_f32) shapeCasts_S4096x2048_S4096x4x512) (shapeCast _
      (extf .f32 (m ((c.tc : Thread nD τ).loc main_arg1)) bitsLt_bf16_f32) shapeCasts_S256x2048_S256x4x512))
      (broadcastInDim S4x4096x256 ![] bcast_S_S4x4096x256 (constant S_ .f32 0x3D3504F3#32))) (broadcastInDim S4x4096x256
      ![0, 1, 2] bcast_S4x4096x1_S4x4096x256_0_1_2 (broadcastInDim S4x4096x1 ![0, 1] bcast_S4x4096_S4x4096x1_0_1
      (maximumf (broadcastInDim S4x4096 ![] bcast_S_S4x4096 (constant S_ .f32 0xFF800000#32)) (Host.reduce
      FloatOps.maximumf (mulf (Host.dotGeneral dot_S4096x4x512_S256x4x512_S4x4096x256_2_2_0_0_1_1 none (shapeCast _ (extf
      .f32 (m ((c.tc : Thread nD τ).loc main_arg0)) bitsLt_bf16_f32) shapeCasts_S4096x2048_S4096x4x512) (shapeCast _
      (extf .f32 (m ((c.tc : Thread nD τ).loc main_arg1)) bitsLt_bf16_f32) shapeCasts_S256x2048_S256x4x512))
      (broadcastInDim S4x4096x256 ![] bcast_S_S4x4096x256 (constant S_ .f32 0x3D3504F3#32))) (constant S_ .f32
      0xFF800000#32) reducesTo_S4x4096x256_S4x4096_d2 h_S_)))))) (constant S_ .f32 0x00000000#32)
      reducesTo_S4x4096x256_S4x4096_d2 h_S_))))) transposes_S4x512x256_S256x4x512_2_0_1) shapeCasts_S256x4x512_S256x2048
    = REFV (m ((c : Thread nD τ).loc main_arg0)) (m ((c : Thread nD τ).loc main_arg1)) (m ((c : Thread nD τ).loc main_arg3)) := by
  unfold REFV probs exps DV PR DN EX MX SC
  rfl

end Cert.Attn.Backward

end
-- ==== Proof.Attn.Claims.lean ====
/- The two value claims of the attention. -/
module

public import proofs.«01_k».proof.Defs
public import proofs.«01_k».proof.Proof.Attn.Forward
public import proofs.«01_k».proof.Proof.Attn.Backward
public import proofs.«01_k».proof.Proof.Attn.BackwardRun
public import proofs.«01_k».proof.Proof.Gen.Pre_attn_inputs_finite
public import Idealize.ShloMosaic.Lib.KernelVsHost
public import Idealize.ShloMosaic.Lib.Claim

@[expose] public section

set_option maxRecDepth 16384

noncomputable section

namespace Cert.Attn

open Idealize.ShloMosaic Idealize.ShloMosaic.TcCoe Idealize.SL.Sem

/-- What is smaller than infinity in absolute value is a real. -/
theorem real_of (x : Ideal .f32)
    (h : FloatOps.cmpf .olt (FloatOps.hostAbsf x) (FloatOps.ofBits (F := Ideal) .f32 0x7F800000#32) = 1#1) :
    ∃ a : ℝ, (x : EReal) = (a : EReal) := by
  rw [← Ideal.xori_weird_eq_hostAbsf_olt_inf] at h
  by_cases hx : (x : EReal) = ⊤ ∨ (x : EReal) = ⊥
  · have e : FloatOps.weird x = 1#1 := by
      show BitVec.ofBool (decide ((x : EReal) = ⊤ ∨ (x : EReal) = ⊥)) = 1#1
      rw [decide_eq_true hx]; rfl
    rw [e] at h
    exact absurd h (by decide)
  · push Not at hx
    exact ⟨(x : EReal).toReal, (EReal.coe_toReal hx.1 hx.2).symm⟩

/-- The precondition says that every query and every key is a real. -/
theorem finite_of (Q : FVec Ideal Cert.Pre_attn_inputs_finite.S4096x2048 .bf16) (K V : FVec Ideal Cert.Pre_attn_inputs_finite.S256x2048 .bf16)
    (O : FVec Ideal Cert.Pre_attn_inputs_finite.S4096x2048 .bf16)
    (h : Cert.Pre_attn_inputs_finite.fn (F := Ideal) Q K V O = fun _ => 1#1) : Cert.Attn.Backward.Finite Q K := by
  constructor
  · intro i
    let j : Cert.Pre_attn_inputs_finite.S4352x2048.Idx := ix2 ⟨(i 0).val, by have e : (i 0).val < 4096 := (i 0).isLt; omega⟩ ⟨(i 1).val, (i 1).isLt⟩
    have e : concatenate Cert.Pre_attn_inputs_finite.S4352x2048 0
        [⟨Cert.Pre_attn_inputs_finite.S4096x2048, Host.absf (extf .f32 Q Cert.Pre_attn_inputs_finite.Gen.bitsLt_bf16_f32)⟩,
          ⟨Cert.Pre_attn_inputs_finite.S256x2048, Host.absf (extf .f32 K Cert.Pre_attn_inputs_finite.Gen.bitsLt_bf16_f32)⟩]
        Cert.Pre_attn_inputs_finite.Gen.concatenates_S4096x2048_S256x2048_S4352x2048_d0 j
        = FloatOps.hostAbsf (F := Ideal) (φ := .f32) (Q i) :=
      concatenate_pair_apply_left (s₁ := Cert.Pre_attn_inputs_finite.S4096x2048) (s₂ := Cert.Pre_attn_inputs_finite.S256x2048) _ _ _ _ j rfl i (Fin.forall_fin_two.mpr ⟨rfl, rfl⟩)
    exact real_of (Q i) ((congrArg (fun z => FloatOps.cmpf (F := Ideal) (φ := .f32) .olt z (FloatOps.ofBits (F := Ideal) .f32 0x7F800000#32)) e.symm).trans (congrFun h j))
  · intro i
    let j : Cert.Pre_attn_inputs_finite.S4352x2048.Idx := ix2 ⟨(i 0).val + 4096, by have e : (i 0).val < 256 := (i 0).isLt; omega⟩ ⟨(i 1).val, (i 1).isLt⟩
    have e : concatenate Cert.Pre_attn_inputs_finite.S4352x2048 0
        [⟨Cert.Pre_attn_inputs_finite.S4096x2048, Host.absf (extf .f32 Q Cert.Pre_attn_inputs_finite.Gen.bitsLt_bf16_f32)⟩,
          ⟨Cert.Pre_attn_inputs_finite.S256x2048, Host.absf (extf .f32 K Cert.Pre_attn_inputs_finite.Gen.bitsLt_bf16_f32)⟩]
        Cert.Pre_attn_inputs_finite.Gen.concatenates_S4096x2048_S256x2048_S4352x2048_d0 j
        = FloatOps.hostAbsf (F := Ideal) (φ := .f32) (K i) :=
      concatenate_pair_apply_right (s₁ := Cert.Pre_attn_inputs_finite.S4096x2048) (s₂ := Cert.Pre_attn_inputs_finite.S256x2048) _ _ _ _ j rfl rfl i (Fin.forall_fin_two.mpr ⟨fun e => absurd rfl e, fun _ => rfl⟩) rfl
    exact real_of (K i) ((congrArg (fun z => FloatOps.cmpf (F := Ideal) (φ := .f32) .olt z (FloatOps.ofBits (F := Ideal) .f32 0x7F800000#32)) e.symm).trans (congrFun h j))

theorem forward : Cert.algebraic_Kernel6Ideal_Reference6Ideal := by
  pair_intro
  · run_from Cert.Kernel6Ideal.Gen.run_main m g
  · run_from Cert.Reference6Ideal.Value.run m' g'
    exact (Cert.Kernel6Ideal.Attention.final m c).symm

theorem backward : Cert.algebraic_Kernel2Ideal_Reference2Ideal_pre_attn_inputs_finite := by
  pair_intro
  · run_from Cert.Kernel2Ideal.Gen.run_main m g
  · refine (θ_run _ _ _).mono (fun r h c => ?_) (Cert.Reference2Ideal.Value.run (F := Ideal) m' g')
    obtain ⟨h0, h1, h2, hr⟩ := h c
    have hf := finite_of _ _ _ _ (‹Cert.Pre_Kernel2Ideal_attn_inputs_finite m› c)
    obtain ⟨a0, a1, a2, a3⟩ := ‹∀ c : Dev Cert.Kernel2Ideal.nD,
      m' ((c.tc : Thread Cert.Reference2Ideal.nD Cert.Reference2Ideal.τ).loc Cert.Reference2Ideal.main_arg0)
        = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1)
        = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2)
        = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3)
        = m ((c.tc : Thread Cert.Kernel2Ideal.nD Cert.Kernel2Ideal.τ).loc Cert.Kernel2Ideal.main_arg3)› c
    refine ⟨h0.trans (((Backward.resQ m' c).trans ?_).trans (Cert.Kernel2Ideal.Attention.final4 m c hf).symm),
      h1.trans (((Backward.resK m' c).trans ?_).trans (Cert.Kernel2Ideal.Attention.final5 m c hf).symm),
      h2.trans (((Backward.resV m' c).trans ?_).trans (Cert.Kernel2Ideal.Attention.final6 m c).symm), hr⟩
    · rw [a0, a1, a2, a3]
    · rw [a0, a1, a2, a3]
    · rw [a0, a1, a3]

end Cert.Attn

end
-- ==== Proof.Products.HiddenGradient.lean ====
/- The gradient that reaches the hidden layer: the call `bwd_dact`. -/
module

public import proofs.«01_k».proof.Proof.Gen.Kernel7Ideal.Value
public import proofs.«01_k».proof.Proof.Gen.Reference7Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ)

/-- What the reference returns. -/
noncomputable abbrev REF (Z : FVec Ideal S4096x2048 .bf16) (W : FVec Ideal S8192x2048 .bf16) (R : FVec Ideal S4096x8192 .bf16) :
    FVec Ideal Cert.Reference7Ideal.S4096x8192 .bf16 :=
    truncf .bf16 (mulf (Host.dotGeneral Cert.Reference7Ideal.dot_S4096x2048_S8192x2048_S4096x8192_1_1_0_0_n_n none (extf .f32
    Z Cert.Reference7Ideal.Gen.bitsLt_bf16_f32) (extf .f32 W Cert.Reference7Ideal.Gen.bitsLt_bf16_f32)) (mulf (broadcastInDim
    Cert.Reference7Ideal.S4096x8192 ![] Cert.Reference7Ideal.Gen.bcast_S_S4096x8192 (constant Cert.Reference7Ideal.S_ .f32
    0x40000000#32)) (extf .f32 R Cert.Reference7Ideal.Gen.bitsLt_bf16_f32))) Cert.Reference7Ideal.Gen.bitsLt_bf16_f32

/-- Which block each window is on. -/
theorem idx : ∀ t : Fin cfg0.N, win0_0.index t = ![t.val / 8, 0] ∧ win0_1.index t = ![0, t.val % 8, 0] ∧ win0_2.index t = ![t.val / 8, t.val % 8] ∧ win0_3.index t = ![t.val / 8, t.val % 8] :=
  (by decide +kernel : ∀ t : Fin grid0.N, _)

theorem hpay1 (x : FVec Ideal S1024x2048 .bf16) (y : FVec Ideal S1x1024x2048 .bf16) (r : FVec Ideal S1024x1024 .bf16) (j : S1024x1024.Idx) :
    k0_pay1 (F := Ideal) x y r j = (∑ k : Fin 2048, x (ix2 (j 0) k) * y (ix3 0 (j 1) k)) * (Cert.Sums.double * r j) := by
  pointwise [k0_pay1]

theorem href (Z : FVec Ideal S4096x2048 .bf16) (W : FVec Ideal S8192x2048 .bf16) (R : FVec Ideal S4096x8192 .bf16) (j : S4096x8192.Idx) :
    REF Z W R j = (∑ k : Fin 2048, Z (ix2 (j 0) k) * W (ix2 (j 1) k)) * (Cert.Sums.double * R j) := by
  pointwise [REF]

/-- What a point writes back. -/
theorem out (c : Dev nD) (t : Fin cfg0.N) :
    out0_3 (F := Ideal) (iblk m c 0 t) (iblk m c 1 t) (iblk m c 2 t) = k0_pay1 (F := Ideal) (iblk m c 0 t) (iblk m c 1 t) (iblk m c 2 t) := by
  frame_out

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out, hpay1, href]
  refine congrArg₂ (· * ·) (Finset.sum_congr rfl fun k _ => ?_) ?_ <;> blk_point [iblk, V, idx t]

end Cert.Kernel7Ideal.Product

end
-- ==== Proof.Products.HiddenWeight.lean ====
/- The gradient of the first feed-forward weight: the call `bwd_dw_ff1` leaves one block of columns for each device. -/
module

public import proofs.«01_k».proof.Proof.Gen.Kernel8Ideal.Value
public import proofs.«01_k».proof.Proof.Gen.Reference8Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ)

/-- What the reference returns. -/
noncomputable abbrev REF (X : FVec Ideal S4096x2048 .bf16) (G : FVec Ideal S4096x8192 .bf16) :
    FVec Ideal Cert.Reference8Ideal.S8x2048x1024 .bf16 :=
    transpose Cert.Reference8Ideal.S8x2048x1024 [1, 0, 2] (shapeCast Cert.Reference8Ideal.S2048x8x1024 (truncf .bf16
    (transpose Cert.Reference8Ideal.S2048x8192 [1, 0] (Host.dotGeneral
    Cert.Reference8Ideal.dot_S4096x8192_S4096x2048_S8192x2048_0_0_1_1_n_n none (extf .f32 G
    Cert.Reference8Ideal.Gen.bitsLt_bf16_f32) (extf .f32 X Cert.Reference8Ideal.Gen.bitsLt_bf16_f32))
    Cert.Reference8Ideal.Gen.transposes_S8192x2048_S2048x8192_1_0) Cert.Reference8Ideal.Gen.bitsLt_bf16_f32)
    Cert.Reference8Ideal.Gen.shapeCasts_S2048x8192_S2048x8x1024)
    Cert.Reference8Ideal.Gen.transposes_S2048x8x1024_S8x2048x1024_1_0_2

/-- Which block each window is on. -/
theorem idx : ∀ t : Fin cfg0.N, win0_0.index t = ![t.val % 2, t.val / 16] ∧ win0_1.index t = ![t.val % 2, t.val / 2 % 8] ∧ win0_2.index t = ![t.val / 2 % 8, t.val / 16, 0] :=
  (by decide +kernel : ∀ t : Fin grid0.N, _)

theorem hpay1 (x : FVec Ideal S2048x1024 .bf16) (y : FVec Ideal S2048x1024 .bf16) (j : S1024x1024.Idx) :
    k0_pay1 (F := Ideal) x y j = ∑ k : Fin 2048, x (ix2 k (j 0)) * y (ix2 k (j 1)) := by
  pointwise [k0_pay1]

theorem hpay3 (a : FVec Ideal S1024x1024 .f32) (x : FVec Ideal S2048x1024 .bf16) (y : FVec Ideal S2048x1024 .bf16) (j : S1x1024x1024.Idx) :
    k0_pay3 (F := Ideal) a x y j = a (ix2 (j 1) (j 2)) + ∑ k : Fin 2048, x (ix2 k (j 1)) * y (ix2 k (j 2)) := by
  pointwise [k0_pay3]

theorem href (X : FVec Ideal S4096x2048 .bf16) (G : FVec Ideal S4096x8192 .bf16) (j : S8x2048x1024.Idx) :
    REF X G j = ∑ k : Fin 4096, X (ix2 k (j 1)) * G (ix2 k ⟨(j 0).val * 1024 + (j 2).val, by have h : (j 0).val < 8 := (j 0).isLt; have h : (j 2).val < 1024 := (j 2).isLt; omega⟩) := by
  pointwise [REF]
  exact Fin.sum_fin_congr fun k => mul_comm (_ : EReal) _

/-- The first half of the sum, which the even points leave in the scratch. -/
theorem half (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  frame_out

/-- The point before. -/
abbrev prev (t : Fin cfg0.N) : Fin cfg0.N := ⟨t.val - 1, Nat.lt_of_le_of_lt (Nat.sub_le _ _) t.isLt⟩

/-- What an odd point writes back. -/
theorem out (c : Dev nD) (t : Fin cfg0.N) (h2 : t.val % 2 = 1) :
    (outsAt0 m c t.val t.isLt).1 = k0_pay3 (F := Ideal) (k0_pay1 (F := Ideal) (iblk m c 0 (prev t)) (iblk m c 1 (prev t)))
      (iblk m c 0 t) (iblk m c 1 t) := by
  rw [outsAt0_B m c t (by omega) h2, half m c (prev t) (by dsimp only; omega)]
  frame_out
  rw [read_unread_whole]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out m c t ((flush0_2 t).mp hf), hpay3, hpay1, href]
  have h2 : t.val % 2 = 1 := (flush0_2 t).mp hf
  refine Cert.Sums.two (n := 2048) _ _ _ (fun k => ?_) (fun k => ?_)
  · blk_point [iblk, V, idx t, idx (prev t)] <;> omega
  · blk_point [iblk, V, idx t] <;> omega

end Cert.Kernel8Ideal.Product

end
-- ==== Proof.Products.Hidden.lean ====
/- The first feed-forward product: the call `fwd_ff1` leaves the rectified product and its square. -/
module

public import proofs.«01_k».proof.Proof.Gen.Kernel9Ideal.Value
public import proofs.«01_k».proof.Proof.Gen.Reference9Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- What the reference returns. -/
noncomputable abbrev REF0 (X : FVec Ideal S4096x2048 .bf16) (W : FVec Ideal S8x2048x1024 .bf16) :
    FVec Ideal Cert.Reference9Ideal.S4096x8192 .bf16 :=
    truncf .bf16 (maximumf (Host.dotGeneral Cert.Reference9Ideal.dot_S4096x2048_S2048x8192_S4096x8192_1_0_0_1_n_n none (extf
    .f32 X Cert.Reference9Ideal.Gen.bitsLt_bf16_f32) (shapeCast Cert.Reference9Ideal.S2048x8192 (transpose
    Cert.Reference9Ideal.S2048x8x1024 [1, 0, 2] (extf .f32 W Cert.Reference9Ideal.Gen.bitsLt_bf16_f32)
    Cert.Reference9Ideal.Gen.transposes_S8x2048x1024_S2048x8x1024_1_0_2)
    Cert.Reference9Ideal.Gen.shapeCasts_S2048x8x1024_S2048x8192)) (broadcastInDim Cert.Reference9Ideal.S4096x8192 ![]
    Cert.Reference9Ideal.Gen.bcast_S_S4096x8192 (constant Cert.Reference9Ideal.S_ .f32 0x00000000#32)))
    Cert.Reference9Ideal.Gen.bitsLt_bf16_f32

/-- What the reference returns. -/
noncomputable abbrev REF1 (X : FVec Ideal S4096x2048 .bf16) (W : FVec Ideal S8x2048x1024 .bf16) :
    FVec Ideal Cert.Reference9Ideal.S4096x8192 .bf16 :=
    truncf .bf16 (mulf (maximumf (Host.dotGeneral Cert.Reference9Ideal.dot_S4096x2048_S2048x8192_S4096x8192_1_0_0_1_n_n none
    (extf .f32 X Cert.Reference9Ideal.Gen.bitsLt_bf16_f32) (shapeCast Cert.Reference9Ideal.S2048x8192 (transpose
    Cert.Reference9Ideal.S2048x8x1024 [1, 0, 2] (extf .f32 W Cert.Reference9Ideal.Gen.bitsLt_bf16_f32)
    Cert.Reference9Ideal.Gen.transposes_S8x2048x1024_S2048x8x1024_1_0_2)
    Cert.Reference9Ideal.Gen.shapeCasts_S2048x8x1024_S2048x8192)) (broadcastInDim Cert.Reference9Ideal.S4096x8192 ![]
    Cert.Reference9Ideal.Gen.bcast_S_S4096x8192 (constant Cert.Reference9Ideal.S_ .f32 0x00000000#32))) (maximumf
    (Host.dotGeneral Cert.Reference9Ideal.dot_S4096x2048_S2048x8192_S4096x8192_1_0_0_1_n_n none (extf .f32 X
    Cert.Reference9Ideal.Gen.bitsLt_bf16_f32) (shapeCast Cert.Reference9Ideal.S2048x8192 (transpose
    Cert.Reference9Ideal.S2048x8x1024 [1, 0, 2] (extf .f32 W Cert.Reference9Ideal.Gen.bitsLt_bf16_f32)
    Cert.Reference9Ideal.Gen.transposes_S8x2048x1024_S2048x8x1024_1_0_2)
    Cert.Reference9Ideal.Gen.shapeCasts_S2048x8x1024_S2048x8192)) (broadcastInDim Cert.Reference9Ideal.S4096x8192 ![]
    Cert.Reference9Ideal.Gen.bcast_S_S4096x8192 (constant Cert.Reference9Ideal.S_ .f32 0x00000000#32))))
    Cert.Reference9Ideal.Gen.bitsLt_bf16_f32

/-- Which block each window is on. -/
theorem idx : ∀ t : Fin cfg0.N, win0_0.index t = ![t.val / 8, 0] ∧ win0_1.index t = ![t.val % 8, 0, 0] ∧ win0_2.index t = ![t.val / 8, t.val % 8] ∧ win0_3.index t = ![t.val / 8, t.val % 8] :=
  (by decide +kernel : ∀ t : Fin grid0.N, _)

theorem hpay2 (x : FVec Ideal S1024x2048 .bf16) (y : FVec Ideal S1x2048x1024 .bf16) (j : S1024x1024.Idx) :
    k0_pay2 (F := Ideal) x y j = max (∑ k : Fin 2048, x (ix2 (j 0) k) * y (ix3 0 k (j 1))) 0 := by
  pointwise [k0_pay2, k0_pay1]

theorem hpay3 (x : FVec Ideal S1024x2048 .bf16) (y : FVec Ideal S1x2048x1024 .bf16) (j : S1024x1024.Idx) :
    k0_pay3 (F := Ideal) x y j = max (∑ k : Fin 2048, x (ix2 (j 0) k) * y (ix3 0 k (j 1))) 0 * max (∑ k : Fin 2048, x (ix2 (j 0) k) * y (ix3 0 k (j 1))) 0 := by
  pointwise [k0_pay3, k0_pay1]

theorem href0 (X : FVec Ideal S4096x2048 .bf16) (W : FVec Ideal S8x2048x1024 .bf16) (j : S4096x8192.Idx) :
    REF0 X W j = max (∑ k : Fin 2048, X (ix2 (j 0) k) * W (ix3 ⟨(j 1).val / 1024, by have h : (j 1).val < 8192 := (j 1).isLt; omega⟩ k ⟨(j 1).val % 1024, by omega⟩)) 0 := by
  pointwise [REF0]

theorem href1 (X : FVec Ideal S4096x2048 .bf16) (W : FVec Ideal S8x2048x1024 .bf16) (j : S4096x8192.Idx) :
    REF1 X W j = REF0 X W j * REF0 X W j := by
  pointwise [REF1]

/-- What a point writes back. -/
theorem out0 (c : Dev nD) (t : Fin cfg0.N) :
    out0_2 (F := Ideal) (iblk m c 0 t) (iblk m c 1 t) = k0_pay2 (F := Ideal) (iblk m c 0 t) (iblk m c 1 t) := by
  frame_out

/-- The array after the run. -/
theorem final0 (c : Dev nD) : (dats m 0 c).arrAt 2 cfg0.N
    = REF0 (m ((c : Thread nD τ).loc main_arg0)) (m ((c : Thread nD τ).loc main_arg1)) := by
  refine (dats m 0 c).arrAt_eq_of_covers 2 _ (by decide +kernel) fun t hf y => ?_
  blk_simp
  rw [after0_2, out0, hpay2, href0]
  refine congrArg (fun z : EReal => max z 0) (Finset.sum_congr rfl fun k _ => ?_)
  blk_point [iblk, V, idx t]
/-- What a point writes back. -/
theorem out1 (c : Dev nD) (t : Fin cfg0.N) :
    out0_3 (F := Ideal) (iblk m c 0 t) (iblk m c 1 t) = k0_pay3 (F := Ideal) (iblk m c 0 t) (iblk m c 1 t) := by
  frame_out

/-- The array after the run. -/
theorem final1 (c : Dev nD) : (dats m 0 c).arrAt 3 cfg0.N
    = REF1 (m ((c : Thread nD τ).loc main_arg0)) (m ((c : Thread nD τ).loc main_arg1)) := by
  refine (dats m 0 c).arrAt_eq_of_covers 3 _ (by decide +kernel) fun t hf y => ?_
  blk_simp
  rw [after0_3, out1, hpay3, href1]
  rw [href0]
  refine congrArg₂ (· * ·) (congrArg (fun z : EReal => max z 0) (Finset.sum_congr rfl fun k _ => ?_)) (congrArg (fun z : EReal => max z 0) (Finset.sum_congr rfl fun k _ => ?_)) <;>
    blk_point [iblk, V, idx t]

end Cert.Kernel9Ideal.Product

end
-- ==== Proof.Products.HiddenInput.lean ====
/- The gradient that leaves the feed-forward, with the residual's: the call `bwd_dx2` adds eight parts of the contraction, one for each block of columns of the weight. -/
module

public import proofs.«01_k».proof.Proof.Gen.Kernel10Ideal.Value
public import proofs.«01_k».proof.Proof.Gen.Reference10Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ)

/-- What the reference returns. -/
noncomputable abbrev REF (X : FVec Ideal S4096x8192 .bf16) (W : FVec Ideal S8x2048x1024 .bf16) (E : FVec Ideal S4096x2048 .f32) :
    FVec Ideal Cert.Reference10Ideal.S4096x2048 .f32 :=
    addf (mulf (broadcastInDim Cert.Reference10Ideal.S4096x2048 ![] Cert.Reference10Ideal.Gen.bcast_S_S4096x2048 (constant
    Cert.Reference10Ideal.S_ .f32 0x3F9837F0#32)) E) (Host.dotGeneral
    Cert.Reference10Ideal.dot_S4096x8192_S2048x8192_S4096x2048_1_1_0_0_n_n none (extf .f32 X
    Cert.Reference10Ideal.Gen.bitsLt_bf16_f32) (shapeCast Cert.Reference10Ideal.S2048x8192 (transpose
    Cert.Reference10Ideal.S2048x8x1024 [1, 0, 2] (extf .f32 W Cert.Reference10Ideal.Gen.bitsLt_bf16_f32)
    Cert.Reference10Ideal.Gen.transposes_S8x2048x1024_S2048x8x1024_1_0_2)
    Cert.Reference10Ideal.Gen.shapeCasts_S2048x8x1024_S2048x8192))

/-- Which block each window is on. -/
theorem idx : ∀ t : Fin cfg0.N, win0_0.index t = ![t.val / 16, t.val % 8] ∧ win0_1.index t = ![t.val % 8, t.val / 8 % 2, 0] ∧ win0_2.index t = ![t.val / 16, t.val / 8 % 2] ∧ win0_3.index t = ![t.val / 16, t.val / 8 % 2] :=
  (by decide +kernel : ∀ t : Fin grid0.N, _)

theorem hpay1 (x : FVec Ideal S1024x1024 .bf16) (y : FVec Ideal S1x1024x1024 .bf16) (j : S1024x1024.Idx) :
    k0_pay1 (F := Ideal) x y j = ∑ k : Fin 1024, x (ix2 (j 0) k) * y (ix3 0 (j 1) k) := by
  pointwise [k0_pay1]

theorem hpay2 (a : FVec Ideal S1024x1024 .f32) (x : FVec Ideal S1024x1024 .bf16) (y : FVec Ideal S1x1024x1024 .bf16) (j : S1024x1024.Idx) :
    k0_pay2 (F := Ideal) a x y j = a j + ∑ k : Fin 1024, x (ix2 (j 0) k) * y (ix3 0 (j 1) k) := by
  pointwise [k0_pay2]

theorem hpay3 (a : FVec Ideal S1024x1024 .f32) (x : FVec Ideal S1024x1024 .bf16) (y : FVec Ideal S1x1024x1024 .bf16) (e : FVec Ideal S1024x1024 .f32) (j : S1024x1024.Idx) :
    k0_pay3 (F := Ideal) a x y e j = a j + ∑ k : Fin 1024, x (ix2 (j 0) k) * y (ix3 0 (j 1) k) + Cert.Sums.alpha * e j := by
  pointwise [k0_pay3]

theorem href (X : FVec Ideal S4096x8192 .bf16) (W : FVec Ideal S8x2048x1024 .bf16) (E : FVec Ideal S4096x2048 .f32) (j : S4096x2048.Idx) :
    REF X W E j = (∑ k : Fin 8192, X (ix2 (j 0) k) * W (ix3 ⟨k.val / 1024, by omega⟩ (j 1) ⟨k.val % 1024, by omega⟩)) + Cert.Sums.alpha * E j := by
  pointwise [REF]
  exact add_comm (_ : EReal) _

/-- The point before. -/
abbrev prev (t : Fin cfg0.N) : Fin cfg0.N := ⟨t.val - 1, Nat.lt_of_le_of_lt (Nat.sub_le _ _) t.isLt⟩

theorem scratch_first (c : Dev nD) (t : Fin cfg0.N) (h : t.val % 8 = 0) :
    (outsAt0 m c t.val t.isLt).2 = k0_pay1 (F := Ideal) (iblk m c 0 t) (iblk m c 1 t) := by
  rw [outsAt0_A m c t h (by omega) (by omega)]
  frame_out

theorem scratch_step (c : Dev nD) (t : Fin cfg0.N) (h1 : 1 ≤ t.val % 8) (h2 : t.val % 8 ≤ 6) :
    (outsAt0 m c t.val t.isLt).2 = k0_pay2 (F := Ideal) (outsAt0 m c (prev t).val (prev t).isLt).2 (iblk m c 0 t) (iblk m c 1 t) := by
  rw [outsAt0_B m c t (by omega) ⟨h1, h2⟩ (by omega)]
  frame_out
  rw [read_unread_whole]

theorem out_last (c : Dev nD) (t : Fin cfg0.N) (h : t.val % 8 = 7) :
    (outsAt0 m c t.val t.isLt).1 = k0_pay3 (F := Ideal) (outsAt0 m c (prev t).val (prev t).isLt).2 (iblk m c 0 t) (iblk m c 1 t)
      (iblk m c 2 t) := by
  rw [outsAt0_C m c t (by omega) (by omega) h]
  frame_out
  rw [read_unread_whole]

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 : t.val % 8 = 7 := (flush0_3 t).mp hf
  rw [after0_3, out_last m c t h3,
    scratch_step m c (prev t) (by dsimp only; omega) (by dsimp only; omega),
    scratch_step m c (prev (prev t)) (by dsimp only; omega) (by dsimp only; omega),
    scratch_step m c (prev (prev (prev t))) (by dsimp only; omega) (by dsimp only; omega),
    scratch_step m c (prev (prev (prev (prev t)))) (by dsimp only; omega) (by dsimp only; omega),
    scratch_step m c (prev (prev (prev (prev (prev t))))) (by dsimp only; omega) (by dsimp only; omega),
    scratch_step m c (prev (prev (prev (prev (prev (prev t)))))) (by dsimp only; omega) (by dsimp only; omega),
    scratch_first m c (prev (prev (prev (prev (prev (prev (prev t))))))) (by dsimp only; omega), hpay3, hpay2, hpay2, hpay2, hpay2, hpay2, hpay2,
    hpay1, href]
  refine congrArg₂ (· + ·) (Cert.Sums.eight (n := 1024) _ _ _ _ _ _ _ _ _ (fun k => ?_) (fun k => ?_) (fun k => ?_) (fun k => ?_)
    (fun k => ?_) (fun k => ?_) (fun k => ?_) (fun k => ?_)) ?_
  · blk_point [iblk, V, idx t, idx (prev (prev (prev (prev (prev (prev (prev t)))))))] <;> omega
  · blk_point [iblk, V, idx t, idx (prev (prev (prev (prev (prev (prev t))))))] <;> omega
  · blk_point [iblk, V, idx t, idx (prev (prev (prev (prev (prev t)))))] <;> omega
  · blk_point [iblk, V, idx t, idx (prev (prev (prev (prev t))))] <;> omega
  · blk_point [iblk, V, idx t, idx (prev (prev (prev t)))] <;> omega
  · blk_point [iblk, V, idx t, idx (prev (prev t))] <;> omega
  · blk_point [iblk, V, idx t, idx (prev t)] <;> omega
  · blk_point [iblk, V, idx t] <;> omega
  · blk_point [iblk, V, idx t]

end Cert.Kernel10Ideal.Product

end
-- ==== Proof.Products.SquareWeight.lean ====
/- The gradient of a square weight: the calls `bwd_dw_o`, `bwd_dw_q` and `bwd_dw_out`. -/
module

public import proofs.«01_k».proof.Proof.Gen.Kernel11Ideal.Value
public import proofs.«01_k».proof.Proof.Gen.Reference11Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen

variable (m : (ℓ : Loc nD τ sig) → Buf (Elt Ideal) ℓ)

/-- What the reference returns. -/
noncomputable abbrev REF (X : FVec Ideal S4096x2048 .bf16) (G : FVec Ideal S4096x2048 .bf16) :
    FVec Ideal Cert.Reference11Ideal.S1x2048x2048 .bf16 :=
    broadcastInDim Cert.Reference11Ideal.S1x2048x2048 ![1, 2] Cert.Reference11Ideal.Gen.bcast_S2048x2048_S1x2048x2048_1_2
    (truncf .bf16 (transpose Cert.Reference11Ideal.S2048x2048 [1, 0] (Host.dotGeneral
    Cert.Reference11Ideal.dot_S4096x2048_S4096x2048_S2048x2048_0_0_1_1_n_n none (extf .f32 G
    Cert.Reference11Ideal.Gen.bitsLt_bf16_f32) (extf .f32 X Cert.Reference11Ideal.Gen.bitsLt_bf16_f32))
    Cert.Reference11Ideal.Gen.transposes_S2048x2048_S2048x2048_1_0) Cert.Reference11Ideal.Gen.bitsLt_bf16_f32)

/-- Which block each window is on. -/
theorem idx : ∀ t : Fin cfg0.N, win0_0.index t = ![t.val % 2, t.val / 4] ∧ win0_1.index t = ![t.val % 2, t.val / 2 % 2] ∧ win0_2.index t = ![0, t.val / 4, t.val / 2 % 2] :=
  (by decide +kernel : ∀ t : Fin grid0.N, _)

theorem hpay1 (x : FVec Ideal S2048x1024 .bf16) (y : FVec Ideal S2048x1024 .bf16) (j : S1024x1024.Idx) :
    k0_pay1 (F := Ideal) x y j = ∑ k : Fin 2048, x (ix2 k (j 0)) * y (ix2 k (j 1)) := by
  pointwise [k0_pay1]

theorem hpay3 (a : FVec Ideal S1024x1024 .f32) (x : FVec Ideal S2048x1024 .bf16) (y : FVec Ideal S2048x1024 .bf16) (j : S1x1024x1024.Idx) :
    k0_pay3 (F := Ideal) a x y j = a (ix2 (j 1) (j 2)) + ∑ k : Fin 2048, x (ix2 k (j 1)) * y (ix2 k (j 2)) := by
  pointwise [k0_pay3]

theorem href (X : FVec Ideal S4096x2048 .bf16) (G : FVec Ideal S4096x2048 .bf16) (j : S1x2048x2048.Idx) :
    REF X G j = ∑ k : Fin 4096, X (ix2 k (j 1)) * G (ix2 k (j 2)) := by
  pointwise [REF]
  exact Fin.sum_fin_congr fun k => mul_comm (_ : EReal) _

/-- The first half of the sum, which the even points leave in the scratch. -/
theorem half (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  frame_out

/-- The point before. -/
abbrev prev (t : Fin cfg0.N) : Fin cfg0.N := ⟨t.val - 1, Nat.lt_of_le_of_lt (Nat.sub_le _ _) t.isLt⟩

/-- What an odd point writes back. -/
theorem out (c : Dev nD) (t : Fin cfg0.N) (h2 : t.val % 2 = 1) :
    (outsAt0 m c t.val t.isLt).1 = k0_pay3 (F := Ideal) (k0_pay1 (F := Ideal) (iblk m c 0 (prev t)) (iblk m c 1 (prev t)))
      (iblk m c 0 t) (iblk m c 1 t) := by
  rw [outsAt0_B m c t (by omega) h2, half m c (prev t) (by dsimp only; omega)]
  frame_out
  rw [read_unread_whole]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out m c t ((flush0_2 t).mp hf), hpay3, hpay1, href]
  have h2 : t.val % 2 = 1 := (flush0_2 t).mp hf
  refine Cert.Sums.two (n := 2048) _ _ _ (fun k => ?_) (fun k => ?_)
  · blk_point [iblk, V, idx t, idx (prev t)] <;> omega
  · blk_point [iblk, V, idx t] <;> omega

end Cert.Kernel11Ideal.Product

end
-- ==== Proof.Products.SquareOut.lean ====
/- The products that lead out of the attention and out of the mixer: the calls `fwd_o` and `fwd_out`. -/
module

public import proofs.«01_k».proof.Proof.Gen.Kernel12Ideal.Value
public import proofs.«01_k».proof.Proof.Gen.Reference12Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen

variable (m : (ℓ : Loc nD τ sig) → Buf (Elt Ideal) ℓ)

/-- What the reference returns. -/
noncomputable abbrev REF (X : FVec Ideal S4096x2048 .bf16) (W : FVec Ideal S2048x2048 .bf16) :
    FVec Ideal Cert.Reference12Ideal.S4096x2048 .f32 :=
    Host.dotGeneral Cert.Reference12Ideal.dot_S4096x2048_S2048x2048_S4096x2048_1_0_0_1_n_n none (extf .f32 X
    Cert.Reference12Ideal.Gen.bitsLt_bf16_f32) (extf .f32 W Cert.Reference12Ideal.Gen.bitsLt_bf16_f32)

/-- Which block each window is on. -/
theorem idx : ∀ t : Fin cfg0.N, win0_0.index t = ![t.val / 2, 0] ∧ win0_1.index t = ![0, 0, t.val % 2] ∧ win0_2.index t = ![t.val / 2, t.val % 2] :=
  (by decide +kernel : ∀ t : Fin grid0.N, _)

theorem hpay1 (x : FVec Ideal S1024x2048 .bf16) (y : FVec Ideal S1x2048x1024 .bf16) (j : S1024x1024.Idx) :
    k0_pay1 (F := Ideal) x y j = ∑ k : Fin 2048, x (ix2 (j 0) k) * y (ix3 0 k (j 1)) := by
  pointwise [k0_pay1]

theorem href (X : FVec Ideal S4096x2048 .bf16) (W : FVec Ideal S2048x2048 .bf16) (j : S4096x2048.Idx) :
    REF X W j = ∑ k : Fin 2048, X (ix2 (j 0) k) * W (ix2 k (j 1)) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel12Ideal.Product

end
-- ==== Proof.Products.Query.lean ====
/- The queries: the call `fwd_q`. -/
module

public import proofs.«01_k».proof.Proof.Gen.Kernel13Ideal.Value
public import proofs.«01_k».proof.Proof.Gen.Reference13Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel13Ideal.Product

open Cert.Kernel13Ideal Cert.Kernel13Ideal.Gen

variable (m : (ℓ : Loc nD τ sig) → Buf (Elt Ideal) ℓ)

/-- What the reference returns. -/
noncomputable abbrev REF (X : FVec Ideal S4096x2048 .bf16) (W : FVec Ideal S2048x2048 .bf16) :
    FVec Ideal Cert.Reference13Ideal.S4096x2048 .bf16 :=
    truncf .bf16 (Host.dotGeneral Cert.Reference13Ideal.dot_S4096x2048_S2048x2048_S4096x2048_1_0_0_1_n_n none (extf .f32 X
    Cert.Reference13Ideal.Gen.bitsLt_bf16_f32) (extf .f32 W Cert.Reference13Ideal.Gen.bitsLt_bf16_f32))
    Cert.Reference13Ideal.Gen.bitsLt_bf16_f32

/-- Which block each window is on. -/
theorem idx : ∀ t : Fin cfg0.N, win0_0.index t = ![t.val / 2, 0] ∧ win0_1.index t = ![0, 0, t.val % 2] ∧ win0_2.index t = ![t.val / 2, t.val % 2] :=
  (by decide +kernel : ∀ t : Fin grid0.N, _)

theorem hpay1 (x : FVec Ideal S1024x2048 .bf16) (y : FVec Ideal S1x2048x1024 .bf16) (j : S1024x1024.Idx) :
    k0_pay1 (F := Ideal) x y j = ∑ k : Fin 2048, x (ix2 (j 0) k) * y (ix3 0 k (j 1)) := by
  pointwise [k0_pay1]

theorem href (X : FVec Ideal S4096x2048 .bf16) (W : FVec Ideal S2048x2048 .bf16) (j : S4096x2048.Idx) :
    REF X W j = ∑ k : Fin 2048, X (ix2 (j 0) k) * W (ix2 k (j 1)) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel13Ideal.Product

end
-- ==== Proof.Products.MixtureGradient.lean ====
/- The gradient that reaches the attention's mixture: the call `bwd_do`. -/
module

public import proofs.«01_k».proof.Proof.Gen.Kernel14Ideal.Value
public import proofs.«01_k».proof.Proof.Gen.Reference14Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel14Ideal.Product

open Cert.Kernel14Ideal Cert.Kernel14Ideal.Gen

variable (m : (ℓ : Loc nD τ sig) → Buf (Elt Ideal) ℓ)

/-- What the reference returns. -/
noncomputable abbrev REF (X : FVec Ideal S4096x2048 .bf16) (W : FVec Ideal S2048x2048 .bf16) :
    FVec Ideal Cert.Reference14Ideal.S4096x2048 .bf16 :=
    truncf .bf16 (Host.dotGeneral Cert.Reference14Ideal.dot_S4096x2048_S2048x2048_S4096x2048_1_1_0_0_n_n none (extf .f32 X
    Cert.Reference14Ideal.Gen.bitsLt_bf16_f32) (extf .f32 W Cert.Reference14Ideal.Gen.bitsLt_bf16_f32))
    Cert.Reference14Ideal.Gen.bitsLt_bf16_f32

/-- Which block each window is on. -/
theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem hpay1 (x : FVec Ideal S1024x2048 .bf16) (y : FVec Ideal S1x1024x2048 .bf16) (j : S1024x1024.Idx) :
    k0_pay1 (F := Ideal) x y j = ∑ k : Fin 2048, x (ix2 (j 0) k) * y (ix3 0 (j 1) k) := by
  pointwise [k0_pay1]

theorem href (X : FVec Ideal S4096x2048 .bf16) (W : FVec Ideal S2048x2048 .bf16) (j : S4096x2048.Idx) :
    REF X W j = ∑ k : Fin 2048, X (ix2 (j 0) k) * W (ix2 (j 1) k) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel14Ideal.Product

end
-- ==== Proof.Products.AttentionInput.lean ====
/- The gradient that leaves the attention, with the residual's: the call `bwd_dx1`. -/
module

public import proofs.«01_k».proof.Proof.Gen.Kernel15Ideal.Value
public import proofs.«01_k».proof.Proof.Gen.Reference15Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel15Ideal.Product

open Cert.Kernel15Ideal Cert.Kernel15Ideal.Gen

variable (m : (ℓ : Loc nD τ sig) → Buf (Elt Ideal) ℓ)

/-- What the reference returns. -/
noncomputable abbrev REF (X : FVec Ideal S4096x2048 .bf16) (W : FVec Ideal S2048x2048 .bf16) (E : FVec Ideal S4096x2048 .f32) :
    FVec Ideal Cert.Reference15Ideal.S4096x2048 .f32 :=
    addf (mulf (broadcastInDim Cert.Reference15Ideal.S4096x2048 ![] Cert.Reference15Ideal.Gen.bcast_S_S4096x2048 (constant
    Cert.Reference15Ideal.S_ .f32 0x3F9837F0#32)) E) (Host.dotGeneral
    Cert.Reference15Ideal.dot_S4096x2048_S2048x2048_S4096x2048_1_1_0_0_n_n none (extf .f32 X
    Cert.Reference15Ideal.Gen.bitsLt_bf16_f32) (extf .f32 W Cert.Reference15Ideal.Gen.bitsLt_bf16_f32))

/-- Which block each window is on. -/
theorem idx : ∀ t : Fin cfg0.N, win0_0.index t = ![t.val / 2, 0] ∧ win0_1.index t = ![0, t.val % 2, 0] ∧ win0_2.index t = ![t.val / 2, t.val % 2] ∧ win0_3.index t = ![t.val / 2, t.val % 2] :=
  (by decide +kernel : ∀ t : Fin grid0.N, _)

theorem hpay1 (x : FVec Ideal S1024x2048 .bf16) (y : FVec Ideal S1x1024x2048 .bf16) (e : FVec Ideal S1024x1024 .f32) (j : S1024x1024.Idx) :
    k0_pay1 (F := Ideal) x y e j = (∑ k : Fin 2048, x (ix2 (j 0) k) * y (ix3 0 (j 1) k)) + Cert.Sums.alpha * e j := by
  pointwise [k0_pay1]

theorem href (X : FVec Ideal S4096x2048 .bf16) (W : FVec Ideal S2048x2048 .bf16) (E : FVec Ideal S4096x2048 .f32) (j : S4096x2048.Idx) :
    REF X W E j = (∑ k : Fin 2048, X (ix2 (j 0) k) * W (ix2 (j 1) k)) + Cert.Sums.alpha * E j := by
  pointwise [REF]
  exact add_comm (_ : EReal) _

/-- What a point writes back. -/
theorem out (c : Dev nD) (t : Fin cfg0.N) :
    out0_3 (F := Ideal) (iblk m c 0 t) (iblk m c 1 t) (iblk m c 2 t) = k0_pay1 (F := Ideal) (iblk m c 0 t) (iblk m c 1 t) (iblk m c 2 t) := by
  frame_out

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out, hpay1, href]
  refine congrArg₂ (· + ·) (Finset.sum_congr rfl fun k _ => ?_) ?_ <;> blk_point [iblk, V, idx t]

end Cert.Kernel15Ideal.Product

end
-- ==== Proof.Products.MixerGradient.lean ====
/- The gradient that reaches the mixer: the call `bwd_dycat`. -/
module

public import proofs.«01_k».proof.Proof.Gen.Kernel16Ideal.Value
public import proofs.«01_k».proof.Proof.Gen.Reference16Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel16Ideal.Product

open Cert.Kernel16Ideal Cert.Kernel16Ideal.Gen

variable (m : (ℓ : Loc nD τ sig) → Buf (Elt Ideal) ℓ)

/-- What the reference returns. -/
noncomputable abbrev REF (X : FVec Ideal S4096x2048 .bf16) (W : FVec Ideal S2048x2048 .bf16) :
    FVec Ideal Cert.Reference16Ideal.S4096x2048 .f32 :=
    Host.dotGeneral Cert.Reference16Ideal.dot_S4096x2048_S2048x2048_S4096x2048_1_1_0_0_n_n none (extf .f32 X
    Cert.Reference16Ideal.Gen.bitsLt_bf16_f32) (extf .f32 W Cert.Reference16Ideal.Gen.bitsLt_bf16_f32)

/-- Which block each window is on. -/
theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem hpay1 (x : FVec Ideal S1024x2048 .bf16) (y : FVec Ideal S1x1024x2048 .bf16) (j : S1024x1024.Idx) :
    k0_pay1 (F := Ideal) x y j = ∑ k : Fin 2048, x (ix2 (j 0) k) * y (ix3 0 (j 1) k) := by
  pointwise [k0_pay1]

theorem href (X : FVec Ideal S4096x2048 .bf16) (W : FVec Ideal S2048x2048 .bf16) (j : S4096x2048.Idx) :
    REF X W j = ∑ k : Fin 2048, X (ix2 (j 0) k) * W (ix2 (j 1) k) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel16Ideal.Product

end
-- ==== Proof.Products.ProjectionWeight.lean ====
/- The gradient of the input projection: the call `bwd_dw_in`. -/
module

public import proofs.«01_k».proof.Proof.Gen.Kernel17Ideal.Value
public import proofs.«01_k».proof.Proof.Gen.Reference17Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel17Ideal.Product

open Cert.Kernel17Ideal Cert.Kernel17Ideal.Gen

variable (m : (ℓ : Loc nD τ sig) → Buf (Elt Ideal) ℓ)

/-- What the reference returns. -/
noncomputable abbrev REF (X : FVec Ideal S4096x2048 .bf16) (G : FVec Ideal S4096x3072 .bf16) :
    FVec Ideal Cert.Reference17Ideal.S1x2048x3072 .bf16 :=
    broadcastInDim Cert.Reference17Ideal.S1x2048x3072 ![1, 2] Cert.Reference17Ideal.Gen.bcast_S2048x3072_S1x2048x3072_1_2
    (truncf .bf16 (transpose Cert.Reference17Ideal.S2048x3072 [1, 0] (Host.dotGeneral
    Cert.Reference17Ideal.dot_S4096x3072_S4096x2048_S3072x2048_0_0_1_1_n_n none (extf .f32 G
    Cert.Reference17Ideal.Gen.bitsLt_bf16_f32) (extf .f32 X Cert.Reference17Ideal.Gen.bitsLt_bf16_f32))
    Cert.Reference17Ideal.Gen.transposes_S3072x2048_S2048x3072_1_0) Cert.Reference17Ideal.Gen.bitsLt_bf16_f32)

/-- Which block each window is on. -/
theorem idx : ∀ t : Fin cfg0.N, win0_0.index t = ![t.val % 2, t.val / 6] ∧ win0_1.index t = ![t.val % 2, t.val / 2 % 3] ∧ win0_2.index t = ![0, t.val / 6, t.val / 2 % 3] :=
  (by decide +kernel : ∀ t : Fin grid0.N, _)

theorem hpay1 (x : FVec Ideal S2048x1024 .bf16) (y : FVec Ideal S2048x1024 .bf16) (j : S1024x1024.Idx) :
    k0_pay1 (F := Ideal) x y j = ∑ k : Fin 2048, x (ix2 k (j 0)) * y (ix2 k (j 1)) := by
  pointwise [k0_pay1]

theorem hpay3 (a : FVec Ideal S1024x1024 .f32) (x : FVec Ideal S2048x1024 .bf16) (y : FVec Ideal S2048x1024 .bf16) (j : S1x1024x1024.Idx) :
    k0_pay3 (F := Ideal) a x y j = a (ix2 (j 1) (j 2)) + ∑ k : Fin 2048, x (ix2 k (j 1)) * y (ix2 k (j 2)) := by
  pointwise [k0_pay3]

theorem href (X : FVec Ideal S4096x2048 .bf16) (G : FVec Ideal S4096x3072 .bf16) (j : S1x2048x3072.Idx) :
    REF X G j = ∑ k : Fin 4096, X (ix2 k (j 1)) * G (ix2 k (j 2)) := by
  pointwise [REF]
  exact Fin.sum_fin_congr fun k => mul_comm (_ : EReal) _

/-- The first half of the sum, which the even points leave in the scratch. -/
theorem half (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  frame_out

/-- The point before. -/
abbrev prev (t : Fin cfg0.N) : Fin cfg0.N := ⟨t.val - 1, Nat.lt_of_le_of_lt (Nat.sub_le _ _) t.isLt⟩

/-- What an odd point writes back. -/
theorem out (c : Dev nD) (t : Fin cfg0.N) (h2 : t.val % 2 = 1) :
    (outsAt0 m c t.val t.isLt).1 = k0_pay3 (F := Ideal) (k0_pay1 (F := Ideal) (iblk m c 0 (prev t)) (iblk m c 1 (prev t)))
      (iblk m c 0 t) (iblk m c 1 t) := by
  rw [outsAt0_B m c t (by omega) h2, half m c (prev t) (by dsimp only; omega)]
  frame_out
  rw [read_unread_whole]

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out m c t ((flush0_2 t).mp hf), hpay3, hpay1, href]
  have h2 : t.val % 2 = 1 := (flush0_2 t).mp hf
  refine Cert.Sums.two (n := 2048) _ _ _ (fun k => ?_) (fun k => ?_)
  · blk_point [iblk, V, idx t, idx (prev t)] <;> omega
  · blk_point [iblk, V, idx t] <;> omega

end Cert.Kernel17Ideal.Product

end
-- ==== Proof.Products.ProjectionInput.lean ====
/- The gradient that leaves the step, with the residual's: the call `bwd_dx` adds eight parts of the contraction, one for each block of columns of the weight. -/
module

public import proofs.«01_k».proof.Proof.Gen.Kernel18Ideal.Value
public import proofs.«01_k».proof.Proof.Gen.Reference18Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel18Ideal.Product

open Cert.Kernel18Ideal Cert.Kernel18Ideal.Gen

variable (m : (ℓ : Loc nD τ sig) → Buf (Elt Ideal) ℓ)

/-- What the reference returns. -/
noncomputable abbrev REF (X : FVec Ideal S4096x3072 .bf16) (W : FVec Ideal S8x2048x384 .bf16) (E : FVec Ideal S4096x2048 .f32) :
    FVec Ideal Cert.Reference18Ideal.S4096x2048 .f32 :=
    addf (mulf (broadcastInDim Cert.Reference18Ideal.S4096x2048 ![] Cert.Reference18Ideal.Gen.bcast_S_S4096x2048 (constant
    Cert.Reference18Ideal.S_ .f32 0x3F9837F0#32)) E) (Host.dotGeneral
    Cert.Reference18Ideal.dot_S4096x3072_S2048x3072_S4096x2048_1_1_0_0_n_n none (extf .f32 X
    Cert.Reference18Ideal.Gen.bitsLt_bf16_f32) (shapeCast Cert.Reference18Ideal.S2048x3072 (transpose
    Cert.Reference18Ideal.S2048x8x384 [1, 0, 2] (extf .f32 W Cert.Reference18Ideal.Gen.bitsLt_bf16_f32)
    Cert.Reference18Ideal.Gen.transposes_S8x2048x384_S2048x8x384_1_0_2)
    Cert.Reference18Ideal.Gen.shapeCasts_S2048x8x384_S2048x3072))

/-- Which block each window is on. -/
theorem idx : ∀ t : Fin cfg0.N, win0_0.index t = ![t.val / 16, t.val % 8] ∧ win0_1.index t = ![t.val % 8, t.val / 8 % 2, 0] ∧ win0_2.index t = ![t.val / 16, t.val / 8 % 2] ∧ win0_3.index t = ![t.val / 16, t.val / 8 % 2] :=
  (by decide +kernel : ∀ t : Fin grid0.N, _)

theorem hpay1 (x : FVec Ideal S1024x384 .bf16) (y : FVec Ideal S1x1024x384 .bf16) (j : S1024x1024.Idx) :
    k0_pay1 (F := Ideal) x y j = ∑ k : Fin 384, x (ix2 (j 0) k) * y (ix3 0 (j 1) k) := by
  pointwise [k0_pay1]

theorem hpay2 (a : FVec Ideal S1024x1024 .f32) (x : FVec Ideal S1024x384 .bf16) (y : FVec Ideal S1x1024x384 .bf16) (j : S1024x1024.Idx) :
    k0_pay2 (F := Ideal) a x y j = a j + ∑ k : Fin 384, x (ix2 (j 0) k) * y (ix3 0 (j 1) k) := by
  pointwise [k0_pay2]

theorem hpay3 (a : FVec Ideal S1024x1024 .f32) (x : FVec Ideal S1024x384 .bf16) (y : FVec Ideal S1x1024x384 .bf16) (e : FVec Ideal S1024x1024 .f32) (j : S1024x1024.Idx) :
    k0_pay3 (F := Ideal) a x y e j = a j + ∑ k : Fin 384, x (ix2 (j 0) k) * y (ix3 0 (j 1) k) + Cert.Sums.alpha * e j := by
  pointwise [k0_pay3]

theorem href (X : FVec Ideal S4096x3072 .bf16) (W : FVec Ideal S8x2048x384 .bf16) (E : FVec Ideal S4096x2048 .f32) (j : S4096x2048.Idx) :
    REF X W E j = (∑ k : Fin 3072, X (ix2 (j 0) k) * W (ix3 ⟨k.val / 384, by omega⟩ (j 1) ⟨k.val % 384, by omega⟩)) + Cert.Sums.alpha * E j := by
  pointwise [REF]
  exact add_comm (_ : EReal) _

/-- The point before. -/
abbrev prev (t : Fin cfg0.N) : Fin cfg0.N := ⟨t.val - 1, Nat.lt_of_le_of_lt (Nat.sub_le _ _) t.isLt⟩

theorem scratch_first (c : Dev nD) (t : Fin cfg0.N) (h : t.val % 8 = 0) :
    (outsAt0 m c t.val t.isLt).2 = k0_pay1 (F := Ideal) (iblk m c 0 t) (iblk m c 1 t) := by
  rw [outsAt0_A m c t h (by omega) (by omega)]
  frame_out

theorem scratch_step (c : Dev nD) (t : Fin cfg0.N) (h1 : 1 ≤ t.val % 8) (h2 : t.val % 8 ≤ 6) :
    (outsAt0 m c t.val t.isLt).2 = k0_pay2 (F := Ideal) (outsAt0 m c (prev t).val (prev t).isLt).2 (iblk m c 0 t) (iblk m c 1 t) := by
  rw [outsAt0_B m c t (by omega) ⟨h1, h2⟩ (by omega)]
  frame_out
  rw [read_unread_whole]

theorem out_last (c : Dev nD) (t : Fin cfg0.N) (h : t.val % 8 = 7) :
    (outsAt0 m c t.val t.isLt).1 = k0_pay3 (F := Ideal) (outsAt0 m c (prev t).val (prev t).isLt).2 (iblk m c 0 t) (iblk m c 1 t)
      (iblk m c 2 t) := by
  rw [outsAt0_C m c t (by omega) (by omega) h]
  frame_out
  rw [read_unread_whole]

/-- The array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 : t.val % 8 = 7 := (flush0_3 t).mp hf
  rw [after0_3, out_last m c t h3,
    scratch_step m c (prev t) (by dsimp only; omega) (by dsimp only; omega),
    scratch_step m c (prev (prev t)) (by dsimp only; omega) (by dsimp only; omega),
    scratch_step m c (prev (prev (prev t))) (by dsimp only; omega) (by dsimp only; omega),
    scratch_step m c (prev (prev (prev (prev t)))) (by dsimp only; omega) (by dsimp only; omega),
    scratch_step m c (prev (prev (prev (prev (prev t))))) (by dsimp only; omega) (by dsimp only; omega),
    scratch_step m c (prev (prev (prev (prev (prev (prev t)))))) (by dsimp only; omega) (by dsimp only; omega),
    scratch_first m c (prev (prev (prev (prev (prev (prev (prev t))))))) (by dsimp only; omega), hpay3, hpay2, hpay2, hpay2, hpay2, hpay2, hpay2,
    hpay1, href]
  refine congrArg₂ (· + ·) (Cert.Sums.eight (n := 384) _ _ _ _ _ _ _ _ _ (fun k => ?_) (fun k => ?_) (fun k => ?_) (fun k => ?_)
    (fun k => ?_) (fun k => ?_) (fun k => ?_) (fun k => ?_)) ?_
  · blk_point [iblk, V, idx t, idx (prev (prev (prev (prev (prev (prev (prev t)))))))] <;> omega
  · blk_point [iblk, V, idx t, idx (prev (prev (prev (prev (prev (prev t))))))] <;> omega
  · blk_point [iblk, V, idx t, idx (prev (prev (prev (prev (prev t)))))] <;> omega
  · blk_point [iblk, V, idx t, idx (prev (prev (prev (prev t))))] <;> omega
  · blk_point [iblk, V, idx t, idx (prev (prev (prev t)))] <;> omega
  · blk_point [iblk, V, idx t, idx (prev (prev t))] <;> omega
  · blk_point [iblk, V, idx t, idx (prev t)] <;> omega
  · blk_point [iblk, V, idx t] <;> omega
  · blk_point [iblk, V, idx t]

end Cert.Kernel18Ideal.Product

end
-- ==== Proof.Products.Projection.lean ====
/- The input projection: the call `fwd_proj`, over one block of columns from each device. -/
module

public import proofs.«01_k».proof.Proof.Gen.Kernel19Ideal.Value
public import proofs.«01_k».proof.Proof.Gen.Reference19Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel19Ideal.Product

open Cert.Kernel19Ideal Cert.Kernel19Ideal.Gen

variable (m : (ℓ : Loc nD τ sig) → Buf (Elt Ideal) ℓ)

/-- What the reference returns. -/
noncomputable abbrev REF (X : FVec Ideal S4096x2048 .bf16) (W : FVec Ideal S8x2048x384 .bf16) :
    FVec Ideal Cert.Reference19Ideal.S4096x3072 .f32 :=
    Host.dotGeneral Cert.Reference19Ideal.dot_S4096x2048_S2048x3072_S4096x3072_1_0_0_1_n_n none (extf .f32 X
    Cert.Reference19Ideal.Gen.bitsLt_bf16_f32) (shapeCast Cert.Reference19Ideal.S2048x3072 (transpose
    Cert.Reference19Ideal.S2048x8x384 [1, 0, 2] (extf .f32 W Cert.Reference19Ideal.Gen.bitsLt_bf16_f32)
    Cert.Reference19Ideal.Gen.transposes_S8x2048x384_S2048x8x384_1_0_2)
    Cert.Reference19Ideal.Gen.shapeCasts_S2048x8x384_S2048x3072)

/-- Which block each window is on. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem hpay1 (x : FVec Ideal S1024x2048 .bf16) (y : FVec Ideal S1x2048x384 .bf16) (j : S1024x384.Idx) :
    k0_pay1 (F := Ideal) x y j = ∑ k : Fin 2048, x (ix2 (j 0) k) * y (ix3 0 k (j 1)) := by
  pointwise [k0_pay1]

theorem href (X : FVec Ideal S4096x2048 .bf16) (W : FVec Ideal S8x2048x384 .bf16) (j : S4096x3072.Idx) :
    REF X W j = ∑ k : Fin 2048, X (ix2 (j 0) k) * W (ix3 ⟨(j 1).val / 384, by have h : (j 1).val < 3072 := (j 1).isLt; omega⟩ k ⟨(j 1).val % 384, by omega⟩) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel19Ideal.Product

end
-- ==== Proof.Products.Key.lean ====
/- The keys and the values: the calls `fwd_k` and `fwd_v`. -/
module

public import proofs.«01_k».proof.Proof.Gen.Kernel20Ideal.Value
public import proofs.«01_k».proof.Proof.Gen.Reference20Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel20Ideal.Product

open Cert.Kernel20Ideal Cert.Kernel20Ideal.Gen

variable (m : (ℓ : Loc nD τ sig) → Buf (Elt Ideal) ℓ)

/-- What the reference returns. -/
noncomputable abbrev REF (X : FVec Ideal S256x2048 .bf16) (W : FVec Ideal S2048x2048 .bf16) :
    FVec Ideal Cert.Reference20Ideal.S256x2048 .bf16 :=
    truncf .bf16 (Host.dotGeneral Cert.Reference20Ideal.dot_S256x2048_S2048x2048_S256x2048_1_0_0_1_n_n none (extf .f32 X
    Cert.Reference20Ideal.Gen.bitsLt_bf16_f32) (extf .f32 W Cert.Reference20Ideal.Gen.bitsLt_bf16_f32))
    Cert.Reference20Ideal.Gen.bitsLt_bf16_f32

/-- Which block each window is on. -/
theorem idx : ∀ t : Fin cfg0.N, win0_0.index t = ![0, 0] ∧ win0_1.index t = ![0, 0, t.val % 2] ∧ win0_2.index t = ![0, t.val % 2] :=
  (by decide +kernel : ∀ t : Fin grid0.N, _)

theorem hpay1 (x : FVec Ideal S256x2048 .bf16) (y : FVec Ideal S1x2048x1024 .bf16) (j : S256x1024.Idx) :
    k0_pay1 (F := Ideal) x y j = ∑ k : Fin 2048, x (ix2 (j 0) k) * y (ix3 0 k (j 1)) := by
  pointwise [k0_pay1]

theorem href (X : FVec Ideal S256x2048 .bf16) (W : FVec Ideal S2048x2048 .bf16) (j : S256x2048.Idx) :
    REF X W j = ∑ k : Fin 2048, X (ix2 (j 0) k) * W (ix2 k (j 1)) := by
  pointwise [REF]

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel20Ideal.Product

end
-- ==== Proof.Products.KeyWeight.lean ====
/- The gradient of the keys' weight and of the values': the calls `bwd_dw_k` and `bwd_dw_v`. -/
module

public import proofs.«01_k».proof.Proof.Gen.Kernel21Ideal.Value
public import proofs.«01_k».proof.Proof.Gen.Reference21Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel21Ideal.Product

open Cert.Kernel21Ideal Cert.Kernel21Ideal.Gen

variable (m : (ℓ : Loc nD τ sig) → Buf (Elt Ideal) ℓ)

/-- What the reference returns. -/
noncomputable abbrev REF (X : FVec Ideal S256x2048 .bf16) (G : FVec Ideal S256x2048 .bf16) :
    FVec Ideal Cert.Reference21Ideal.S1x2048x2048 .bf16 :=
    broadcastInDim Cert.Reference21Ideal.S1x2048x2048 ![1, 2] Cert.Reference21Ideal.Gen.bcast_S2048x2048_S1x2048x2048_1_2
    (truncf .bf16 (transpose Cert.Reference21Ideal.S2048x2048 [1, 0] (Host.dotGeneral
    Cert.Reference21Ideal.dot_S256x2048_S256x2048_S2048x2048_0_0_1_1_n_n none (extf .f32 G
    Cert.Reference21Ideal.Gen.bitsLt_bf16_f32) (extf .f32 X Cert.Reference21Ideal.Gen.bitsLt_bf16_f32))
    Cert.Reference21Ideal.Gen.transposes_S2048x2048_S2048x2048_1_0) Cert.Reference21Ideal.Gen.bitsLt_bf16_f32)

/-- Which block each window is on. -/
theorem idx : ∀ t : Fin cfg0.N, win0_0.index t = ![0, t.val / 2] ∧ win0_1.index t = ![0, t.val % 2] ∧ win0_2.index t = ![0, t.val / 2, t.val % 2] :=
  (by decide +kernel : ∀ t : Fin grid0.N, _)

theorem hpay1 (x : FVec Ideal S256x1024 .bf16) (y : FVec Ideal S256x1024 .bf16) (j : S1x1024x1024.Idx) :
    k0_pay1 (F := Ideal) x y j = ∑ k : Fin 256, x (ix2 k (j 1)) * y (ix2 k (j 2)) := by
  pointwise [k0_pay1]

theorem href (X : FVec Ideal S256x2048 .bf16) (G : FVec Ideal S256x2048 .bf16) (j : S1x2048x2048.Idx) :
    REF X G j = ∑ k : Fin 256, X (ix2 k (j 1)) * G (ix2 k (j 2)) := by
  pointwise [REF]
  exact Fin.sum_fin_congr fun k => mul_comm (_ : EReal) _

/-- What a point writes back. -/
theorem out (c : Dev nD) (t : Fin cfg0.N) :
    out0_2 (F := Ideal) (iblk m c 0 t) (iblk m c 1 t) = k0_pay1 (F := Ideal) (iblk m c 0 t) (iblk m c 1 t) := by
  frame_out

/-- The array after the run. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2, out, hpay1, href]
  refine Cert.Sums.congr fun k => ?_
  blk_point [iblk, V, idx t]

end Cert.Kernel21Ideal.Product

end
-- ==== Proof.Products.Claims.lean ====
/- The value claims of the products. -/
module

public import proofs.«01_k».proof.Defs
public import proofs.«01_k».proof.Proof.Products.HiddenGradient
public import proofs.«01_k».proof.Proof.Products.HiddenWeight
public import proofs.«01_k».proof.Proof.Products.Hidden
public import proofs.«01_k».proof.Proof.Products.HiddenInput
public import proofs.«01_k».proof.Proof.Products.SquareWeight
public import proofs.«01_k».proof.Proof.Products.SquareOut
public import proofs.«01_k».proof.Proof.Products.Query
public import proofs.«01_k».proof.Proof.Products.MixtureGradient
public import proofs.«01_k».proof.Proof.Products.AttentionInput
public import proofs.«01_k».proof.Proof.Products.MixerGradient
public import proofs.«01_k».proof.Proof.Products.ProjectionWeight
public import proofs.«01_k».proof.Proof.Products.ProjectionInput
public import proofs.«01_k».proof.Proof.Products.Projection
public import proofs.«01_k».proof.Proof.Products.Key
public import proofs.«01_k».proof.Proof.Products.KeyWeight
public import Idealize.ShloMosaic.Lib.Claim

@[expose] public section

set_option maxRecDepth 16384

noncomputable section

namespace Cert.Products

open Idealize.ShloMosaic Idealize.ShloMosaic.TcCoe Idealize.SL.Sem

theorem hiddenGradient : Cert.algebraic_Kernel7Ideal_Reference7Ideal := by
  pair_intro
  · run_from Cert.Kernel7Ideal.Gen.run_main m g
  · run_from Cert.Reference7Ideal.Value.run m' g'
    exact (Cert.Kernel7Ideal.Product.final m c).symm

theorem hiddenWeight : Cert.algebraic_Kernel8Ideal_Reference8Ideal := by
  pair_intro
  · run_from Cert.Kernel8Ideal.Gen.run_main m g
  · run_from Cert.Reference8Ideal.Value.run m' g'
    exact (Cert.Kernel8Ideal.Product.final m c).symm

theorem hidden : Cert.algebraic_Kernel9Ideal_Reference9Ideal := by
  pair_intro
  · run_from Cert.Kernel9Ideal.Gen.run_main m g
  · run_from Cert.Reference9Ideal.Value.run m' g'
    · exact (Cert.Kernel9Ideal.Product.final0 m c).symm
    · exact (Cert.Kernel9Ideal.Product.final1 m c).symm

theorem hiddenInput : Cert.algebraic_Kernel10Ideal_Reference10Ideal := by
  pair_intro
  · run_from Cert.Kernel10Ideal.Gen.run_main m g
  · run_from Cert.Reference10Ideal.Value.run m' g'
    exact (Cert.Kernel10Ideal.Product.final m c).symm

theorem squareWeight : Cert.algebraic_Kernel11Ideal_Reference11Ideal := by
  pair_intro
  · run_from Cert.Kernel11Ideal.Gen.run_main m g
  · run_from Cert.Reference11Ideal.Value.run m' g'
    exact (Cert.Kernel11Ideal.Product.final m c).symm

theorem squareOut : Cert.algebraic_Kernel12Ideal_Reference12Ideal := by
  pair_intro
  · run_from Cert.Kernel12Ideal.Gen.run_main m g
  · run_from Cert.Reference12Ideal.Value.run m' g'
    exact (Cert.Kernel12Ideal.Product.final m c).symm

theorem query : Cert.algebraic_Kernel13Ideal_Reference13Ideal := by
  pair_intro
  · run_from Cert.Kernel13Ideal.Gen.run_main m g
  · run_from Cert.Reference13Ideal.Value.run m' g'
    exact (Cert.Kernel13Ideal.Product.final m c).symm

theorem mixtureGradient : Cert.algebraic_Kernel14Ideal_Reference14Ideal := by
  pair_intro
  · run_from Cert.Kernel14Ideal.Gen.run_main m g
  · run_from Cert.Reference14Ideal.Value.run m' g'
    exact (Cert.Kernel14Ideal.Product.final m c).symm

theorem attentionInput : Cert.algebraic_Kernel15Ideal_Reference15Ideal := by
  pair_intro
  · run_from Cert.Kernel15Ideal.Gen.run_main m g
  · run_from Cert.Reference15Ideal.Value.run m' g'
    exact (Cert.Kernel15Ideal.Product.final m c).symm

theorem mixerGradient : Cert.algebraic_Kernel16Ideal_Reference16Ideal := by
  pair_intro
  · run_from Cert.Kernel16Ideal.Gen.run_main m g
  · run_from Cert.Reference16Ideal.Value.run m' g'
    exact (Cert.Kernel16Ideal.Product.final m c).symm

theorem projectionWeight : Cert.algebraic_Kernel17Ideal_Reference17Ideal := by
  pair_intro
  · run_from Cert.Kernel17Ideal.Gen.run_main m g
  · run_from Cert.Reference17Ideal.Value.run m' g'
    exact (Cert.Kernel17Ideal.Product.final m c).symm

theorem projectionInput : Cert.algebraic_Kernel18Ideal_Reference18Ideal := by
  pair_intro
  · run_from Cert.Kernel18Ideal.Gen.run_main m g
  · run_from Cert.Reference18Ideal.Value.run m' g'
    exact (Cert.Kernel18Ideal.Product.final m c).symm

theorem projection : Cert.algebraic_Kernel19Ideal_Reference19Ideal := by
  pair_intro
  · run_from Cert.Kernel19Ideal.Gen.run_main m g
  · run_from Cert.Reference19Ideal.Value.run m' g'
    exact (Cert.Kernel19Ideal.Product.final m c).symm

theorem key : Cert.algebraic_Kernel20Ideal_Reference20Ideal := by
  pair_intro
  · run_from Cert.Kernel20Ideal.Gen.run_main m g
  · run_from Cert.Reference20Ideal.Value.run m' g'
    exact (Cert.Kernel20Ideal.Product.final m c).symm

theorem keyWeight : Cert.algebraic_Kernel21Ideal_Reference21Ideal := by
  pair_intro
  · run_from Cert.Kernel21Ideal.Gen.run_main m g
  · run_from Cert.Reference21Ideal.Value.run m' g'
    exact (Cert.Kernel21Ideal.Product.final m c).symm

end Cert.Products

end
-- ==== Proof.Optimiser.Step.lean ====
/- One step of AdamW at one entry: the new moments and the change of the weight, as extended reals. -/
module

public import Idealize.ShloMosaic.Lib.Pipeline.ValueKit

@[expose] public section

set_option maxRecDepth 16384

noncomputable section

open Idealize.ShloMosaic

namespace Cert.Adam

/-- The new first moment of the old one and the gradient. -/
def first (m g : EReal) : EReal := Ideal.ofBits .f32 1063675494#32 * m + Ideal.ofBits .f32 1036831949#32 * g

/-- The new second moment of the old one and the gradient. -/
def second (v g : EReal) : EReal := Ideal.ofBits .f32 1065336439#32 * v + Ideal.ofBits .f32 981668463#32 * (g * g)

/-- The change of the weight. -/
def change (w m v g : EReal) : EReal :=
  Ideal.ofBits .f32 3129152111#32 *
    (Ideal.div (Ideal.div (first m g) (Ideal.ofBits .f32 1059503362#32))
        (Ideal.sqrt (Ideal.div (second v g) (Ideal.ofBits .f32 1008933580#32)) + Ideal.ofBits .f32 841731191#32)
      + Ideal.ofBits .f32 1008981770#32 * w)

theorem first_congr {m m' g g' : EReal} (h : m = m') (k : g = g') : first m g = first m' g' := by rw [h, k]

theorem second_congr {v v' g g' : EReal} (h : v = v') (k : g = g') : second v g = second v' g' := by rw [h, k]

theorem change_congr {w w' m m' v v' g g' : EReal} (a : w = w') (b : m = m') (h : v = v') (k : g = g') :
    change w m v g = change w' m' v' g' := by rw [a, b, h, k]

end Cert.Adam

end
-- ==== Proof.Optimiser.HeadWeight.lean ====
/- The AdamW step of the gates' weights: the call leaves what the reference returns, in each of its four results. -/
module

public import proofs.«01_k».proof.Proof.Gen.Kernel22Ideal.Value
public import proofs.«01_k».proof.Proof.Gen.Reference22Ideal.Run
public import Idealize.ShloMosaic.Lib.Pipeline.ReadBack
public import proofs.«01_k».proof.Proof.Sums
public import proofs.«01_k».proof.Proof.Optimiser.Step

@[expose] public section

set_option maxRecDepth 16384

noncomputable section

open Idealize.ShloMosaic Idealize.ShloMosaic.TcCoe Idealize.SL.Sem
open Idealize.ShloMosaic.Pipeline (Dat)

namespace Cert.Kernel22Ideal.Step

open Cert.Kernel22Ideal Cert.Kernel22Ideal.Gen

variable (m : (ℓ : Loc nD τ sig) → Buf (Elt Ideal) ℓ)

/-- The gradient that the reference returns. -/
noncomputable abbrev REFG (p : FVec Ideal S1x1024x128 .f32) : FVec Ideal Cert.Reference22Ideal.S1024x128 .f32 := (shapeCast Cert.Reference22Ideal.S1024x128 p Cert.Reference22Ideal.Gen.shapeCasts_S1x1024x128_S1024x128)

/-- The change of the weights that the reference returns. -/
noncomputable abbrev REFD (w m v : FVec Ideal S1024x128 .f32) (p : FVec Ideal S1x1024x128 .f32) : FVec Ideal Cert.Reference22Ideal.S1024x128 .f32 :=
    mulf (broadcastInDim Cert.Reference22Ideal.S1024x128 ![] Cert.Reference22Ideal.Gen.bcast_S_S1024x128 (constant Cert.Reference22Ideal.S_ .f32 0xBA83126F#32))
      (addf (Host.divf (Host.divf (addf (mulf (broadcastInDim Cert.Reference22Ideal.S1024x128 ![] Cert.Reference22Ideal.Gen.bcast_S_S1024x128 (constant Cert.Reference22Ideal.S_ .f32 0x3F666666#32)) m) (mulf (broadcastInDim Cert.Reference22Ideal.S1024x128 ![] Cert.Reference22Ideal.Gen.bcast_S_S1024x128 (constant Cert.Reference22Ideal.S_ .f32 0x3DCCCCCD#32)) (shapeCast Cert.Reference22Ideal.S1024x128 p Cert.Reference22Ideal.Gen.shapeCasts_S1x1024x128_S1024x128))) (broadcastInDim Cert.Reference22Ideal.S1024x128 ![] Cert.Reference22Ideal.Gen.bcast_S_S1024x128 (constant Cert.Reference22Ideal.S_ .f32 0x3F26BD02#32)))
          (addf (Host.sqrt (Host.divf (addf (mulf (broadcastInDim Cert.Reference22Ideal.S1024x128 ![] Cert.Reference22Ideal.Gen.bcast_S_S1024x128 (constant Cert.Reference22Ideal.S_ .f32 0x3F7FBE77#32)) v) (mulf (broadcastInDim Cert.Reference22Ideal.S1024x128 ![] Cert.Reference22Ideal.Gen.bcast_S_S1024x128 (constant Cert.Reference22Ideal.S_ .f32 0x3A83126F#32)) (mulf (shapeCast Cert.Reference22Ideal.S1024x128 p Cert.Reference22Ideal.Gen.shapeCasts_S1x1024x128_S1024x128) (shapeCast Cert.Reference22Ideal.S1024x128 p Cert.Reference22Ideal.Gen.shapeCasts_S1x1024x128_S1024x128)))) (broadcastInDim Cert.Reference22Ideal.S1024x128 ![] Cert.Reference22Ideal.Gen.bcast_S_S1024x128 (constant Cert.Reference22Ideal.S_ .f32 0x3C231ACC#32)))) (broadcastInDim Cert.Reference22Ideal.S1024x128 ![] Cert.Reference22Ideal.Gen.bcast_S_S1024x128 (constant Cert.Reference22Ideal.S_ .f32 0x322BCC77#32))))
        (mulf (broadcastInDim Cert.Reference22Ideal.S1024x128 ![] Cert.Reference22Ideal.Gen.bcast_S_S1024x128 (constant Cert.Reference22Ideal.S_ .f32 0x3C23D70A#32)) w))

/-- The new first moments that the reference returns. -/
noncomputable abbrev REFM (m : FVec Ideal S1024x128 .f32) (p : FVec Ideal S1x1024x128 .f32) : FVec Ideal Cert.Reference22Ideal.S1024x128 .f32 :=
    addf (mulf (broadcastInDim Cert.Reference22Ideal.S1024x128 ![] Cert.Reference22Ideal.Gen.bcast_S_S1024x128 (constant Cert.Reference22Ideal.S_ .f32 0x3F666666#32)) m) (mulf (broadcastInDim Cert.Reference22Ideal.S1024x128 ![] Cert.Reference22Ideal.Gen.bcast_S_S1024x128 (constant Cert.Reference22Ideal.S_ .f32 0x3DCCCCCD#32)) (shapeCast Cert.Reference22Ideal.S1024x128 p Cert.Reference22Ideal.Gen.shapeCasts_S1x1024x128_S1024x128))

/-- The new second moments that the reference returns. -/
noncomputable abbrev REFV (v : FVec Ideal S1024x128 .f32) (p : FVec Ideal S1x1024x128 .f32) : FVec Ideal Cert.Reference22Ideal.S1024x128 .f32 :=
    addf (mulf (broadcastInDim Cert.Reference22Ideal.S1024x128 ![] Cert.Reference22Ideal.Gen.bcast_S_S1024x128 (constant Cert.Reference22Ideal.S_ .f32 0x3F7FBE77#32)) v) (mulf (broadcastInDim Cert.Reference22Ideal.S1024x128 ![] Cert.Reference22Ideal.Gen.bcast_S_S1024x128 (constant Cert.Reference22Ideal.S_ .f32 0x3A83126F#32)) (mulf (shapeCast Cert.Reference22Ideal.S1024x128 p Cert.Reference22Ideal.Gen.shapeCasts_S1x1024x128_S1024x128) (shapeCast Cert.Reference22Ideal.S1024x128 p Cert.Reference22Ideal.Gen.shapeCasts_S1x1024x128_S1024x128)))

theorem refG (p : FVec Ideal S1x1024x128 .f32) (j : S1024x128.Idx) : REFG p j = p (ix3 0 (j 0) (j 1)) := by
  pointwise [REFG]

theorem refM (m : FVec Ideal S1024x128 .f32) (p : FVec Ideal S1x1024x128 .f32) (j : S1024x128.Idx) : REFM m p j = Cert.Adam.first (m j) (p (ix3 0 (j 0) (j 1))) := by
  pointwise [REFM, Cert.Adam.first]

theorem refV (v : FVec Ideal S1024x128 .f32) (p : FVec Ideal S1x1024x128 .f32) (j : S1024x128.Idx) : REFV v p j = Cert.Adam.second (v j) (p (ix3 0 (j 0) (j 1))) := by
  pointwise [REFV, Cert.Adam.second]

theorem refD (w m v : FVec Ideal S1024x128 .f32) (p : FVec Ideal S1x1024x128 .f32) (j : S1024x128.Idx) : REFD w m v p j = Cert.Adam.change (w j) (m j) (v j) (p (ix3 0 (j 0) (j 1))) := by
  pointwise [REFD, Cert.Adam.change, Cert.Adam.first, Cert.Adam.second]

theorem payG (p : FVec Ideal S1x128x128 .f32) (j : S128x128.Idx) : k0_pay1 (F := Ideal) p j = p (ix3 0 (j 0) (j 1)) := by
  pointwise [k0_pay1]

theorem payM (p : FVec Ideal S1x128x128 .f32) (m : FVec Ideal S128x128 .f32) (j : S128x128.Idx) :
    k0_pay2 (F := Ideal) p m j = Cert.Adam.first (m j) (p (ix3 0 (j 0) (j 1))) := by
  pointwise [k0_pay2, k0_pay1, Cert.Adam.first]

theorem payV (p : FVec Ideal S1x128x128 .f32) (v : FVec Ideal S128x128 .f32) (j : S128x128.Idx) :
    k0_pay3 (F := Ideal) p v j = Cert.Adam.second (v j) (p (ix3 0 (j 0) (j 1))) := by
  pointwise [k0_pay3, k0_pay1, Cert.Adam.second]

theorem payD (p : FVec Ideal S1x128x128 .f32) (m v w : FVec Ideal S128x128 .f32) (j : S128x128.Idx) :
    k0_pay4 (F := Ideal) p m v w j = Cert.Adam.change (w j) (m j) (v j) (p (ix3 0 (j 0) (j 1))) := by
  pointwise [k0_pay4, k0_pay3, k0_pay2, k0_pay1, Cert.Adam.change, Cert.Adam.first, Cert.Adam.second]

/-- Which block each window is on. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point writes back. -/
theorem outG (c : Dev nD) (t : Fin cfg0.N) :
    out0_4 (F := Ideal) (iblk m c 0 t) (iblk m c 1 t) (iblk m c 2 t) (iblk m c 3 t) = k0_pay1 (F := Ideal) (iblk m c 3 t) := by
  frame_out

/-- The array after the run. -/
theorem finalG (c : Dev nD) : (dats m 0 c).arrAt 4 cfg0.N = REFG (m ((c : Thread nD τ).loc main_arg3)) := by
  refine (dats m 0 c).arrAt_eq_of_covers 4 _ (by decide +kernel) fun t hf y => ?_
  blk_simp
  rw [after0_4, outG, payG, refG]
  blk_point [iblk, V, idx t]

/-- What a point writes back. -/
theorem outD (c : Dev nD) (t : Fin cfg0.N) :
    out0_5 (F := Ideal) (iblk m c 0 t) (iblk m c 1 t) (iblk m c 2 t) (iblk m c 3 t) = k0_pay4 (F := Ideal) (iblk m c 3 t) (iblk m c 1 t) (iblk m c 2 t) (iblk m c 0 t) := by
  frame_out

/-- The array after the run. -/
theorem finalD (c : Dev nD) : (dats m 0 c).arrAt 5 cfg0.N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD, payD, refD]
  refine Cert.Adam.change_congr ?_ ?_ ?_ ?_ <;> blk_point [iblk, V, idx t]

/-- What a point writes back. -/
theorem outM (c : Dev nD) (t : Fin cfg0.N) :
    out0_6 (F := Ideal) (iblk m c 0 t) (iblk m c 1 t) (iblk m c 2 t) (iblk m c 3 t) = k0_pay2 (F := Ideal) (iblk m c 3 t) (iblk m c 1 t) := by
  frame_out

/-- The array after the run. -/
theorem finalM (c : Dev nD) : (dats m 0 c).arrAt 6 cfg0.N = REFM (m ((c : Thread nD τ).loc main_arg1)) (m ((c : Thread nD τ).loc main_arg3)) := by
  refine (dats m 0 c).arrAt_eq_of_covers 6 _ (by decide +kernel) fun t hf y => ?_
  blk_simp
  rw [after0_6, outM, payM, refM]
  refine Cert.Adam.first_congr ?_ ?_ <;> blk_point [iblk, V, idx t]

/-- What a point writes back. -/
theorem outV (c : Dev nD) (t : Fin cfg0.N) :
    out0_7 (F := Ideal) (iblk m c 0 t) (iblk m c 1 t) (iblk m c 2 t) (iblk m c 3 t) = k0_pay3 (F := Ideal) (iblk m c 3 t) (iblk m c 2 t) := by
  frame_out

/-- The array after the run. -/
theorem finalV (c : Dev nD) : (dats m 0 c).arrAt 7 cfg0.N = REFV (m ((c : Thread nD τ).loc main_arg2)) (m ((c : Thread nD τ).loc main_arg3)) := by
  refine (dats m 0 c).arrAt_eq_of_covers 7 _ (by decide +kernel) fun t hf y => ?_
  blk_simp
  rw [after0_7, outV, payV, refV]
  refine Cert.Adam.second_congr ?_ ?_ <;> blk_point [iblk, V, idx t]

end Cert.Kernel22Ideal.Step

end
-- ==== Proof.Optimiser.MixerRow.lean ====
/- The AdamW step of the mixer's rows of length 1024: the call leaves what the reference returns, in each of its four results. -/
module

public import proofs.«01_k».proof.Proof.Gen.Kernel23Ideal.Value
public import proofs.«01_k».proof.Proof.Gen.Reference23Ideal.Run
public import Idealize.ShloMosaic.Lib.Pipeline.ReadBack
public import proofs.«01_k».proof.Proof.Sums
public import proofs.«01_k».proof.Proof.Optimiser.Step

@[expose] public section

set_option maxRecDepth 16384

noncomputable section

open Idealize.ShloMosaic Idealize.ShloMosaic.TcCoe Idealize.SL.Sem
open Idealize.ShloMosaic.Pipeline (Dat)

namespace Cert.Kernel23Ideal.Step

open Cert.Kernel23Ideal Cert.Kernel23Ideal.Gen

variable (m : (ℓ : Loc nD τ sig) → Buf (Elt Ideal) ℓ)

/-- The gradient that the reference returns. -/
noncomputable abbrev REFG (p : FVec Ideal S1x1x1024 .f32) : FVec Ideal Cert.Reference23Ideal.S1x1024 .f32 := (shapeCast Cert.Reference23Ideal.S1x1024 p Cert.Reference23Ideal.Gen.shapeCasts_S1x1x1024_S1x1024)

/-- The change of the weights that the reference returns. -/
noncomputable abbrev REFD (w m v : FVec Ideal S1x1024 .f32) (p : FVec Ideal S1x1x1024 .f32) : FVec Ideal Cert.Reference23Ideal.S1x1024 .f32 :=
    mulf (broadcastInDim Cert.Reference23Ideal.S1x1024 ![] Cert.Reference23Ideal.Gen.bcast_S_S1x1024 (constant Cert.Reference23Ideal.S_ .f32 0xBA83126F#32))
      (addf (Host.divf (Host.divf (addf (mulf (broadcastInDim Cert.Reference23Ideal.S1x1024 ![] Cert.Reference23Ideal.Gen.bcast_S_S1x1024 (constant Cert.Reference23Ideal.S_ .f32 0x3F666666#32)) m) (mulf (broadcastInDim Cert.Reference23Ideal.S1x1024 ![] Cert.Reference23Ideal.Gen.bcast_S_S1x1024 (constant Cert.Reference23Ideal.S_ .f32 0x3DCCCCCD#32)) (shapeCast Cert.Reference23Ideal.S1x1024 p Cert.Reference23Ideal.Gen.shapeCasts_S1x1x1024_S1x1024))) (broadcastInDim Cert.Reference23Ideal.S1x1024 ![] Cert.Reference23Ideal.Gen.bcast_S_S1x1024 (constant Cert.Reference23Ideal.S_ .f32 0x3F26BD02#32)))
          (addf (Host.sqrt (Host.divf (addf (mulf (broadcastInDim Cert.Reference23Ideal.S1x1024 ![] Cert.Reference23Ideal.Gen.bcast_S_S1x1024 (constant Cert.Reference23Ideal.S_ .f32 0x3F7FBE77#32)) v) (mulf (broadcastInDim Cert.Reference23Ideal.S1x1024 ![] Cert.Reference23Ideal.Gen.bcast_S_S1x1024 (constant Cert.Reference23Ideal.S_ .f32 0x3A83126F#32)) (mulf (shapeCast Cert.Reference23Ideal.S1x1024 p Cert.Reference23Ideal.Gen.shapeCasts_S1x1x1024_S1x1024) (shapeCast Cert.Reference23Ideal.S1x1024 p Cert.Reference23Ideal.Gen.shapeCasts_S1x1x1024_S1x1024)))) (broadcastInDim Cert.Reference23Ideal.S1x1024 ![] Cert.Reference23Ideal.Gen.bcast_S_S1x1024 (constant Cert.Reference23Ideal.S_ .f32 0x3C231ACC#32)))) (broadcastInDim Cert.Reference23Ideal.S1x1024 ![] Cert.Reference23Ideal.Gen.bcast_S_S1x1024 (constant Cert.Reference23Ideal.S_ .f32 0x322BCC77#32))))
        (mulf (broadcastInDim Cert.Reference23Ideal.S1x1024 ![] Cert.Reference23Ideal.Gen.bcast_S_S1x1024 (constant Cert.Reference23Ideal.S_ .f32 0x3C23D70A#32)) w))

/-- The new first moments that the reference returns. -/
noncomputable abbrev REFM (m : FVec Ideal S1x1024 .f32) (p : FVec Ideal S1x1x1024 .f32) : FVec Ideal Cert.Reference23Ideal.S1x1024 .f32 :=
    addf (mulf (broadcastInDim Cert.Reference23Ideal.S1x1024 ![] Cert.Reference23Ideal.Gen.bcast_S_S1x1024 (constant Cert.Reference23Ideal.S_ .f32 0x3F666666#32)) m) (mulf (broadcastInDim Cert.Reference23Ideal.S1x1024 ![] Cert.Reference23Ideal.Gen.bcast_S_S1x1024 (constant Cert.Reference23Ideal.S_ .f32 0x3DCCCCCD#32)) (shapeCast Cert.Reference23Ideal.S1x1024 p Cert.Reference23Ideal.Gen.shapeCasts_S1x1x1024_S1x1024))

/-- The new second moments that the reference returns. -/
noncomputable abbrev REFV (v : FVec Ideal S1x1024 .f32) (p : FVec Ideal S1x1x1024 .f32) : FVec Ideal Cert.Reference23Ideal.S1x1024 .f32 :=
    addf (mulf (broadcastInDim Cert.Reference23Ideal.S1x1024 ![] Cert.Reference23Ideal.Gen.bcast_S_S1x1024 (constant Cert.Reference23Ideal.S_ .f32 0x3F7FBE77#32)) v) (mulf (broadcastInDim Cert.Reference23Ideal.S1x1024 ![] Cert.Reference23Ideal.Gen.bcast_S_S1x1024 (constant Cert.Reference23Ideal.S_ .f32 0x3A83126F#32)) (mulf (shapeCast Cert.Reference23Ideal.S1x1024 p Cert.Reference23Ideal.Gen.shapeCasts_S1x1x1024_S1x1024) (shapeCast Cert.Reference23Ideal.S1x1024 p Cert.Reference23Ideal.Gen.shapeCasts_S1x1x1024_S1x1024)))

theorem refG (p : FVec Ideal S1x1x1024 .f32) (j : S1x1024.Idx) : REFG p j = p (ix3 0 0 (j 1)) := by
  pointwise [REFG]

theorem refM (m : FVec Ideal S1x1024 .f32) (p : FVec Ideal S1x1x1024 .f32) (j : S1x1024.Idx) : REFM m p j = Cert.Adam.first (m j) (p (ix3 0 0 (j 1))) := by
  pointwise [REFM, Cert.Adam.first]

theorem refV (v : FVec Ideal S1x1024 .f32) (p : FVec Ideal S1x1x1024 .f32) (j : S1x1024.Idx) : REFV v p j = Cert.Adam.second (v j) (p (ix3 0 0 (j 1))) := by
  pointwise [REFV, Cert.Adam.second]

theorem refD (w m v : FVec Ideal S1x1024 .f32) (p : FVec Ideal S1x1x1024 .f32) (j : S1x1024.Idx) : REFD w m v p j = Cert.Adam.change (w j) (m j) (v j) (p (ix3 0 0 (j 1))) := by
  pointwise [REFD, Cert.Adam.change, Cert.Adam.first, Cert.Adam.second]

theorem payG (p : FVec Ideal S1x1x1024 .f32) (j : S1x1024.Idx) : k0_pay1 (F := Ideal) p j = p (ix3 0 0 (j 1)) := by
  pointwise [k0_pay1]

theorem payM (p : FVec Ideal S1x1x1024 .f32) (m : FVec Ideal S1x1024 .f32) (j : S1x1024.Idx) :
    k0_pay2 (F := Ideal) p m j = Cert.Adam.first (m j) (p (ix3 0 0 (j 1))) := by
  pointwise [k0_pay2, k0_pay1, Cert.Adam.first]

theorem payV (p : FVec Ideal S1x1x1024 .f32) (v : FVec Ideal S1x1024 .f32) (j : S1x1024.Idx) :
    k0_pay3 (F := Ideal) p v j = Cert.Adam.second (v j) (p (ix3 0 0 (j 1))) := by
  pointwise [k0_pay3, k0_pay1, Cert.Adam.second]

theorem payD (p : FVec Ideal S1x1x1024 .f32) (m v w : FVec Ideal S1x1024 .f32) (j : S1x1024.Idx) :
    k0_pay4 (F := Ideal) p m v w j = Cert.Adam.change (w j) (m j) (v j) (p (ix3 0 0 (j 1))) := by
  pointwise [k0_pay4, k0_pay3, k0_pay2, k0_pay1, Cert.Adam.change, Cert.Adam.first, Cert.Adam.second]

/-- Which block each window is on. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point writes back. -/
theorem outG (c : Dev nD) (t : Fin cfg0.N) :
    out0_4 (F := Ideal) (iblk m c 0 t) (iblk m c 1 t) (iblk m c 2 t) (iblk m c 3 t) = k0_pay1 (F := Ideal) (iblk m c 3 t) := by
  frame_out

/-- The array after the run. -/
theorem finalG (c : Dev nD) : (dats m 0 c).arrAt 4 cfg0.N = REFG (m ((c : Thread nD τ).loc main_arg3)) := by
  refine (dats m 0 c).arrAt_eq_of_covers 4 _ (by decide +kernel) fun t hf y => ?_
  blk_simp
  rw [after0_4, outG, payG, refG]
  blk_point [iblk, V, idx t]

/-- What a point writes back. -/
theorem outD (c : Dev nD) (t : Fin cfg0.N) :
    out0_5 (F := Ideal) (iblk m c 0 t) (iblk m c 1 t) (iblk m c 2 t) (iblk m c 3 t) = k0_pay4 (F := Ideal) (iblk m c 3 t) (iblk m c 1 t) (iblk m c 2 t) (iblk m c 0 t) := by
  frame_out

/-- The array after the run. -/
theorem finalD (c : Dev nD) : (dats m 0 c).arrAt 5 cfg0.N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD, payD, refD]
  refine Cert.Adam.change_congr ?_ ?_ ?_ ?_ <;> blk_point [iblk, V, idx t]

/-- What a point writes back. -/
theorem outM (c : Dev nD) (t : Fin cfg0.N) :
    out0_6 (F := Ideal) (iblk m c 0 t) (iblk m c 1 t) (iblk m c 2 t) (iblk m c 3 t) = k0_pay2 (F := Ideal) (iblk m c 3 t) (iblk m c 1 t) := by
  frame_out

/-- The array after the run. -/
theorem finalM (c : Dev nD) : (dats m 0 c).arrAt 6 cfg0.N = REFM (m ((c : Thread nD τ).loc main_arg1)) (m ((c : Thread nD τ).loc main_arg3)) := by
  refine (dats m 0 c).arrAt_eq_of_covers 6 _ (by decide +kernel) fun t hf y => ?_
  blk_simp
  rw [after0_6, outM, payM, refM]
  refine Cert.Adam.first_congr ?_ ?_ <;> blk_point [iblk, V, idx t]

/-- What a point writes back. -/
theorem outV (c : Dev nD) (t : Fin cfg0.N) :
    out0_7 (F := Ideal) (iblk m c 0 t) (iblk m c 1 t) (iblk m c 2 t) (iblk m c 3 t) = k0_pay3 (F := Ideal) (iblk m c 3 t) (iblk m c 2 t) := by
  frame_out

/-- The array after the run. -/
theorem finalV (c : Dev nD) : (dats m 0 c).arrAt 7 cfg0.N = REFV (m ((c : Thread nD τ).loc main_arg2)) (m ((c : Thread nD τ).loc main_arg3)) := by
  refine (dats m 0 c).arrAt_eq_of_covers 7 _ (by decide +kernel) fun t hf y => ?_
  blk_simp
  rw [after0_7, outV, payV, refV]
  refine Cert.Adam.second_congr ?_ ?_ <;> blk_point [iblk, V, idx t]

end Cert.Kernel23Ideal.Step

end
-- ==== Proof.Optimiser.NormRow.lean ====
/- The AdamW step of the layer norms' gains and shifts: the call leaves what the reference returns, in each of its four results. -/
module

public import proofs.«01_k».proof.Proof.Gen.Kernel24Ideal.Value
public import proofs.«01_k».proof.Proof.Gen.Reference24Ideal.Run
public import Idealize.ShloMosaic.Lib.Pipeline.ReadBack
public import proofs.«01_k».proof.Proof.Sums
public import proofs.«01_k».proof.Proof.Optimiser.Step

@[expose] public section

set_option maxRecDepth 16384

noncomputable section

open Idealize.ShloMosaic Idealize.ShloMosaic.TcCoe Idealize.SL.Sem
open Idealize.ShloMosaic.Pipeline (Dat)

namespace Cert.Kernel24Ideal.Step

open Cert.Kernel24Ideal Cert.Kernel24Ideal.Gen

variable (m : (ℓ : Loc nD τ sig) → Buf (Elt Ideal) ℓ)

/-- The gradient that the reference returns. -/
noncomputable abbrev REFG (p : FVec Ideal S1x1x2048 .f32) : FVec Ideal Cert.Reference24Ideal.S1x2048 .f32 := (shapeCast Cert.Reference24Ideal.S1x2048 p Cert.Reference24Ideal.Gen.shapeCasts_S1x1x2048_S1x2048)

/-- The change of the weights that the reference returns. -/
noncomputable abbrev REFD (w m v : FVec Ideal S1x2048 .f32) (p : FVec Ideal S1x1x2048 .f32) : FVec Ideal Cert.Reference24Ideal.S1x2048 .f32 :=
    mulf (broadcastInDim Cert.Reference24Ideal.S1x2048 ![] Cert.Reference24Ideal.Gen.bcast_S_S1x2048 (constant Cert.Reference24Ideal.S_ .f32 0xBA83126F#32))
      (addf (Host.divf (Host.divf (addf (mulf (broadcastInDim Cert.Reference24Ideal.S1x2048 ![] Cert.Reference24Ideal.Gen.bcast_S_S1x2048 (constant Cert.Reference24Ideal.S_ .f32 0x3F666666#32)) m) (mulf (broadcastInDim Cert.Reference24Ideal.S1x2048 ![] Cert.Reference24Ideal.Gen.bcast_S_S1x2048 (constant Cert.Reference24Ideal.S_ .f32 0x3DCCCCCD#32)) (shapeCast Cert.Reference24Ideal.S1x2048 p Cert.Reference24Ideal.Gen.shapeCasts_S1x1x2048_S1x2048))) (broadcastInDim Cert.Reference24Ideal.S1x2048 ![] Cert.Reference24Ideal.Gen.bcast_S_S1x2048 (constant Cert.Reference24Ideal.S_ .f32 0x3F26BD02#32)))
          (addf (Host.sqrt (Host.divf (addf (mulf (broadcastInDim Cert.Reference24Ideal.S1x2048 ![] Cert.Reference24Ideal.Gen.bcast_S_S1x2048 (constant Cert.Reference24Ideal.S_ .f32 0x3F7FBE77#32)) v) (mulf (broadcastInDim Cert.Reference24Ideal.S1x2048 ![] Cert.Reference24Ideal.Gen.bcast_S_S1x2048 (constant Cert.Reference24Ideal.S_ .f32 0x3A83126F#32)) (mulf (shapeCast Cert.Reference24Ideal.S1x2048 p Cert.Reference24Ideal.Gen.shapeCasts_S1x1x2048_S1x2048) (shapeCast Cert.Reference24Ideal.S1x2048 p Cert.Reference24Ideal.Gen.shapeCasts_S1x1x2048_S1x2048)))) (broadcastInDim Cert.Reference24Ideal.S1x2048 ![] Cert.Reference24Ideal.Gen.bcast_S_S1x2048 (constant Cert.Reference24Ideal.S_ .f32 0x3C231ACC#32)))) (broadcastInDim Cert.Reference24Ideal.S1x2048 ![] Cert.Reference24Ideal.Gen.bcast_S_S1x2048 (constant Cert.Reference24Ideal.S_ .f32 0x322BCC77#32))))
        (mulf (broadcastInDim Cert.Reference24Ideal.S1x2048 ![] Cert.Reference24Ideal.Gen.bcast_S_S1x2048 (constant Cert.Reference24Ideal.S_ .f32 0x3C23D70A#32)) w))

/-- The new first moments that the reference returns. -/
noncomputable abbrev REFM (m : FVec Ideal S1x2048 .f32) (p : FVec Ideal S1x1x2048 .f32) : FVec Ideal Cert.Reference24Ideal.S1x2048 .f32 :=
    addf (mulf (broadcastInDim Cert.Reference24Ideal.S1x2048 ![] Cert.Reference24Ideal.Gen.bcast_S_S1x2048 (constant Cert.Reference24Ideal.S_ .f32 0x3F666666#32)) m) (mulf (broadcastInDim Cert.Reference24Ideal.S1x2048 ![] Cert.Reference24Ideal.Gen.bcast_S_S1x2048 (constant Cert.Reference24Ideal.S_ .f32 0x3DCCCCCD#32)) (shapeCast Cert.Reference24Ideal.S1x2048 p Cert.Reference24Ideal.Gen.shapeCasts_S1x1x2048_S1x2048))

/-- The new second moments that the reference returns. -/
noncomputable abbrev REFV (v : FVec Ideal S1x2048 .f32) (p : FVec Ideal S1x1x2048 .f32) : FVec Ideal Cert.Reference24Ideal.S1x2048 .f32 :=
    addf (mulf (broadcastInDim Cert.Reference24Ideal.S1x2048 ![] Cert.Reference24Ideal.Gen.bcast_S_S1x2048 (constant Cert.Reference24Ideal.S_ .f32 0x3F7FBE77#32)) v) (mulf (broadcastInDim Cert.Reference24Ideal.S1x2048 ![] Cert.Reference24Ideal.Gen.bcast_S_S1x2048 (constant Cert.Reference24Ideal.S_ .f32 0x3A83126F#32)) (mulf (shapeCast Cert.Reference24Ideal.S1x2048 p Cert.Reference24Ideal.Gen.shapeCasts_S1x1x2048_S1x2048) (shapeCast Cert.Reference24Ideal.S1x2048 p Cert.Reference24Ideal.Gen.shapeCasts_S1x1x2048_S1x2048)))

theorem refG (p : FVec Ideal S1x1x2048 .f32) (j : S1x2048.Idx) : REFG p j = p (ix3 0 0 (j 1)) := by
  pointwise [REFG]

theorem refM (m : FVec Ideal S1x2048 .f32) (p : FVec Ideal S1x1x2048 .f32) (j : S1x2048.Idx) : REFM m p j = Cert.Adam.first (m j) (p (ix3 0 0 (j 1))) := by
  pointwise [REFM, Cert.Adam.first]

theorem refV (v : FVec Ideal S1x2048 .f32) (p : FVec Ideal S1x1x2048 .f32) (j : S1x2048.Idx) : REFV v p j = Cert.Adam.second (v j) (p (ix3 0 0 (j 1))) := by
  pointwise [REFV, Cert.Adam.second]

theorem refD (w m v : FVec Ideal S1x2048 .f32) (p : FVec Ideal S1x1x2048 .f32) (j : S1x2048.Idx) : REFD w m v p j = Cert.Adam.change (w j) (m j) (v j) (p (ix3 0 0 (j 1))) := by
  pointwise [REFD, Cert.Adam.change, Cert.Adam.first, Cert.Adam.second]

theorem payG (p : FVec Ideal S1x1x2048 .f32) (j : S1x2048.Idx) : k0_pay1 (F := Ideal) p j = p (ix3 0 0 (j 1)) := by
  pointwise [k0_pay1]

theorem payM (p : FVec Ideal S1x1x2048 .f32) (m : FVec Ideal S1x2048 .f32) (j : S1x2048.Idx) :
    k0_pay2 (F := Ideal) p m j = Cert.Adam.first (m j) (p (ix3 0 0 (j 1))) := by
  pointwise [k0_pay2, k0_pay1, Cert.Adam.first]

theorem payV (p : FVec Ideal S1x1x2048 .f32) (v : FVec Ideal S1x2048 .f32) (j : S1x2048.Idx) :
    k0_pay3 (F := Ideal) p v j = Cert.Adam.second (v j) (p (ix3 0 0 (j 1))) := by
  pointwise [k0_pay3, k0_pay1, Cert.Adam.second]

theorem payD (p : FVec Ideal S1x1x2048 .f32) (m v w : FVec Ideal S1x2048 .f32) (j : S1x2048.Idx) :
    k0_pay4 (F := Ideal) p m v w j = Cert.Adam.change (w j) (m j) (v j) (p (ix3 0 0 (j 1))) := by
  pointwise [k0_pay4, k0_pay3, k0_pay2, k0_pay1, Cert.Adam.change, Cert.Adam.first, Cert.Adam.second]

/-- Which block each window is on. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point writes back. -/
theorem outG (c : Dev nD) (t : Fin cfg0.N) :
    out0_4 (F := Ideal) (iblk m c 0 t) (iblk m c 1 t) (iblk m c 2 t) (iblk m c 3 t) = k0_pay1 (F := Ideal) (iblk m c 3 t) := by
  frame_out

/-- The array after the run. -/
theorem finalG (c : Dev nD) : (dats m 0 c).arrAt 4 cfg0.N = REFG (m ((c : Thread nD τ).loc main_arg3)) := by
  refine (dats m 0 c).arrAt_eq_of_covers 4 _ (by decide +kernel) fun t hf y => ?_
  blk_simp
  rw [after0_4, outG, payG, refG]
  blk_point [iblk, V, idx t]

/-- What a point writes back. -/
theorem outD (c : Dev nD) (t : Fin cfg0.N) :
    out0_5 (F := Ideal) (iblk m c 0 t) (iblk m c 1 t) (iblk m c 2 t) (iblk m c 3 t) = k0_pay4 (F := Ideal) (iblk m c 3 t) (iblk m c 1 t) (iblk m c 2 t) (iblk m c 0 t) := by
  frame_out

/-- The array after the run. -/
theorem finalD (c : Dev nD) : (dats m 0 c).arrAt 5 cfg0.N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD, payD, refD]
  refine Cert.Adam.change_congr ?_ ?_ ?_ ?_ <;> blk_point [iblk, V, idx t]

/-- What a point writes back. -/
theorem outM (c : Dev nD) (t : Fin cfg0.N) :
    out0_6 (F := Ideal) (iblk m c 0 t) (iblk m c 1 t) (iblk m c 2 t) (iblk m c 3 t) = k0_pay2 (F := Ideal) (iblk m c 3 t) (iblk m c 1 t) := by
  frame_out

/-- The array after the run. -/
theorem finalM (c : Dev nD) : (dats m 0 c).arrAt 6 cfg0.N = REFM (m ((c : Thread nD τ).loc main_arg1)) (m ((c : Thread nD τ).loc main_arg3)) := by
  refine (dats m 0 c).arrAt_eq_of_covers 6 _ (by decide +kernel) fun t hf y => ?_
  blk_simp
  rw [after0_6, outM, payM, refM]
  refine Cert.Adam.first_congr ?_ ?_ <;> blk_point [iblk, V, idx t]

/-- What a point writes back. -/
theorem outV (c : Dev nD) (t : Fin cfg0.N) :
    out0_7 (F := Ideal) (iblk m c 0 t) (iblk m c 1 t) (iblk m c 2 t) (iblk m c 3 t) = k0_pay3 (F := Ideal) (iblk m c 3 t) (iblk m c 2 t) := by
  frame_out

/-- The array after the run. -/
theorem finalV (c : Dev nD) : (dats m 0 c).arrAt 7 cfg0.N = REFV (m ((c : Thread nD τ).loc main_arg2)) (m ((c : Thread nD τ).loc main_arg3)) := by
  refine (dats m 0 c).arrAt_eq_of_covers 7 _ (by decide +kernel) fun t hf y => ?_
  blk_simp
  rw [after0_7, outV, payV, refV]
  refine Cert.Adam.second_congr ?_ ?_ <;> blk_point [iblk, V, idx t]

end Cert.Kernel24Ideal.Step

end
-- ==== Proof.Optimiser.ConvWeight.lean ====
/- The AdamW step of the convolution's weights: the call leaves what the reference returns, in each of its four results. -/
module

public import proofs.«01_k».proof.Proof.Gen.Kernel25Ideal.Value
public import proofs.«01_k».proof.Proof.Gen.Reference25Ideal.Run
public import Idealize.ShloMosaic.Lib.Pipeline.ReadBack
public import proofs.«01_k».proof.Proof.Sums
public import proofs.«01_k».proof.Proof.Optimiser.Step

@[expose] public section

set_option maxRecDepth 16384

noncomputable section

open Idealize.ShloMosaic Idealize.ShloMosaic.TcCoe Idealize.SL.Sem
open Idealize.ShloMosaic.Pipeline (Dat)

namespace Cert.Kernel25Ideal.Step

open Cert.Kernel25Ideal Cert.Kernel25Ideal.Gen

variable (m : (ℓ : Loc nD τ sig) → Buf (Elt Ideal) ℓ)

/-- The gradient that the reference returns. -/
noncomputable abbrev REFG (p : FVec Ideal S1x4x128 .f32) : FVec Ideal Cert.Reference25Ideal.S4x128 .f32 := (shapeCast Cert.Reference25Ideal.S4x128 p Cert.Reference25Ideal.Gen.shapeCasts_S1x4x128_S4x128)

/-- The change of the weights that the reference returns. -/
noncomputable abbrev REFD (w m v : FVec Ideal S4x128 .f32) (p : FVec Ideal S1x4x128 .f32) : FVec Ideal Cert.Reference25Ideal.S4x128 .f32 :=
    mulf (broadcastInDim Cert.Reference25Ideal.S4x128 ![] Cert.Reference25Ideal.Gen.bcast_S_S4x128 (constant Cert.Reference25Ideal.S_ .f32 0xBA83126F#32))
      (addf (Host.divf (Host.divf (addf (mulf (broadcastInDim Cert.Reference25Ideal.S4x128 ![] Cert.Reference25Ideal.Gen.bcast_S_S4x128 (constant Cert.Reference25Ideal.S_ .f32 0x3F666666#32)) m) (mulf (broadcastInDim Cert.Reference25Ideal.S4x128 ![] Cert.Reference25Ideal.Gen.bcast_S_S4x128 (constant Cert.Reference25Ideal.S_ .f32 0x3DCCCCCD#32)) (shapeCast Cert.Reference25Ideal.S4x128 p Cert.Reference25Ideal.Gen.shapeCasts_S1x4x128_S4x128))) (broadcastInDim Cert.Reference25Ideal.S4x128 ![] Cert.Reference25Ideal.Gen.bcast_S_S4x128 (constant Cert.Reference25Ideal.S_ .f32 0x3F26BD02#32)))
          (addf (Host.sqrt (Host.divf (addf (mulf (broadcastInDim Cert.Reference25Ideal.S4x128 ![] Cert.Reference25Ideal.Gen.bcast_S_S4x128 (constant Cert.Reference25Ideal.S_ .f32 0x3F7FBE77#32)) v) (mulf (broadcastInDim Cert.Reference25Ideal.S4x128 ![] Cert.Reference25Ideal.Gen.bcast_S_S4x128 (constant Cert.Reference25Ideal.S_ .f32 0x3A83126F#32)) (mulf (shapeCast Cert.Reference25Ideal.S4x128 p Cert.Reference25Ideal.Gen.shapeCasts_S1x4x128_S4x128) (shapeCast Cert.Reference25Ideal.S4x128 p Cert.Reference25Ideal.Gen.shapeCasts_S1x4x128_S4x128)))) (broadcastInDim Cert.Reference25Ideal.S4x128 ![] Cert.Reference25Ideal.Gen.bcast_S_S4x128 (constant Cert.Reference25Ideal.S_ .f32 0x3C231ACC#32)))) (broadcastInDim Cert.Reference25Ideal.S4x128 ![] Cert.Reference25Ideal.Gen.bcast_S_S4x128 (constant Cert.Reference25Ideal.S_ .f32 0x322BCC77#32))))
        (mulf (broadcastInDim Cert.Reference25Ideal.S4x128 ![] Cert.Reference25Ideal.Gen.bcast_S_S4x128 (constant Cert.Reference25Ideal.S_ .f32 0x3C23D70A#32)) w))

/-- The new first moments that the reference returns. -/
noncomputable abbrev REFM (m : FVec Ideal S4x128 .f32) (p : FVec Ideal S1x4x128 .f32) : FVec Ideal Cert.Reference25Ideal.S4x128 .f32 :=
    addf (mulf (broadcastInDim Cert.Reference25Ideal.S4x128 ![] Cert.Reference25Ideal.Gen.bcast_S_S4x128 (constant Cert.Reference25Ideal.S_ .f32 0x3F666666#32)) m) (mulf (broadcastInDim Cert.Reference25Ideal.S4x128 ![] Cert.Reference25Ideal.Gen.bcast_S_S4x128 (constant Cert.Reference25Ideal.S_ .f32 0x3DCCCCCD#32)) (shapeCast Cert.Reference25Ideal.S4x128 p Cert.Reference25Ideal.Gen.shapeCasts_S1x4x128_S4x128))

/-- The new second moments that the reference returns. -/
noncomputable abbrev REFV (v : FVec Ideal S4x128 .f32) (p : FVec Ideal S1x4x128 .f32) : FVec Ideal Cert.Reference25Ideal.S4x128 .f32 :=
    addf (mulf (broadcastInDim Cert.Reference25Ideal.S4x128 ![] Cert.Reference25Ideal.Gen.bcast_S_S4x128 (constant Cert.Reference25Ideal.S_ .f32 0x3F7FBE77#32)) v) (mulf (broadcastInDim Cert.Reference25Ideal.S4x128 ![] Cert.Reference25Ideal.Gen.bcast_S_S4x128 (constant Cert.Reference25Ideal.S_ .f32 0x3A83126F#32)) (mulf (shapeCast Cert.Reference25Ideal.S4x128 p Cert.Reference25Ideal.Gen.shapeCasts_S1x4x128_S4x128) (shapeCast Cert.Reference25Ideal.S4x128 p Cert.Reference25Ideal.Gen.shapeCasts_S1x4x128_S4x128)))

theorem refG (p : FVec Ideal S1x4x128 .f32) (j : S4x128.Idx) : REFG p j = p (ix3 0 (j 0) (j 1)) := by
  pointwise [REFG]

theorem refM (m : FVec Ideal S4x128 .f32) (p : FVec Ideal S1x4x128 .f32) (j : S4x128.Idx) : REFM m p j = Cert.Adam.first (m j) (p (ix3 0 (j 0) (j 1))) := by
  pointwise [REFM, Cert.Adam.first]

theorem refV (v : FVec Ideal S4x128 .f32) (p : FVec Ideal S1x4x128 .f32) (j : S4x128.Idx) : REFV v p j = Cert.Adam.second (v j) (p (ix3 0 (j 0) (j 1))) := by
  pointwise [REFV, Cert.Adam.second]

theorem refD (w m v : FVec Ideal S4x128 .f32) (p : FVec Ideal S1x4x128 .f32) (j : S4x128.Idx) : REFD w m v p j = Cert.Adam.change (w j) (m j) (v j) (p (ix3 0 (j 0) (j 1))) := by
  pointwise [REFD, Cert.Adam.change, Cert.Adam.first, Cert.Adam.second]

theorem payG (p : FVec Ideal S1x4x128 .f32) (j : S4x128.Idx) : k0_pay1 (F := Ideal) p j = p (ix3 0 (j 0) (j 1)) := by
  pointwise [k0_pay1]

theorem payM (p : FVec Ideal S1x4x128 .f32) (m : FVec Ideal S4x128 .f32) (j : S4x128.Idx) :
    k0_pay2 (F := Ideal) p m j = Cert.Adam.first (m j) (p (ix3 0 (j 0) (j 1))) := by
  pointwise [k0_pay2, k0_pay1, Cert.Adam.first]

theorem payV (p : FVec Ideal S1x4x128 .f32) (v : FVec Ideal S4x128 .f32) (j : S4x128.Idx) :
    k0_pay3 (F := Ideal) p v j = Cert.Adam.second (v j) (p (ix3 0 (j 0) (j 1))) := by
  pointwise [k0_pay3, k0_pay1, Cert.Adam.second]

theorem payD (p : FVec Ideal S1x4x128 .f32) (m v w : FVec Ideal S4x128 .f32) (j : S4x128.Idx) :
    k0_pay4 (F := Ideal) p m v w j = Cert.Adam.change (w j) (m j) (v j) (p (ix3 0 (j 0) (j 1))) := by
  pointwise [k0_pay4, k0_pay3, k0_pay2, k0_pay1, Cert.Adam.change, Cert.Adam.first, Cert.Adam.second]

/-- Which block each window is on. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point writes back. -/
theorem outG (c : Dev nD) (t : Fin cfg0.N) :
    out0_4 (F := Ideal) (iblk m c 0 t) (iblk m c 1 t) (iblk m c 2 t) (iblk m c 3 t) = k0_pay1 (F := Ideal) (iblk m c 3 t) := by
  frame_out

/-- The array after the run. -/
theorem finalG (c : Dev nD) : (dats m 0 c).arrAt 4 cfg0.N = REFG (m ((c : Thread nD τ).loc main_arg3)) := by
  refine (dats m 0 c).arrAt_eq_of_covers 4 _ (by decide +kernel) fun t hf y => ?_
  blk_simp
  rw [after0_4, outG, payG, refG]
  blk_point [iblk, V, idx t]

/-- What a point writes back. -/
theorem outD (c : Dev nD) (t : Fin cfg0.N) :
    out0_5 (F := Ideal) (iblk m c 0 t) (iblk m c 1 t) (iblk m c 2 t) (iblk m c 3 t) = k0_pay4 (F := Ideal) (iblk m c 3 t) (iblk m c 1 t) (iblk m c 2 t) (iblk m c 0 t) := by
  frame_out

/-- The array after the run. -/
theorem finalD (c : Dev nD) : (dats m 0 c).arrAt 5 cfg0.N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD, payD, refD]
  refine Cert.Adam.change_congr ?_ ?_ ?_ ?_ <;> blk_point [iblk, V, idx t]

/-- What a point writes back. -/
theorem outM (c : Dev nD) (t : Fin cfg0.N) :
    out0_6 (F := Ideal) (iblk m c 0 t) (iblk m c 1 t) (iblk m c 2 t) (iblk m c 3 t) = k0_pay2 (F := Ideal) (iblk m c 3 t) (iblk m c 1 t) := by
  frame_out

/-- The array after the run. -/
theorem finalM (c : Dev nD) : (dats m 0 c).arrAt 6 cfg0.N = REFM (m ((c : Thread nD τ).loc main_arg1)) (m ((c : Thread nD τ).loc main_arg3)) := by
  refine (dats m 0 c).arrAt_eq_of_covers 6 _ (by decide +kernel) fun t hf y => ?_
  blk_simp
  rw [after0_6, outM, payM, refM]
  refine Cert.Adam.first_congr ?_ ?_ <;> blk_point [iblk, V, idx t]

/-- What a point writes back. -/
theorem outV (c : Dev nD) (t : Fin cfg0.N) :
    out0_7 (F := Ideal) (iblk m c 0 t) (iblk m c 1 t) (iblk m c 2 t) (iblk m c 3 t) = k0_pay3 (F := Ideal) (iblk m c 3 t) (iblk m c 2 t) := by
  frame_out

/-- The array after the run. -/
theorem finalV (c : Dev nD) : (dats m 0 c).arrAt 7 cfg0.N = REFV (m ((c : Thread nD τ).loc main_arg2)) (m ((c : Thread nD τ).loc main_arg3)) := by
  refine (dats m 0 c).arrAt_eq_of_covers 7 _ (by decide +kernel) fun t hf y => ?_
  blk_simp
  rw [after0_7, outV, payV, refV]
  refine Cert.Adam.second_congr ?_ ?_ <;> blk_point [iblk, V, idx t]

end Cert.Kernel25Ideal.Step

end
-- ==== Proof.Optimiser.PoolBias.lean ====
/- The AdamW step of the pooling biases: the call leaves what the reference returns, in each of its four results. -/
module

public import proofs.«01_k».proof.Proof.Gen.Kernel26Ideal.Value
public import proofs.«01_k».proof.Proof.Gen.Reference26Ideal.Run
public import Idealize.ShloMosaic.Lib.Pipeline.ReadBack
public import proofs.«01_k».proof.Proof.Sums
public import proofs.«01_k».proof.Proof.Optimiser.Step

@[expose] public section

set_option maxRecDepth 16384

noncomputable section

open Idealize.ShloMosaic Idealize.ShloMosaic.TcCoe Idealize.SL.Sem
open Idealize.ShloMosaic.Pipeline (Dat)

namespace Cert.Kernel26Ideal.Step

open Cert.Kernel26Ideal Cert.Kernel26Ideal.Gen

variable (m : (ℓ : Loc nD τ sig) → Buf (Elt Ideal) ℓ)

/-- The gradient that the reference returns. -/
noncomputable abbrev REFG (p : FVec Ideal S1x4x32 .f32) : FVec Ideal Cert.Reference26Ideal.S4x32 .f32 := (shapeCast Cert.Reference26Ideal.S4x32 p Cert.Reference26Ideal.Gen.shapeCasts_S1x4x32_S4x32)

/-- The change of the weights that the reference returns. -/
noncomputable abbrev REFD (w m v : FVec Ideal S4x32 .f32) (p : FVec Ideal S1x4x32 .f32) : FVec Ideal Cert.Reference26Ideal.S4x32 .f32 :=
    mulf (broadcastInDim Cert.Reference26Ideal.S4x32 ![] Cert.Reference26Ideal.Gen.bcast_S_S4x32 (constant Cert.Reference26Ideal.S_ .f32 0xBA83126F#32))
      (addf (Host.divf (Host.divf (addf (mulf (broadcastInDim Cert.Reference26Ideal.S4x32 ![] Cert.Reference26Ideal.Gen.bcast_S_S4x32 (constant Cert.Reference26Ideal.S_ .f32 0x3F666666#32)) m) (mulf (broadcastInDim Cert.Reference26Ideal.S4x32 ![] Cert.Reference26Ideal.Gen.bcast_S_S4x32 (constant Cert.Reference26Ideal.S_ .f32 0x3DCCCCCD#32)) (shapeCast Cert.Reference26Ideal.S4x32 p Cert.Reference26Ideal.Gen.shapeCasts_S1x4x32_S4x32))) (broadcastInDim Cert.Reference26Ideal.S4x32 ![] Cert.Reference26Ideal.Gen.bcast_S_S4x32 (constant Cert.Reference26Ideal.S_ .f32 0x3F26BD02#32)))
          (addf (Host.sqrt (Host.divf (addf (mulf (broadcastInDim Cert.Reference26Ideal.S4x32 ![] Cert.Reference26Ideal.Gen.bcast_S_S4x32 (constant Cert.Reference26Ideal.S_ .f32 0x3F7FBE77#32)) v) (mulf (broadcastInDim Cert.Reference26Ideal.S4x32 ![] Cert.Reference26Ideal.Gen.bcast_S_S4x32 (constant Cert.Reference26Ideal.S_ .f32 0x3A83126F#32)) (mulf (shapeCast Cert.Reference26Ideal.S4x32 p Cert.Reference26Ideal.Gen.shapeCasts_S1x4x32_S4x32) (shapeCast Cert.Reference26Ideal.S4x32 p Cert.Reference26Ideal.Gen.shapeCasts_S1x4x32_S4x32)))) (broadcastInDim Cert.Reference26Ideal.S4x32 ![] Cert.Reference26Ideal.Gen.bcast_S_S4x32 (constant Cert.Reference26Ideal.S_ .f32 0x3C231ACC#32)))) (broadcastInDim Cert.Reference26Ideal.S4x32 ![] Cert.Reference26Ideal.Gen.bcast_S_S4x32 (constant Cert.Reference26Ideal.S_ .f32 0x322BCC77#32))))
        (mulf (broadcastInDim Cert.Reference26Ideal.S4x32 ![] Cert.Reference26Ideal.Gen.bcast_S_S4x32 (constant Cert.Reference26Ideal.S_ .f32 0x3C23D70A#32)) w))

/-- The new first moments that the reference returns. -/
noncomputable abbrev REFM (m : FVec Ideal S4x32 .f32) (p : FVec Ideal S1x4x32 .f32) : FVec Ideal Cert.Reference26Ideal.S4x32 .f32 :=
    addf (mulf (broadcastInDim Cert.Reference26Ideal.S4x32 ![] Cert.Reference26Ideal.Gen.bcast_S_S4x32 (constant Cert.Reference26Ideal.S_ .f32 0x3F666666#32)) m) (mulf (broadcastInDim Cert.Reference26Ideal.S4x32 ![] Cert.Reference26Ideal.Gen.bcast_S_S4x32 (constant Cert.Reference26Ideal.S_ .f32 0x3DCCCCCD#32)) (shapeCast Cert.Reference26Ideal.S4x32 p Cert.Reference26Ideal.Gen.shapeCasts_S1x4x32_S4x32))

/-- The new second moments that the reference returns. -/
noncomputable abbrev REFV (v : FVec Ideal S4x32 .f32) (p : FVec Ideal S1x4x32 .f32) : FVec Ideal Cert.Reference26Ideal.S4x32 .f32 :=
    addf (mulf (broadcastInDim Cert.Reference26Ideal.S4x32 ![] Cert.Reference26Ideal.Gen.bcast_S_S4x32 (constant Cert.Reference26Ideal.S_ .f32 0x3F7FBE77#32)) v) (mulf (broadcastInDim Cert.Reference26Ideal.S4x32 ![] Cert.Reference26Ideal.Gen.bcast_S_S4x32 (constant Cert.Reference26Ideal.S_ .f32 0x3A83126F#32)) (mulf (shapeCast Cert.Reference26Ideal.S4x32 p Cert.Reference26Ideal.Gen.shapeCasts_S1x4x32_S4x32) (shapeCast Cert.Reference26Ideal.S4x32 p Cert.Reference26Ideal.Gen.shapeCasts_S1x4x32_S4x32)))

theorem refG (p : FVec Ideal S1x4x32 .f32) (j : S4x32.Idx) : REFG p j = p (ix3 0 (j 0) (j 1)) := by
  pointwise [REFG]

theorem refM (m : FVec Ideal S4x32 .f32) (p : FVec Ideal S1x4x32 .f32) (j : S4x32.Idx) : REFM m p j = Cert.Adam.first (m j) (p (ix3 0 (j 0) (j 1))) := by
  pointwise [REFM, Cert.Adam.first]

theorem refV (v : FVec Ideal S4x32 .f32) (p : FVec Ideal S1x4x32 .f32) (j : S4x32.Idx) : REFV v p j = Cert.Adam.second (v j) (p (ix3 0 (j 0) (j 1))) := by
  pointwise [REFV, Cert.Adam.second]

theorem refD (w m v : FVec Ideal S4x32 .f32) (p : FVec Ideal S1x4x32 .f32) (j : S4x32.Idx) : REFD w m v p j = Cert.Adam.change (w j) (m j) (v j) (p (ix3 0 (j 0) (j 1))) := by
  pointwise [REFD, Cert.Adam.change, Cert.Adam.first, Cert.Adam.second]

theorem payG (p : FVec Ideal S1x4x32 .f32) (j : S4x32.Idx) : k0_pay1 (F := Ideal) p j = p (ix3 0 (j 0) (j 1)) := by
  pointwise [k0_pay1]

theorem payM (p : FVec Ideal S1x4x32 .f32) (m : FVec Ideal S4x32 .f32) (j : S4x32.Idx) :
    k0_pay2 (F := Ideal) p m j = Cert.Adam.first (m j) (p (ix3 0 (j 0) (j 1))) := by
  pointwise [k0_pay2, k0_pay1, Cert.Adam.first]

theorem payV (p : FVec Ideal S1x4x32 .f32) (v : FVec Ideal S4x32 .f32) (j : S4x32.Idx) :
    k0_pay3 (F := Ideal) p v j = Cert.Adam.second (v j) (p (ix3 0 (j 0) (j 1))) := by
  pointwise [k0_pay3, k0_pay1, Cert.Adam.second]

theorem payD (p : FVec Ideal S1x4x32 .f32) (m v w : FVec Ideal S4x32 .f32) (j : S4x32.Idx) :
    k0_pay4 (F := Ideal) p m v w j = Cert.Adam.change (w j) (m j) (v j) (p (ix3 0 (j 0) (j 1))) := by
  pointwise [k0_pay4, k0_pay3, k0_pay2, k0_pay1, Cert.Adam.change, Cert.Adam.first, Cert.Adam.second]

/-- Which block each window is on. -/
theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- What a point writes back. -/
theorem outG (c : Dev nD) (t : Fin cfg0.N) :
    out0_4 (F := Ideal) (iblk m c 0 t) (iblk m c 1 t) (iblk m c 2 t) (iblk m c 3 t) = k0_pay1 (F := Ideal) (iblk m c 3 t) := by
  frame_out

/-- The array after the run. -/
theorem finalG (c : Dev nD) : (dats m 0 c).arrAt 4 cfg0.N = REFG (m ((c : Thread nD τ).loc main_arg3)) := by
  refine (dats m 0 c).arrAt_eq_of_covers 4 _ (by decide +kernel) fun t hf y => ?_
  blk_simp
  rw [after0_4, outG, payG, refG]
  blk_point [iblk, V, idx t]

/-- What a point writes back. -/
theorem outD (c : Dev nD) (t : Fin cfg0.N) :
    out0_5 (F := Ideal) (iblk m c 0 t) (iblk m c 1 t) (iblk m c 2 t) (iblk m c 3 t) = k0_pay4 (F := Ideal) (iblk m c 3 t) (iblk m c 1 t) (iblk m c 2 t) (iblk m c 0 t) := by
  frame_out

/-- The array after the run. -/
theorem finalD (c : Dev nD) : (dats m 0 c).arrAt 5 cfg0.N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD, payD, refD]
  refine Cert.Adam.change_congr ?_ ?_ ?_ ?_ <;> blk_point [iblk, V, idx t]

/-- What a point writes back. -/
theorem outM (c : Dev nD) (t : Fin cfg0.N) :
    out0_6 (F := Ideal) (iblk m c 0 t) (iblk m c 1 t) (iblk m c 2 t) (iblk m c 3 t) = k0_pay2 (F := Ideal) (iblk m c 3 t) (iblk m c 1 t) := by
  frame_out

/-- The array after the run. -/
theorem finalM (c : Dev nD) : (dats m 0 c).arrAt 6 cfg0.N = REFM (m ((c : Thread nD τ).loc main_arg1)) (m ((c : Thread nD τ).loc main_arg3)) := by
  refine (dats m 0 c).arrAt_eq_of_covers 6 _ (by decide +kernel) fun t hf y => ?_
  blk_simp
  rw [after0_6, outM, payM, refM]
  refine Cert.Adam.first_congr ?_ ?_ <;> blk_point [iblk, V, idx t]

/-- What a point writes back. -/
theorem outV (c : Dev nD) (t : Fin cfg0.N) :
    out0_7 (F := Ideal) (iblk m c 0 t) (iblk m c 1 t) (iblk m c 2 t) (iblk m c 3 t) = k0_pay3 (F := Ideal) (iblk m c 3 t) (iblk m c 2 t) := by
  frame_out

/-- The array after the run. -/
theorem finalV (c : Dev nD) : (dats m 0 c).arrAt 7 cfg0.N = REFV (m ((c : Thread nD τ).loc main_arg2)) (m ((c : Thread nD τ).loc main_arg3)) := by
  refine (dats m 0 c).arrAt_eq_of_covers 7 _ (by decide +kernel) fun t hf y => ?_
  blk_simp
  rw [after0_7, outV, payV, refV]
  refine Cert.Adam.second_congr ?_ ?_ <;> blk_point [iblk, V, idx t]

end Cert.Kernel26Ideal.Step

end
-- ==== Proof.Optimiser.Sum.lean ====
/- The sum of the eight devices' small gradients: the call adds them one after another, the reference sums over the devices. -/
module

public import proofs.«01_k».proof.Proof.Gen.Kernel27Ideal.Value
public import proofs.«01_k».proof.Proof.Gen.Reference27Ideal.Run
public import Idealize.ShloMosaic.Lib.Pipeline.ReadBack
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel27Ideal.Step

open Cert.Kernel27Ideal Cert.Kernel27Ideal.Gen

variable (m : (ℓ : Loc nD τ sig) → Buf (Elt Ideal) ℓ)

/-- What the reference returns. -/
noncomputable abbrev REF (p : FVec Ideal S8x360x1024 .f32) : FVec Ideal Cert.Reference27Ideal.S360x1024 .f32 :=
  Host.reduceAdd p (constant Cert.Reference27Ideal.S_ .f32 0x00000000#32)
    Cert.Reference27Ideal.Gen.reducesTo_S8x360x1024_S360x1024_d0 Cert.Reference27Ideal.Gen.h_S_

theorem href (p : FVec Ideal S8x360x1024 .f32) (j : S360x1024.Idx) :
    REF p j = ∑ k : Fin 8, p (ix3 k (j 0) (j 1)) := by
  pointwise [REF]

/-- What a point writes back. -/
theorem out (x : FVec Ideal S8x120x1024 .f32) (j : S120x1024.Idx) :
    out0_1 (F := Ideal) x j = ∑ k : Fin 8, x (ix3 k (j 0) (j 1)) := by
  rw [Fin.sum_univ_eight]
  frame_out
  pointwise [k0_pay1]

/-- Which block each window is on. -/
theorem idx : ∀ t : Fin cfg0.N, win0_0.index t = ![0, t.val, 0] ∧ win0_1.index t = ![t.val, 0] :=
  (by decide +kernel : ∀ t : Fin grid0.N, _)

/-- The array after the run. -/
theorem final (c : Dev nD) : (dats m 0 c).arrAt 1 cfg0.N = REF (m ((c : Thread nD τ).loc main_arg0)) := by
  refine (dats m 0 c).arrAt_eq_of_covers 1 _ (by decide +kernel) fun t hf y => ?_
  blk_simp
  rw [after0_1, out, href]
  refine Cert.Sums.congr fun k => ?_
  blk_point [iblk, V, idx t]

end Cert.Kernel27Ideal.Step

end
-- ==== Proof.Optimiser.Claims.lean ====
/- The value claims of the optimiser's calls for the small weights. -/
module

public import proofs.«01_k».proof.Defs
public import proofs.«01_k».proof.Proof.Optimiser.HeadWeight
public import proofs.«01_k».proof.Proof.Optimiser.MixerRow
public import proofs.«01_k».proof.Proof.Optimiser.NormRow
public import proofs.«01_k».proof.Proof.Optimiser.ConvWeight
public import proofs.«01_k».proof.Proof.Optimiser.PoolBias
public import proofs.«01_k».proof.Proof.Optimiser.Sum
public import Idealize.ShloMosaic.Lib.Claim

@[expose] public section

set_option maxRecDepth 16384

noncomputable section

namespace Cert.Optimiser

open Idealize.ShloMosaic Idealize.SL.Sem

theorem headWeight : Cert.algebraic_Kernel22Ideal_Reference22Ideal := by
  pair_intro
  · run_from Cert.Kernel22Ideal.Gen.run_main m g
  · run_from Cert.Reference22Ideal.Value.run m' g'
    · exact (Cert.Kernel22Ideal.Step.finalG m c).symm
    · exact (Cert.Kernel22Ideal.Step.finalD m c).symm
    · exact (Cert.Kernel22Ideal.Step.finalM m c).symm
    · exact (Cert.Kernel22Ideal.Step.finalV m c).symm

theorem mixerRow : Cert.algebraic_Kernel23Ideal_Reference23Ideal := by
  pair_intro
  · run_from Cert.Kernel23Ideal.Gen.run_main m g
  · run_from Cert.Reference23Ideal.Value.run m' g'
    · exact (Cert.Kernel23Ideal.Step.finalG m c).symm
    · exact (Cert.Kernel23Ideal.Step.finalD m c).symm
    · exact (Cert.Kernel23Ideal.Step.finalM m c).symm
    · exact (Cert.Kernel23Ideal.Step.finalV m c).symm

theorem normRow : Cert.algebraic_Kernel24Ideal_Reference24Ideal := by
  pair_intro
  · run_from Cert.Kernel24Ideal.Gen.run_main m g
  · run_from Cert.Reference24Ideal.Value.run m' g'
    · exact (Cert.Kernel24Ideal.Step.finalG m c).symm
    · exact (Cert.Kernel24Ideal.Step.finalD m c).symm
    · exact (Cert.Kernel24Ideal.Step.finalM m c).symm
    · exact (Cert.Kernel24Ideal.Step.finalV m c).symm

theorem convWeight : Cert.algebraic_Kernel25Ideal_Reference25Ideal := by
  pair_intro
  · run_from Cert.Kernel25Ideal.Gen.run_main m g
  · run_from Cert.Reference25Ideal.Value.run m' g'
    · exact (Cert.Kernel25Ideal.Step.finalG m c).symm
    · exact (Cert.Kernel25Ideal.Step.finalD m c).symm
    · exact (Cert.Kernel25Ideal.Step.finalM m c).symm
    · exact (Cert.Kernel25Ideal.Step.finalV m c).symm

theorem poolBias : Cert.algebraic_Kernel26Ideal_Reference26Ideal := by
  pair_intro
  · run_from Cert.Kernel26Ideal.Gen.run_main m g
  · run_from Cert.Reference26Ideal.Value.run m' g'
    · exact (Cert.Kernel26Ideal.Step.finalG m c).symm
    · exact (Cert.Kernel26Ideal.Step.finalD m c).symm
    · exact (Cert.Kernel26Ideal.Step.finalM m c).symm
    · exact (Cert.Kernel26Ideal.Step.finalV m c).symm

theorem sum : Cert.algebraic_Kernel27Ideal_Reference27Ideal := by
  pair_intro
  · run_from Cert.Kernel27Ideal.Gen.run_main m g
  · refine (θ_run _ _ _).mono (fun r h c => ?_) (Cert.Reference27Ideal.Value.run (F := Ideal) m' g')
    have a := ‹∀ c : Dev Cert.Kernel27Ideal.nD,
      m' ((c.tc : Thread Cert.Reference27Ideal.nD Cert.Reference27Ideal.τ).loc Cert.Reference27Ideal.main_arg0)
        = m ((c.tc : Thread Cert.Kernel27Ideal.nD Cert.Kernel27Ideal.τ).loc Cert.Kernel27Ideal.main_arg0)› c
    exact ⟨(h c).1.trans ((congrArg Cert.Kernel27Ideal.Step.REF a).trans (Cert.Kernel27Ideal.Step.final m c).symm), (h c).2⟩

end Cert.Optimiser

end
-- ==== Proof.Optimiser.Own.lean ====
/- What the condition on the chip's number says of the word itself. -/
module

public import Idealize.ShloMosaic.Lib.Pipeline.ValueKit

@[expose] public section

noncomputable section

open Idealize.ShloMosaic

namespace Cert.Adam

/-- A signed word from zero on and below four is below four as a natural number. -/
theorem below_four (v : BitVec 32) (e : IntOp.andi (IntOp.cmpi .sge v 0#32) (IntOp.cmpi .slt v 4#32) = 1#1) : v.toNat < 4 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

/-- An offset of no blocks. -/
theorem zero_block (a b : ℕ) : 0 * a + b = b := by rw [Nat.zero_mul, Nat.zero_add]

end Cert.Adam

end
-- ==== Proof.Optimiser.OutWeight.lean ====
/- The AdamW step of the large weights of shape 256 x 2048: the call leaves what the reference returns, in each of its four results. -/
module

public import proofs.«01_k».proof.Defs
public import proofs.«01_k».proof.Proof.Gen.Kernel28Ideal.Frame
public import proofs.«01_k».proof.Proof.Gen.Kernel28
public import proofs.«01_k».proof.Proof.Gen.Pre_chip_of_four28
public import proofs.«01_k».proof.Proof.Gen.Reference28Ideal.Run
public import Idealize.ShloMosaic.Lib.Pipeline.ReadBack
public import proofs.«01_k».proof.Proof.Sums
public import proofs.«01_k».proof.Proof.Optimiser.Step
public import proofs.«01_k».proof.Proof.Optimiser.Own

@[expose] public section

set_option maxRecDepth 16384

noncomputable section

open Idealize.ShloMosaic Idealize.ShloMosaic.TcCoe Idealize.SL.Sem
open Idealize.ShloMosaic.Pipeline (Dat)

namespace Cert.Kernel28Ideal.Step

open Cert.Kernel28Ideal Cert.Kernel28Ideal.Gen

variable (m : (ℓ : Loc nD τ sig) → Buf (Elt Ideal) ℓ)

/-- The chip's number lies below four. -/
theorem below (h : Cert.Pre_Kernel28Ideal m) (c : Dev nD) (j : S1.Idx) :
    (m ((c : Thread nD τ).loc main_arg5) j).toNat < 4 := by
  have e := congrFun (h c) j
  simp only [Pre_chip_of_four28.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel28Ideal m) : Ok m := by
  unfold Ok ok0
  intro i
  have hi : (i 0).val < 2 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 256
    rw [BitVec.toNat_ofNat, Nat.mod_eq_of_lt (by omega)]; omega
  · show (0 + 1) * 2048 ≤ 2048
    omega

/-- The gradient that the reference returns. -/
noncomputable abbrev REFG (own : FVec Ideal S4x256x2048 .bf16) (parts : FVec Ideal S3x256x2048 .bf16) (chip : IVec S1 32) : FVec Ideal Cert.Reference28Ideal.S256x2048 .f32 :=
    addf (extf .f32 (select (broadcastInDim Cert.Reference28Ideal.S256x2048 ![] Cert.Reference28Ideal.Gen.bcast_S_S256x2048 (cmpi .eq (shapeCast _ chip Cert.Reference28Ideal.Gen.shapeCasts_S1_S_) (constantI Cert.Reference28Ideal.S_ 32 0#32))) (shapeCast _ (extractStridedSlice Cert.Reference28Ideal.S1x256x2048 ![0, 0, 0] own Cert.Reference28Ideal.Gen.slices_S4x256x2048_S1x256x2048_0_0_0) Cert.Reference28Ideal.Gen.shapeCasts_S1x256x2048_S256x2048) (select (broadcastInDim Cert.Reference28Ideal.S256x2048 ![] Cert.Reference28Ideal.Gen.bcast_S_S256x2048 (cmpi .eq (shapeCast _ chip Cert.Reference28Ideal.Gen.shapeCasts_S1_S_) (constantI Cert.Reference28Ideal.S_ 32 1#32))) (shapeCast _ (extractStridedSlice Cert.Reference28Ideal.S1x256x2048 ![1, 0, 0] own Cert.Reference28Ideal.Gen.slices_S4x256x2048_S1x256x2048_1_0_0) Cert.Reference28Ideal.Gen.shapeCasts_S1x256x2048_S256x2048) (select (broadcastInDim Cert.Reference28Ideal.S256x2048 ![] Cert.Reference28Ideal.Gen.bcast_S_S256x2048 (cmpi .eq (shapeCast _ chip Cert.Reference28Ideal.Gen.shapeCasts_S1_S_) (constantI Cert.Reference28Ideal.S_ 32 2#32))) (shapeCast _ (extractStridedSlice Cert.Reference28Ideal.S1x256x2048 ![2, 0, 0] own Cert.Reference28Ideal.Gen.slices_S4x256x2048_S1x256x2048_2_0_0) Cert.Reference28Ideal.Gen.shapeCasts_S1x256x2048_S256x2048) (shapeCast _ (extractStridedSlice Cert.Reference28Ideal.S1x256x2048 ![3, 0, 0] own Cert.Reference28Ideal.Gen.slices_S4x256x2048_S1x256x2048_3_0_0) Cert.Reference28Ideal.Gen.shapeCasts_S1x256x2048_S256x2048)))) Cert.Reference28Ideal.Gen.bitsLt_bf16_f32) (Host.reduceAdd (extf .f32 parts Cert.Reference28Ideal.Gen.bitsLt_bf16_f32) (constant Cert.Reference28Ideal.S_ .f32 0x00000000#32) Cert.Reference28Ideal.Gen.reducesTo_S3x256x2048_S256x2048_d0 Cert.Reference28Ideal.Gen.h_S_)

/-- The change of the weights that the reference returns, of the gradient. -/
noncomputable abbrev REFD (w m v g : FVec Ideal Cert.Reference28Ideal.S256x2048 .f32) : FVec Ideal Cert.Reference28Ideal.S256x2048 .f32 :=
    mulf (broadcastInDim Cert.Reference28Ideal.S256x2048 ![] Cert.Reference28Ideal.Gen.bcast_S_S256x2048 (constant Cert.Reference28Ideal.S_ .f32 0xBA83126F#32))
      (addf (Host.divf (Host.divf (addf (mulf (broadcastInDim Cert.Reference28Ideal.S256x2048 ![] Cert.Reference28Ideal.Gen.bcast_S_S256x2048 (constant Cert.Reference28Ideal.S_ .f32 0x3F666666#32)) m) (mulf (broadcastInDim Cert.Reference28Ideal.S256x2048 ![] Cert.Reference28Ideal.Gen.bcast_S_S256x2048 (constant Cert.Reference28Ideal.S_ .f32 0x3DCCCCCD#32)) g)) (broadcastInDim Cert.Reference28Ideal.S256x2048 ![] Cert.Reference28Ideal.Gen.bcast_S_S256x2048 (constant Cert.Reference28Ideal.S_ .f32 0x3F26BD02#32)))
          (addf (Host.sqrt (Host.divf (addf (mulf (broadcastInDim Cert.Reference28Ideal.S256x2048 ![] Cert.Reference28Ideal.Gen.bcast_S_S256x2048 (constant Cert.Reference28Ideal.S_ .f32 0x3F7FBE77#32)) v) (mulf (broadcastInDim Cert.Reference28Ideal.S256x2048 ![] Cert.Reference28Ideal.Gen.bcast_S_S256x2048 (constant Cert.Reference28Ideal.S_ .f32 0x3A83126F#32)) (mulf g g))) (broadcastInDim Cert.Reference28Ideal.S256x2048 ![] Cert.Reference28Ideal.Gen.bcast_S_S256x2048 (constant Cert.Reference28Ideal.S_ .f32 0x3C231ACC#32)))) (broadcastInDim Cert.Reference28Ideal.S256x2048 ![] Cert.Reference28Ideal.Gen.bcast_S_S256x2048 (constant Cert.Reference28Ideal.S_ .f32 0x322BCC77#32))))
        (mulf (broadcastInDim Cert.Reference28Ideal.S256x2048 ![] Cert.Reference28Ideal.Gen.bcast_S_S256x2048 (constant Cert.Reference28Ideal.S_ .f32 0x3C23D70A#32)) w))

/-- The new first moments that the reference returns, of the gradient. -/
noncomputable abbrev REFM (m g : FVec Ideal Cert.Reference28Ideal.S256x2048 .f32) : FVec Ideal Cert.Reference28Ideal.S256x2048 .f32 :=
    addf (mulf (broadcastInDim Cert.Reference28Ideal.S256x2048 ![] Cert.Reference28Ideal.Gen.bcast_S_S256x2048 (constant Cert.Reference28Ideal.S_ .f32 0x3F666666#32)) m) (mulf (broadcastInDim Cert.Reference28Ideal.S256x2048 ![] Cert.Reference28Ideal.Gen.bcast_S_S256x2048 (constant Cert.Reference28Ideal.S_ .f32 0x3DCCCCCD#32)) g)

/-- The new second moments that the reference returns, of the gradient. -/
noncomputable abbrev REFV (v g : FVec Ideal Cert.Reference28Ideal.S256x2048 .f32) : FVec Ideal Cert.Reference28Ideal.S256x2048 .f32 :=
    addf (mulf (broadcastInDim Cert.Reference28Ideal.S256x2048 ![] Cert.Reference28Ideal.Gen.bcast_S_S256x2048 (constant Cert.Reference28Ideal.S_ .f32 0x3F7FBE77#32)) v) (mulf (broadcastInDim Cert.Reference28Ideal.S256x2048 ![] Cert.Reference28Ideal.Gen.bcast_S_S256x2048 (constant Cert.Reference28Ideal.S_ .f32 0x3A83126F#32)) (mulf g g))

/-- The gradient at an entry: the chip's own block and the three that came from the others. -/
theorem refG (own : FVec Ideal S4x256x2048 .bf16) (parts : FVec Ideal S3x256x2048 .bf16) (chip : IVec S1 32) (k : Fin 4)
    (hk : chip (ix1 0) = BitVec.ofNat 32 k.val) (j : S256x2048.Idx) :
    REFG own parts chip j = own (ix3 k (j 0) (j 1)) + ∑ d : Fin 3, parts (ix3 d (j 0) (j 1)) := by
  fin_cases k <;> (pointwise [REFG, hk]; try rfl)

theorem refM (m g : FVec Ideal Cert.Reference28Ideal.S256x2048 .f32) (j : S256x2048.Idx) : REFM m g j = Cert.Adam.first (m j) (g j) := by
  pointwise [REFM, Cert.Adam.first]

theorem refV (v g : FVec Ideal Cert.Reference28Ideal.S256x2048 .f32) (j : S256x2048.Idx) : REFV v g j = Cert.Adam.second (v j) (g j) := by
  pointwise [REFV, Cert.Adam.second]

theorem refD (w m v g : FVec Ideal Cert.Reference28Ideal.S256x2048 .f32) (j : S256x2048.Idx) : REFD w m v g j = Cert.Adam.change (w j) (m j) (v j) (g j) := by
  pointwise [REFD, Cert.Adam.change, Cert.Adam.first, Cert.Adam.second]

/-- The gradient of a tile's entry. -/
noncomputable def grad (x3 : Vec Ideal S1x128x2048 .bf16) (x4 : Vec Ideal S3x128x2048 .bf16) (j : S128x2048.Idx) : EReal :=
  x3 (ix3 0 (j 0) (j 1)) + ∑ d : Fin 3, x4 (ix3 d (j 0) (j 1))

section tile

variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128x2048 .bf16) (harg5 : arg5.IsWhole) (arg6 : Memref sig .tc .vmem S3x128x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole)
    (x0 : Vec Ideal S128x2048 .f32) (x1 : Vec Ideal S128x2048 .f32) (x2 : Vec Ideal S128x2048 .f32) (x3 : Vec Ideal S1x128x2048 .bf16) (x4 : Vec Ideal S3x128x2048 .bf16) (xt0 : TbBuf0 (F := Ideal) c tbM0_0)

theorem outG (j : S128x2048.Idx) : out0_A_5 (F := Ideal) c i arg2 harg2 arg3 harg3 arg4 harg4 arg5 harg5 arg6 harg6 arg7 harg7 arg8 harg8 arg9 harg9 arg10 harg10 x0 x1 x2 x3 x4 xt0 j = grad x3 x4 j := by
  unfold grad
  rw [Fin.sum_univ_three]
  frame_out
  pointwise [k0_pay2]
  simp only [add_assoc]

theorem outM (j : S128x2048.Idx) : out0_A_7 (F := Ideal) c i arg2 harg2 arg3 harg3 arg4 harg4 arg5 harg5 arg6 harg6 arg7 harg7 arg8 harg8 arg9 harg9 arg10 harg10 x0 x1 x2 x3 x4 xt0 j = Cert.Adam.first (x1 j) (grad x3 x4 j) := by
  unfold grad
  rw [Fin.sum_univ_three]
  frame_out
  pointwise [k0_pay3, k0_pay2, Cert.Adam.first]
  simp only [add_assoc]

theorem outV (j : S128x2048.Idx) : out0_A_8 (F := Ideal) c i arg2 harg2 arg3 harg3 arg4 harg4 arg5 harg5 arg6 harg6 arg7 harg7 arg8 harg8 arg9 harg9 arg10 harg10 x0 x1 x2 x3 x4 xt0 j = Cert.Adam.second (x2 j) (grad x3 x4 j) := by
  unfold grad
  rw [Fin.sum_univ_three]
  frame_out
  pointwise [k0_pay4, k0_pay2, Cert.Adam.second]
  simp only [add_assoc]

theorem outD (j : S128x2048.Idx) : out0_A_6 (F := Ideal) c i arg2 harg2 arg3 harg3 arg4 harg4 arg5 harg5 arg6 harg6 arg7 harg7 arg8 harg8 arg9 harg9 arg10 harg10 x0 x1 x2 x3 x4 xt0 j = Cert.Adam.change (x0 j) (x1 j) (x2 j) (grad x3 x4 j) := by
  unfold grad
  rw [Fin.sum_univ_three]
  frame_out
  pointwise [k0_pay1, k0_pay6, k0_pay5, k0_pay4, k0_pay3, k0_pay2, Cert.Adam.change, Cert.Adam.first, Cert.Adam.second]
  simp only [add_assoc]

end tile

/-- Which block each window with a fixed map is on. -/
theorem maps : ∀ t : Fin grid0.N, cc0_transform_0 (grid0.coords t) = ![t.val, 0] ∧ cc0_transform_1 (grid0.coords t) = ![t.val, 0]
    ∧ cc0_transform_2 (grid0.coords t) = ![t.val, 0] ∧ (BitVec.ofNat 32 ((grid0.coords t) 0).val).toNat = t.val
    ∧ cc0_transform_4 (grid0.coords t) = ![0, t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] := by
  decide +kernel

variable (hO : Ok m)

/-- Which block each window is on. -/
theorem idx (c : Dev nD) (t : Fin (cfgM m hO).N) :
    ((cfgM m hO).win 0).index t = ![t.val, 0] ∧ ((cfgM m hO).win 1).index t = ![t.val, 0]
    ∧ ((cfgM m hO).win 2).index t = ![t.val, 0]
    ∧ ((cfgM m hO).win 3).index t = ![(m ((c : Thread nD τ).loc main_arg5) (ix1 0)).toNat, t.val, 0]
    ∧ ((cfgM m hO).win 4).index t = ![0, t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] := by
  obtain ⟨a, b, d, e, f, g, h, i, j⟩ := maps t
  exact ⟨a, b, d, (word m c (grid0.coords t)).trans (by rw [e]), f, g, h, i, j⟩

/-- The chip's own number, as an index. -/
noncomputable def chip (h : Cert.Pre_Kernel28Ideal m) (c : Dev nD) : Fin 4 := ⟨(m ((c : Thread nD τ).loc main_arg5) (ix1 0)).toNat, below m h c (ix1 0)⟩

theorem chip_eq (h : Cert.Pre_Kernel28Ideal m) (c : Dev nD) : m ((c : Thread nD τ).loc main_arg5) (ix1 0) = BitVec.ofNat 32 (chip m h c).val := by
  simp [chip]

/-- The tile of argument 0 at an entry. -/
theorem in0 (c : Dev nD) (t : Fin (cfgM m hO).N) (j : S128x2048.Idx) (z : S256x2048.Idx)
    (h0 : (z 0).val = t.val * 128 + (j 0).val) (h1 : (z 1).val = (j 1).val) :
    iblk m hO c 0 t j = m ((c : Thread nD τ).loc main_arg0) z := by
  refine congrArg (m ((c : Thread nD τ).loc main_arg0)) (?_ : (((cfgM m hO).win 0).rect t).emb j = z)
  funext a
  apply Fin.ext
  refine (Pipeline.Window.rect_emb_val ((cfgM m hO).win 0) t j a).trans ?_
  rw [(idx m hO c t).1]
  fin_cases a
  · exact h0.symm
  · exact (Cert.Adam.zero_block 2048 (j 1).val).trans h1.symm

/-- The tile of argument 1 at an entry. -/
theorem in1 (c : Dev nD) (t : Fin (cfgM m hO).N) (j : S128x2048.Idx) (z : S256x2048.Idx)
    (h0 : (z 0).val = t.val * 128 + (j 0).val) (h1 : (z 1).val = (j 1).val) :
    iblk m hO c 1 t j = m ((c : Thread nD τ).loc main_arg1) z := by
  refine congrArg (m ((c : Thread nD τ).loc main_arg1)) (?_ : (((cfgM m hO).win 1).rect t).emb j = z)
  funext a
  apply Fin.ext
  refine (Pipeline.Window.rect_emb_val ((cfgM m hO).win 1) t j a).trans ?_
  rw [(idx m hO c t).2.1]
  fin_cases a
  · exact h0.symm
  · exact (Cert.Adam.zero_block 2048 (j 1).val).trans h1.symm

/-- The tile of argument 2 at an entry. -/
theorem in2 (c : Dev nD) (t : Fin (cfgM m hO).N) (j : S128x2048.Idx) (z : S256x2048.Idx)
    (h0 : (z 0).val = t.val * 128 + (j 0).val) (h1 : (z 1).val = (j 1).val) :
    iblk m hO c 2 t j = m ((c : Thread nD τ).loc main_arg2) z := by
  refine congrArg (m ((c : Thread nD τ).loc main_arg2)) (?_ : (((cfgM m hO).win 2).rect t).emb j = z)
  funext a
  apply Fin.ext
  refine (Pipeline.Window.rect_emb_val ((cfgM m hO).win 2) t j a).trans ?_
  rw [(idx m hO c t).2.2.1]
  fin_cases a
  · exact h0.symm
  · exact (Cert.Adam.zero_block 2048 (j 1).val).trans h1.symm

/-- The tile of the chip's own block at an entry. -/
theorem in3 (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    iblk m hO c 3 t (ix3 0 (j 0) (j 1) : S1x128x2048.Idx) = m ((c : Thread nD τ).loc main_arg3) (ix3 (chip m h c) (z 0) (z 1) : S4x256x2048.Idx) := by
  refine congrArg (m ((c : Thread nD τ).loc main_arg3)) (?_ : (((cfgM m hO).win 3).rect t).emb (ix3 0 (j 0) (j 1) : S1x128x2048.Idx) = (ix3 (chip m h c) (z 0) (z 1) : S4x256x2048.Idx))
  funext a
  apply Fin.ext
  refine (Pipeline.Window.rect_emb_val ((cfgM m hO).win 3) t (ix3 0 (j 0) (j 1) : S1x128x2048.Idx) a).trans ?_
  rw [(idx m hO c t).2.2.2.1]
  fin_cases a
  · show (m ((c : Thread nD τ).loc main_arg5) (ix1 0)).toNat * 1 + 0 = (m ((c : Thread nD τ).loc main_arg5) (ix1 0)).toNat
    omega
  · exact h0.symm
  · exact (Cert.Adam.zero_block 2048 (j 1).val).trans h1.symm

/-- The tile of the blocks from the other chips at an entry. -/
theorem in4 (c : Dev nD) (t : Fin (cfgM m hO).N) (d : Fin 3) (j : S128x2048.Idx) (z : S256x2048.Idx)
    (h0 : (z 0).val = t.val * 128 + (j 0).val) (h1 : (z 1).val = (j 1).val) :
    iblk m hO c 4 t (ix3 d (j 0) (j 1) : S3x128x2048.Idx) = m ((c : Thread nD τ).loc main_arg4) (ix3 d (z 0) (z 1) : S3x256x2048.Idx) := by
  refine congrArg (m ((c : Thread nD τ).loc main_arg4)) (?_ : (((cfgM m hO).win 4).rect t).emb (ix3 d (j 0) (j 1) : S3x128x2048.Idx) = (ix3 d (z 0) (z 1) : S3x256x2048.Idx))
  funext a
  apply Fin.ext
  refine (Pipeline.Window.rect_emb_val ((cfgM m hO).win 4) t (ix3 d (j 0) (j 1) : S3x128x2048.Idx) a).trans ?_
  rw [(idx m hO c t).2.2.2.2.1]
  fin_cases a
  · show 0 * 3 + d.val = d.val
    omega
  · exact h0.symm
  · exact (Cert.Adam.zero_block 2048 (j 1).val).trans h1.symm

/-- A tile's gradient is the reference's at the array's entry. -/
theorem grad_eq (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    grad (iblk m hO c 3 t) (iblk m hO c 4 t) j = REFG (m ((c : Thread nD τ).loc main_arg3)) (m ((c : Thread nD τ).loc main_arg4)) (m ((c : Thread nD τ).loc main_arg5)) z := by
  rw [refG _ _ _ (chip m h c) (chip_eq m h c)]
  exact congrArg₂ (· + ·) (in3 m hO h c t j z h0 h1) (Cert.Sums.congr fun d => in4 m hO c t d j z h0 h1)

/-- What a point writes back, at the array's entry. -/
theorem atG (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    (outsAt0 m hO c t).1 j = REFG (m ((c : Thread nD τ).loc main_arg3)) (m ((c : Thread nD τ).loc main_arg4)) (m ((c : Thread nD τ).loc main_arg5)) z := by
  unfold outsAt0
  dsimp only
  refine (outG ..).trans ?_
  exact (grad_eq m hO h c t j z h0 h1)

/-- The blocks of result 0 cover its array. -/
theorem cover5 : ((cfgM m hO).win 5).Covers := of_decide_eq_true (by sl_kernel_rfl)

/-- Where an entry of a tile of result 0 lies. -/
theorem place5 (t : Fin (cfgM m hO).N) (y : S128x2048.Idx) (z : S256x2048.Idx) (hz : (((cfgM m hO).win 5).rect t).emb y = z) :
    (z 0).val = t.val * 128 + (y 0).val ∧ (z 1).val = (y 1).val := by
  subst hz
  have p := fun a : Fin 2 => Pipeline.Window.rect_emb_val ((cfgM m hO).win 5) t y a
  rw [(idx m hO 0 t).2.2.2.2.2.1] at p
  exact ⟨p 0, (p 1).trans (Cert.Adam.zero_block _ _)⟩

/-- The array after the run. -/
theorem finalG (h : Cert.Pre_Kernel28Ideal m) (c : Dev nD) : (dats m hO 0 c).arrAt 5 (cfgM m hO).N = REFG (m ((c : Thread nD τ).loc main_arg3)) (m ((c : Thread nD τ).loc main_arg4)) (m ((c : Thread nD τ).loc main_arg5)) := by
  refine (dats m hO 0 c).arrAt_eq_of_covers 5 _ (cover5 m hO) fun t hf y => ?_
  have e := atG m hO h c t y ((((cfgM m hO).win 5).blk t).view.emb y) (place5 m hO t y _ rfl).1 (place5 m hO t y _ rfl).2
  blk_simp
  rw [after0_5]
  exact e

/-- What a point writes back, at the array's entry. -/
theorem atD (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    (outsAt0 m hO c t).2.1 j = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) z := by
  unfold outsAt0
  dsimp only
  refine (outD ..).trans ?_
  exact ((Cert.Adam.change_congr (in0 m hO c t j z h0 h1) (in1 m hO c t j z h0 h1) (in2 m hO c t j z h0 h1) (grad_eq m hO h c t j z h0 h1)).trans (refD .. ).symm)

/-- The blocks of result 1 cover its array. -/
theorem cover6 : ((cfgM m hO).win 6).Covers := of_decide_eq_true (by sl_kernel_rfl)

/-- Where an entry of a tile of result 1 lies. -/
theorem place6 (t : Fin (cfgM m hO).N) (y : S128x2048.Idx) (z : S256x2048.Idx) (hz : (((cfgM m hO).win 6).rect t).emb y = z) :
    (z 0).val = t.val * 128 + (y 0).val ∧ (z 1).val = (y 1).val := by
  subst hz
  have p := fun a : Fin 2 => Pipeline.Window.rect_emb_val ((cfgM m hO).win 6) t y a
  rw [(idx m hO 0 t).2.2.2.2.2.2.1] at p
  exact ⟨p 0, (p 1).trans (Cert.Adam.zero_block _ _)⟩

/-- The array after the run. -/
theorem finalD (h : Cert.Pre_Kernel28Ideal m) (c : Dev nD) : (dats m hO 0 c).arrAt 6 (cfgM m hO).N = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 6 _ (cover6 m hO) fun t hf y => ?_
  have e := atD m hO h c t y ((((cfgM m hO).win 6).blk t).view.emb y) (place6 m hO t y _ rfl).1 (place6 m hO t y _ rfl).2
  blk_simp
  rw [after0_6]
  exact e

/-- What a point writes back, at the array's entry. -/
theorem atM (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    (outsAt0 m hO c t).2.2.1 j = REFM (m ((c : Thread nD τ).loc main_arg1)) (REFG (m ((c : Thread nD τ).loc main_arg3)) (m ((c : Thread nD τ).loc main_arg4)) (m ((c : Thread nD τ).loc main_arg5))) z := by
  unfold outsAt0
  dsimp only
  refine (outM ..).trans ?_
  exact ((Cert.Adam.first_congr (in1 m hO c t j z h0 h1) (grad_eq m hO h c t j z h0 h1)).trans (refM .. ).symm)

/-- The blocks of result 2 cover its array. -/
theorem cover7 : ((cfgM m hO).win 7).Covers := of_decide_eq_true (by sl_kernel_rfl)

/-- Where an entry of a tile of result 2 lies. -/
theorem place7 (t : Fin (cfgM m hO).N) (y : S128x2048.Idx) (z : S256x2048.Idx) (hz : (((cfgM m hO).win 7).rect t).emb y = z) :
    (z 0).val = t.val * 128 + (y 0).val ∧ (z 1).val = (y 1).val := by
  subst hz
  have p := fun a : Fin 2 => Pipeline.Window.rect_emb_val ((cfgM m hO).win 7) t y a
  rw [(idx m hO 0 t).2.2.2.2.2.2.2.1] at p
  exact ⟨p 0, (p 1).trans (Cert.Adam.zero_block _ _)⟩

/-- The array after the run. -/
theorem finalM (h : Cert.Pre_Kernel28Ideal m) (c : Dev nD) : (dats m hO 0 c).arrAt 7 (cfgM m hO).N = REFM (m ((c : Thread nD τ).loc main_arg1)) (REFG (m ((c : Thread nD τ).loc main_arg3)) (m ((c : Thread nD τ).loc main_arg4)) (m ((c : Thread nD τ).loc main_arg5))) := by
  refine (dats m hO 0 c).arrAt_eq_of_covers 7 _ (cover7 m hO) fun t hf y => ?_
  have e := atM m hO h c t y ((((cfgM m hO).win 7).blk t).view.emb y) (place7 m hO t y _ rfl).1 (place7 m hO t y _ rfl).2
  blk_simp
  rw [after0_7]
  exact e

/-- What a point writes back, at the array's entry. -/
theorem atV (h : Cert.Pre_Kernel28Ideal m) (c : Dev nD) (t : Fin (cfgM m hO).N) (j : S128x2048.Idx) (z : S256x2048.Idx)
    (h0 : (z 0).val = t.val * 128 + (j 0).val) (h1 : (z 1).val = (j 1).val) :
    (outsAt0 m hO c t).2.2.2 j = REFV (m ((c : Thread nD τ).loc main_arg2)) (REFG (m ((c : Thread nD τ).loc main_arg3)) (m ((c : Thread nD τ).loc main_arg4)) (m ((c : Thread nD τ).loc main_arg5))) z := by
  unfold outsAt0
  dsimp only
  refine (outV ..).trans ?_
  exact ((Cert.Adam.second_congr (in2 m hO c t j z h0 h1) (grad_eq m hO h c t j z h0 h1)).trans (refV .. ).symm)

/-- The blocks of result 3 cover its array. -/
theorem cover8 : ((cfgM m hO).win 8).Covers := of_decide_eq_true (by sl_kernel_rfl)

/-- Where an entry of a tile of result 3 lies. -/
theorem place8 (t : Fin (cfgM m hO).N) (y : S128x2048.Idx) (z : S256x2048.Idx) (hz : (((cfgM m hO).win 8).rect t).emb y = z) :
    (z 0).val = t.val * 128 + (y 0).val ∧ (z 1).val = (y 1).val := by
  subst hz
  have p := fun a : Fin 2 => Pipeline.Window.rect_emb_val ((cfgM m hO).win 8) t y a
  rw [(idx m hO 0 t).2.2.2.2.2.2.2.2] at p
  exact ⟨p 0, (p 1).trans (Cert.Adam.zero_block _ _)⟩

/-- The array after the run. -/
theorem finalV (h : Cert.Pre_Kernel28Ideal m) (c : Dev nD) : (dats m hO 0 c).arrAt 8 (cfgM m hO).N = REFV (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 8 _ (cover8 m hO) fun t hf y => ?_
  have e := atV m hO h c t y ((((cfgM m hO).win 8).blk t).view.emb y) (place8 m hO t y _ rfl).1 (place8 m hO t y _ rfl).2
  blk_simp
  rw [after0_8]
  exact e

end Cert.Kernel28Ideal.Step

end
-- ==== Proof.Optimiser.DownWeight.lean ====
/- The AdamW step of the large weights of shape 1024 x 2048: the call leaves what the reference returns, in each of its four results. -/
module

public import proofs.«01_k».proof.Defs
public import proofs.«01_k».proof.Proof.Gen.Kernel29Ideal.Frame
public import proofs.«01_k».proof.Proof.Gen.Kernel29
public import proofs.«01_k».proof.Proof.Gen.Pre_chip_of_four29
public import proofs.«01_k».proof.Proof.Gen.Reference29Ideal.Run
public import Idealize.ShloMosaic.Lib.Pipeline.ReadBack
public import proofs.«01_k».proof.Proof.Sums
public import proofs.«01_k».proof.Proof.Optimiser.Step
public import proofs.«01_k».proof.Proof.Optimiser.Own

@[expose] public section

set_option maxRecDepth 16384

noncomputable section

open Idealize.ShloMosaic Idealize.ShloMosaic.TcCoe Idealize.SL.Sem
open Idealize.ShloMosaic.Pipeline (Dat)

namespace Cert.Kernel29Ideal.Step

open Cert.Kernel29Ideal Cert.Kernel29Ideal.Gen

variable (m : (ℓ : Loc nD τ sig) → Buf (Elt Ideal) ℓ)

/-- The chip's number lies below four. -/
theorem below (h : Cert.Pre_Kernel29Ideal m) (c : Dev nD) (j : S1.Idx) :
    (m ((c : Thread nD τ).loc main_arg5) j).toNat < 4 := by
  have e := congrFun (h c) j
  simp only [Pre_chip_of_four29.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel29Ideal m) : Ok m := by
  unfold Ok ok0
  intro i
  have hi : (i 0).val < 8 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 1024
    rw [BitVec.toNat_ofNat, Nat.mod_eq_of_lt (by omega)]; omega
  · show (0 + 1) * 2048 ≤ 2048
    omega

/-- The gradient that the reference returns. -/
noncomputable abbrev REFG (own : FVec Ideal S4x1024x2048 .bf16) (parts : FVec Ideal S3x1024x2048 .bf16) (chip : IVec S1 32) : FVec Ideal Cert.Reference29Ideal.S1024x2048 .f32 :=
    addf (extf .f32 (select (broadcastInDim Cert.Reference29Ideal.S1024x2048 ![] Cert.Reference29Ideal.Gen.bcast_S_S1024x2048 (cmpi .eq (shapeCast _ chip Cert.Reference29Ideal.Gen.shapeCasts_S1_S_) (constantI Cert.Reference29Ideal.S_ 32 0#32))) (shapeCast _ (extractStridedSlice Cert.Reference29Ideal.S1x1024x2048 ![0, 0, 0] own Cert.Reference29Ideal.Gen.slices_S4x1024x2048_S1x1024x2048_0_0_0) Cert.Reference29Ideal.Gen.shapeCasts_S1x1024x2048_S1024x2048) (select (broadcastInDim Cert.Reference29Ideal.S1024x2048 ![] Cert.Reference29Ideal.Gen.bcast_S_S1024x2048 (cmpi .eq (shapeCast _ chip Cert.Reference29Ideal.Gen.shapeCasts_S1_S_) (constantI Cert.Reference29Ideal.S_ 32 1#32))) (shapeCast _ (extractStridedSlice Cert.Reference29Ideal.S1x1024x2048 ![1, 0, 0] own Cert.Reference29Ideal.Gen.slices_S4x1024x2048_S1x1024x2048_1_0_0) Cert.Reference29Ideal.Gen.shapeCasts_S1x1024x2048_S1024x2048) (select (broadcastInDim Cert.Reference29Ideal.S1024x2048 ![] Cert.Reference29Ideal.Gen.bcast_S_S1024x2048 (cmpi .eq (shapeCast _ chip Cert.Reference29Ideal.Gen.shapeCasts_S1_S_) (constantI Cert.Reference29Ideal.S_ 32 2#32))) (shapeCast _ (extractStridedSlice Cert.Reference29Ideal.S1x1024x2048 ![2, 0, 0] own Cert.Reference29Ideal.Gen.slices_S4x1024x2048_S1x1024x2048_2_0_0) Cert.Reference29Ideal.Gen.shapeCasts_S1x1024x2048_S1024x2048) (shapeCast _ (extractStridedSlice Cert.Reference29Ideal.S1x1024x2048 ![3, 0, 0] own Cert.Reference29Ideal.Gen.slices_S4x1024x2048_S1x1024x2048_3_0_0) Cert.Reference29Ideal.Gen.shapeCasts_S1x1024x2048_S1024x2048)))) Cert.Reference29Ideal.Gen.bitsLt_bf16_f32) (Host.reduceAdd (extf .f32 parts Cert.Reference29Ideal.Gen.bitsLt_bf16_f32) (constant Cert.Reference29Ideal.S_ .f32 0x00000000#32) Cert.Reference29Ideal.Gen.reducesTo_S3x1024x2048_S1024x2048_d0 Cert.Reference29Ideal.Gen.h_S_)

/-- The change of the weights that the reference returns, of the gradient. -/
noncomputable abbrev REFD (w m v g : FVec Ideal Cert.Reference29Ideal.S1024x2048 .f32) : FVec Ideal Cert.Reference29Ideal.S1024x2048 .f32 :=
    mulf (broadcastInDim Cert.Reference29Ideal.S1024x2048 ![] Cert.Reference29Ideal.Gen.bcast_S_S1024x2048 (constant Cert.Reference29Ideal.S_ .f32 0xBA83126F#32))
      (addf (Host.divf (Host.divf (addf (mulf (broadcastInDim Cert.Reference29Ideal.S1024x2048 ![] Cert.Reference29Ideal.Gen.bcast_S_S1024x2048 (constant Cert.Reference29Ideal.S_ .f32 0x3F666666#32)) m) (mulf (broadcastInDim Cert.Reference29Ideal.S1024x2048 ![] Cert.Reference29Ideal.Gen.bcast_S_S1024x2048 (constant Cert.Reference29Ideal.S_ .f32 0x3DCCCCCD#32)) g)) (broadcastInDim Cert.Reference29Ideal.S1024x2048 ![] Cert.Reference29Ideal.Gen.bcast_S_S1024x2048 (constant Cert.Reference29Ideal.S_ .f32 0x3F26BD02#32)))
          (addf (Host.sqrt (Host.divf (addf (mulf (broadcastInDim Cert.Reference29Ideal.S1024x2048 ![] Cert.Reference29Ideal.Gen.bcast_S_S1024x2048 (constant Cert.Reference29Ideal.S_ .f32 0x3F7FBE77#32)) v) (mulf (broadcastInDim Cert.Reference29Ideal.S1024x2048 ![] Cert.Reference29Ideal.Gen.bcast_S_S1024x2048 (constant Cert.Reference29Ideal.S_ .f32 0x3A83126F#32)) (mulf g g))) (broadcastInDim Cert.Reference29Ideal.S1024x2048 ![] Cert.Reference29Ideal.Gen.bcast_S_S1024x2048 (constant Cert.Reference29Ideal.S_ .f32 0x3C231ACC#32)))) (broadcastInDim Cert.Reference29Ideal.S1024x2048 ![] Cert.Reference29Ideal.Gen.bcast_S_S1024x2048 (constant Cert.Reference29Ideal.S_ .f32 0x322BCC77#32))))
        (mulf (broadcastInDim Cert.Reference29Ideal.S1024x2048 ![] Cert.Reference29Ideal.Gen.bcast_S_S1024x2048 (constant Cert.Reference29Ideal.S_ .f32 0x3C23D70A#32)) w))

/-- The new first moments that the reference returns, of the gradient. -/
noncomputable abbrev REFM (m g : FVec Ideal Cert.Reference29Ideal.S1024x2048 .f32) : FVec Ideal Cert.Reference29Ideal.S1024x2048 .f32 :=
    addf (mulf (broadcastInDim Cert.Reference29Ideal.S1024x2048 ![] Cert.Reference29Ideal.Gen.bcast_S_S1024x2048 (constant Cert.Reference29Ideal.S_ .f32 0x3F666666#32)) m) (mulf (broadcastInDim Cert.Reference29Ideal.S1024x2048 ![] Cert.Reference29Ideal.Gen.bcast_S_S1024x2048 (constant Cert.Reference29Ideal.S_ .f32 0x3DCCCCCD#32)) g)

/-- The new second moments that the reference returns, of the gradient. -/
noncomputable abbrev REFV (v g : FVec Ideal Cert.Reference29Ideal.S1024x2048 .f32) : FVec Ideal Cert.Reference29Ideal.S1024x2048 .f32 :=
    addf (mulf (broadcastInDim Cert.Reference29Ideal.S1024x2048 ![] Cert.Reference29Ideal.Gen.bcast_S_S1024x2048 (constant Cert.Reference29Ideal.S_ .f32 0x3F7FBE77#32)) v) (mulf (broadcastInDim Cert.Reference29Ideal.S1024x2048 ![] Cert.Reference29Ideal.Gen.bcast_S_S1024x2048 (constant Cert.Reference29Ideal.S_ .f32 0x3A83126F#32)) (mulf g g))

/-- The gradient at an entry: the chip's own block and the three that came from the others. -/
theorem refG (own : FVec Ideal S4x1024x2048 .bf16) (parts : FVec Ideal S3x1024x2048 .bf16) (chip : IVec S1 32) (k : Fin 4)
    (hk : chip (ix1 0) = BitVec.ofNat 32 k.val) (j : S1024x2048.Idx) :
    REFG own parts chip j = own (ix3 k (j 0) (j 1)) + ∑ d : Fin 3, parts (ix3 d (j 0) (j 1)) := by
  fin_cases k <;> (pointwise [REFG, hk]; try rfl)

theorem refM (m g : FVec Ideal Cert.Reference29Ideal.S1024x2048 .f32) (j : S1024x2048.Idx) : REFM m g j = Cert.Adam.first (m j) (g j) := by
  pointwise [REFM, Cert.Adam.first]

theorem refV (v g : FVec Ideal Cert.Reference29Ideal.S1024x2048 .f32) (j : S1024x2048.Idx) : REFV v g j = Cert.Adam.second (v j) (g j) := by
  pointwise [REFV, Cert.Adam.second]

theorem refD (w m v g : FVec Ideal Cert.Reference29Ideal.S1024x2048 .f32) (j : S1024x2048.Idx) : REFD w m v g j = Cert.Adam.change (w j) (m j) (v j) (g j) := by
  pointwise [REFD, Cert.Adam.change, Cert.Adam.first, Cert.Adam.second]

/-- The gradient of a tile's entry. -/
noncomputable def grad (x3 : Vec Ideal S1x128x2048 .bf16) (x4 : Vec Ideal S3x128x2048 .bf16) (j : S128x2048.Idx) : EReal :=
  x3 (ix3 0 (j 0) (j 1)) + ∑ d : Fin 3, x4 (ix3 d (j 0) (j 1))

section tile

variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S1x128x2048 .bf16) (harg5 : arg5.IsWhole) (arg6 : Memref sig .tc .vmem S3x128x2048 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole)
    (x0 : Vec Ideal S128x2048 .f32) (x1 : Vec Ideal S128x2048 .f32) (x2 : Vec Ideal S128x2048 .f32) (x3 : Vec Ideal S1x128x2048 .bf16) (x4 : Vec Ideal S3x128x2048 .bf16) (xt0 : TbBuf0 (F := Ideal) c tbM0_0)

theorem outG (j : S128x2048.Idx) : out0_A_5 (F := Ideal) c i arg2 harg2 arg3 harg3 arg4 harg4 arg5 harg5 arg6 harg6 arg7 harg7 arg8 harg8 arg9 harg9 arg10 harg10 x0 x1 x2 x3 x4 xt0 j = grad x3 x4 j := by
  unfold grad
  rw [Fin.sum_univ_three]
  frame_out
  pointwise [k0_pay2]
  simp only [add_assoc]

theorem outM (j : S128x2048.Idx) : out0_A_7 (F := Ideal) c i arg2 harg2 arg3 harg3 arg4 harg4 arg5 harg5 arg6 harg6 arg7 harg7 arg8 harg8 arg9 harg9 arg10 harg10 x0 x1 x2 x3 x4 xt0 j = Cert.Adam.first (x1 j) (grad x3 x4 j) := by
  unfold grad
  rw [Fin.sum_univ_three]
  frame_out
  pointwise [k0_pay3, k0_pay2, Cert.Adam.first]
  simp only [add_assoc]

theorem outV (j : S128x2048.Idx) : out0_A_8 (F := Ideal) c i arg2 harg2 arg3 harg3 arg4 harg4 arg5 harg5 arg6 harg6 arg7 harg7 arg8 harg8 arg9 harg9 arg10 harg10 x0 x1 x2 x3 x4 xt0 j = Cert.Adam.second (x2 j) (grad x3 x4 j) := by
  unfold grad
  rw [Fin.sum_univ_three]
  frame_out
  pointwise [k0_pay4, k0_pay2, Cert.Adam.second]
  simp only [add_assoc]

theorem outD (j : S128x2048.Idx) : out0_A_6 (F := Ideal) c i arg2 harg2 arg3 harg3 arg4 harg4 arg5 harg5 arg6 harg6 arg7 harg7 arg8 harg8 arg9 harg9 arg10 harg10 x0 x1 x2 x3 x4 xt0 j = Cert.Adam.change (x0 j) (x1 j) (x2 j) (grad x3 x4 j) := by
  unfold grad
  rw [Fin.sum_univ_three]
  frame_out
  pointwise [k0_pay1, k0_pay6, k0_pay5, k0_pay4, k0_pay3, k0_pay2, Cert.Adam.change, Cert.Adam.first, Cert.Adam.second]
  simp only [add_assoc]

end tile

/-- Which block each window with a fixed map is on. -/
theorem maps : ∀ t : Fin grid0.N, cc0_transform_0 (grid0.coords t) = ![t.val, 0] ∧ cc0_transform_1 (grid0.coords t) = ![t.val, 0]
    ∧ cc0_transform_2 (grid0.coords t) = ![t.val, 0] ∧ (BitVec.ofNat 32 ((grid0.coords t) 0).val).toNat = t.val
    ∧ cc0_transform_4 (grid0.coords t) = ![0, t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] := by
  decide +kernel

variable (hO : Ok m)

/-- Which block each window is on. -/
theorem idx (c : Dev nD) (t : Fin (cfgM m hO).N) :
    ((cfgM m hO).win 0).index t = ![t.val, 0] ∧ ((cfgM m hO).win 1).index t = ![t.val, 0]
    ∧ ((cfgM m hO).win 2).index t = ![t.val, 0]
    ∧ ((cfgM m hO).win 3).index t = ![(m ((c : Thread nD τ).loc main_arg5) (ix1 0)).toNat, t.val, 0]
    ∧ ((cfgM m hO).win 4).index t = ![0, t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] := by
  obtain ⟨a, b, d, e, f, g, h, i, j⟩ := maps t
  exact ⟨a, b, d, (word m c (grid0.coords t)).trans (by rw [e]), f, g, h, i, j⟩

/-- The chip's own number, as an index. -/
noncomputable def chip (h : Cert.Pre_Kernel29Ideal m) (c : Dev nD) : Fin 4 := ⟨(m ((c : Thread nD τ).loc main_arg5) (ix1 0)).toNat, below m h c (ix1 0)⟩

theorem chip_eq (h : Cert.Pre_Kernel29Ideal m) (c : Dev nD) : m ((c : Thread nD τ).loc main_arg5) (ix1 0) = BitVec.ofNat 32 (chip m h c).val := by
  simp [chip]

/-- The tile of argument 0 at an entry. -/
theorem in0 (c : Dev nD) (t : Fin (cfgM m hO).N) (j : S128x2048.Idx) (z : S1024x2048.Idx)
    (h0 : (z 0).val = t.val * 128 + (j 0).val) (h1 : (z 1).val = (j 1).val) :
    iblk m hO c 0 t j = m ((c : Thread nD τ).loc main_arg0) z := by
  refine congrArg (m ((c : Thread nD τ).loc main_arg0)) (?_ : (((cfgM m hO).win 0).rect t).emb j = z)
  funext a
  apply Fin.ext
  refine (Pipeline.Window.rect_emb_val ((cfgM m hO).win 0) t j a).trans ?_
  rw [(idx m hO c t).1]
  fin_cases a
  · exact h0.symm
  · exact (Cert.Adam.zero_block 2048 (j 1).val).trans h1.symm

/-- The tile of argument 1 at an entry. -/
theorem in1 (c : Dev nD) (t : Fin (cfgM m hO).N) (j : S128x2048.Idx) (z : S1024x2048.Idx)
    (h0 : (z 0).val = t.val * 128 + (j 0).val) (h1 : (z 1).val = (j 1).val) :
    iblk m hO c 1 t j = m ((c : Thread nD τ).loc main_arg1) z := by
  refine congrArg (m ((c : Thread nD τ).loc main_arg1)) (?_ : (((cfgM m hO).win 1).rect t).emb j = z)
  funext a
  apply Fin.ext
  refine (Pipeline.Window.rect_emb_val ((cfgM m hO).win 1) t j a).trans ?_
  rw [(idx m hO c t).2.1]
  fin_cases a
  · exact h0.symm
  · exact (Cert.Adam.zero_block 2048 (j 1).val).trans h1.symm

/-- The tile of argument 2 at an entry. -/
theorem in2 (c : Dev nD) (t : Fin (cfgM m hO).N) (j : S128x2048.Idx) (z : S1024x2048.Idx)
    (h0 : (z 0).val = t.val * 128 + (j 0).val) (h1 : (z 1).val = (j 1).val) :
    iblk m hO c 2 t j = m ((c : Thread nD τ).loc main_arg2) z := by
  refine congrArg (m ((c : Thread nD τ).loc main_arg2)) (?_ : (((cfgM m hO).win 2).rect t).emb j = z)
  funext a
  apply Fin.ext
  refine (Pipeline.Window.rect_emb_val ((cfgM m hO).win 2) t j a).trans ?_
  rw [(idx m hO c t).2.2.1]
  fin_cases a
  · exact h0.symm
  · exact (Cert.Adam.zero_block 2048 (j 1).val).trans h1.symm

/-- The tile of the chip's own block at an entry. -/
theorem in3 (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    iblk m hO c 3 t (ix3 0 (j 0) (j 1) : S1x128x2048.Idx) = m ((c : Thread nD τ).loc main_arg3) (ix3 (chip m h c) (z 0) (z 1) : S4x1024x2048.Idx) := by
  refine congrArg (m ((c : Thread nD τ).loc main_arg3)) (?_ : (((cfgM m hO).win 3).rect t).emb (ix3 0 (j 0) (j 1) : S1x128x2048.Idx) = (ix3 (chip m h c) (z 0) (z 1) : S4x1024x2048.Idx))
  funext a
  apply Fin.ext
  refine (Pipeline.Window.rect_emb_val ((cfgM m hO).win 3) t (ix3 0 (j 0) (j 1) : S1x128x2048.Idx) a).trans ?_
  rw [(idx m hO c t).2.2.2.1]
  fin_cases a
  · show (m ((c : Thread nD τ).loc main_arg5) (ix1 0)).toNat * 1 + 0 = (m ((c : Thread nD τ).loc main_arg5) (ix1 0)).toNat
    omega
  · exact h0.symm
  · exact (Cert.Adam.zero_block 2048 (j 1).val).trans h1.symm

/-- The tile of the blocks from the other chips at an entry. -/
theorem in4 (c : Dev nD) (t : Fin (cfgM m hO).N) (d : Fin 3) (j : S128x2048.Idx) (z : S1024x2048.Idx)
    (h0 : (z 0).val = t.val * 128 + (j 0).val) (h1 : (z 1).val = (j 1).val) :
    iblk m hO c 4 t (ix3 d (j 0) (j 1) : S3x128x2048.Idx) = m ((c : Thread nD τ).loc main_arg4) (ix3 d (z 0) (z 1) : S3x1024x2048.Idx) := by
  refine congrArg (m ((c : Thread nD τ).loc main_arg4)) (?_ : (((cfgM m hO).win 4).rect t).emb (ix3 d (j 0) (j 1) : S3x128x2048.Idx) = (ix3 d (z 0) (z 1) : S3x1024x2048.Idx))
  funext a
  apply Fin.ext
  refine (Pipeline.Window.rect_emb_val ((cfgM m hO).win 4) t (ix3 d (j 0) (j 1) : S3x128x2048.Idx) a).trans ?_
  rw [(idx m hO c t).2.2.2.2.1]
  fin_cases a
  · show 0 * 3 + d.val = d.val
    omega
  · exact h0.symm
  · exact (Cert.Adam.zero_block 2048 (j 1).val).trans h1.symm

/-- A tile's gradient is the reference's at the array's entry. -/
theorem grad_eq (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    grad (iblk m hO c 3 t) (iblk m hO c 4 t) j = REFG (m ((c : Thread nD τ).loc main_arg3)) (m ((c : Thread nD τ).loc main_arg4)) (m ((c : Thread nD τ).loc main_arg5)) z := by
  rw [refG _ _ _ (chip m h c) (chip_eq m h c)]
  exact congrArg₂ (· + ·) (in3 m hO h c t j z h0 h1) (Cert.Sums.congr fun d => in4 m hO c t d j z h0 h1)

/-- What a point writes back, at the array's entry. -/
theorem atG (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    (outsAt0 m hO c t).1 j = REFG (m ((c : Thread nD τ).loc main_arg3)) (m ((c : Thread nD τ).loc main_arg4)) (m ((c : Thread nD τ).loc main_arg5)) z := by
  unfold outsAt0
  dsimp only
  refine (outG ..).trans ?_
  exact (grad_eq m hO h c t j z h0 h1)

/-- The blocks of result 0 cover its array. -/
theorem cover5 : ((cfgM m hO).win 5).Covers := of_decide_eq_true (by sl_kernel_rfl)

/-- Where an entry of a tile of result 0 lies. -/
theorem place5 (t : Fin (cfgM m hO).N) (y : S128x2048.Idx) (z : S1024x2048.Idx) (hz : (((cfgM m hO).win 5).rect t).emb y = z) :
    (z 0).val = t.val * 128 + (y 0).val ∧ (z 1).val = (y 1).val := by
  subst hz
  have p := fun a : Fin 2 => Pipeline.Window.rect_emb_val ((cfgM m hO).win 5) t y a
  rw [(idx m hO 0 t).2.2.2.2.2.1] at p
  exact ⟨p 0, (p 1).trans (Cert.Adam.zero_block _ _)⟩

/-- The array after the run. -/
theorem finalG (h : Cert.Pre_Kernel29Ideal m) (c : Dev nD) : (dats m hO 0 c).arrAt 5 (cfgM m hO).N = REFG (m ((c : Thread nD τ).loc main_arg3)) (m ((c : Thread nD τ).loc main_arg4)) (m ((c : Thread nD τ).loc main_arg5)) := by
  refine (dats m hO 0 c).arrAt_eq_of_covers 5 _ (cover5 m hO) fun t hf y => ?_
  have e := atG m hO h c t y ((((cfgM m hO).win 5).blk t).view.emb y) (place5 m hO t y _ rfl).1 (place5 m hO t y _ rfl).2
  blk_simp
  rw [after0_5]
  exact e

/-- What a point writes back, at the array's entry. -/
theorem atD (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    (outsAt0 m hO c t).2.1 j = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) z := by
  unfold outsAt0
  dsimp only
  refine (outD ..).trans ?_
  exact ((Cert.Adam.change_congr (in0 m hO c t j z h0 h1) (in1 m hO c t j z h0 h1) (in2 m hO c t j z h0 h1) (grad_eq m hO h c t j z h0 h1)).trans (refD .. ).symm)

/-- The blocks of result 1 cover its array. -/
theorem cover6 : ((cfgM m hO).win 6).Covers := of_decide_eq_true (by sl_kernel_rfl)

/-- Where an entry of a tile of result 1 lies. -/
theorem place6 (t : Fin (cfgM m hO).N) (y : S128x2048.Idx) (z : S1024x2048.Idx) (hz : (((cfgM m hO).win 6).rect t).emb y = z) :
    (z 0).val = t.val * 128 + (y 0).val ∧ (z 1).val = (y 1).val := by
  subst hz
  have p := fun a : Fin 2 => Pipeline.Window.rect_emb_val ((cfgM m hO).win 6) t y a
  rw [(idx m hO 0 t).2.2.2.2.2.2.1] at p
  exact ⟨p 0, (p 1).trans (Cert.Adam.zero_block _ _)⟩

/-- The array after the run. -/
theorem finalD (h : Cert.Pre_Kernel29Ideal m) (c : Dev nD) : (dats m hO 0 c).arrAt 6 (cfgM m hO).N = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 6 _ (cover6 m hO) fun t hf y => ?_
  have e := atD m hO h c t y ((((cfgM m hO).win 6).blk t).view.emb y) (place6 m hO t y _ rfl).1 (place6 m hO t y _ rfl).2
  blk_simp
  rw [after0_6]
  exact e

/-- What a point writes back, at the array's entry. -/
theorem atM (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    (outsAt0 m hO c t).2.2.1 j = REFM (m ((c : Thread nD τ).loc main_arg1)) (REFG (m ((c : Thread nD τ).loc main_arg3)) (m ((c : Thread nD τ).loc main_arg4)) (m ((c : Thread nD τ).loc main_arg5))) z := by
  unfold outsAt0
  dsimp only
  refine (outM ..).trans ?_
  exact ((Cert.Adam.first_congr (in1 m hO c t j z h0 h1) (grad_eq m hO h c t j z h0 h1)).trans (refM .. ).symm)

/-- The blocks of result 2 cover its array. -/
theorem cover7 : ((cfgM m hO).win 7).Covers := of_decide_eq_true (by sl_kernel_rfl)

/-- Where an entry of a tile of result 2 lies. -/
theorem place7 (t : Fin (cfgM m hO).N) (y : S128x2048.Idx) (z : S1024x2048.Idx) (hz : (((cfgM m hO).win 7).rect t).emb y = z) :
    (z 0).val = t.val * 128 + (y 0).val ∧ (z 1).val = (y 1).val := by
  subst hz
  have p := fun a : Fin 2 => Pipeline.Window.rect_emb_val ((cfgM m hO).win 7) t y a
  rw [(idx m hO 0 t).2.2.2.2.2.2.2.1] at p
  exact ⟨p 0, (p 1).trans (Cert.Adam.zero_block _ _)⟩

/-- The array after the run. -/
theorem finalM (h : Cert.Pre_Kernel29Ideal m) (c : Dev nD) : (dats m hO 0 c).arrAt 7 (cfgM m hO).N = REFM (m ((c : Thread nD τ).loc main_arg1)) (REFG (m ((c : Thread nD τ).loc main_arg3)) (m ((c : Thread nD τ).loc main_arg4)) (m ((c : Thread nD τ).loc main_arg5))) := by
  refine (dats m hO 0 c).arrAt_eq_of_covers 7 _ (cover7 m hO) fun t hf y => ?_
  have e := atM m hO h c t y ((((cfgM m hO).win 7).blk t).view.emb y) (place7 m hO t y _ rfl).1 (place7 m hO t y _ rfl).2
  blk_simp
  rw [after0_7]
  exact e

/-- What a point writes back, at the array's entry. -/
theorem atV (h : Cert.Pre_Kernel29Ideal m) (c : Dev nD) (t : Fin (cfgM m hO).N) (j : S128x2048.Idx) (z : S1024x2048.Idx)
    (h0 : (z 0).val = t.val * 128 + (j 0).val) (h1 : (z 1).val = (j 1).val) :
    (outsAt0 m hO c t).2.2.2 j = REFV (m ((c : Thread nD τ).loc main_arg2)) (REFG (m ((c : Thread nD τ).loc main_arg3)) (m ((c : Thread nD τ).loc main_arg4)) (m ((c : Thread nD τ).loc main_arg5))) z := by
  unfold outsAt0
  dsimp only
  refine (outV ..).trans ?_
  exact ((Cert.Adam.second_congr (in2 m hO c t j z h0 h1) (grad_eq m hO h c t j z h0 h1)).trans (refV .. ).symm)

/-- The blocks of result 3 cover its array. -/
theorem cover8 : ((cfgM m hO).win 8).Covers := of_decide_eq_true (by sl_kernel_rfl)

/-- Where an entry of a tile of result 3 lies. -/
theorem place8 (t : Fin (cfgM m hO).N) (y : S128x2048.Idx) (z : S1024x2048.Idx) (hz : (((cfgM m hO).win 8).rect t).emb y = z) :
    (z 0).val = t.val * 128 + (y 0).val ∧ (z 1).val = (y 1).val := by
  subst hz
  have p := fun a : Fin 2 => Pipeline.Window.rect_emb_val ((cfgM m hO).win 8) t y a
  rw [(idx m hO 0 t).2.2.2.2.2.2.2.2] at p
  exact ⟨p 0, (p 1).trans (Cert.Adam.zero_block _ _)⟩

/-- The array after the run. -/
theorem finalV (h : Cert.Pre_Kernel29Ideal m) (c : Dev nD) : (dats m hO 0 c).arrAt 8 (cfgM m hO).N = REFV (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 8 _ (cover8 m hO) fun t hf y => ?_
  have e := atV m hO h c t y ((((cfgM m hO).win 8).blk t).view.emb y) (place8 m hO t y _ rfl).1 (place8 m hO t y _ rfl).2
  blk_simp
  rw [after0_8]
  exact e

end Cert.Kernel29Ideal.Step

end
-- ==== Proof.Optimiser.UpWeight.lean ====
/- The AdamW step of the large weights of shape 2048 x 1024: the call leaves what the reference returns, in each of its four results. -/
module

public import proofs.«01_k».proof.Defs
public import proofs.«01_k».proof.Proof.Gen.Kernel30Ideal.Frame
public import proofs.«01_k».proof.Proof.Gen.Kernel30
public import proofs.«01_k».proof.Proof.Gen.Pre_chip_of_four30
public import proofs.«01_k».proof.Proof.Gen.Reference30Ideal.Run
public import Idealize.ShloMosaic.Lib.Pipeline.ReadBack
public import proofs.«01_k».proof.Proof.Sums
public import proofs.«01_k».proof.Proof.Optimiser.Step
public import proofs.«01_k».proof.Proof.Optimiser.Own

@[expose] public section

set_option maxRecDepth 16384

noncomputable section

open Idealize.ShloMosaic Idealize.ShloMosaic.TcCoe Idealize.SL.Sem
open Idealize.ShloMosaic.Pipeline (Dat)

namespace Cert.Kernel30Ideal.Step

open Cert.Kernel30Ideal Cert.Kernel30Ideal.Gen

variable (m : (ℓ : Loc nD τ sig) → Buf (Elt Ideal) ℓ)

/-- The chip's number lies below four. -/
theorem below (h : Cert.Pre_Kernel30Ideal m) (c : Dev nD) (j : S1.Idx) :
    (m ((c : Thread nD τ).loc main_arg5) j).toNat < 4 := by
  have e := congrFun (h c) j
  simp only [Pre_chip_of_four30.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel30Ideal m) : Ok m := by
  unfold Ok ok0
  intro i
  have hi : (i 0).val < 16 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 2048
    rw [BitVec.toNat_ofNat, Nat.mod_eq_of_lt (by omega)]; omega
  · show (0 + 1) * 1024 ≤ 1024
    omega

/-- The gradient that the reference returns. -/
noncomputable abbrev REFG (own : FVec Ideal S4x2048x1024 .bf16) (parts : FVec Ideal S3x2048x1024 .bf16) (chip : IVec S1 32) : FVec Ideal Cert.Reference30Ideal.S2048x1024 .f32 :=
    addf (extf .f32 (select (broadcastInDim Cert.Reference30Ideal.S2048x1024 ![] Cert.Reference30Ideal.Gen.bcast_S_S2048x1024 (cmpi .eq (shapeCast _ chip Cert.Reference30Ideal.Gen.shapeCasts_S1_S_) (constantI Cert.Reference30Ideal.S_ 32 0#32))) (shapeCast _ (extractStridedSlice Cert.Reference30Ideal.S1x2048x1024 ![0, 0, 0] own Cert.Reference30Ideal.Gen.slices_S4x2048x1024_S1x2048x1024_0_0_0) Cert.Reference30Ideal.Gen.shapeCasts_S1x2048x1024_S2048x1024) (select (broadcastInDim Cert.Reference30Ideal.S2048x1024 ![] Cert.Reference30Ideal.Gen.bcast_S_S2048x1024 (cmpi .eq (shapeCast _ chip Cert.Reference30Ideal.Gen.shapeCasts_S1_S_) (constantI Cert.Reference30Ideal.S_ 32 1#32))) (shapeCast _ (extractStridedSlice Cert.Reference30Ideal.S1x2048x1024 ![1, 0, 0] own Cert.Reference30Ideal.Gen.slices_S4x2048x1024_S1x2048x1024_1_0_0) Cert.Reference30Ideal.Gen.shapeCasts_S1x2048x1024_S2048x1024) (select (broadcastInDim Cert.Reference30Ideal.S2048x1024 ![] Cert.Reference30Ideal.Gen.bcast_S_S2048x1024 (cmpi .eq (shapeCast _ chip Cert.Reference30Ideal.Gen.shapeCasts_S1_S_) (constantI Cert.Reference30Ideal.S_ 32 2#32))) (shapeCast _ (extractStridedSlice Cert.Reference30Ideal.S1x2048x1024 ![2, 0, 0] own Cert.Reference30Ideal.Gen.slices_S4x2048x1024_S1x2048x1024_2_0_0) Cert.Reference30Ideal.Gen.shapeCasts_S1x2048x1024_S2048x1024) (shapeCast _ (extractStridedSlice Cert.Reference30Ideal.S1x2048x1024 ![3, 0, 0] own Cert.Reference30Ideal.Gen.slices_S4x2048x1024_S1x2048x1024_3_0_0) Cert.Reference30Ideal.Gen.shapeCasts_S1x2048x1024_S2048x1024)))) Cert.Reference30Ideal.Gen.bitsLt_bf16_f32) (Host.reduceAdd (extf .f32 parts Cert.Reference30Ideal.Gen.bitsLt_bf16_f32) (constant Cert.Reference30Ideal.S_ .f32 0x00000000#32) Cert.Reference30Ideal.Gen.reducesTo_S3x2048x1024_S2048x1024_d0 Cert.Reference30Ideal.Gen.h_S_)

/-- The change of the weights that the reference returns, of the gradient. -/
noncomputable abbrev REFD (w m v g : FVec Ideal Cert.Reference30Ideal.S2048x1024 .f32) : FVec Ideal Cert.Reference30Ideal.S2048x1024 .f32 :=
    mulf (broadcastInDim Cert.Reference30Ideal.S2048x1024 ![] Cert.Reference30Ideal.Gen.bcast_S_S2048x1024 (constant Cert.Reference30Ideal.S_ .f32 0xBA83126F#32))
      (addf (Host.divf (Host.divf (addf (mulf (broadcastInDim Cert.Reference30Ideal.S2048x1024 ![] Cert.Reference30Ideal.Gen.bcast_S_S2048x1024 (constant Cert.Reference30Ideal.S_ .f32 0x3F666666#32)) m) (mulf (broadcastInDim Cert.Reference30Ideal.S2048x1024 ![] Cert.Reference30Ideal.Gen.bcast_S_S2048x1024 (constant Cert.Reference30Ideal.S_ .f32 0x3DCCCCCD#32)) g)) (broadcastInDim Cert.Reference30Ideal.S2048x1024 ![] Cert.Reference30Ideal.Gen.bcast_S_S2048x1024 (constant Cert.Reference30Ideal.S_ .f32 0x3F26BD02#32)))
          (addf (Host.sqrt (Host.divf (addf (mulf (broadcastInDim Cert.Reference30Ideal.S2048x1024 ![] Cert.Reference30Ideal.Gen.bcast_S_S2048x1024 (constant Cert.Reference30Ideal.S_ .f32 0x3F7FBE77#32)) v) (mulf (broadcastInDim Cert.Reference30Ideal.S2048x1024 ![] Cert.Reference30Ideal.Gen.bcast_S_S2048x1024 (constant Cert.Reference30Ideal.S_ .f32 0x3A83126F#32)) (mulf g g))) (broadcastInDim Cert.Reference30Ideal.S2048x1024 ![] Cert.Reference30Ideal.Gen.bcast_S_S2048x1024 (constant Cert.Reference30Ideal.S_ .f32 0x3C231ACC#32)))) (broadcastInDim Cert.Reference30Ideal.S2048x1024 ![] Cert.Reference30Ideal.Gen.bcast_S_S2048x1024 (constant Cert.Reference30Ideal.S_ .f32 0x322BCC77#32))))
        (mulf (broadcastInDim Cert.Reference30Ideal.S2048x1024 ![] Cert.Reference30Ideal.Gen.bcast_S_S2048x1024 (constant Cert.Reference30Ideal.S_ .f32 0x3C23D70A#32)) w))

/-- The new first moments that the reference returns, of the gradient. -/
noncomputable abbrev REFM (m g : FVec Ideal Cert.Reference30Ideal.S2048x1024 .f32) : FVec Ideal Cert.Reference30Ideal.S2048x1024 .f32 :=
    addf (mulf (broadcastInDim Cert.Reference30Ideal.S2048x1024 ![] Cert.Reference30Ideal.Gen.bcast_S_S2048x1024 (constant Cert.Reference30Ideal.S_ .f32 0x3F666666#32)) m) (mulf (broadcastInDim Cert.Reference30Ideal.S2048x1024 ![] Cert.Reference30Ideal.Gen.bcast_S_S2048x1024 (constant Cert.Reference30Ideal.S_ .f32 0x3DCCCCCD#32)) g)

/-- The new second moments that the reference returns, of the gradient. -/
noncomputable abbrev REFV (v g : FVec Ideal Cert.Reference30Ideal.S2048x1024 .f32) : FVec Ideal Cert.Reference30Ideal.S2048x1024 .f32 :=
    addf (mulf (broadcastInDim Cert.Reference30Ideal.S2048x1024 ![] Cert.Reference30Ideal.Gen.bcast_S_S2048x1024 (constant Cert.Reference30Ideal.S_ .f32 0x3F7FBE77#32)) v) (mulf (broadcastInDim Cert.Reference30Ideal.S2048x1024 ![] Cert.Reference30Ideal.Gen.bcast_S_S2048x1024 (constant Cert.Reference30Ideal.S_ .f32 0x3A83126F#32)) (mulf g g))

/-- The gradient at an entry: the chip's own block and the three that came from the others. -/
theorem refG (own : FVec Ideal S4x2048x1024 .bf16) (parts : FVec Ideal S3x2048x1024 .bf16) (chip : IVec S1 32) (k : Fin 4)
    (hk : chip (ix1 0) = BitVec.ofNat 32 k.val) (j : S2048x1024.Idx) :
    REFG own parts chip j = own (ix3 k (j 0) (j 1)) + ∑ d : Fin 3, parts (ix3 d (j 0) (j 1)) := by
  fin_cases k <;> (pointwise [REFG, hk]; try rfl)

theorem refM (m g : FVec Ideal Cert.Reference30Ideal.S2048x1024 .f32) (j : S2048x1024.Idx) : REFM m g j = Cert.Adam.first (m j) (g j) := by
  pointwise [REFM, Cert.Adam.first]

theorem refV (v g : FVec Ideal Cert.Reference30Ideal.S2048x1024 .f32) (j : S2048x1024.Idx) : REFV v g j = Cert.Adam.second (v j) (g j) := by
  pointwise [REFV, Cert.Adam.second]

theorem refD (w m v g : FVec Ideal Cert.Reference30Ideal.S2048x1024 .f32) (j : S2048x1024.Idx) : REFD w m v g j = Cert.Adam.change (w j) (m j) (v j) (g j) := by
  pointwise [REFD, Cert.Adam.change, Cert.Adam.first, Cert.Adam.second]

/-- The gradient of a tile's entry. -/
noncomputable def grad (x3 : Vec Ideal S1x128x1024 .bf16) (x4 : Vec Ideal S3x128x1024 .bf16) (j : S128x1024.Idx) : EReal :=
  x3 (ix3 0 (j 0) (j 1)) + ∑ d : Fin 3, x4 (ix3 d (j 0) (j 1))

section tile

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1x128x1024 .bf16) (harg5 : arg5.IsWhole) (arg6 : Memref sig .tc .vmem S3x128x1024 .bf16) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole)
    (x0 : Vec Ideal S128x1024 .f32) (x1 : Vec Ideal S128x1024 .f32) (x2 : Vec Ideal S128x1024 .f32) (x3 : Vec Ideal S1x128x1024 .bf16) (x4 : Vec Ideal S3x128x1024 .bf16) (xt0 : TbBuf0 (F := Ideal) c tbM0_0)

theorem outG (j : S128x1024.Idx) : out0_A_5 (F := Ideal) c i arg2 harg2 arg3 harg3 arg4 harg4 arg5 harg5 arg6 harg6 arg7 harg7 arg8 harg8 arg9 harg9 arg10 harg10 x0 x1 x2 x3 x4 xt0 j = grad x3 x4 j := by
  unfold grad
  rw [Fin.sum_univ_three]
  frame_out
  pointwise [k0_pay2]
  simp only [add_assoc]

theorem outM (j : S128x1024.Idx) : out0_A_7 (F := Ideal) c i arg2 harg2 arg3 harg3 arg4 harg4 arg5 harg5 arg6 harg6 arg7 harg7 arg8 harg8 arg9 harg9 arg10 harg10 x0 x1 x2 x3 x4 xt0 j = Cert.Adam.first (x1 j) (grad x3 x4 j) := by
  unfold grad
  rw [Fin.sum_univ_three]
  frame_out
  pointwise [k0_pay3, k0_pay2, Cert.Adam.first]
  simp only [add_assoc]

theorem outV (j : S128x1024.Idx) : out0_A_8 (F := Ideal) c i arg2 harg2 arg3 harg3 arg4 harg4 arg5 harg5 arg6 harg6 arg7 harg7 arg8 harg8 arg9 harg9 arg10 harg10 x0 x1 x2 x3 x4 xt0 j = Cert.Adam.second (x2 j) (grad x3 x4 j) := by
  unfold grad
  rw [Fin.sum_univ_three]
  frame_out
  pointwise [k0_pay4, k0_pay2, Cert.Adam.second]
  simp only [add_assoc]

theorem outD (j : S128x1024.Idx) : out0_A_6 (F := Ideal) c i arg2 harg2 arg3 harg3 arg4 harg4 arg5 harg5 arg6 harg6 arg7 harg7 arg8 harg8 arg9 harg9 arg10 harg10 x0 x1 x2 x3 x4 xt0 j = Cert.Adam.change (x0 j) (x1 j) (x2 j) (grad x3 x4 j) := by
  unfold grad
  rw [Fin.sum_univ_three]
  frame_out
  pointwise [k0_pay1, k0_pay6, k0_pay5, k0_pay4, k0_pay3, k0_pay2, Cert.Adam.change, Cert.Adam.first, Cert.Adam.second]
  simp only [add_assoc]

end tile

/-- Which block each window with a fixed map is on. -/
theorem maps : ∀ t : Fin grid0.N, cc0_transform_0 (grid0.coords t) = ![t.val, 0] ∧ cc0_transform_1 (grid0.coords t) = ![t.val, 0]
    ∧ cc0_transform_2 (grid0.coords t) = ![t.val, 0] ∧ (BitVec.ofNat 32 ((grid0.coords t) 0).val).toNat = t.val
    ∧ cc0_transform_4 (grid0.coords t) = ![0, t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] := by
  decide +kernel

variable (hO : Ok m)

/-- Which block each window is on. -/
theorem idx (c : Dev nD) (t : Fin (cfgM m hO).N) :
    ((cfgM m hO).win 0).index t = ![t.val, 0] ∧ ((cfgM m hO).win 1).index t = ![t.val, 0]
    ∧ ((cfgM m hO).win 2).index t = ![t.val, 0]
    ∧ ((cfgM m hO).win 3).index t = ![(m ((c : Thread nD τ).loc main_arg5) (ix1 0)).toNat, t.val, 0]
    ∧ ((cfgM m hO).win 4).index t = ![0, t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] := by
  obtain ⟨a, b, d, e, f, g, h, i, j⟩ := maps t
  exact ⟨a, b, d, (word m c (grid0.coords t)).trans (by rw [e]), f, g, h, i, j⟩

/-- The chip's own number, as an index. -/
noncomputable def chip (h : Cert.Pre_Kernel30Ideal m) (c : Dev nD) : Fin 4 := ⟨(m ((c : Thread nD τ).loc main_arg5) (ix1 0)).toNat, below m h c (ix1 0)⟩

theorem chip_eq (h : Cert.Pre_Kernel30Ideal m) (c : Dev nD) : m ((c : Thread nD τ).loc main_arg5) (ix1 0) = BitVec.ofNat 32 (chip m h c).val := by
  simp [chip]

/-- The tile of argument 0 at an entry. -/
theorem in0 (c : Dev nD) (t : Fin (cfgM m hO).N) (j : S128x1024.Idx) (z : S2048x1024.Idx)
    (h0 : (z 0).val = t.val * 128 + (j 0).val) (h1 : (z 1).val = (j 1).val) :
    iblk m hO c 0 t j = m ((c : Thread nD τ).loc main_arg0) z := by
  refine congrArg (m ((c : Thread nD τ).loc main_arg0)) (?_ : (((cfgM m hO).win 0).rect t).emb j = z)
  funext a
  apply Fin.ext
  refine (Pipeline.Window.rect_emb_val ((cfgM m hO).win 0) t j a).trans ?_
  rw [(idx m hO c t).1]
  fin_cases a
  · exact h0.symm
  · exact (Cert.Adam.zero_block 1024 (j 1).val).trans h1.symm

/-- The tile of argument 1 at an entry. -/
theorem in1 (c : Dev nD) (t : Fin (cfgM m hO).N) (j : S128x1024.Idx) (z : S2048x1024.Idx)
    (h0 : (z 0).val = t.val * 128 + (j 0).val) (h1 : (z 1).val = (j 1).val) :
    iblk m hO c 1 t j = m ((c : Thread nD τ).loc main_arg1) z := by
  refine congrArg (m ((c : Thread nD τ).loc main_arg1)) (?_ : (((cfgM m hO).win 1).rect t).emb j = z)
  funext a
  apply Fin.ext
  refine (Pipeline.Window.rect_emb_val ((cfgM m hO).win 1) t j a).trans ?_
  rw [(idx m hO c t).2.1]
  fin_cases a
  · exact h0.symm
  · exact (Cert.Adam.zero_block 1024 (j 1).val).trans h1.symm

/-- The tile of argument 2 at an entry. -/
theorem in2 (c : Dev nD) (t : Fin (cfgM m hO).N) (j : S128x1024.Idx) (z : S2048x1024.Idx)
    (h0 : (z 0).val = t.val * 128 + (j 0).val) (h1 : (z 1).val = (j 1).val) :
    iblk m hO c 2 t j = m ((c : Thread nD τ).loc main_arg2) z := by
  refine congrArg (m ((c : Thread nD τ).loc main_arg2)) (?_ : (((cfgM m hO).win 2).rect t).emb j = z)
  funext a
  apply Fin.ext
  refine (Pipeline.Window.rect_emb_val ((cfgM m hO).win 2) t j a).trans ?_
  rw [(idx m hO c t).2.2.1]
  fin_cases a
  · exact h0.symm
  · exact (Cert.Adam.zero_block 1024 (j 1).val).trans h1.symm

/-- The tile of the chip's own block at an entry. -/
theorem in3 (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    iblk m hO c 3 t (ix3 0 (j 0) (j 1) : S1x128x1024.Idx) = m ((c : Thread nD τ).loc main_arg3) (ix3 (chip m h c) (z 0) (z 1) : S4x2048x1024.Idx) := by
  refine congrArg (m ((c : Thread nD τ).loc main_arg3)) (?_ : (((cfgM m hO).win 3).rect t).emb (ix3 0 (j 0) (j 1) : S1x128x1024.Idx) = (ix3 (chip m h c) (z 0) (z 1) : S4x2048x1024.Idx))
  funext a
  apply Fin.ext
  refine (Pipeline.Window.rect_emb_val ((cfgM m hO).win 3) t (ix3 0 (j 0) (j 1) : S1x128x1024.Idx) a).trans ?_
  rw [(idx m hO c t).2.2.2.1]
  fin_cases a
  · show (m ((c : Thread nD τ).loc main_arg5) (ix1 0)).toNat * 1 + 0 = (m ((c : Thread nD τ).loc main_arg5) (ix1 0)).toNat
    omega
  · exact h0.symm
  · exact (Cert.Adam.zero_block 1024 (j 1).val).trans h1.symm

/-- The tile of the blocks from the other chips at an entry. -/
theorem in4 (c : Dev nD) (t : Fin (cfgM m hO).N) (d : Fin 3) (j : S128x1024.Idx) (z : S2048x1024.Idx)
    (h0 : (z 0).val = t.val * 128 + (j 0).val) (h1 : (z 1).val = (j 1).val) :
    iblk m hO c 4 t (ix3 d (j 0) (j 1) : S3x128x1024.Idx) = m ((c : Thread nD τ).loc main_arg4) (ix3 d (z 0) (z 1) : S3x2048x1024.Idx) := by
  refine congrArg (m ((c : Thread nD τ).loc main_arg4)) (?_ : (((cfgM m hO).win 4).rect t).emb (ix3 d (j 0) (j 1) : S3x128x1024.Idx) = (ix3 d (z 0) (z 1) : S3x2048x1024.Idx))
  funext a
  apply Fin.ext
  refine (Pipeline.Window.rect_emb_val ((cfgM m hO).win 4) t (ix3 d (j 0) (j 1) : S3x128x1024.Idx) a).trans ?_
  rw [(idx m hO c t).2.2.2.2.1]
  fin_cases a
  · show 0 * 3 + d.val = d.val
    omega
  · exact h0.symm
  · exact (Cert.Adam.zero_block 1024 (j 1).val).trans h1.symm

/-- A tile's gradient is the reference's at the array's entry. -/
theorem grad_eq (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    grad (iblk m hO c 3 t) (iblk m hO c 4 t) j = REFG (m ((c : Thread nD τ).loc main_arg3)) (m ((c : Thread nD τ).loc main_arg4)) (m ((c : Thread nD τ).loc main_arg5)) z := by
  rw [refG _ _ _ (chip m h c) (chip_eq m h c)]
  exact congrArg₂ (· + ·) (in3 m hO h c t j z h0 h1) (Cert.Sums.congr fun d => in4 m hO c t d j z h0 h1)

/-- What a point writes back, at the array's entry. -/
theorem atG (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    (outsAt0 m hO c t).1 j = REFG (m ((c : Thread nD τ).loc main_arg3)) (m ((c : Thread nD τ).loc main_arg4)) (m ((c : Thread nD τ).loc main_arg5)) z := by
  unfold outsAt0
  dsimp only
  refine (outG ..).trans ?_
  exact (grad_eq m hO h c t j z h0 h1)

/-- The blocks of result 0 cover its array. -/
theorem cover5 : ((cfgM m hO).win 5).Covers := of_decide_eq_true (by sl_kernel_rfl)

/-- Where an entry of a tile of result 0 lies. -/
theorem place5 (t : Fin (cfgM m hO).N) (y : S128x1024.Idx) (z : S2048x1024.Idx) (hz : (((cfgM m hO).win 5).rect t).emb y = z) :
    (z 0).val = t.val * 128 + (y 0).val ∧ (z 1).val = (y 1).val := by
  subst hz
  have p := fun a : Fin 2 => Pipeline.Window.rect_emb_val ((cfgM m hO).win 5) t y a
  rw [(idx m hO 0 t).2.2.2.2.2.1] at p
  exact ⟨p 0, (p 1).trans (Cert.Adam.zero_block _ _)⟩

/-- The array after the run. -/
theorem finalG (h : Cert.Pre_Kernel30Ideal m) (c : Dev nD) : (dats m hO 0 c).arrAt 5 (cfgM m hO).N = REFG (m ((c : Thread nD τ).loc main_arg3)) (m ((c : Thread nD τ).loc main_arg4)) (m ((c : Thread nD τ).loc main_arg5)) := by
  refine (dats m hO 0 c).arrAt_eq_of_covers 5 _ (cover5 m hO) fun t hf y => ?_
  have e := atG m hO h c t y ((((cfgM m hO).win 5).blk t).view.emb y) (place5 m hO t y _ rfl).1 (place5 m hO t y _ rfl).2
  blk_simp
  rw [after0_5]
  exact e

/-- What a point writes back, at the array's entry. -/
theorem atD (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    (outsAt0 m hO c t).2.1 j = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) z := by
  unfold outsAt0
  dsimp only
  refine (outD ..).trans ?_
  exact ((Cert.Adam.change_congr (in0 m hO c t j z h0 h1) (in1 m hO c t j z h0 h1) (in2 m hO c t j z h0 h1) (grad_eq m hO h c t j z h0 h1)).trans (refD .. ).symm)

/-- The blocks of result 1 cover its array. -/
theorem cover6 : ((cfgM m hO).win 6).Covers := of_decide_eq_true (by sl_kernel_rfl)

/-- Where an entry of a tile of result 1 lies. -/
theorem place6 (t : Fin (cfgM m hO).N) (y : S128x1024.Idx) (z : S2048x1024.Idx) (hz : (((cfgM m hO).win 6).rect t).emb y = z) :
    (z 0).val = t.val * 128 + (y 0).val ∧ (z 1).val = (y 1).val := by
  subst hz
  have p := fun a : Fin 2 => Pipeline.Window.rect_emb_val ((cfgM m hO).win 6) t y a
  rw [(idx m hO 0 t).2.2.2.2.2.2.1] at p
  exact ⟨p 0, (p 1).trans (Cert.Adam.zero_block _ _)⟩

/-- The array after the run. -/
theorem finalD (h : Cert.Pre_Kernel30Ideal m) (c : Dev nD) : (dats m hO 0 c).arrAt 6 (cfgM m hO).N = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 6 _ (cover6 m hO) fun t hf y => ?_
  have e := atD m hO h c t y ((((cfgM m hO).win 6).blk t).view.emb y) (place6 m hO t y _ rfl).1 (place6 m hO t y _ rfl).2
  blk_simp
  rw [after0_6]
  exact e

/-- What a point writes back, at the array's entry. -/
theorem atM (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    (outsAt0 m hO c t).2.2.1 j = REFM (m ((c : Thread nD τ).loc main_arg1)) (REFG (m ((c : Thread nD τ).loc main_arg3)) (m ((c : Thread nD τ).loc main_arg4)) (m ((c : Thread nD τ).loc main_arg5))) z := by
  unfold outsAt0
  dsimp only
  refine (outM ..).trans ?_
  exact ((Cert.Adam.first_congr (in1 m hO c t j z h0 h1) (grad_eq m hO h c t j z h0 h1)).trans (refM .. ).symm)

/-- The blocks of result 2 cover its array. -/
theorem cover7 : ((cfgM m hO).win 7).Covers := of_decide_eq_true (by sl_kernel_rfl)

/-- Where an entry of a tile of result 2 lies. -/
theorem place7 (t : Fin (cfgM m hO).N) (y : S128x1024.Idx) (z : S2048x1024.Idx) (hz : (((cfgM m hO).win 7).rect t).emb y = z) :
    (z 0).val = t.val * 128 + (y 0).val ∧ (z 1).val = (y 1).val := by
  subst hz
  have p := fun a : Fin 2 => Pipeline.Window.rect_emb_val ((cfgM m hO).win 7) t y a
  rw [(idx m hO 0 t).2.2.2.2.2.2.2.1] at p
  exact ⟨p 0, (p 1).trans (Cert.Adam.zero_block _ _)⟩

/-- The array after the run. -/
theorem finalM (h : Cert.Pre_Kernel30Ideal m) (c : Dev nD) : (dats m hO 0 c).arrAt 7 (cfgM m hO).N = REFM (m ((c : Thread nD τ).loc main_arg1)) (REFG (m ((c : Thread nD τ).loc main_arg3)) (m ((c : Thread nD τ).loc main_arg4)) (m ((c : Thread nD τ).loc main_arg5))) := by
  refine (dats m hO 0 c).arrAt_eq_of_covers 7 _ (cover7 m hO) fun t hf y => ?_
  have e := atM m hO h c t y ((((cfgM m hO).win 7).blk t).view.emb y) (place7 m hO t y _ rfl).1 (place7 m hO t y _ rfl).2
  blk_simp
  rw [after0_7]
  exact e

/-- What a point writes back, at the array's entry. -/
theorem atV (h : Cert.Pre_Kernel30Ideal m) (c : Dev nD) (t : Fin (cfgM m hO).N) (j : S128x1024.Idx) (z : S2048x1024.Idx)
    (h0 : (z 0).val = t.val * 128 + (j 0).val) (h1 : (z 1).val = (j 1).val) :
    (outsAt0 m hO c t).2.2.2 j = REFV (m ((c : Thread nD τ).loc main_arg2)) (REFG (m ((c : Thread nD τ).loc main_arg3)) (m ((c : Thread nD τ).loc main_arg4)) (m ((c : Thread nD τ).loc main_arg5))) z := by
  unfold outsAt0
  dsimp only
  refine (outV ..).trans ?_
  exact ((Cert.Adam.second_congr (in2 m hO c t j z h0 h1) (grad_eq m hO h c t j z h0 h1)).trans (refV .. ).symm)

/-- The blocks of result 3 cover its array. -/
theorem cover8 : ((cfgM m hO).win 8).Covers := of_decide_eq_true (by sl_kernel_rfl)

/-- Where an entry of a tile of result 3 lies. -/
theorem place8 (t : Fin (cfgM m hO).N) (y : S128x1024.Idx) (z : S2048x1024.Idx) (hz : (((cfgM m hO).win 8).rect t).emb y = z) :
    (z 0).val = t.val * 128 + (y 0).val ∧ (z 1).val = (y 1).val := by
  subst hz
  have p := fun a : Fin 2 => Pipeline.Window.rect_emb_val ((cfgM m hO).win 8) t y a
  rw [(idx m hO 0 t).2.2.2.2.2.2.2.2] at p
  exact ⟨p 0, (p 1).trans (Cert.Adam.zero_block _ _)⟩

/-- The array after the run. -/
theorem finalV (h : Cert.Pre_Kernel30Ideal m) (c : Dev nD) : (dats m hO 0 c).arrAt 8 (cfgM m hO).N = REFV (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 8 _ (cover8 m hO) fun t hf y => ?_
  have e := atV m hO h c t y ((((cfgM m hO).win 8).blk t).view.emb y) (place8 m hO t y _ rfl).1 (place8 m hO t y _ rfl).2
  blk_simp
  rw [after0_8]
  exact e

end Cert.Kernel30Ideal.Step

end
-- ==== Proof.Optimiser.InWeight.lean ====
/- The AdamW step of the large weights of shape 2048 x 384: the call leaves what the reference returns, in each of its four results. -/
module

public import proofs.«01_k».proof.Defs
public import proofs.«01_k».proof.Proof.Gen.Kernel31Ideal.Frame
public import proofs.«01_k».proof.Proof.Gen.Kernel31
public import proofs.«01_k».proof.Proof.Gen.Pre_chip_of_four31
public import proofs.«01_k».proof.Proof.Gen.Reference31Ideal.Run
public import Idealize.ShloMosaic.Lib.Pipeline.ReadBack
public import proofs.«01_k».proof.Proof.Sums
public import proofs.«01_k».proof.Proof.Optimiser.Step
public import proofs.«01_k».proof.Proof.Optimiser.Own

@[expose] public section

set_option maxRecDepth 16384

noncomputable section

open Idealize.ShloMosaic Idealize.ShloMosaic.TcCoe Idealize.SL.Sem
open Idealize.ShloMosaic.Pipeline (Dat)

namespace Cert.Kernel31Ideal.Step

open Cert.Kernel31Ideal Cert.Kernel31Ideal.Gen

variable (m : (ℓ : Loc nD τ sig) → Buf (Elt Ideal) ℓ)

/-- The chip's number lies below four. -/
theorem below (h : Cert.Pre_Kernel31Ideal m) (c : Dev nD) (j : S1.Idx) :
    (m ((c : Thread nD τ).loc main_arg5) j).toNat < 4 := by
  have e := congrFun (h c) j
  simp only [Pre_chip_of_four31.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel31Ideal m) : Ok m := by
  unfold Ok ok0
  intro i
  have hi : (i 0).val < 16 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 2048
    rw [BitVec.toNat_ofNat, Nat.mod_eq_of_lt (by omega)]; omega
  · show (0 + 1) * 384 ≤ 384
    omega

/-- The gradient that the reference returns. -/
noncomputable abbrev REFG (own : FVec Ideal S4x2048x384 .bf16) (parts : FVec Ideal S3x2048x384 .bf16) (chip : IVec S1 32) : FVec Ideal Cert.Reference31Ideal.S2048x384 .f32 :=
    addf (extf .f32 (select (broadcastInDim Cert.Reference31Ideal.S2048x384 ![] Cert.Reference31Ideal.Gen.bcast_S_S2048x384 (cmpi .eq (shapeCast _ chip Cert.Reference31Ideal.Gen.shapeCasts_S1_S_) (constantI Cert.Reference31Ideal.S_ 32 0#32))) (shapeCast _ (extractStridedSlice Cert.Reference31Ideal.S1x2048x384 ![0, 0, 0] own Cert.Reference31Ideal.Gen.slices_S4x2048x384_S1x2048x384_0_0_0) Cert.Reference31Ideal.Gen.shapeCasts_S1x2048x384_S2048x384) (select (broadcastInDim Cert.Reference31Ideal.S2048x384 ![] Cert.Reference31Ideal.Gen.bcast_S_S2048x384 (cmpi .eq (shapeCast _ chip Cert.Reference31Ideal.Gen.shapeCasts_S1_S_) (constantI Cert.Reference31Ideal.S_ 32 1#32))) (shapeCast _ (extractStridedSlice Cert.Reference31Ideal.S1x2048x384 ![1, 0, 0] own Cert.Reference31Ideal.Gen.slices_S4x2048x384_S1x2048x384_1_0_0) Cert.Reference31Ideal.Gen.shapeCasts_S1x2048x384_S2048x384) (select (broadcastInDim Cert.Reference31Ideal.S2048x384 ![] Cert.Reference31Ideal.Gen.bcast_S_S2048x384 (cmpi .eq (shapeCast _ chip Cert.Reference31Ideal.Gen.shapeCasts_S1_S_) (constantI Cert.Reference31Ideal.S_ 32 2#32))) (shapeCast _ (extractStridedSlice Cert.Reference31Ideal.S1x2048x384 ![2, 0, 0] own Cert.Reference31Ideal.Gen.slices_S4x2048x384_S1x2048x384_2_0_0) Cert.Reference31Ideal.Gen.shapeCasts_S1x2048x384_S2048x384) (shapeCast _ (extractStridedSlice Cert.Reference31Ideal.S1x2048x384 ![3, 0, 0] own Cert.Reference31Ideal.Gen.slices_S4x2048x384_S1x2048x384_3_0_0) Cert.Reference31Ideal.Gen.shapeCasts_S1x2048x384_S2048x384)))) Cert.Reference31Ideal.Gen.bitsLt_bf16_f32) (Host.reduceAdd (extf .f32 parts Cert.Reference31Ideal.Gen.bitsLt_bf16_f32) (constant Cert.Reference31Ideal.S_ .f32 0x00000000#32) Cert.Reference31Ideal.Gen.reducesTo_S3x2048x384_S2048x384_d0 Cert.Reference31Ideal.Gen.h_S_)

/-- The change of the weights that the reference returns, of the gradient. -/
noncomputable abbrev REFD (w m v g : FVec Ideal Cert.Reference31Ideal.S2048x384 .f32) : FVec Ideal Cert.Reference31Ideal.S2048x384 .f32 :=
    mulf (broadcastInDim Cert.Reference31Ideal.S2048x384 ![] Cert.Reference31Ideal.Gen.bcast_S_S2048x384 (constant Cert.Reference31Ideal.S_ .f32 0xBA83126F#32))
      (addf (Host.divf (Host.divf (addf (mulf (broadcastInDim Cert.Reference31Ideal.S2048x384 ![] Cert.Reference31Ideal.Gen.bcast_S_S2048x384 (constant Cert.Reference31Ideal.S_ .f32 0x3F666666#32)) m) (mulf (broadcastInDim Cert.Reference31Ideal.S2048x384 ![] Cert.Reference31Ideal.Gen.bcast_S_S2048x384 (constant Cert.Reference31Ideal.S_ .f32 0x3DCCCCCD#32)) g)) (broadcastInDim Cert.Reference31Ideal.S2048x384 ![] Cert.Reference31Ideal.Gen.bcast_S_S2048x384 (constant Cert.Reference31Ideal.S_ .f32 0x3F26BD02#32)))
          (addf (Host.sqrt (Host.divf (addf (mulf (broadcastInDim Cert.Reference31Ideal.S2048x384 ![] Cert.Reference31Ideal.Gen.bcast_S_S2048x384 (constant Cert.Reference31Ideal.S_ .f32 0x3F7FBE77#32)) v) (mulf (broadcastInDim Cert.Reference31Ideal.S2048x384 ![] Cert.Reference31Ideal.Gen.bcast_S_S2048x384 (constant Cert.Reference31Ideal.S_ .f32 0x3A83126F#32)) (mulf g g))) (broadcastInDim Cert.Reference31Ideal.S2048x384 ![] Cert.Reference31Ideal.Gen.bcast_S_S2048x384 (constant Cert.Reference31Ideal.S_ .f32 0x3C231ACC#32)))) (broadcastInDim Cert.Reference31Ideal.S2048x384 ![] Cert.Reference31Ideal.Gen.bcast_S_S2048x384 (constant Cert.Reference31Ideal.S_ .f32 0x322BCC77#32))))
        (mulf (broadcastInDim Cert.Reference31Ideal.S2048x384 ![] Cert.Reference31Ideal.Gen.bcast_S_S2048x384 (constant Cert.Reference31Ideal.S_ .f32 0x3C23D70A#32)) w))

/-- The new first moments that the reference returns, of the gradient. -/
noncomputable abbrev REFM (m g : FVec Ideal Cert.Reference31Ideal.S2048x384 .f32) : FVec Ideal Cert.Reference31Ideal.S2048x384 .f32 :=
    addf (mulf (broadcastInDim Cert.Reference31Ideal.S2048x384 ![] Cert.Reference31Ideal.Gen.bcast_S_S2048x384 (constant Cert.Reference31Ideal.S_ .f32 0x3F666666#32)) m) (mulf (broadcastInDim Cert.Reference31Ideal.S2048x384 ![] Cert.Reference31Ideal.Gen.bcast_S_S2048x384 (constant Cert.Reference31Ideal.S_ .f32 0x3DCCCCCD#32)) g)

/-- The new second moments that the reference returns, of the gradient. -/
noncomputable abbrev REFV (v g : FVec Ideal Cert.Reference31Ideal.S2048x384 .f32) : FVec Ideal Cert.Reference31Ideal.S2048x384 .f32 :=
    addf (mulf (broadcastInDim Cert.Reference31Ideal.S2048x384 ![] Cert.Reference31Ideal.Gen.bcast_S_S2048x384 (constant Cert.Reference31Ideal.S_ .f32 0x3F7FBE77#32)) v) (mulf (broadcastInDim Cert.Reference31Ideal.S2048x384 ![] Cert.Reference31Ideal.Gen.bcast_S_S2048x384 (constant Cert.Reference31Ideal.S_ .f32 0x3A83126F#32)) (mulf g g))

/-- The gradient at an entry: the chip's own block and the three that came from the others. -/
theorem refG (own : FVec Ideal S4x2048x384 .bf16) (parts : FVec Ideal S3x2048x384 .bf16) (chip : IVec S1 32) (k : Fin 4)
    (hk : chip (ix1 0) = BitVec.ofNat 32 k.val) (j : S2048x384.Idx) :
    REFG own parts chip j = own (ix3 k (j 0) (j 1)) + ∑ d : Fin 3, parts (ix3 d (j 0) (j 1)) := by
  fin_cases k <;> (pointwise [REFG, hk]; try rfl)

theorem refM (m g : FVec Ideal Cert.Reference31Ideal.S2048x384 .f32) (j : S2048x384.Idx) : REFM m g j = Cert.Adam.first (m j) (g j) := by
  pointwise [REFM, Cert.Adam.first]

theorem refV (v g : FVec Ideal Cert.Reference31Ideal.S2048x384 .f32) (j : S2048x384.Idx) : REFV v g j = Cert.Adam.second (v j) (g j) := by
  pointwise [REFV, Cert.Adam.second]

theorem refD (w m v g : FVec Ideal Cert.Reference31Ideal.S2048x384 .f32) (j : S2048x384.Idx) : REFD w m v g j = Cert.Adam.change (w j) (m j) (v j) (g j) := by
  pointwise [REFD, Cert.Adam.change, Cert.Adam.first, Cert.Adam.second]

/-- The gradient of a tile's entry. -/
noncomputable def grad (x3 : Vec Ideal S1x128x384 .bf16) (x4 : Vec Ideal S3x128x384 .bf16) (j : S128x384.Idx) : EReal :=
  x3 (ix3 0 (j 0) (j 1)) + ∑ d : Fin 3, x4 (ix3 d (j 0) (j 1))

section tile

variable (c : Dev nD) (i : grid0.Coords) (arg2 : Memref sig .tc .vmem S128x384 .f32) (harg2 : arg2.IsWhole) (arg3 : Memref sig .tc .vmem S128x384 .f32) (harg3 : arg3.IsWhole) (arg4 : Memref sig .tc .vmem S128x384 .f32) (harg4 : arg4.IsWhole) (arg5 : Memref sig .tc .vmem S1x128x384 .bf16) (harg5 : arg5.IsWhole) (arg6 : Memref sig .tc .vmem S3x128x384 .bf16) (harg6 : arg6.IsWhole) (arg7 : Memref sig .tc .vmem S128x384 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S128x384 .f32) (harg10 : arg10.IsWhole)
    (x0 : Vec Ideal S128x384 .f32) (x1 : Vec Ideal S128x384 .f32) (x2 : Vec Ideal S128x384 .f32) (x3 : Vec Ideal S1x128x384 .bf16) (x4 : Vec Ideal S3x128x384 .bf16) (xt0 : TbBuf0 (F := Ideal) c tbM0_0)

theorem outG (j : S128x384.Idx) : out0_A_5 (F := Ideal) c i arg2 harg2 arg3 harg3 arg4 harg4 arg5 harg5 arg6 harg6 arg7 harg7 arg8 harg8 arg9 harg9 arg10 harg10 x0 x1 x2 x3 x4 xt0 j = grad x3 x4 j := by
  unfold grad
  rw [Fin.sum_univ_three]
  frame_out
  pointwise [k0_pay2]
  simp only [add_assoc]

theorem outM (j : S128x384.Idx) : out0_A_7 (F := Ideal) c i arg2 harg2 arg3 harg3 arg4 harg4 arg5 harg5 arg6 harg6 arg7 harg7 arg8 harg8 arg9 harg9 arg10 harg10 x0 x1 x2 x3 x4 xt0 j = Cert.Adam.first (x1 j) (grad x3 x4 j) := by
  unfold grad
  rw [Fin.sum_univ_three]
  frame_out
  pointwise [k0_pay3, k0_pay2, Cert.Adam.first]
  simp only [add_assoc]

theorem outV (j : S128x384.Idx) : out0_A_8 (F := Ideal) c i arg2 harg2 arg3 harg3 arg4 harg4 arg5 harg5 arg6 harg6 arg7 harg7 arg8 harg8 arg9 harg9 arg10 harg10 x0 x1 x2 x3 x4 xt0 j = Cert.Adam.second (x2 j) (grad x3 x4 j) := by
  unfold grad
  rw [Fin.sum_univ_three]
  frame_out
  pointwise [k0_pay4, k0_pay2, Cert.Adam.second]
  simp only [add_assoc]

theorem outD (j : S128x384.Idx) : out0_A_6 (F := Ideal) c i arg2 harg2 arg3 harg3 arg4 harg4 arg5 harg5 arg6 harg6 arg7 harg7 arg8 harg8 arg9 harg9 arg10 harg10 x0 x1 x2 x3 x4 xt0 j = Cert.Adam.change (x0 j) (x1 j) (x2 j) (grad x3 x4 j) := by
  unfold grad
  rw [Fin.sum_univ_three]
  frame_out
  pointwise [k0_pay1, k0_pay6, k0_pay5, k0_pay4, k0_pay3, k0_pay2, Cert.Adam.change, Cert.Adam.first, Cert.Adam.second]
  simp only [add_assoc]

end tile

/-- Which block each window with a fixed map is on. -/
theorem maps : ∀ t : Fin grid0.N, cc0_transform_0 (grid0.coords t) = ![t.val, 0] ∧ cc0_transform_1 (grid0.coords t) = ![t.val, 0]
    ∧ cc0_transform_2 (grid0.coords t) = ![t.val, 0] ∧ (BitVec.ofNat 32 ((grid0.coords t) 0).val).toNat = t.val
    ∧ cc0_transform_4 (grid0.coords t) = ![0, t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] := by
  decide +kernel

variable (hO : Ok m)

/-- Which block each window is on. -/
theorem idx (c : Dev nD) (t : Fin (cfgM m hO).N) :
    ((cfgM m hO).win 0).index t = ![t.val, 0] ∧ ((cfgM m hO).win 1).index t = ![t.val, 0]
    ∧ ((cfgM m hO).win 2).index t = ![t.val, 0]
    ∧ ((cfgM m hO).win 3).index t = ![(m ((c : Thread nD τ).loc main_arg5) (ix1 0)).toNat, t.val, 0]
    ∧ ((cfgM m hO).win 4).index t = ![0, t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] := by
  obtain ⟨a, b, d, e, f, g, h, i, j⟩ := maps t
  exact ⟨a, b, d, (word m c (grid0.coords t)).trans (by rw [e]), f, g, h, i, j⟩

/-- The chip's own number, as an index. -/
noncomputable def chip (h : Cert.Pre_Kernel31Ideal m) (c : Dev nD) : Fin 4 := ⟨(m ((c : Thread nD τ).loc main_arg5) (ix1 0)).toNat, below m h c (ix1 0)⟩

theorem chip_eq (h : Cert.Pre_Kernel31Ideal m) (c : Dev nD) : m ((c : Thread nD τ).loc main_arg5) (ix1 0) = BitVec.ofNat 32 (chip m h c).val := by
  simp [chip]

/-- The tile of argument 0 at an entry. -/
theorem in0 (c : Dev nD) (t : Fin (cfgM m hO).N) (j : S128x384.Idx) (z : S2048x384.Idx)
    (h0 : (z 0).val = t.val * 128 + (j 0).val) (h1 : (z 1).val = (j 1).val) :
    iblk m hO c 0 t j = m ((c : Thread nD τ).loc main_arg0) z := by
  refine congrArg (m ((c : Thread nD τ).loc main_arg0)) (?_ : (((cfgM m hO).win 0).rect t).emb j = z)
  funext a
  apply Fin.ext
  refine (Pipeline.Window.rect_emb_val ((cfgM m hO).win 0) t j a).trans ?_
  rw [(idx m hO c t).1]
  fin_cases a
  · exact h0.symm
  · exact (Cert.Adam.zero_block 384 (j 1).val).trans h1.symm

/-- The tile of argument 1 at an entry. -/
theorem in1 (c : Dev nD) (t : Fin (cfgM m hO).N) (j : S128x384.Idx) (z : S2048x384.Idx)
    (h0 : (z 0).val = t.val * 128 + (j 0).val) (h1 : (z 1).val = (j 1).val) :
    iblk m hO c 1 t j = m ((c : Thread nD τ).loc main_arg1) z := by
  refine congrArg (m ((c : Thread nD τ).loc main_arg1)) (?_ : (((cfgM m hO).win 1).rect t).emb j = z)
  funext a
  apply Fin.ext
  refine (Pipeline.Window.rect_emb_val ((cfgM m hO).win 1) t j a).trans ?_
  rw [(idx m hO c t).2.1]
  fin_cases a
  · exact h0.symm
  · exact (Cert.Adam.zero_block 384 (j 1).val).trans h1.symm

/-- The tile of argument 2 at an entry. -/
theorem in2 (c : Dev nD) (t : Fin (cfgM m hO).N) (j : S128x384.Idx) (z : S2048x384.Idx)
    (h0 : (z 0).val = t.val * 128 + (j 0).val) (h1 : (z 1).val = (j 1).val) :
    iblk m hO c 2 t j = m ((c : Thread nD τ).loc main_arg2) z := by
  refine congrArg (m ((c : Thread nD τ).loc main_arg2)) (?_ : (((cfgM m hO).win 2).rect t).emb j = z)
  funext a
  apply Fin.ext
  refine (Pipeline.Window.rect_emb_val ((cfgM m hO).win 2) t j a).trans ?_
  rw [(idx m hO c t).2.2.1]
  fin_cases a
  · exact h0.symm
  · exact (Cert.Adam.zero_block 384 (j 1).val).trans h1.symm

/-- The tile of the chip's own block at an entry. -/
theorem in3 (h : Cert.Pre_Kernel31Ideal m) (c : Dev nD) (t : Fin (cfgM m hO).N) (j : S128x384.Idx) (z : S2048x384.Idx)
    (h0 : (z 0).val = t.val * 128 + (j 0).val) (h1 : (z 1).val = (j 1).val) :
    iblk m hO c 3 t (ix3 0 (j 0) (j 1) : S1x128x384.Idx) = m ((c : Thread nD τ).loc main_arg3) (ix3 (chip m h c) (z 0) (z 1) : S4x2048x384.Idx) := by
  refine congrArg (m ((c : Thread nD τ).loc main_arg3)) (?_ : (((cfgM m hO).win 3).rect t).emb (ix3 0 (j 0) (j 1) : S1x128x384.Idx) = (ix3 (chip m h c) (z 0) (z 1) : S4x2048x384.Idx))
  funext a
  apply Fin.ext
  refine (Pipeline.Window.rect_emb_val ((cfgM m hO).win 3) t (ix3 0 (j 0) (j 1) : S1x128x384.Idx) a).trans ?_
  rw [(idx m hO c t).2.2.2.1]
  fin_cases a
  · show (m ((c : Thread nD τ).loc main_arg5) (ix1 0)).toNat * 1 + 0 = (m ((c : Thread nD τ).loc main_arg5) (ix1 0)).toNat
    omega
  · exact h0.symm
  · exact (Cert.Adam.zero_block 384 (j 1).val).trans h1.symm

/-- The tile of the blocks from the other chips at an entry. -/
theorem in4 (c : Dev nD) (t : Fin (cfgM m hO).N) (d : Fin 3) (j : S128x384.Idx) (z : S2048x384.Idx)
    (h0 : (z 0).val = t.val * 128 + (j 0).val) (h1 : (z 1).val = (j 1).val) :
    iblk m hO c 4 t (ix3 d (j 0) (j 1) : S3x128x384.Idx) = m ((c : Thread nD τ).loc main_arg4) (ix3 d (z 0) (z 1) : S3x2048x384.Idx) := by
  refine congrArg (m ((c : Thread nD τ).loc main_arg4)) (?_ : (((cfgM m hO).win 4).rect t).emb (ix3 d (j 0) (j 1) : S3x128x384.Idx) = (ix3 d (z 0) (z 1) : S3x2048x384.Idx))
  funext a
  apply Fin.ext
  refine (Pipeline.Window.rect_emb_val ((cfgM m hO).win 4) t (ix3 d (j 0) (j 1) : S3x128x384.Idx) a).trans ?_
  rw [(idx m hO c t).2.2.2.2.1]
  fin_cases a
  · show 0 * 3 + d.val = d.val
    omega
  · exact h0.symm
  · exact (Cert.Adam.zero_block 384 (j 1).val).trans h1.symm

/-- A tile's gradient is the reference's at the array's entry. -/
theorem grad_eq (h : Cert.Pre_Kernel31Ideal m) (c : Dev nD) (t : Fin (cfgM m hO).N) (j : S128x384.Idx) (z : S2048x384.Idx)
    (h0 : (z 0).val = t.val * 128 + (j 0).val) (h1 : (z 1).val = (j 1).val) :
    grad (iblk m hO c 3 t) (iblk m hO c 4 t) j = REFG (m ((c : Thread nD τ).loc main_arg3)) (m ((c : Thread nD τ).loc main_arg4)) (m ((c : Thread nD τ).loc main_arg5)) z := by
  rw [refG _ _ _ (chip m h c) (chip_eq m h c)]
  exact congrArg₂ (· + ·) (in3 m hO h c t j z h0 h1) (Cert.Sums.congr fun d => in4 m hO c t d j z h0 h1)

/-- What a point writes back, at the array's entry. -/
theorem atG (h : Cert.Pre_Kernel31Ideal m) (c : Dev nD) (t : Fin (cfgM m hO).N) (j : S128x384.Idx) (z : S2048x384.Idx)
    (h0 : (z 0).val = t.val * 128 + (j 0).val) (h1 : (z 1).val = (j 1).val) :
    (outsAt0 m hO c t).1 j = REFG (m ((c : Thread nD τ).loc main_arg3)) (m ((c : Thread nD τ).loc main_arg4)) (m ((c : Thread nD τ).loc main_arg5)) z := by
  unfold outsAt0
  dsimp only
  refine (outG ..).trans ?_
  exact (grad_eq m hO h c t j z h0 h1)

/-- The blocks of result 0 cover its array. -/
theorem cover5 : ((cfgM m hO).win 5).Covers := of_decide_eq_true (by sl_kernel_rfl)

/-- Where an entry of a tile of result 0 lies. -/
theorem place5 (t : Fin (cfgM m hO).N) (y : S128x384.Idx) (z : S2048x384.Idx) (hz : (((cfgM m hO).win 5).rect t).emb y = z) :
    (z 0).val = t.val * 128 + (y 0).val ∧ (z 1).val = (y 1).val := by
  subst hz
  have p := fun a : Fin 2 => Pipeline.Window.rect_emb_val ((cfgM m hO).win 5) t y a
  rw [(idx m hO 0 t).2.2.2.2.2.1] at p
  exact ⟨p 0, (p 1).trans (Cert.Adam.zero_block _ _)⟩

/-- The array after the run. -/
theorem finalG (h : Cert.Pre_Kernel31Ideal m) (c : Dev nD) : (dats m hO 0 c).arrAt 5 (cfgM m hO).N = REFG (m ((c : Thread nD τ).loc main_arg3)) (m ((c : Thread nD τ).loc main_arg4)) (m ((c : Thread nD τ).loc main_arg5)) := by
  refine (dats m hO 0 c).arrAt_eq_of_covers 5 _ (cover5 m hO) fun t hf y => ?_
  have e := atG m hO h c t y ((((cfgM m hO).win 5).blk t).view.emb y) (place5 m hO t y _ rfl).1 (place5 m hO t y _ rfl).2
  blk_simp
  rw [after0_5]
  exact e

/-- What a point writes back, at the array's entry. -/
theorem atD (h : Cert.Pre_Kernel31Ideal m) (c : Dev nD) (t : Fin (cfgM m hO).N) (j : S128x384.Idx) (z : S2048x384.Idx)
    (h0 : (z 0).val = t.val * 128 + (j 0).val) (h1 : (z 1).val = (j 1).val) :
    (outsAt0 m hO c t).2.1 j = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) z := by
  unfold outsAt0
  dsimp only
  refine (outD ..).trans ?_
  exact ((Cert.Adam.change_congr (in0 m hO c t j z h0 h1) (in1 m hO c t j z h0 h1) (in2 m hO c t j z h0 h1) (grad_eq m hO h c t j z h0 h1)).trans (refD .. ).symm)

/-- The blocks of result 1 cover its array. -/
theorem cover6 : ((cfgM m hO).win 6).Covers := of_decide_eq_true (by sl_kernel_rfl)

/-- Where an entry of a tile of result 1 lies. -/
theorem place6 (t : Fin (cfgM m hO).N) (y : S128x384.Idx) (z : S2048x384.Idx) (hz : (((cfgM m hO).win 6).rect t).emb y = z) :
    (z 0).val = t.val * 128 + (y 0).val ∧ (z 1).val = (y 1).val := by
  subst hz
  have p := fun a : Fin 2 => Pipeline.Window.rect_emb_val ((cfgM m hO).win 6) t y a
  rw [(idx m hO 0 t).2.2.2.2.2.2.1] at p
  exact ⟨p 0, (p 1).trans (Cert.Adam.zero_block _ _)⟩

/-- The array after the run. -/
theorem finalD (h : Cert.Pre_Kernel31Ideal m) (c : Dev nD) : (dats m hO 0 c).arrAt 6 (cfgM m hO).N = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 6 _ (cover6 m hO) fun t hf y => ?_
  have e := atD m hO h c t y ((((cfgM m hO).win 6).blk t).view.emb y) (place6 m hO t y _ rfl).1 (place6 m hO t y _ rfl).2
  blk_simp
  rw [after0_6]
  exact e

/-- What a point writes back, at the array's entry. -/
theorem atM (h : Cert.Pre_Kernel31Ideal m) (c : Dev nD) (t : Fin (cfgM m hO).N) (j : S128x384.Idx) (z : S2048x384.Idx)
    (h0 : (z 0).val = t.val * 128 + (j 0).val) (h1 : (z 1).val = (j 1).val) :
    (outsAt0 m hO c t).2.2.1 j = REFM (m ((c : Thread nD τ).loc main_arg1)) (REFG (m ((c : Thread nD τ).loc main_arg3)) (m ((c : Thread nD τ).loc main_arg4)) (m ((c : Thread nD τ).loc main_arg5))) z := by
  unfold outsAt0
  dsimp only
  refine (outM ..).trans ?_
  exact ((Cert.Adam.first_congr (in1 m hO c t j z h0 h1) (grad_eq m hO h c t j z h0 h1)).trans (refM .. ).symm)

/-- The blocks of result 2 cover its array. -/
theorem cover7 : ((cfgM m hO).win 7).Covers := of_decide_eq_true (by sl_kernel_rfl)

/-- Where an entry of a tile of result 2 lies. -/
theorem place7 (t : Fin (cfgM m hO).N) (y : S128x384.Idx) (z : S2048x384.Idx) (hz : (((cfgM m hO).win 7).rect t).emb y = z) :
    (z 0).val = t.val * 128 + (y 0).val ∧ (z 1).val = (y 1).val := by
  subst hz
  have p := fun a : Fin 2 => Pipeline.Window.rect_emb_val ((cfgM m hO).win 7) t y a
  rw [(idx m hO 0 t).2.2.2.2.2.2.2.1] at p
  exact ⟨p 0, (p 1).trans (Cert.Adam.zero_block _ _)⟩

/-- The array after the run. -/
theorem finalM (h : Cert.Pre_Kernel31Ideal m) (c : Dev nD) : (dats m hO 0 c).arrAt 7 (cfgM m hO).N = REFM (m ((c : Thread nD τ).loc main_arg1)) (REFG (m ((c : Thread nD τ).loc main_arg3)) (m ((c : Thread nD τ).loc main_arg4)) (m ((c : Thread nD τ).loc main_arg5))) := by
  refine (dats m hO 0 c).arrAt_eq_of_covers 7 _ (cover7 m hO) fun t hf y => ?_
  have e := atM m hO h c t y ((((cfgM m hO).win 7).blk t).view.emb y) (place7 m hO t y _ rfl).1 (place7 m hO t y _ rfl).2
  blk_simp
  rw [after0_7]
  exact e

/-- What a point writes back, at the array's entry. -/
theorem atV (h : Cert.Pre_Kernel31Ideal m) (c : Dev nD) (t : Fin (cfgM m hO).N) (j : S128x384.Idx) (z : S2048x384.Idx)
    (h0 : (z 0).val = t.val * 128 + (j 0).val) (h1 : (z 1).val = (j 1).val) :
    (outsAt0 m hO c t).2.2.2 j = REFV (m ((c : Thread nD τ).loc main_arg2)) (REFG (m ((c : Thread nD τ).loc main_arg3)) (m ((c : Thread nD τ).loc main_arg4)) (m ((c : Thread nD τ).loc main_arg5))) z := by
  unfold outsAt0
  dsimp only
  refine (outV ..).trans ?_
  exact ((Cert.Adam.second_congr (in2 m hO c t j z h0 h1) (grad_eq m hO h c t j z h0 h1)).trans (refV .. ).symm)

/-- The blocks of result 3 cover its array. -/
theorem cover8 : ((cfgM m hO).win 8).Covers := of_decide_eq_true (by sl_kernel_rfl)

/-- Where an entry of a tile of result 3 lies. -/
theorem place8 (t : Fin (cfgM m hO).N) (y : S128x384.Idx) (z : S2048x384.Idx) (hz : (((cfgM m hO).win 8).rect t).emb y = z) :
    (z 0).val = t.val * 128 + (y 0).val ∧ (z 1).val = (y 1).val := by
  subst hz
  have p := fun a : Fin 2 => Pipeline.Window.rect_emb_val ((cfgM m hO).win 8) t y a
  rw [(idx m hO 0 t).2.2.2.2.2.2.2.2] at p
  exact ⟨p 0, (p 1).trans (Cert.Adam.zero_block _ _)⟩

/-- The array after the run. -/
theorem finalV (h : Cert.Pre_Kernel31Ideal m) (c : Dev nD) : (dats m hO 0 c).arrAt 8 (cfgM m hO).N = REFV (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 8 _ (cover8 m hO) fun t hf y => ?_
  have e := atV m hO h c t y ((((cfgM m hO).win 8).blk t).view.emb y) (place8 m hO t y _ rfl).1 (place8 m hO t y _ rfl).2
  blk_simp
  rw [after0_8]
  exact e

end Cert.Kernel31Ideal.Step

end
-- ==== Proof.Optimiser.PoolWeight.lean ====
/- The AdamW step of the large weights of shape 128 x 256: the call leaves what the reference returns, in each of its four results. -/
module

public import proofs.«01_k».proof.Defs
public import proofs.«01_k».proof.Proof.Gen.Kernel32Ideal.Frame
public import proofs.«01_k».proof.Proof.Gen.Kernel32
public import proofs.«01_k».proof.Proof.Gen.Pre_chip_of_four32
public import proofs.«01_k».proof.Proof.Gen.Reference32Ideal.Run
public import Idealize.ShloMosaic.Lib.Pipeline.ReadBack
public import proofs.«01_k».proof.Proof.Sums
public import proofs.«01_k».proof.Proof.Optimiser.Step
public import proofs.«01_k».proof.Proof.Optimiser.Own

@[expose] public section

set_option maxRecDepth 16384

noncomputable section

open Idealize.ShloMosaic Idealize.ShloMosaic.TcCoe Idealize.SL.Sem
open Idealize.ShloMosaic.Pipeline (Dat)

namespace Cert.Kernel32Ideal.Step

open Cert.Kernel32Ideal Cert.Kernel32Ideal.Gen

variable (m : (ℓ : Loc nD τ sig) → Buf (Elt Ideal) ℓ)

/-- The chip's number lies below four. -/
theorem below (h : Cert.Pre_Kernel32Ideal m) (c : Dev nD) (j : S1.Idx) :
    (m ((c : Thread nD τ).loc main_arg5) j).toNat < 4 := by
  have e := congrFun (h c) j
  simp only [Pre_chip_of_four32.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel32Ideal m) : Ok m := by
  unfold Ok ok0
  intro i
  have hi : (i 0).val < 1 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 128
    rw [BitVec.toNat_ofNat, Nat.mod_eq_of_lt (by omega)]; omega
  · show (0 + 1) * 256 ≤ 256
    omega

/-- The gradient that the reference returns. -/
noncomputable abbrev REFG (own : FVec Ideal S4x128x256 .bf16) (parts : FVec Ideal S3x128x256 .bf16) (chip : IVec S1 32) : FVec Ideal Cert.Reference32Ideal.S128x256 .f32 :=
    addf (extf .f32 (select (broadcastInDim Cert.Reference32Ideal.S128x256 ![] Cert.Reference32Ideal.Gen.bcast_S_S128x256 (cmpi .eq (shapeCast _ chip Cert.Reference32Ideal.Gen.shapeCasts_S1_S_) (constantI Cert.Reference32Ideal.S_ 32 0#32))) (shapeCast _ (extractStridedSlice Cert.Reference32Ideal.S1x128x256 ![0, 0, 0] own Cert.Reference32Ideal.Gen.slices_S4x128x256_S1x128x256_0_0_0) Cert.Reference32Ideal.Gen.shapeCasts_S1x128x256_S128x256) (select (broadcastInDim Cert.Reference32Ideal.S128x256 ![] Cert.Reference32Ideal.Gen.bcast_S_S128x256 (cmpi .eq (shapeCast _ chip Cert.Reference32Ideal.Gen.shapeCasts_S1_S_) (constantI Cert.Reference32Ideal.S_ 32 1#32))) (shapeCast _ (extractStridedSlice Cert.Reference32Ideal.S1x128x256 ![1, 0, 0] own Cert.Reference32Ideal.Gen.slices_S4x128x256_S1x128x256_1_0_0) Cert.Reference32Ideal.Gen.shapeCasts_S1x128x256_S128x256) (select (broadcastInDim Cert.Reference32Ideal.S128x256 ![] Cert.Reference32Ideal.Gen.bcast_S_S128x256 (cmpi .eq (shapeCast _ chip Cert.Reference32Ideal.Gen.shapeCasts_S1_S_) (constantI Cert.Reference32Ideal.S_ 32 2#32))) (shapeCast _ (extractStridedSlice Cert.Reference32Ideal.S1x128x256 ![2, 0, 0] own Cert.Reference32Ideal.Gen.slices_S4x128x256_S1x128x256_2_0_0) Cert.Reference32Ideal.Gen.shapeCasts_S1x128x256_S128x256) (shapeCast _ (extractStridedSlice Cert.Reference32Ideal.S1x128x256 ![3, 0, 0] own Cert.Reference32Ideal.Gen.slices_S4x128x256_S1x128x256_3_0_0) Cert.Reference32Ideal.Gen.shapeCasts_S1x128x256_S128x256)))) Cert.Reference32Ideal.Gen.bitsLt_bf16_f32) (Host.reduceAdd (extf .f32 parts Cert.Reference32Ideal.Gen.bitsLt_bf16_f32) (constant Cert.Reference32Ideal.S_ .f32 0x00000000#32) Cert.Reference32Ideal.Gen.reducesTo_S3x128x256_S128x256_d0 Cert.Reference32Ideal.Gen.h_S_)

/-- The change of the weights that the reference returns, of the gradient. -/
noncomputable abbrev REFD (w m v g : FVec Ideal Cert.Reference32Ideal.S128x256 .f32) : FVec Ideal Cert.Reference32Ideal.S128x256 .f32 :=
    mulf (broadcastInDim Cert.Reference32Ideal.S128x256 ![] Cert.Reference32Ideal.Gen.bcast_S_S128x256 (constant Cert.Reference32Ideal.S_ .f32 0xBA83126F#32))
      (addf (Host.divf (Host.divf (addf (mulf (broadcastInDim Cert.Reference32Ideal.S128x256 ![] Cert.Reference32Ideal.Gen.bcast_S_S128x256 (constant Cert.Reference32Ideal.S_ .f32 0x3F666666#32)) m) (mulf (broadcastInDim Cert.Reference32Ideal.S128x256 ![] Cert.Reference32Ideal.Gen.bcast_S_S128x256 (constant Cert.Reference32Ideal.S_ .f32 0x3DCCCCCD#32)) g)) (broadcastInDim Cert.Reference32Ideal.S128x256 ![] Cert.Reference32Ideal.Gen.bcast_S_S128x256 (constant Cert.Reference32Ideal.S_ .f32 0x3F26BD02#32)))
          (addf (Host.sqrt (Host.divf (addf (mulf (broadcastInDim Cert.Reference32Ideal.S128x256 ![] Cert.Reference32Ideal.Gen.bcast_S_S128x256 (constant Cert.Reference32Ideal.S_ .f32 0x3F7FBE77#32)) v) (mulf (broadcastInDim Cert.Reference32Ideal.S128x256 ![] Cert.Reference32Ideal.Gen.bcast_S_S128x256 (constant Cert.Reference32Ideal.S_ .f32 0x3A83126F#32)) (mulf g g))) (broadcastInDim Cert.Reference32Ideal.S128x256 ![] Cert.Reference32Ideal.Gen.bcast_S_S128x256 (constant Cert.Reference32Ideal.S_ .f32 0x3C231ACC#32)))) (broadcastInDim Cert.Reference32Ideal.S128x256 ![] Cert.Reference32Ideal.Gen.bcast_S_S128x256 (constant Cert.Reference32Ideal.S_ .f32 0x322BCC77#32))))
        (mulf (broadcastInDim Cert.Reference32Ideal.S128x256 ![] Cert.Reference32Ideal.Gen.bcast_S_S128x256 (constant Cert.Reference32Ideal.S_ .f32 0x3C23D70A#32)) w))

/-- The new first moments that the reference returns, of the gradient. -/
noncomputable abbrev REFM (m g : FVec Ideal Cert.Reference32Ideal.S128x256 .f32) : FVec Ideal Cert.Reference32Ideal.S128x256 .f32 :=
    addf (mulf (broadcastInDim Cert.Reference32Ideal.S128x256 ![] Cert.Reference32Ideal.Gen.bcast_S_S128x256 (constant Cert.Reference32Ideal.S_ .f32 0x3F666666#32)) m) (mulf (broadcastInDim Cert.Reference32Ideal.S128x256 ![] Cert.Reference32Ideal.Gen.bcast_S_S128x256 (constant Cert.Reference32Ideal.S_ .f32 0x3DCCCCCD#32)) g)

/-- The new second moments that the reference returns, of the gradient. -/
noncomputable abbrev REFV (v g : FVec Ideal Cert.Reference32Ideal.S128x256 .f32) : FVec Ideal Cert.Reference32Ideal.S128x256 .f32 :=
    addf (mulf (broadcastInDim Cert.Reference32Ideal.S128x256 ![] Cert.Reference32Ideal.Gen.bcast_S_S128x256 (constant Cert.Reference32Ideal.S_ .f32 0x3F7FBE77#32)) v) (mulf (broadcastInDim Cert.Reference32Ideal.S128x256 ![] Cert.Reference32Ideal.Gen.bcast_S_S128x256 (constant Cert.Reference32Ideal.S_ .f32 0x3A83126F#32)) (mulf g g))

/-- The gradient at an entry: the chip's own block and the three that came from the others. -/
theorem refG (own : FVec Ideal S4x128x256 .bf16) (parts : FVec Ideal S3x128x256 .bf16) (chip : IVec S1 32) (k : Fin 4)
    (hk : chip (ix1 0) = BitVec.ofNat 32 k.val) (j : S128x256.Idx) :
    REFG own parts chip j = own (ix3 k (j 0) (j 1)) + ∑ d : Fin 3, parts (ix3 d (j 0) (j 1)) := by
  fin_cases k <;> (pointwise [REFG, hk]; try rfl)

theorem refM (m g : FVec Ideal Cert.Reference32Ideal.S128x256 .f32) (j : S128x256.Idx) : REFM m g j = Cert.Adam.first (m j) (g j) := by
  pointwise [REFM, Cert.Adam.first]

theorem refV (v g : FVec Ideal Cert.Reference32Ideal.S128x256 .f32) (j : S128x256.Idx) : REFV v g j = Cert.Adam.second (v j) (g j) := by
  pointwise [REFV, Cert.Adam.second]

theorem refD (w m v g : FVec Ideal Cert.Reference32Ideal.S128x256 .f32) (j : S128x256.Idx) : REFD w m v g j = Cert.Adam.change (w j) (m j) (v j) (g j) := by
  pointwise [REFD, Cert.Adam.change, Cert.Adam.first, Cert.Adam.second]

/-- The gradient of a tile's entry. -/
noncomputable def grad (x3 : Vec Ideal S1x128x256 .bf16) (x4 : Vec Ideal S3x128x256 .bf16) (j : S128x256.Idx) : EReal :=
  x3 (ix3 0 (j 0) (j 1)) + ∑ d : Fin 3, x4 (ix3 d (j 0) (j 1))

section tile

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128x256 .bf16) (harg5 : arg5.IsWhole) (arg6 : Memref sig .tc .vmem S3x128x256 .bf16) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole)
    (x0 : Vec Ideal S128x256 .f32) (x1 : Vec Ideal S128x256 .f32) (x2 : Vec Ideal S128x256 .f32) (x3 : Vec Ideal S1x128x256 .bf16) (x4 : Vec Ideal S3x128x256 .bf16) (xt0 : TbBuf0 (F := Ideal) c tbM0_0)

theorem outG (j : S128x256.Idx) : out0_A_5 (F := Ideal) c i arg2 harg2 arg3 harg3 arg4 harg4 arg5 harg5 arg6 harg6 arg7 harg7 arg8 harg8 arg9 harg9 arg10 harg10 x0 x1 x2 x3 x4 xt0 j = grad x3 x4 j := by
  unfold grad
  rw [Fin.sum_univ_three]
  frame_out
  pointwise [k0_pay2]
  simp only [add_assoc]

theorem outM (j : S128x256.Idx) : out0_A_7 (F := Ideal) c i arg2 harg2 arg3 harg3 arg4 harg4 arg5 harg5 arg6 harg6 arg7 harg7 arg8 harg8 arg9 harg9 arg10 harg10 x0 x1 x2 x3 x4 xt0 j = Cert.Adam.first (x1 j) (grad x3 x4 j) := by
  unfold grad
  rw [Fin.sum_univ_three]
  frame_out
  pointwise [k0_pay3, k0_pay2, Cert.Adam.first]
  simp only [add_assoc]

theorem outV (j : S128x256.Idx) : out0_A_8 (F := Ideal) c i arg2 harg2 arg3 harg3 arg4 harg4 arg5 harg5 arg6 harg6 arg7 harg7 arg8 harg8 arg9 harg9 arg10 harg10 x0 x1 x2 x3 x4 xt0 j = Cert.Adam.second (x2 j) (grad x3 x4 j) := by
  unfold grad
  rw [Fin.sum_univ_three]
  frame_out
  pointwise [k0_pay4, k0_pay2, Cert.Adam.second]
  simp only [add_assoc]

theorem outD (j : S128x256.Idx) : out0_A_6 (F := Ideal) c i arg2 harg2 arg3 harg3 arg4 harg4 arg5 harg5 arg6 harg6 arg7 harg7 arg8 harg8 arg9 harg9 arg10 harg10 x0 x1 x2 x3 x4 xt0 j = Cert.Adam.change (x0 j) (x1 j) (x2 j) (grad x3 x4 j) := by
  unfold grad
  rw [Fin.sum_univ_three]
  frame_out
  pointwise [k0_pay1, k0_pay6, k0_pay5, k0_pay4, k0_pay3, k0_pay2, Cert.Adam.change, Cert.Adam.first, Cert.Adam.second]
  simp only [add_assoc]

end tile

/-- Which block each window with a fixed map is on. -/
theorem maps : ∀ t : Fin grid0.N, cc0_transform_0 (grid0.coords t) = ![t.val, 0] ∧ cc0_transform_1 (grid0.coords t) = ![t.val, 0]
    ∧ cc0_transform_2 (grid0.coords t) = ![t.val, 0] ∧ (BitVec.ofNat 32 ((grid0.coords t) 0).val).toNat = t.val
    ∧ cc0_transform_4 (grid0.coords t) = ![0, t.val, 0] ∧ cc0_transform_5 (grid0.coords t) = ![t.val, 0]
    ∧ cc0_transform_6 (grid0.coords t) = ![t.val, 0] ∧ cc0_transform_7 (grid0.coords t) = ![t.val, 0]
    ∧ cc0_transform_8 (grid0.coords t) = ![t.val, 0] := by
  decide +kernel

variable (hO : Ok m)

/-- Which block each window is on. -/
theorem idx (c : Dev nD) (t : Fin (cfgM m hO).N) :
    ((cfgM m hO).win 0).index t = ![t.val, 0] ∧ ((cfgM m hO).win 1).index t = ![t.val, 0]
    ∧ ((cfgM m hO).win 2).index t = ![t.val, 0]
    ∧ ((cfgM m hO).win 3).index t = ![(m ((c : Thread nD τ).loc main_arg5) (ix1 0)).toNat, t.val, 0]
    ∧ ((cfgM m hO).win 4).index t = ![0, t.val, 0] ∧ ((cfgM m hO).win 5).index t = ![t.val, 0]
    ∧ ((cfgM m hO).win 6).index t = ![t.val, 0] ∧ ((cfgM m hO).win 7).index t = ![t.val, 0]
    ∧ ((cfgM m hO).win 8).index t = ![t.val, 0] := by
  obtain ⟨a, b, d, e, f, g, h, i, j⟩ := maps t
  exact ⟨a, b, d, (word m c (grid0.coords t)).trans (by rw [e]), f, g, h, i, j⟩

/-- The chip's own number, as an index. -/
noncomputable def chip (h : Cert.Pre_Kernel32Ideal m) (c : Dev nD) : Fin 4 := ⟨(m ((c : Thread nD τ).loc main_arg5) (ix1 0)).toNat, below m h c (ix1 0)⟩

theorem chip_eq (h : Cert.Pre_Kernel32Ideal m) (c : Dev nD) : m ((c : Thread nD τ).loc main_arg5) (ix1 0) = BitVec.ofNat 32 (chip m h c).val := by
  simp [chip]

/-- The tile of argument 0 at an entry. -/
theorem in0 (c : Dev nD) (t : Fin (cfgM m hO).N) (j : S128x256.Idx) (z : S128x256.Idx)
    (h0 : (z 0).val = t.val * 128 + (j 0).val) (h1 : (z 1).val = (j 1).val) :
    iblk m hO c 0 t j = m ((c : Thread nD τ).loc main_arg0) z := by
  refine congrArg (m ((c : Thread nD τ).loc main_arg0)) (?_ : (((cfgM m hO).win 0).rect t).emb j = z)
  funext a
  apply Fin.ext
  refine (Pipeline.Window.rect_emb_val ((cfgM m hO).win 0) t j a).trans ?_
  rw [(idx m hO c t).1]
  fin_cases a
  · exact h0.symm
  · exact (Cert.Adam.zero_block 256 (j 1).val).trans h1.symm

/-- The tile of argument 1 at an entry. -/
theorem in1 (c : Dev nD) (t : Fin (cfgM m hO).N) (j : S128x256.Idx) (z : S128x256.Idx)
    (h0 : (z 0).val = t.val * 128 + (j 0).val) (h1 : (z 1).val = (j 1).val) :
    iblk m hO c 1 t j = m ((c : Thread nD τ).loc main_arg1) z := by
  refine congrArg (m ((c : Thread nD τ).loc main_arg1)) (?_ : (((cfgM m hO).win 1).rect t).emb j = z)
  funext a
  apply Fin.ext
  refine (Pipeline.Window.rect_emb_val ((cfgM m hO).win 1) t j a).trans ?_
  rw [(idx m hO c t).2.1]
  fin_cases a
  · exact h0.symm
  · exact (Cert.Adam.zero_block 256 (j 1).val).trans h1.symm

/-- The tile of argument 2 at an entry. -/
theorem in2 (c : Dev nD) (t : Fin (cfgM m hO).N) (j : S128x256.Idx) (z : S128x256.Idx)
    (h0 : (z 0).val = t.val * 128 + (j 0).val) (h1 : (z 1).val = (j 1).val) :
    iblk m hO c 2 t j = m ((c : Thread nD τ).loc main_arg2) z := by
  refine congrArg (m ((c : Thread nD τ).loc main_arg2)) (?_ : (((cfgM m hO).win 2).rect t).emb j = z)
  funext a
  apply Fin.ext
  refine (Pipeline.Window.rect_emb_val ((cfgM m hO).win 2) t j a).trans ?_
  rw [(idx m hO c t).2.2.1]
  fin_cases a
  · exact h0.symm
  · exact (Cert.Adam.zero_block 256 (j 1).val).trans h1.symm

/-- The tile of the chip's own block at an entry. -/
theorem in3 (h : Cert.Pre_Kernel32Ideal m) (c : Dev nD) (t : Fin (cfgM m hO).N) (j : S128x256.Idx) (z : S128x256.Idx)
    (h0 : (z 0).val = t.val * 128 + (j 0).val) (h1 : (z 1).val = (j 1).val) :
    iblk m hO c 3 t (ix3 0 (j 0) (j 1) : S1x128x256.Idx) = m ((c : Thread nD τ).loc main_arg3) (ix3 (chip m h c) (z 0) (z 1) : S4x128x256.Idx) := by
  refine congrArg (m ((c : Thread nD τ).loc main_arg3)) (?_ : (((cfgM m hO).win 3).rect t).emb (ix3 0 (j 0) (j 1) : S1x128x256.Idx) = (ix3 (chip m h c) (z 0) (z 1) : S4x128x256.Idx))
  funext a
  apply Fin.ext
  refine (Pipeline.Window.rect_emb_val ((cfgM m hO).win 3) t (ix3 0 (j 0) (j 1) : S1x128x256.Idx) a).trans ?_
  rw [(idx m hO c t).2.2.2.1]
  fin_cases a
  · show (m ((c : Thread nD τ).loc main_arg5) (ix1 0)).toNat * 1 + 0 = (m ((c : Thread nD τ).loc main_arg5) (ix1 0)).toNat
    omega
  · exact h0.symm
  · exact (Cert.Adam.zero_block 256 (j 1).val).trans h1.symm

/-- The tile of the blocks from the other chips at an entry. -/
theorem in4 (c : Dev nD) (t : Fin (cfgM m hO).N) (d : Fin 3) (j : S128x256.Idx) (z : S128x256.Idx)
    (h0 : (z 0).val = t.val * 128 + (j 0).val) (h1 : (z 1).val = (j 1).val) :
    iblk m hO c 4 t (ix3 d (j 0) (j 1) : S3x128x256.Idx) = m ((c : Thread nD τ).loc main_arg4) (ix3 d (z 0) (z 1) : S3x128x256.Idx) := by
  refine congrArg (m ((c : Thread nD τ).loc main_arg4)) (?_ : (((cfgM m hO).win 4).rect t).emb (ix3 d (j 0) (j 1) : S3x128x256.Idx) = (ix3 d (z 0) (z 1) : S3x128x256.Idx))
  funext a
  apply Fin.ext
  refine (Pipeline.Window.rect_emb_val ((cfgM m hO).win 4) t (ix3 d (j 0) (j 1) : S3x128x256.Idx) a).trans ?_
  rw [(idx m hO c t).2.2.2.2.1]
  fin_cases a
  · show 0 * 3 + d.val = d.val
    omega
  · exact h0.symm
  · exact (Cert.Adam.zero_block 256 (j 1).val).trans h1.symm

/-- A tile's gradient is the reference's at the array's entry. -/
theorem grad_eq (h : Cert.Pre_Kernel32Ideal m) (c : Dev nD) (t : Fin (cfgM m hO).N) (j : S128x256.Idx) (z : S128x256.Idx)
    (h0 : (z 0).val = t.val * 128 + (j 0).val) (h1 : (z 1).val = (j 1).val) :
    grad (iblk m hO c 3 t) (iblk m hO c 4 t) j = REFG (m ((c : Thread nD τ).loc main_arg3)) (m ((c : Thread nD τ).loc main_arg4)) (m ((c : Thread nD τ).loc main_arg5)) z := by
  rw [refG _ _ _ (chip m h c) (chip_eq m h c)]
  exact congrArg₂ (· + ·) (in3 m hO h c t j z h0 h1) (Cert.Sums.congr fun d => in4 m hO c t d j z h0 h1)

/-- What a point writes back, at the array's entry. -/
theorem atG (h : Cert.Pre_Kernel32Ideal m) (c : Dev nD) (t : Fin (cfgM m hO).N) (j : S128x256.Idx) (z : S128x256.Idx)
    (h0 : (z 0).val = t.val * 128 + (j 0).val) (h1 : (z 1).val = (j 1).val) :
    (outsAt0 m hO c t).1 j = REFG (m ((c : Thread nD τ).loc main_arg3)) (m ((c : Thread nD τ).loc main_arg4)) (m ((c : Thread nD τ).loc main_arg5)) z := by
  unfold outsAt0
  dsimp only
  refine (outG ..).trans ?_
  exact (grad_eq m hO h c t j z h0 h1)

/-- The blocks of result 0 cover its array. -/
theorem cover5 : ((cfgM m hO).win 5).Covers := of_decide_eq_true (by sl_kernel_rfl)

/-- Where an entry of a tile of result 0 lies. -/
theorem place5 (t : Fin (cfgM m hO).N) (y : S128x256.Idx) (z : S128x256.Idx) (hz : (((cfgM m hO).win 5).rect t).emb y = z) :
    (z 0).val = t.val * 128 + (y 0).val ∧ (z 1).val = (y 1).val := by
  subst hz
  have p := fun a : Fin 2 => Pipeline.Window.rect_emb_val ((cfgM m hO).win 5) t y a
  rw [(idx m hO 0 t).2.2.2.2.2.1] at p
  exact ⟨p 0, (p 1).trans (Cert.Adam.zero_block _ _)⟩

/-- The array after the run. -/
theorem finalG (h : Cert.Pre_Kernel32Ideal m) (c : Dev nD) : (dats m hO 0 c).arrAt 5 (cfgM m hO).N = REFG (m ((c : Thread nD τ).loc main_arg3)) (m ((c : Thread nD τ).loc main_arg4)) (m ((c : Thread nD τ).loc main_arg5)) := by
  refine (dats m hO 0 c).arrAt_eq_of_covers 5 _ (cover5 m hO) fun t hf y => ?_
  have e := atG m hO h c t y ((((cfgM m hO).win 5).blk t).view.emb y) (place5 m hO t y _ rfl).1 (place5 m hO t y _ rfl).2
  blk_simp
  rw [after0_5]
  exact e

/-- What a point writes back, at the array's entry. -/
theorem atD (h : Cert.Pre_Kernel32Ideal m) (c : Dev nD) (t : Fin (cfgM m hO).N) (j : S128x256.Idx) (z : S128x256.Idx)
    (h0 : (z 0).val = t.val * 128 + (j 0).val) (h1 : (z 1).val = (j 1).val) :
    (outsAt0 m hO c t).2.1 j = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) z := by
  unfold outsAt0
  dsimp only
  refine (outD ..).trans ?_
  exact ((Cert.Adam.change_congr (in0 m hO c t j z h0 h1) (in1 m hO c t j z h0 h1) (in2 m hO c t j z h0 h1) (grad_eq m hO h c t j z h0 h1)).trans (refD .. ).symm)

/-- The blocks of result 1 cover its array. -/
theorem cover6 : ((cfgM m hO).win 6).Covers := of_decide_eq_true (by sl_kernel_rfl)

/-- Where an entry of a tile of result 1 lies. -/
theorem place6 (t : Fin (cfgM m hO).N) (y : S128x256.Idx) (z : S128x256.Idx) (hz : (((cfgM m hO).win 6).rect t).emb y = z) :
    (z 0).val = t.val * 128 + (y 0).val ∧ (z 1).val = (y 1).val := by
  subst hz
  have p := fun a : Fin 2 => Pipeline.Window.rect_emb_val ((cfgM m hO).win 6) t y a
  rw [(idx m hO 0 t).2.2.2.2.2.2.1] at p
  exact ⟨p 0, (p 1).trans (Cert.Adam.zero_block _ _)⟩

/-- The array after the run. -/
theorem finalD (h : Cert.Pre_Kernel32Ideal m) (c : Dev nD) : (dats m hO 0 c).arrAt 6 (cfgM m hO).N = REFD (m ((c : Thread nD τ).loc main_arg0)) (m ((c : Thread nD τ).loc main_arg1)) (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 6 _ (cover6 m hO) fun t hf y => ?_
  have e := atD m hO h c t y ((((cfgM m hO).win 6).blk t).view.emb y) (place6 m hO t y _ rfl).1 (place6 m hO t y _ rfl).2
  blk_simp
  rw [after0_6]
  exact e

/-- What a point writes back, at the array's entry. -/
theorem atM (h : Cert.Pre_Kernel32Ideal m) (c : Dev nD) (t : Fin (cfgM m hO).N) (j : S128x256.Idx) (z : S128x256.Idx)
    (h0 : (z 0).val = t.val * 128 + (j 0).val) (h1 : (z 1).val = (j 1).val) :
    (outsAt0 m hO c t).2.2.1 j = REFM (m ((c : Thread nD τ).loc main_arg1)) (REFG (m ((c : Thread nD τ).loc main_arg3)) (m ((c : Thread nD τ).loc main_arg4)) (m ((c : Thread nD τ).loc main_arg5))) z := by
  unfold outsAt0
  dsimp only
  refine (outM ..).trans ?_
  exact ((Cert.Adam.first_congr (in1 m hO c t j z h0 h1) (grad_eq m hO h c t j z h0 h1)).trans (refM .. ).symm)

/-- The blocks of result 2 cover its array. -/
theorem cover7 : ((cfgM m hO).win 7).Covers := of_decide_eq_true (by sl_kernel_rfl)

/-- Where an entry of a tile of result 2 lies. -/
theorem place7 (t : Fin (cfgM m hO).N) (y : S128x256.Idx) (z : S128x256.Idx) (hz : (((cfgM m hO).win 7).rect t).emb y = z) :
    (z 0).val = t.val * 128 + (y 0).val ∧ (z 1).val = (y 1).val := by
  subst hz
  have p := fun a : Fin 2 => Pipeline.Window.rect_emb_val ((cfgM m hO).win 7) t y a
  rw [(idx m hO 0 t).2.2.2.2.2.2.2.1] at p
  exact ⟨p 0, (p 1).trans (Cert.Adam.zero_block _ _)⟩

/-- The array after the run. -/
theorem finalM (h : Cert.Pre_Kernel32Ideal m) (c : Dev nD) : (dats m hO 0 c).arrAt 7 (cfgM m hO).N = REFM (m ((c : Thread nD τ).loc main_arg1)) (REFG (m ((c : Thread nD τ).loc main_arg3)) (m ((c : Thread nD τ).loc main_arg4)) (m ((c : Thread nD τ).loc main_arg5))) := by
  refine (dats m hO 0 c).arrAt_eq_of_covers 7 _ (cover7 m hO) fun t hf y => ?_
  have e := atM m hO h c t y ((((cfgM m hO).win 7).blk t).view.emb y) (place7 m hO t y _ rfl).1 (place7 m hO t y _ rfl).2
  blk_simp
  rw [after0_7]
  exact e

/-- What a point writes back, at the array's entry. -/
theorem atV (h : Cert.Pre_Kernel32Ideal m) (c : Dev nD) (t : Fin (cfgM m hO).N) (j : S128x256.Idx) (z : S128x256.Idx)
    (h0 : (z 0).val = t.val * 128 + (j 0).val) (h1 : (z 1).val = (j 1).val) :
    (outsAt0 m hO c t).2.2.2 j = REFV (m ((c : Thread nD τ).loc main_arg2)) (REFG (m ((c : Thread nD τ).loc main_arg3)) (m ((c : Thread nD τ).loc main_arg4)) (m ((c : Thread nD τ).loc main_arg5))) z := by
  unfold outsAt0
  dsimp only
  refine (outV ..).trans ?_
  exact ((Cert.Adam.second_congr (in2 m hO c t j z h0 h1) (grad_eq m hO h c t j z h0 h1)).trans (refV .. ).symm)

/-- The blocks of result 3 cover its array. -/
theorem cover8 : ((cfgM m hO).win 8).Covers := of_decide_eq_true (by sl_kernel_rfl)

/-- Where an entry of a tile of result 3 lies. -/
theorem place8 (t : Fin (cfgM m hO).N) (y : S128x256.Idx) (z : S128x256.Idx) (hz : (((cfgM m hO).win 8).rect t).emb y = z) :
    (z 0).val = t.val * 128 + (y 0).val ∧ (z 1).val = (y 1).val := by
  subst hz
  have p := fun a : Fin 2 => Pipeline.Window.rect_emb_val ((cfgM m hO).win 8) t y a
  rw [(idx m hO 0 t).2.2.2.2.2.2.2.2] at p
  exact ⟨p 0, (p 1).trans (Cert.Adam.zero_block _ _)⟩

/-- The array after the run. -/
theorem finalV (h : Cert.Pre_Kernel32Ideal m) (c : Dev nD) : (dats m hO 0 c).arrAt 8 (cfgM m hO).N = REFV (m ((c : Thread nD τ).loc main_arg2)) (REFG (m ((c : Thread nD τ).loc main_arg3)) (m ((c : Thread nD τ).loc main_arg4)) (m ((c : Thread nD τ).loc main_arg5))) := by
  refine (dats m hO 0 c).arrAt_eq_of_covers 8 _ (cover8 m hO) fun t hf y => ?_
  have e := atV m hO h c t y ((((cfgM m hO).win 8).blk t).view.emb y) (place8 m hO t y _ rfl).1 (place8 m hO t y _ rfl).2
  blk_simp
  rw [after0_8]
  exact e

end Cert.Kernel32Ideal.Step

end
-- ==== Proof.Optimiser.LargeFrames.lean ====
/- The frames of the optimiser's calls of the large weights, which read their block at the chip's own number. -/
module

public import proofs.«01_k».proof.Proof.Gen.Kernel28.Frame
public import proofs.«01_k».proof.Proof.Gen.Kernel28Ideal
public import proofs.«01_k».proof.Proof.Optimiser.OutWeight
public import proofs.«01_k».proof.Proof.Gen.Kernel29.Frame
public import proofs.«01_k».proof.Proof.Gen.Kernel29Ideal
public import proofs.«01_k».proof.Proof.Optimiser.DownWeight
public import proofs.«01_k».proof.Proof.Gen.Kernel30.Frame
public import proofs.«01_k».proof.Proof.Gen.Kernel30Ideal
public import proofs.«01_k».proof.Proof.Optimiser.UpWeight
public import proofs.«01_k».proof.Proof.Gen.Kernel31.Frame
public import proofs.«01_k».proof.Proof.Gen.Kernel31Ideal
public import proofs.«01_k».proof.Proof.Optimiser.InWeight
public import proofs.«01_k».proof.Proof.Gen.Kernel32.Frame
public import proofs.«01_k».proof.Proof.Gen.Kernel32Ideal
public import proofs.«01_k».proof.Proof.Optimiser.PoolWeight

@[expose] public section

set_option maxRecDepth 16384

noncomputable section

open Idealize.ShloMosaic Idealize.ShloMosaic.TcCoe Idealize.SL.Sem

namespace Cert.Kernel28.Step

open Cert.Kernel28 Cert.Kernel28.Gen

variable (m : (ℓ : Loc nD τ sig) → Buf (Elt Bits) ℓ)

/-- The chip's number lies below four. -/
theorem below (h : Cert.Pre_Kernel28 m) (c : Dev nD) (j : S1.Idx) :
    (m ((c : Thread nD τ).loc main_arg5) j).toNat < 4 := by
  have e := congrFun (h c) j
  simp only [Pre_chip_of_four28.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel28 m) : Ok m := by
  unfold Ok ok0
  intro i
  have hi : (i 0).val < 2 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 256
    rw [BitVec.toNat_ofNat, Nat.mod_eq_of_lt (by omega)]; omega
  · show (0 + 1) * 2048 ≤ 2048
    omega

end Cert.Kernel28.Step

namespace Cert.Kernel29.Step

open Cert.Kernel29 Cert.Kernel29.Gen

variable (m : (ℓ : Loc nD τ sig) → Buf (Elt Bits) ℓ)

/-- The chip's number lies below four. -/
theorem below (h : Cert.Pre_Kernel29 m) (c : Dev nD) (j : S1.Idx) :
    (m ((c : Thread nD τ).loc main_arg5) j).toNat < 4 := by
  have e := congrFun (h c) j
  simp only [Pre_chip_of_four29.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel29 m) : Ok m := by
  unfold Ok ok0
  intro i
  have hi : (i 0).val < 8 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 1024
    rw [BitVec.toNat_ofNat, Nat.mod_eq_of_lt (by omega)]; omega
  · show (0 + 1) * 2048 ≤ 2048
    omega

end Cert.Kernel29.Step

namespace Cert.Kernel30.Step

open Cert.Kernel30 Cert.Kernel30.Gen

variable (m : (ℓ : Loc nD τ sig) → Buf (Elt Bits) ℓ)

/-- The chip's number lies below four. -/
theorem below (h : Cert.Pre_Kernel30 m) (c : Dev nD) (j : S1.Idx) :
    (m ((c : Thread nD τ).loc main_arg5) j).toNat < 4 := by
  have e := congrFun (h c) j
  simp only [Pre_chip_of_four30.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel30 m) : Ok m := by
  unfold Ok ok0
  intro i
  have hi : (i 0).val < 16 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 2048
    rw [BitVec.toNat_ofNat, Nat.mod_eq_of_lt (by omega)]; omega
  · show (0 + 1) * 1024 ≤ 1024
    omega

end Cert.Kernel30.Step

namespace Cert.Kernel31.Step

open Cert.Kernel31 Cert.Kernel31.Gen

variable (m : (ℓ : Loc nD τ sig) → Buf (Elt Bits) ℓ)

/-- The chip's number lies below four. -/
theorem below (h : Cert.Pre_Kernel31 m) (c : Dev nD) (j : S1.Idx) :
    (m ((c : Thread nD τ).loc main_arg5) j).toNat < 4 := by
  have e := congrFun (h c) j
  simp only [Pre_chip_of_four31.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel31 m) : Ok m := by
  unfold Ok ok0
  intro i
  have hi : (i 0).val < 16 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 2048
    rw [BitVec.toNat_ofNat, Nat.mod_eq_of_lt (by omega)]; omega
  · show (0 + 1) * 384 ≤ 384
    omega

end Cert.Kernel31.Step

namespace Cert.Kernel32.Step

open Cert.Kernel32 Cert.Kernel32.Gen

variable (m : (ℓ : Loc nD τ sig) → Buf (Elt Bits) ℓ)

/-- The chip's number lies below four. -/
theorem below (h : Cert.Pre_Kernel32 m) (c : Dev nD) (j : S1.Idx) :
    (m ((c : Thread nD τ).loc main_arg5) j).toNat < 4 := by
  have e := congrFun (h c) j
  simp only [Pre_chip_of_four32.fn, andi, cmpi, broadcastInDim, constantI] at e
  exact Cert.Adam.below_four _ e

/-- The word that the index map reads. -/
theorem word (c : Dev nD) (i : grid0.Coords) :
    cc0_transform_3 Facts₀.inb_S1_S1_0 Facts₀.numel1_S1 (tbl m) i
      = ![(m ((c : Thread nD τ).loc main_arg5) (ix1 0)).toNat, (BitVec.ofNat 32 (i 0).val).toNat, 0] := by
  obtain rfl : c = 0 := Subsingleton.elim _ _
  have e : (tbl m).at 0 (Rect.unit (s := S1) ![0] S1.size Facts₀.inb_S1_S1_0) Facts₀.numel1_S1
      = m (((0 : Dev nD) : Thread nD τ).loc main_arg5) (ix1 0) :=
    congrArg (m (((0 : Dev nD) : Thread nD τ).loc main_arg5)) (funext fun a => by fin_cases a; exact Subsingleton.elim (α := Fin 1) _ _)
  unfold cc0_transform_3
  simp only [e]
  rfl

/-- The block that the chip's number selects lies inside its array. -/
theorem ok (h : Cert.Pre_Kernel32 m) : Ok m := by
  unfold Ok ok0
  intro i
  have hi : (i 0).val < 1 := (i 0).isLt
  have hv := below m h 0 (ix1 0)
  refine ⟨fun a => ?_, .inr (Affine.block_words_dvd (of_decide_eq_true rfl) (by decide))⟩
  rw [word m 0 i]
  fin_cases a
  · show ((m (((0 : Dev nD) : Thread nD τ).loc main_arg5) (ix1 0)).toNat + 1) * 1 ≤ 4
    omega
  · show ((BitVec.ofNat 32 (i 0).val).toNat + 1) * 128 ≤ 128
    rw [BitVec.toNat_ofNat, Nat.mod_eq_of_lt (by omega)]; omega
  · show (0 + 1) * 256 ≤ 256
    omega

end Cert.Kernel32.Step

namespace Cert.Frames

theorem kernel28 : Cert.quiescent_Kernel28 := fun m ρ h => Cert.Kernel28.Gen.frame m ρ (Cert.Kernel28.Step.ok m h)
theorem ideal28 : Cert.quiescent_Kernel28Ideal := fun m ρ h => Cert.Kernel28Ideal.Gen.frame m ρ (Cert.Kernel28Ideal.Step.ok m h)
theorem reference28 : Cert.quiescent_Reference28Ideal := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)
theorem reference28_pre : Cert.quiescent_Reference28Ideal_pre_chip_of_four28 := fun m ρ _ =>
  (θ_run Cert.Reference28Ideal.defs _ _).mono (fun r h => ⟨fun c => (h c).2.2.2.2, sem_eq_zero_of_no_sems (by decide) r.2⟩)
    (Cert.Reference28Ideal.Value.run (F := Ideal) m ρ)

theorem kernel29 : Cert.quiescent_Kernel29 := fun m ρ h => Cert.Kernel29.Gen.frame m ρ (Cert.Kernel29.Step.ok m h)
theorem ideal29 : Cert.quiescent_Kernel29Ideal := fun m ρ h => Cert.Kernel29Ideal.Gen.frame m ρ (Cert.Kernel29Ideal.Step.ok m h)
theorem reference29 : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)
theorem reference29_pre : Cert.quiescent_Reference29Ideal_pre_chip_of_four29 := fun m ρ _ =>
  (θ_run Cert.Reference29Ideal.defs _ _).mono (fun r h => ⟨fun c => (h c).2.2.2.2, sem_eq_zero_of_no_sems (by decide) r.2⟩)
    (Cert.Reference29Ideal.Value.run (F := Ideal) m ρ)

theorem kernel30 : Cert.quiescent_Kernel30 := fun m ρ h => Cert.Kernel30.Gen.frame m ρ (Cert.Kernel30.Step.ok m h)
theorem ideal30 : Cert.quiescent_Kernel30Ideal := fun m ρ h => Cert.Kernel30Ideal.Gen.frame m ρ (Cert.Kernel30Ideal.Step.ok m h)
theorem reference30 : Cert.quiescent_Reference30Ideal := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)
theorem reference30_pre : Cert.quiescent_Reference30Ideal_pre_chip_of_four30 := fun m ρ _ =>
  (θ_run Cert.Reference30Ideal.defs _ _).mono (fun r h => ⟨fun c => (h c).2.2.2.2, sem_eq_zero_of_no_sems (by decide) r.2⟩)
    (Cert.Reference30Ideal.Value.run (F := Ideal) m ρ)

theorem kernel31 : Cert.quiescent_Kernel31 := fun m ρ h => Cert.Kernel31.Gen.frame m ρ (Cert.Kernel31.Step.ok m h)
theorem ideal31 : Cert.quiescent_Kernel31Ideal := fun m ρ h => Cert.Kernel31Ideal.Gen.frame m ρ (Cert.Kernel31Ideal.Step.ok m h)
theorem reference31 : Cert.quiescent_Reference31Ideal := fun m ρ _ =>
  (θ_run Cert.Reference31Ideal.defs _ _).mono (fun r h => ⟨fun c => (h c).2.2.2.2, sem_eq_zero_of_no_sems (by decide) r.2⟩)
    (Cert.Reference31Ideal.Value.run (F := Ideal) m ρ)
theorem reference31_pre : Cert.quiescent_Reference31Ideal_pre_chip_of_four31 := fun m ρ _ =>
  (θ_run Cert.Reference31Ideal.defs _ _).mono (fun r h => ⟨fun c => (h c).2.2.2.2, sem_eq_zero_of_no_sems (by decide) r.2⟩)
    (Cert.Reference31Ideal.Value.run (F := Ideal) m ρ)

theorem kernel32 : Cert.quiescent_Kernel32 := fun m ρ h => Cert.Kernel32.Gen.frame m ρ (Cert.Kernel32.Step.ok m h)
theorem ideal32 : Cert.quiescent_Kernel32Ideal := fun m ρ h => Cert.Kernel32Ideal.Gen.frame m ρ (Cert.Kernel32Ideal.Step.ok m h)
theorem reference32 : Cert.quiescent_Reference32Ideal := fun m ρ _ =>
  (θ_run Cert.Reference32Ideal.defs _ _).mono (fun r h => ⟨fun c => (h c).2.2.2.2, sem_eq_zero_of_no_sems (by decide) r.2⟩)
    (Cert.Reference32Ideal.Value.run (F := Ideal) m ρ)
theorem reference32_pre : Cert.quiescent_Reference32Ideal_pre_chip_of_four32 := fun m ρ _ =>
  (θ_run Cert.Reference32Ideal.defs _ _).mono (fun r h => ⟨fun c => (h c).2.2.2.2, sem_eq_zero_of_no_sems (by decide) r.2⟩)
    (Cert.Reference32Ideal.Value.run (F := Ideal) m ρ)

end Cert.Frames

end
-- ==== Proof.Optimiser.LargeClaims.lean ====
/- The value claims of the optimiser's calls of the large weights. -/
module

public import proofs.«01_k».proof.Proof.Optimiser.OutWeight
public import proofs.«01_k».proof.Proof.Optimiser.DownWeight
public import proofs.«01_k».proof.Proof.Optimiser.UpWeight
public import proofs.«01_k».proof.Proof.Optimiser.InWeight
public import proofs.«01_k».proof.Proof.Optimiser.PoolWeight
public import Idealize.ShloMosaic.Lib.Claim

@[expose] public section

set_option maxRecDepth 16384

noncomputable section

namespace Cert.Optimiser

open Idealize.ShloMosaic Idealize.SL.Sem

theorem outWeight : Cert.algebraic_Kernel28Ideal_Reference28Ideal := by
  intro m g m' g' hpre hagree
  have hO := Cert.Kernel28Ideal.Step.ok m hpre
  refine ⟨fun c => Cert.Kernel28Ideal.Step.REFG (m (c.tc.loc Cert.Kernel28Ideal.main_arg3)) (m (c.tc.loc Cert.Kernel28Ideal.main_arg4)) (m (c.tc.loc Cert.Kernel28Ideal.main_arg5)),
    fun c => Cert.Kernel28Ideal.Step.REFD (m (c.tc.loc Cert.Kernel28Ideal.main_arg0)) (m (c.tc.loc Cert.Kernel28Ideal.main_arg1)) (m (c.tc.loc Cert.Kernel28Ideal.main_arg2))
      (Cert.Kernel28Ideal.Step.REFG (m (c.tc.loc Cert.Kernel28Ideal.main_arg3)) (m (c.tc.loc Cert.Kernel28Ideal.main_arg4)) (m (c.tc.loc Cert.Kernel28Ideal.main_arg5))),
    fun c => Cert.Kernel28Ideal.Step.REFM (m (c.tc.loc Cert.Kernel28Ideal.main_arg1))
      (Cert.Kernel28Ideal.Step.REFG (m (c.tc.loc Cert.Kernel28Ideal.main_arg3)) (m (c.tc.loc Cert.Kernel28Ideal.main_arg4)) (m (c.tc.loc Cert.Kernel28Ideal.main_arg5))),
    fun c => Cert.Kernel28Ideal.Step.REFV (m (c.tc.loc Cert.Kernel28Ideal.main_arg2))
      (Cert.Kernel28Ideal.Step.REFG (m (c.tc.loc Cert.Kernel28Ideal.main_arg3)) (m (c.tc.loc Cert.Kernel28Ideal.main_arg4)) (m (c.tc.loc Cert.Kernel28Ideal.main_arg5))), ?_, ?_⟩
  · refine Idealize.ShloMosaic.θ_run_mono (Idealize.ShloMosaic.θ_run_and (Cert.Kernel28Ideal.Gen.run_main m g hO)
      (Cert.Kernel28Ideal.Gen.unchanged m g hO)) ?_
    intro r hr c
    exact ⟨((hr.1 c).1 5).trans (Cert.Kernel28Ideal.Step.finalG m hO hpre c), ((hr.1 c).1 6).trans (Cert.Kernel28Ideal.Step.finalD m hO hpre c),
      ((hr.1 c).1 7).trans (Cert.Kernel28Ideal.Step.finalM m hO hpre c), ((hr.1 c).1 8).trans (Cert.Kernel28Ideal.Step.finalV m hO hpre c), hr.2 c⟩
  · run_from Cert.Reference28Ideal.Value.run m' g'
    all_goals (try unfold Cert.Reference28Ideal.Value.res_main_v42)
    all_goals (try simp only [hagree c])
    all_goals rfl

theorem downWeight : Cert.algebraic_Kernel29Ideal_Reference29Ideal := by
  intro m g m' g' hpre hagree
  have hO := Cert.Kernel29Ideal.Step.ok m hpre
  refine ⟨fun c => Cert.Kernel29Ideal.Step.REFG (m (c.tc.loc Cert.Kernel29Ideal.main_arg3)) (m (c.tc.loc Cert.Kernel29Ideal.main_arg4)) (m (c.tc.loc Cert.Kernel29Ideal.main_arg5)),
    fun c => Cert.Kernel29Ideal.Step.REFD (m (c.tc.loc Cert.Kernel29Ideal.main_arg0)) (m (c.tc.loc Cert.Kernel29Ideal.main_arg1)) (m (c.tc.loc Cert.Kernel29Ideal.main_arg2))
      (Cert.Kernel29Ideal.Step.REFG (m (c.tc.loc Cert.Kernel29Ideal.main_arg3)) (m (c.tc.loc Cert.Kernel29Ideal.main_arg4)) (m (c.tc.loc Cert.Kernel29Ideal.main_arg5))),
    fun c => Cert.Kernel29Ideal.Step.REFM (m (c.tc.loc Cert.Kernel29Ideal.main_arg1))
      (Cert.Kernel29Ideal.Step.REFG (m (c.tc.loc Cert.Kernel29Ideal.main_arg3)) (m (c.tc.loc Cert.Kernel29Ideal.main_arg4)) (m (c.tc.loc Cert.Kernel29Ideal.main_arg5))),
    fun c => Cert.Kernel29Ideal.Step.REFV (m (c.tc.loc Cert.Kernel29Ideal.main_arg2))
      (Cert.Kernel29Ideal.Step.REFG (m (c.tc.loc Cert.Kernel29Ideal.main_arg3)) (m (c.tc.loc Cert.Kernel29Ideal.main_arg4)) (m (c.tc.loc Cert.Kernel29Ideal.main_arg5))), ?_, ?_⟩
  · refine Idealize.ShloMosaic.θ_run_mono (Idealize.ShloMosaic.θ_run_and (Cert.Kernel29Ideal.Gen.run_main m g hO)
      (Cert.Kernel29Ideal.Gen.unchanged m g hO)) ?_
    intro r hr c
    exact ⟨((hr.1 c).1 5).trans (Cert.Kernel29Ideal.Step.finalG m hO hpre c), ((hr.1 c).1 6).trans (Cert.Kernel29Ideal.Step.finalD m hO hpre c),
      ((hr.1 c).1 7).trans (Cert.Kernel29Ideal.Step.finalM m hO hpre c), ((hr.1 c).1 8).trans (Cert.Kernel29Ideal.Step.finalV m hO hpre c), hr.2 c⟩
  · run_from Cert.Reference29Ideal.Value.run m' g'
    all_goals (try unfold Cert.Reference29Ideal.Value.res_main_v42)
    all_goals (try simp only [hagree c])
    all_goals rfl

theorem upWeight : Cert.algebraic_Kernel30Ideal_Reference30Ideal := by
  intro m g m' g' hpre hagree
  have hO := Cert.Kernel30Ideal.Step.ok m hpre
  refine ⟨fun c => Cert.Kernel30Ideal.Step.REFG (m (c.tc.loc Cert.Kernel30Ideal.main_arg3)) (m (c.tc.loc Cert.Kernel30Ideal.main_arg4)) (m (c.tc.loc Cert.Kernel30Ideal.main_arg5)),
    fun c => Cert.Kernel30Ideal.Step.REFD (m (c.tc.loc Cert.Kernel30Ideal.main_arg0)) (m (c.tc.loc Cert.Kernel30Ideal.main_arg1)) (m (c.tc.loc Cert.Kernel30Ideal.main_arg2))
      (Cert.Kernel30Ideal.Step.REFG (m (c.tc.loc Cert.Kernel30Ideal.main_arg3)) (m (c.tc.loc Cert.Kernel30Ideal.main_arg4)) (m (c.tc.loc Cert.Kernel30Ideal.main_arg5))),
    fun c => Cert.Kernel30Ideal.Step.REFM (m (c.tc.loc Cert.Kernel30Ideal.main_arg1))
      (Cert.Kernel30Ideal.Step.REFG (m (c.tc.loc Cert.Kernel30Ideal.main_arg3)) (m (c.tc.loc Cert.Kernel30Ideal.main_arg4)) (m (c.tc.loc Cert.Kernel30Ideal.main_arg5))),
    fun c => Cert.Kernel30Ideal.Step.REFV (m (c.tc.loc Cert.Kernel30Ideal.main_arg2))
      (Cert.Kernel30Ideal.Step.REFG (m (c.tc.loc Cert.Kernel30Ideal.main_arg3)) (m (c.tc.loc Cert.Kernel30Ideal.main_arg4)) (m (c.tc.loc Cert.Kernel30Ideal.main_arg5))), ?_, ?_⟩
  · refine Idealize.ShloMosaic.θ_run_mono (Idealize.ShloMosaic.θ_run_and (Cert.Kernel30Ideal.Gen.run_main m g hO)
      (Cert.Kernel30Ideal.Gen.unchanged m g hO)) ?_
    intro r hr c
    exact ⟨((hr.1 c).1 5).trans (Cert.Kernel30Ideal.Step.finalG m hO hpre c), ((hr.1 c).1 6).trans (Cert.Kernel30Ideal.Step.finalD m hO hpre c),
      ((hr.1 c).1 7).trans (Cert.Kernel30Ideal.Step.finalM m hO hpre c), ((hr.1 c).1 8).trans (Cert.Kernel30Ideal.Step.finalV m hO hpre c), hr.2 c⟩
  · run_from Cert.Reference30Ideal.Value.run m' g'
    all_goals (try unfold Cert.Reference30Ideal.Value.res_main_v42)
    all_goals (try simp only [hagree c])
    all_goals rfl

theorem inWeight : Cert.algebraic_Kernel31Ideal_Reference31Ideal := by
  intro m g m' g' hpre hagree
  have hO := Cert.Kernel31Ideal.Step.ok m hpre
  refine ⟨fun c => Cert.Kernel31Ideal.Step.REFG (m (c.tc.loc Cert.Kernel31Ideal.main_arg3)) (m (c.tc.loc Cert.Kernel31Ideal.main_arg4)) (m (c.tc.loc Cert.Kernel31Ideal.main_arg5)),
    fun c => Cert.Kernel31Ideal.Step.REFD (m (c.tc.loc Cert.Kernel31Ideal.main_arg0)) (m (c.tc.loc Cert.Kernel31Ideal.main_arg1)) (m (c.tc.loc Cert.Kernel31Ideal.main_arg2))
      (Cert.Kernel31Ideal.Step.REFG (m (c.tc.loc Cert.Kernel31Ideal.main_arg3)) (m (c.tc.loc Cert.Kernel31Ideal.main_arg4)) (m (c.tc.loc Cert.Kernel31Ideal.main_arg5))),
    fun c => Cert.Kernel31Ideal.Step.REFM (m (c.tc.loc Cert.Kernel31Ideal.main_arg1))
      (Cert.Kernel31Ideal.Step.REFG (m (c.tc.loc Cert.Kernel31Ideal.main_arg3)) (m (c.tc.loc Cert.Kernel31Ideal.main_arg4)) (m (c.tc.loc Cert.Kernel31Ideal.main_arg5))),
    fun c => Cert.Kernel31Ideal.Step.REFV (m (c.tc.loc Cert.Kernel31Ideal.main_arg2))
      (Cert.Kernel31Ideal.Step.REFG (m (c.tc.loc Cert.Kernel31Ideal.main_arg3)) (m (c.tc.loc Cert.Kernel31Ideal.main_arg4)) (m (c.tc.loc Cert.Kernel31Ideal.main_arg5))), ?_, ?_⟩
  · refine Idealize.ShloMosaic.θ_run_mono (Idealize.ShloMosaic.θ_run_and (Cert.Kernel31Ideal.Gen.run_main m g hO)
      (Cert.Kernel31Ideal.Gen.unchanged m g hO)) ?_
    intro r hr c
    exact ⟨((hr.1 c).1 5).trans (Cert.Kernel31Ideal.Step.finalG m hO hpre c), ((hr.1 c).1 6).trans (Cert.Kernel31Ideal.Step.finalD m hO hpre c),
      ((hr.1 c).1 7).trans (Cert.Kernel31Ideal.Step.finalM m hO hpre c), ((hr.1 c).1 8).trans (Cert.Kernel31Ideal.Step.finalV m hO hpre c), hr.2 c⟩
  · run_from Cert.Reference31Ideal.Value.run m' g'
    all_goals (try unfold Cert.Reference31Ideal.Value.res_main_v42)
    all_goals (try simp only [hagree c])
    all_goals rfl

theorem poolWeight : Cert.algebraic_Kernel32Ideal_Reference32Ideal := by
  intro m g m' g' hpre hagree
  have hO := Cert.Kernel32Ideal.Step.ok m hpre
  refine ⟨fun c => Cert.Kernel32Ideal.Step.REFG (m (c.tc.loc Cert.Kernel32Ideal.main_arg3)) (m (c.tc.loc Cert.Kernel32Ideal.main_arg4)) (m (c.tc.loc Cert.Kernel32Ideal.main_arg5)),
    fun c => Cert.Kernel32Ideal.Step.REFD (m (c.tc.loc Cert.Kernel32Ideal.main_arg0)) (m (c.tc.loc Cert.Kernel32Ideal.main_arg1)) (m (c.tc.loc Cert.Kernel32Ideal.main_arg2))
      (Cert.Kernel32Ideal.Step.REFG (m (c.tc.loc Cert.Kernel32Ideal.main_arg3)) (m (c.tc.loc Cert.Kernel32Ideal.main_arg4)) (m (c.tc.loc Cert.Kernel32Ideal.main_arg5))),
    fun c => Cert.Kernel32Ideal.Step.REFM (m (c.tc.loc Cert.Kernel32Ideal.main_arg1))
      (Cert.Kernel32Ideal.Step.REFG (m (c.tc.loc Cert.Kernel32Ideal.main_arg3)) (m (c.tc.loc Cert.Kernel32Ideal.main_arg4)) (m (c.tc.loc Cert.Kernel32Ideal.main_arg5))),
    fun c => Cert.Kernel32Ideal.Step.REFV (m (c.tc.loc Cert.Kernel32Ideal.main_arg2))
      (Cert.Kernel32Ideal.Step.REFG (m (c.tc.loc Cert.Kernel32Ideal.main_arg3)) (m (c.tc.loc Cert.Kernel32Ideal.main_arg4)) (m (c.tc.loc Cert.Kernel32Ideal.main_arg5))), ?_, ?_⟩
  · refine Idealize.ShloMosaic.θ_run_mono (Idealize.ShloMosaic.θ_run_and (Cert.Kernel32Ideal.Gen.run_main m g hO)
      (Cert.Kernel32Ideal.Gen.unchanged m g hO)) ?_
    intro r hr c
    exact ⟨((hr.1 c).1 5).trans (Cert.Kernel32Ideal.Step.finalG m hO hpre c), ((hr.1 c).1 6).trans (Cert.Kernel32Ideal.Step.finalD m hO hpre c),
      ((hr.1 c).1 7).trans (Cert.Kernel32Ideal.Step.finalM m hO hpre c), ((hr.1 c).1 8).trans (Cert.Kernel32Ideal.Step.finalV m hO hpre c), hr.2 c⟩
  · run_from Cert.Reference32Ideal.Value.run m' g'
    all_goals (try unfold Cert.Reference32Ideal.Value.res_main_v42)
    all_goals (try simp only [hagree c])
    all_goals rfl

end Cert.Optimiser

end
-- ==== Proof.lean ====
/- The certificate: every claim of `Cert.Claim`, each proved in a module of its own. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Kernel30
public import proofs.«01_k».proof.Proof.Gen.Kernel30Ideal
public import proofs.«01_k».proof.Proof.Gen.Reference30Ideal
public import proofs.«01_k».proof.Proof.Gen.Kernel31
public import proofs.«01_k».proof.Proof.Gen.Kernel31Ideal
public import proofs.«01_k».proof.Proof.Gen.Reference31Ideal
public import proofs.«01_k».proof.Proof.Gen.Kernel32
public import proofs.«01_k».proof.Proof.Gen.Kernel32Ideal
public import proofs.«01_k».proof.Proof.Gen.Reference32Ideal
public import proofs.«01_k».proof.Proof.Gen.Pre_attn_inputs_finite
public import proofs.«01_k».proof.Proof.Gen.Pre_chip_of_four28
public import proofs.«01_k».proof.Proof.Gen.Pre_chip_of_four29
public import proofs.«01_k».proof.Proof.Gen.Pre_chip_of_four30
public import proofs.«01_k».proof.Proof.Gen.Pre_chip_of_four31
public import proofs.«01_k».proof.Proof.Gen.Pre_chip_of_four32
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Frame
public import proofs.«01_k».proof.Proof.Gen.Reference28Ideal.Run
public import proofs.«01_k».proof.Proof.Gen.Kernel29Ideal.Frame
public import proofs.«01_k».proof.Proof.Gen.Reference29Ideal.Run
public import proofs.«01_k».proof.Proof.Gen.Kernel30Ideal.Frame
public import proofs.«01_k».proof.Proof.Gen.Reference30Ideal.Run
public import proofs.«01_k».proof.Proof.Gen.Kernel31Ideal.Frame
public import proofs.«01_k».proof.Proof.Gen.Reference31Ideal.Run
public import proofs.«01_k».proof.Proof.Gen.Kernel32Ideal.Frame
public import proofs.«01_k».proof.Proof.Gen.Reference32Ideal.Run
public import proofs.«01_k».proof.Proof.Mixer.Claims
public import proofs.«01_k».proof.Proof.Frames
public import proofs.«01_k».proof.Proof.Ff2.Claims
public import proofs.«01_k».proof.Proof.Attn.Claims
public import proofs.«01_k».proof.Proof.Products.Claims
public import proofs.«01_k».proof.Proof.Optimiser.Claims
public import proofs.«01_k».proof.Proof.Optimiser.LargeFrames
public import proofs.«01_k».proof.Proof.Optimiser.LargeClaims

@[expose] public section

noncomputable section

namespace Cert.Proof

open Idealize.ShloMosaic Idealize.SL.Sem

/-- The facts of the programs come first, then the frames, and then, program by program, that the idealized program is the
    kernel's own and that it computes what the reference computes. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel22.Gen.facts, Cert.Kernel22Ideal.Gen.facts,
    Cert.Reference22Ideal.Gen.facts, Cert.Kernel23.Gen.facts, Cert.Kernel23Ideal.Gen.facts,
    Cert.Reference23Ideal.Gen.facts, Cert.Kernel24.Gen.facts, Cert.Kernel24Ideal.Gen.facts,
    Cert.Reference24Ideal.Gen.facts, Cert.Kernel25.Gen.facts, Cert.Kernel25Ideal.Gen.facts,
    Cert.Reference25Ideal.Gen.facts, Cert.Kernel26.Gen.facts, Cert.Kernel26Ideal.Gen.facts,
    Cert.Reference26Ideal.Gen.facts, Cert.Kernel27.Gen.facts, Cert.Kernel27Ideal.Gen.facts,
    Cert.Reference27Ideal.Gen.facts, Cert.Kernel28.Gen.facts, Cert.Kernel28Ideal.Gen.facts,
    Cert.Reference28Ideal.Gen.facts, Cert.Kernel29.Gen.facts, Cert.Kernel29Ideal.Gen.facts,
    Cert.Reference29Ideal.Gen.facts, Cert.Kernel30.Gen.facts, Cert.Kernel30Ideal.Gen.facts,
    Cert.Reference30Ideal.Gen.facts, Cert.Kernel31.Gen.facts, Cert.Kernel31Ideal.Gen.facts,
    Cert.Reference31Ideal.Gen.facts, Cert.Kernel32.Gen.facts, Cert.Kernel32Ideal.Gen.facts,
    Cert.Reference32Ideal.Gen.facts, Cert.Pre_attn_inputs_finite.Gen.facts, Cert.Pre_chip_of_four28.Gen.facts,
    Cert.Pre_chip_of_four29.Gen.facts, Cert.Pre_chip_of_four30.Gen.facts, Cert.Pre_chip_of_four31.Gen.facts,
    Cert.Pre_chip_of_four32.Gen.facts,
    Cert.Mixer.frame_kernel, Cert.Mixer.frame_ideal, Cert.Mixer.frame_reference, Cert.Frames.kernel2,
    Cert.Frames.ideal2, Cert.Frames.ideal2_pre, Cert.Frames.reference2, Cert.Frames.reference2_pre,
    Cert.Frames.kernel3, Cert.Frames.ideal3, Cert.Frames.reference3, Cert.Frames.kernel4, Cert.Frames.ideal4,
    Cert.Frames.reference4, Cert.Frames.kernel5, Cert.Frames.ideal5, Cert.Frames.reference5, Cert.Frames.kernel6,
    Cert.Frames.ideal6, Cert.Frames.reference6, Cert.Frames.kernel7, Cert.Frames.ideal7, Cert.Frames.reference7,
    Cert.Frames.kernel8, Cert.Frames.ideal8, Cert.Frames.reference8, Cert.Frames.kernel9, Cert.Frames.ideal9,
    Cert.Frames.reference9, Cert.Frames.kernel10, Cert.Frames.ideal10, Cert.Frames.reference10, Cert.Frames.kernel11,
    Cert.Frames.ideal11, Cert.Frames.reference11, Cert.Frames.kernel12, Cert.Frames.ideal12, Cert.Frames.reference12,
    Cert.Frames.kernel13, Cert.Frames.ideal13, Cert.Frames.reference13, Cert.Frames.kernel14, Cert.Frames.ideal14,
    Cert.Frames.reference14, Cert.Frames.kernel15, Cert.Frames.ideal15, Cert.Frames.reference15, Cert.Frames.kernel16,
    Cert.Frames.ideal16, Cert.Frames.reference16, Cert.Frames.kernel17, Cert.Frames.ideal17, Cert.Frames.reference17,
    Cert.Frames.kernel18, Cert.Frames.ideal18, Cert.Frames.reference18, Cert.Frames.kernel19, Cert.Frames.ideal19,
    Cert.Frames.reference19, Cert.Frames.kernel20, Cert.Frames.ideal20, Cert.Frames.reference20, Cert.Frames.kernel21,
    Cert.Frames.ideal21, Cert.Frames.reference21, Cert.Frames.kernel22, Cert.Frames.ideal22, Cert.Frames.reference22,
    Cert.Frames.kernel23, Cert.Frames.ideal23, Cert.Frames.reference23, Cert.Frames.kernel24, Cert.Frames.ideal24,
    Cert.Frames.reference24, Cert.Frames.kernel25, Cert.Frames.ideal25, Cert.Frames.reference25, Cert.Frames.kernel26,
    Cert.Frames.ideal26, Cert.Frames.reference26, Cert.Frames.kernel27, Cert.Frames.ideal27, Cert.Frames.reference27,
    Cert.Frames.kernel28, Cert.Frames.ideal28, Cert.Frames.reference28, Cert.Frames.reference28_pre,
    Cert.Frames.kernel29, Cert.Frames.ideal29, Cert.Frames.reference29, Cert.Frames.reference29_pre,
    Cert.Frames.kernel30, Cert.Frames.ideal30, Cert.Frames.reference30, Cert.Frames.reference30_pre,
    Cert.Frames.kernel31, Cert.Frames.ideal31, Cert.Frames.reference31, Cert.Frames.reference31_pre,
    Cert.Frames.kernel32, Cert.Frames.ideal32, Cert.Frames.reference32, Cert.Frames.reference32_pre, trivial, trivial,
    Cert.Attn.backward, trivial, trivial, Cert.Ff2.weight, trivial, Cert.Ff2.forward, trivial, Cert.Attn.forward,
    trivial, Cert.Products.hiddenGradient, trivial, Cert.Products.hiddenWeight, trivial, Cert.Products.hidden,
    trivial, Cert.Products.hiddenInput, trivial, Cert.Products.squareWeight, trivial, Cert.Products.squareOut,
    trivial, Cert.Products.query, trivial, Cert.Products.mixtureGradient, trivial, Cert.Products.attentionInput,
    trivial, Cert.Products.mixerGradient, trivial, Cert.Products.projectionWeight, trivial,
    Cert.Products.projectionInput, trivial, Cert.Products.projection, trivial, Cert.Products.key, trivial,
    Cert.Products.keyWeight, trivial, Cert.Optimiser.headWeight, trivial, Cert.Optimiser.mixerRow, trivial,
    Cert.Optimiser.normRow, trivial, Cert.Optimiser.convWeight, trivial, Cert.Optimiser.poolBias, trivial,
    Cert.Optimiser.sum, trivial, Cert.Optimiser.outWeight, trivial, Cert.Optimiser.downWeight, trivial,
    Cert.Optimiser.upWeight, trivial, Cert.Optimiser.inWeight, trivial, Cert.Optimiser.poolWeight⟩

end Cert.Proof

end
